-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v9) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v18)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v18) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v22)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v22) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v14)) (v1 : (c : Dev Cert.Kernel17Ideal.nD) → Buf (Elt Ideal) ((c.tc : Thread Cert.Kernel17Ideal.nD Cert.Kernel17Ideal.τ).loc Cert.Kernel17Ideal.main_v15)) (v2 : (c : Dev Cert.Kernel17Ideal.nD) → Buf (Elt Ideal) ((c.tc : Thread Cert.Kernel17Ideal.nD Cert.Kernel17Ideal.τ).loc Cert.Kernel17Ideal.main_v16)) (v3 : (c : Dev Cert.Kernel17Ideal.nD) → Buf (Elt Ideal) ((c.tc : Thread Cert.Kernel17Ideal.nD Cert.Kernel17Ideal.τ).loc Cert.Kernel17Ideal.main_v17)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v14) = v0 c
          ∧ r.2.mem ((c.tc : Thread Cert.Kernel17Ideal.nD Cert.Kernel17Ideal.τ).loc Cert.Kernel17Ideal.main_v15) = v1 c
          ∧ r.2.mem ((c.tc : Thread Cert.Kernel17Ideal.nD Cert.Kernel17Ideal.τ).loc Cert.Kernel17Ideal.main_v16) = v2 c
          ∧ r.2.mem ((c.tc : Thread Cert.Kernel17Ideal.nD Cert.Kernel17Ideal.τ).loc Cert.Kernel17Ideal.main_v17) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v2) = v1 c
          ∧ r.2.mem ((c.tc : Thread Cert.Reference17Ideal.nD Cert.Reference17Ideal.τ).loc Cert.Reference17Ideal.main_v3) = v2 c
          ∧ r.2.mem ((c.tc : Thread Cert.Reference17Ideal.nD Cert.Reference17Ideal.τ).loc Cert.Reference17Ideal.main_v4) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v4) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v16) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_v18) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v3_0)) (v1 : (c : Dev Cert.Kernel26Ideal.nD) → Buf (Elt Ideal) ((c.tc : Thread Cert.Kernel26Ideal.nD Cert.Kernel26Ideal.τ).loc Cert.Kernel26Ideal.main_v3_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3_0) = v0 c
          ∧ r.2.mem ((c.tc : Thread Cert.Kernel26Ideal.nD Cert.Kernel26Ideal.τ).loc Cert.Kernel26Ideal.main_v3_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v5_0)) (v1 : (c : Dev Cert.Kernel28Ideal.nD) → Buf (Elt Ideal) ((c.tc : Thread Cert.Kernel28Ideal.nD Cert.Kernel28Ideal.τ).loc Cert.Kernel28Ideal.main_v6)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v5_0) = v0 c
          ∧ r.2.mem ((c.tc : Thread Cert.Kernel28Ideal.nD Cert.Kernel28Ideal.τ).loc Cert.Kernel28Ideal.main_v6) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v36) = v0 c
          ∧ r.2.mem ((c.tc : Thread Cert.Reference28Ideal.nD Cert.Reference28Ideal.τ).loc Cert.Reference28Ideal.main_v19) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal (hKernel28Ideal := hKernel28Ideal) (hReference28Ideal := hReference28Ideal)
-- ==== Pre_finite.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x2048 .f32) (main_arg3 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S4096x4096 : Shape := ⟨2, ![4096, 4096]⟩
abbrev S4096x2048 : Shape := ⟨2, ![4096, 2048]⟩
abbrev S10 : Shape := ⟨1, ![10]⟩
abbrev S4096x16x256 : Shape := ⟨3, ![4096, 16, 256]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S16x4096 : Shape := ⟨2, ![16, 4096]⟩
abbrev S16x4096x1 : Shape := ⟨3, ![16, 4096, 1]⟩
abbrev S4096x16x128 : Shape := ⟨3, ![4096, 16, 128]⟩
abbrev S16x128x4096 : Shape := ⟨3, ![16, 128, 4096]⟩
abbrev S1024x256 : Shape := ⟨2, ![1024, 256]⟩
abbrev S1 : Shape := ⟨1, ![1]⟩
abbrev S1024x128 : Shape := ⟨2, ![1024, 128]⟩
abbrev S1x1024x1 : Shape := ⟨3, ![1, 1024, 1]⟩
abbrev S4096x256 : Shape := ⟨2, ![4096, 256]⟩
abbrev S1024x1024 : Shape := ⟨2, ![1024, 1024]⟩
abbrev S1024x1 : Shape := ⟨2, ![1024, 1]⟩
abbrev S1024 : Shape := ⟨1, ![1024]⟩
abbrev S512x256 : Shape := ⟨2, ![512, 256]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S512x1024 : Shape := ⟨2, ![512, 1024]⟩

abbrev nBuf : Space → Nat
  | .hbm => 48
  | .vmem => 20
  | .smem => 2
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S4096x16x256, .f32⟩
  | .hbm, ⟨5, _⟩ => ⟨S4096x16x256, .f32⟩
  | .hbm, ⟨6, _⟩ => ⟨S16x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S16x4096x4096, .i1⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S4096x16x128, .f32⟩
  | .hbm, ⟨30, _⟩ => ⟨S16x128x4096, .f32⟩
  | .hbm, ⟨31, _⟩ => ⟨S4096x16x128, .f32⟩
  | .hbm, ⟨32, _⟩ => ⟨S4096x2048, .f32⟩
  | .hbm, ⟨33, _⟩ => ⟨S_, .f32⟩
  | .hbm, ⟨34, _⟩ => ⟨S_, .f32⟩
  | .hbm, ⟨35, _⟩ => ⟨S16x4096x1, .f32⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S4096x4096, .f32⟩
  | .hbm, ⟨40, _⟩ => ⟨S4096x4096, .f32⟩
  | .hbm, ⟨41, _⟩ => ⟨S4096x4096, .bf16⟩
  | .hbm, ⟨42, _⟩ => ⟨S4096x4096, .bf16⟩
  | .hbm, ⟨43, _⟩ => ⟨S4096x2048, .bf16⟩
  | .hbm, ⟨44, _⟩ => ⟨S4096x2048, .bf16⟩
  | .hbm, ⟨45, _⟩ => ⟨S4096x4096, .f32⟩
  | .hbm, ⟨46, _⟩ => ⟨S4096x4096, .bf16⟩
  | .hbm, ⟨47, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1x1024x1, .f32⟩
  | .local _ .vmem, ⟨11, _⟩ => ⟨S1x1024x1, .f32⟩
  | .local _ .vmem, ⟨12, _⟩ => ⟨S4096x256, .f32⟩
  | .local _ .vmem, ⟨13, _⟩ => ⟨S4096x256, .f32⟩
  | .local _ .vmem, ⟨14, _⟩ => ⟨S1024x256, .bf16⟩
  | .local _ .vmem, ⟨15, _⟩ => ⟨S1024x256, .bf16⟩
  | .local _ .vmem, ⟨16, _⟩ => ⟨S1024x128, .bf16⟩
  | .local _ .vmem, ⟨17, _⟩ => ⟨S1024x128, .bf16⟩
  | .local _ .vmem, ⟨18, _⟩ => ⟨S1024x256, .f32⟩
  | .local _ .vmem, ⟨19, _⟩ => ⟨S1024x128, .f32⟩
  | .local _ .smem, ⟨0, _⟩ => ⟨S10, .i32⟩
  | .local _ .smem, ⟨1, _⟩ => ⟨S10, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v57 : BitVec 32 := Scalar.muli v1 c1024_i32
  let c0_i32_29 : BitVec 32 := 0#32
  let v58 : BitVec 32 := Scalar.addi v57 c0_i32_29
  v58
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v57 : BitVec 32 := Scalar.muli v1 c1024_i32
  let c0_i32_29 : BitVec 32 := 0#32
  let v58 : BitVec 32 := Scalar.addi v57 c0_i32_29
  let v59 : BitVec 32 := v58
  let v60 : Index := Scalar.indexCast v59
  let c0_30 : Index := 0#32
  ![v60.toNat, 0]
def k0_mult2 (v1 : BitVec 32) : BitVec 32 :=
  let c1024_i32 : BitVec 32 := 1024#32
  let v64 : BitVec 32 := Scalar.muli v1 c1024_i32
  let c0_i32_31 : BitVec 32 := 0#32
  let v65 : BitVec 32 := Scalar.addi v64 c0_i32_31
  v65
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) (c0_i32_31 : BitVec 32) : Fin 2 → Nat :=
  let c1024_i32 : BitVec 32 := 1024#32
  let v64 : BitVec 32 := Scalar.muli v1 c1024_i32
  let v65 : BitVec 32 := Scalar.addi v64 c0_i32_31
  let v66 : BitVec 32 := v65
  let v67 : Index := Scalar.indexCast v66
  let c0_32 : Index := 0#32
  ![v67.toNat, 0]
def k0_mult3 (v1 : BitVec 32) : BitVec 32 :=
  let c1024_i32_61 : BitVec 32 := 1024#32
  let v119 : BitVec 32 := Scalar.muli v1 c1024_i32_61
  let c512_i32_62 : BitVec 32 := 512#32
  let v120 : BitVec 32 := Scalar.addi v119 c512_i32_62
  v120

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x256.size a ≤ S4096x256.size a) ∧
  (∀ (k0_h4 : k0_cond4 v1 v3 = 1#1), 512 ∣ (k0_mult2 v1).toNat) ∧
  (∀ (k0_h4 : k0_cond4 v1 v3 = 1#1), ∀ (r : Fin 2), ∀ a, (k0_off3 v1 (BitVec.ofNat 32 (512 * r.val))) a + S512x256.size a ≤ S4096x256.size a) ∧
  (∀ (k0_h4 : k0_cond4 v1 v3 = 1#1), 512 ∣ (k0_mult3 v1).toNat)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x256.size a ≤ S4096x256.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ (r : Fin 2), ∀ a, (k0_off3 v1 (BitVec.ofNat 32 (512 * r.val))) a + S512x256.size a ≤ S4096x256.size a := fun v1 v3 k0_hw1 k0_h4 r => k0_hw1.2.2.2.1 k0_h4 r
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x4096 : Shape := ⟨2, ![4096, 4096]⟩
abbrev S4096x2048 : Shape := ⟨2, ![4096, 2048]⟩
abbrev S4096x16x256 : Shape := ⟨3, ![4096, 16, 256]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S16x4096 : Shape := ⟨2, ![16, 4096]⟩
abbrev S16x4096x1 : Shape := ⟨3, ![16, 4096, 1]⟩
abbrev S4096x16x128 : Shape := ⟨3, ![4096, 16, 128]⟩
abbrev S16x128x4096 : Shape := ⟨3, ![16, 128, 4096]⟩
abbrev S16x4096x256 : Shape := ⟨3, ![16, 4096, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2048, .f32⟩
  | .hbm, ⟨3, _⟩ => ⟨S4096x2048, .f32⟩
  | .hbm, ⟨4, _⟩ => ⟨S4096x16x256, .f32⟩
  | .hbm, ⟨5, _⟩ => ⟨S4096x16x256, .f32⟩
  | .hbm, ⟨6, _⟩ => ⟨S16x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S16x4096x4096, .i1⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S16x4096x4096, .f32⟩
  | .hbm, ⟨24, _⟩ => ⟨S16x4096x4096, .i1⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .i1⟩
  | .hbm, ⟨34, _⟩ => ⟨S_, .f32⟩
  | .hbm, ⟨35, _⟩ => ⟨S16x4096, .f32⟩
  | .hbm, ⟨36, _⟩ => ⟨S16x4096, .i1⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x4096x1, .f32⟩
  | .hbm, ⟨55, _⟩ => ⟨S_, .f32⟩
  | .hbm, ⟨56, _⟩ => ⟨S16x4096x1, .f32⟩
  | .hbm, ⟨57, _⟩ => ⟨S16x4096x1, .f32⟩
  | .hbm, ⟨58, _⟩ => ⟨S4096x16x128, .f32⟩
  | .hbm, ⟨59, _⟩ => ⟨S16x128x4096, .f32⟩
  | .hbm, ⟨60, _⟩ => ⟨S4096x16x128, .f32⟩
  | .hbm, ⟨61, _⟩ => ⟨S4096x2048, .f32⟩
  | .hbm, ⟨62, _⟩ => ⟨S4096x16x128, .f32⟩
  | .hbm, ⟨63, _⟩ => ⟨S16x128x4096, .f32⟩
  | .hbm, ⟨64, _⟩ => ⟨S16x4096x4096, .f32⟩
  | .hbm, ⟨65, _⟩ => ⟨S16x128x4096, .f32⟩
  | .hbm, ⟨66, _⟩ => ⟨S4096x16x128, .f32⟩
  | .hbm, ⟨67, _⟩ => ⟨S4096x2048, .f32⟩
  | .hbm, ⟨68, _⟩ => ⟨S16x4096x4096, .f32⟩
  | .hbm, ⟨69, _⟩ => ⟨S16x4096x4096, .f32⟩
  | .hbm, ⟨70, _⟩ => ⟨S16x4096x4096, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S16x4096x1, .f32⟩
  | .hbm, ⟨75, _⟩ => ⟨S16x4096x4096, .f32⟩
  | .hbm, ⟨76, _⟩ => ⟨S16x4096x4096, .f32⟩
  | .hbm, ⟨77, _⟩ => ⟨S_, .f32⟩
  | .hbm, ⟨78, _⟩ => ⟨S16x4096, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096x4096, .f32⟩
  | .hbm, ⟨84, _⟩ => ⟨S16x4096x4096, .f32⟩
  | .hbm, ⟨85, _⟩ => ⟨S16x4096x256, .f32⟩
  | .hbm, ⟨86, _⟩ => ⟨S4096x16x256, .f32⟩
  | .hbm, ⟨87, _⟩ => ⟨S16x4096x256, .f32⟩
  | .hbm, ⟨88, _⟩ => ⟨S4096x16x256, .f32⟩
  | .hbm, ⟨89, _⟩ => ⟨S4096x4096, .f32⟩
  | .hbm, ⟨90, _⟩ => ⟨S4096x4096, .f32⟩
  | .hbm, ⟨91, _⟩ => ⟨S4096x4096, .bf16⟩
  | .hbm, ⟨92, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_v9_1 : Ref sig .tc := ⟨.hbm, 15, rfl⟩
abbrev main_call0_v2 : Ref sig .tc := ⟨.hbm, 16, rfl⟩
abbrev main_v9_0 : Ref sig .tc := ⟨.hbm, 17, rfl⟩
abbrev main_call0_cst : Ref sig .tc := ⟨.hbm, 18, rfl⟩
abbrev main_v9_2 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S4096x4096 : Shape := ⟨2, ![4096, 4096]⟩
abbrev S1x4096 : Shape := ⟨2, ![1, 4096]⟩
abbrev S1x2048x2048 : Shape := ⟨3, ![1, 2048, 2048]⟩
abbrev S8x2048 : Shape := ⟨2, ![8, 2048]⟩
abbrev S512x2048 : Shape := ⟨2, ![512, 2048]⟩
abbrev S1x1024x2048 : Shape := ⟨3, ![1, 1024, 2048]⟩
abbrev S512x1024 : Shape := ⟨2, ![512, 1024]⟩
abbrev S1x1024 : Shape := ⟨2, ![1, 1024]⟩
abbrev S8x1024 : Shape := ⟨2, ![8, 1024]⟩
abbrev S1024x2048 : Shape := ⟨2, ![1024, 2048]⟩
abbrev S1024 : Shape := ⟨1, ![1024]⟩
abbrev S1x2048 : Shape := ⟨2, ![1, 2048]⟩

abbrev nBuf : Space → Nat
  | .hbm => 21
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x4096, .f32⟩
  | .hbm, ⟨3, _⟩ => ⟨S1x4096, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S2048x2048, .bf16⟩
  | .hbm, ⟨8, _⟩ => ⟨S1x2048x2048, .bf16⟩
  | .hbm, ⟨9, _⟩ => ⟨S4096x4096, .bf16⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S8x2048, .f32⟩
  | .hbm, ⟨17, _⟩ => ⟨S8x2048, .f32⟩
  | .hbm, ⟨18, _⟩ => ⟨S1x2048, .f32⟩
  | .hbm, ⟨19, _⟩ => ⟨S1x2048, .f32⟩
  | .hbm, ⟨20, _⟩ => ⟨S1x4096, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S8x1024, .f32⟩
  | .local _ .vmem, ⟨25, _⟩ => ⟨S8x1024, .f32⟩
  | .local _ .vmem, ⟨26, _⟩ => ⟨S8x1024, .f32⟩
  | .local _ .vmem, ⟨27, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S4096x2048 : Shape := ⟨2, ![4096, 2048]⟩
abbrev S2048x2048 : Shape := ⟨2, ![2048, 2048]⟩
abbrev S4096x4096 : Shape := ⟨2, ![4096, 4096]⟩
abbrev S1x4096 : Shape := ⟨2, ![1, 4096]⟩
abbrev S_ : Shape := ⟨0, ![]⟩
abbrev S4096 : Shape := ⟨1, ![4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x4096, .f32⟩
  | .hbm, ⟨3, _⟩ => ⟨S1x4096, .f32⟩
  | .hbm, ⟨4, _⟩ => ⟨S4096x2048, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S4096x2048, .f32⟩
  | .hbm, ⟨37, _⟩ => ⟨S4096x2048, .bf16⟩
  | .hbm, ⟨38, _⟩ => ⟨S4096x2048, .f32⟩
  | .hbm, ⟨39, _⟩ => ⟨S4096x2048, .bf16⟩
  | .hbm, ⟨40, _⟩ => ⟨S4096x2048, .bf16⟩
  | .hbm, ⟨41, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel4.lean ====
abbrev S4096x11264 : Shape := ⟨2, ![4096, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x5632 : Shape := ⟨2, ![4096, 5632]⟩
abbrev S4096x2048 : Shape := ⟨2, ![4096, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 9
  | .vmem => 9
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x11264, .bf16⟩
  | .hbm, ⟨6, _⟩ => ⟨S4096x5632, .bf16⟩
  | .hbm, ⟨7, _⟩ => ⟨S4096x5632, .bf16⟩
  | .hbm, ⟨8, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | .hbm, ⟨6, _⟩ => ⟨S4096x2048, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S5632x2048 : Shape := ⟨2, ![5632, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x2048, .bf16⟩
  | .hbm, ⟨3, _⟩ => ⟨S5632x2048, .bf16⟩
  | .hbm, ⟨4, _⟩ => ⟨S1x5632x2048, .bf16⟩
  | .hbm, ⟨5, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x5632 : Shape := ⟨2, ![4096, 5632]⟩
abbrev S4096x2048 : Shape := ⟨2, ![4096, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S5632x2048 : Shape := ⟨2, ![5632, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S1x5632x2048, .bf16⟩
  | .hbm, ⟨5, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4096x5632 : Shape := ⟨2, ![4096, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S8x2048x1408, .bf16⟩
  | .hbm, ⟨3, _⟩ => ⟨S4096x2048, .bf16⟩
  | .hbm, ⟨4, _⟩ => ⟨S4096x5632, .bf16⟩
  | .hbm, ⟨5, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5632 : Shape := ⟨2, ![4096, 5632]⟩
abbrev S8x2048x1408 : Shape := ⟨3, ![8, 2048, 1408]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S8x2048x1408, .bf16⟩
  | .hbm, ⟨3, _⟩ => ⟨S_, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S4x2048x1408, .bf16⟩
  | .hbm, ⟨14, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S4096x2048 : Shape := ⟨2, ![4096, 2048]⟩
abbrev S4096x5632 : Shape := ⟨2, ![4096, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S8x2048x1408, .bf16⟩
  | .hbm, ⟨3, _⟩ => ⟨S4096x2048, .bf16⟩
  | .hbm, ⟨4, _⟩ => ⟨S4096x5632, .bf16⟩
  | .hbm, ⟨5, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x5632 : Shape := ⟨2, ![4096, 5632]⟩
abbrev S8x2048x1408 : Shape := ⟨3, ![8, 2048, 1408]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S8x2048x1408, .bf16⟩
  | .hbm, ⟨3, _⟩ => ⟨S_, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S4x2048x1408, .bf16⟩
  | .hbm, ⟨14, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S1x2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S1x2048x2048, .bf16⟩
  | .hbm, ⟨5, _⟩ => ⟨S2048x2048, .bf16⟩
  | .hbm, ⟨6, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S2048x4096 : Shape := ⟨2, ![2048, 4096]⟩
abbrev S1x4096x2048 : Shape := ⟨3, ![1, 4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S2048x4096, .bf16⟩
  | .hbm, ⟨7, _⟩ => ⟨S4096x2048, .bf16⟩
  | .hbm, ⟨8, _⟩ => ⟨S1x4096x2048, .bf16⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference12Ideal.lean ====
abbrev S4096x2048 : Shape := ⟨2, ![4096, 2048]⟩
abbrev S2048x4096 : Shape := ⟨2, ![2048, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S4096x4416 : Shape := ⟨2, ![4096, 4416]⟩
abbrev S4096x3840 : Shape := ⟨2, ![4096, 3840]⟩
abbrev S4096x64 : Shape := ⟨2, ![4096, 64]⟩
abbrev S_ : Shape := ⟨0, ![]⟩
abbrev S4096x32 : Shape := ⟨2, ![4096, 32]⟩
abbrev S4096x128 : Shape := ⟨2, ![4096, 128]⟩
abbrev S4096x512 : Shape := ⟨2, ![4096, 512]⟩
abbrev S4096x4608 : Shape := ⟨2, ![4096, 4608]⟩
abbrev S1x4608x2048 : Shape := ⟨3, ![1, 4608, 2048]⟩
abbrev S2048x1536 : Shape := ⟨2, ![2048, 1536]⟩
abbrev S2048x1024 : Shape := ⟨2, ![2048, 1024]⟩
abbrev S1x1536x1024 : Shape := ⟨3, ![1, 1536, 1024]⟩
abbrev S1536x1024 : Shape := ⟨2, ![1536, 1024]⟩
abbrev S4608x2048 : Shape := ⟨2, ![4608, 2048]⟩
abbrev S3840x2048 : Shape := ⟨2, ![3840, 2048]⟩
abbrev S512x2048 : Shape := ⟨2, ![512, 2048]⟩
abbrev S32x2048 : Shape := ⟨2, ![32, 2048]⟩
abbrev S4416x2048 : Shape := ⟨2, ![4416, 2048]⟩
abbrev S2048x4416 : Shape := ⟨2, ![2048, 4416]⟩

abbrev nBuf : Space → Nat
  | .hbm => 23
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4416, .f32⟩
  | .hbm, ⟨2, _⟩ => ⟨S4096x4416, .bf16⟩
  | .hbm, ⟨3, _⟩ => ⟨S4096x3840, .bf16⟩
  | .hbm, ⟨4, _⟩ => ⟨S4096x64, .bf16⟩
  | .hbm, ⟨5, _⟩ => ⟨S_, .bf16⟩
  | .hbm, ⟨6, _⟩ => ⟨S4096x32, .bf16⟩
  | .hbm, ⟨7, _⟩ => ⟨S4096x32, .bf16⟩
  | .hbm, ⟨8, _⟩ => ⟨S4096x32, .bf16⟩
  | .hbm, ⟨9, _⟩ => ⟨S4096x128, .bf16⟩
  | .hbm, ⟨10, _⟩ => ⟨S_, .bf16⟩
  | .hbm, ⟨11, _⟩ => ⟨S4096x128, .bf16⟩
  | .hbm, ⟨12, _⟩ => ⟨S4096x512, .bf16⟩
  | .hbm, ⟨13, _⟩ => ⟨S4096x4608, .bf16⟩
  | .hbm, ⟨14, _⟩ => ⟨S4096x2048, .bf16⟩
  | .hbm, ⟨15, _⟩ => ⟨S1x4608x2048, .bf16⟩
  | .hbm, ⟨16, _⟩ => ⟨S4608x2048, .bf16⟩
  | .hbm, ⟨17, _⟩ => ⟨S3840x2048, .bf16⟩
  | .hbm, ⟨18, _⟩ => ⟨S512x2048, .bf16⟩
  | .hbm, ⟨19, _⟩ => ⟨S32x2048, .bf16⟩
  | .hbm, ⟨20, _⟩ => ⟨S32x2048, .bf16⟩
  | .hbm, ⟨21, _⟩ => ⟨S4416x2048, .bf16⟩
  | .hbm, ⟨22, _⟩ => ⟨S2048x4416, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1x1536x1024, .bf16⟩
  | .local _ .vmem, ⟨5, _⟩ => ⟨S1x1536x1024, .bf16⟩
  | .local _ .vmem, ⟨6, _⟩ => ⟨S1536x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x4416 : Shape := ⟨2, ![4096, 4416]⟩
abbrev S_ : Shape := ⟨0, ![]⟩
abbrev S2048x4416 : Shape := ⟨2, ![2048, 4416]⟩
abbrev S4416x2048 : Shape := ⟨2, ![4416, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4416, .f32⟩
  | .hbm, ⟨2, _⟩ => ⟨S_, .f32⟩
  | .hbm, ⟨3, _⟩ => ⟨S2048x4416, .f32⟩
  | .hbm, ⟨4, _⟩ => ⟨S4096x4416, .f32⟩
  | .hbm, ⟨5, _⟩ => ⟨S4416x2048, .f32⟩
  | .hbm, ⟨6, _⟩ => ⟨S2048x4416, .f32⟩
  | .hbm, ⟨7, _⟩ => ⟨S2048x4416, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x4416 : Shape := ⟨2, ![2048, 4416]⟩
abbrev S4096x4416 : Shape := ⟨2, ![4096, 4416]⟩
abbrev S4096x3840 : Shape := ⟨2, ![4096, 3840]⟩
abbrev S4096x64 : Shape := ⟨2, ![4096, 64]⟩
abbrev S_ : Shape := ⟨0, ![]⟩
abbrev S4096x32 : Shape := ⟨2, ![4096, 32]⟩
abbrev S4096x128 : Shape := ⟨2, ![4096, 128]⟩
abbrev S4096x512 : Shape := ⟨2, ![4096, 512]⟩
abbrev S4096x4608 : Shape := ⟨2, ![4096, 4608]⟩
abbrev S4416x2048 : Shape := ⟨2, ![4416, 2048]⟩
abbrev S3840x2048 : Shape := ⟨2, ![3840, 2048]⟩
abbrev S64x2048 : Shape := ⟨2, ![64, 2048]⟩
abbrev S32x2048 : Shape := ⟨2, ![32, 2048]⟩
abbrev S128x2048 : Shape := ⟨2, ![128, 2048]⟩
abbrev S512x2048 : Shape := ⟨2, ![512, 2048]⟩
abbrev S4608x2048 : Shape := ⟨2, ![4608, 2048]⟩
abbrev S1x4608x2048 : Shape := ⟨3, ![1, 4608, 2048]⟩
abbrev S4096x2048 : Shape := ⟨2, ![4096, 2048]⟩
abbrev S1024x1536 : Shape := ⟨2, ![1024, 1536]⟩
abbrev S1x1536x1024 : Shape := ⟨3, ![1, 1536, 1024]⟩
abbrev S1024x1024 : Shape := ⟨2, ![1024, 1024]⟩
abbrev S1536x1024 : Shape := ⟨2, ![1536, 1024]⟩

abbrev nBuf : Space → Nat
  | .hbm => 29
  | .vmem => 7
  | .smem => 0
  | _ => 0

abbrev bufTy : (tb : Table) → Fin (tcTables nBuf tb) → BufTy
  | .hbm, ⟨0, _⟩ => ⟨S2048x4416, .f32⟩
  | .hbm, ⟨1, _⟩ => ⟨S4096x4416, .f32⟩
  | .hbm, ⟨2, _⟩ => ⟨S4096x4416, .bf16⟩
  | .hbm, ⟨3, _⟩ => ⟨S4096x3840, .bf16⟩
  | .hbm, ⟨4, _⟩ => ⟨S4096x64, .bf16⟩
  | .hbm, ⟨5, _⟩ => ⟨S_, .bf16⟩
  | .hbm, ⟨6, _⟩ => ⟨S4096x32, .bf16⟩
  | .hbm, ⟨7, _⟩ => ⟨S4096x32, .bf16⟩
  | .hbm, ⟨8, _⟩ => ⟨S4096x32, .bf16⟩
  | .hbm, ⟨9, _⟩ => ⟨S4096x128, .bf16⟩
  | .hbm, ⟨10, _⟩ => ⟨S_, .bf16⟩
  | .hbm, ⟨11, _⟩ => ⟨S4096x128, .bf16⟩
  | .hbm, ⟨12, _⟩ => ⟨S4096x512, .bf16⟩
  | .hbm, ⟨13, _⟩ => ⟨S4096x4608, .bf16⟩
  | .hbm, ⟨14, _⟩ => ⟨S2048x4416, .bf16⟩
  | .hbm, ⟨15, _⟩ => ⟨S4416x2048, .bf16⟩
  | .hbm, ⟨16, _⟩ => ⟨S3840x2048, .bf16⟩
  | .hbm, ⟨17, _⟩ => ⟨S64x2048, .bf16⟩
  | .hbm, ⟨18, _⟩ => ⟨S_, .bf16⟩
  | .hbm, ⟨19, _⟩ => ⟨S32x2048, .bf16⟩
  | .hbm, ⟨20, _⟩ => ⟨S32x2048, .bf16⟩
  | .hbm, ⟨21, _⟩ => ⟨S32x2048, .bf16⟩
  | .hbm, ⟨22, _⟩ => ⟨S128x2048, .bf16⟩
  | .hbm, ⟨23, _⟩ => ⟨S_, .bf16⟩
  | .hbm, ⟨24, _⟩ => ⟨S128x2048, .bf16⟩
  | .hbm, ⟨25, _⟩ => ⟨S512x2048, .bf16⟩
  | .hbm, ⟨26, _⟩ => ⟨S4608x2048, .bf16⟩
  | .hbm, ⟨27, _⟩ => ⟨S1x4608x2048, .bf16⟩
  | .hbm, ⟨28, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x4416 : Shape := ⟨2, ![2048, 4416]⟩
abbrev S4096x4416 : Shape := ⟨2, ![4096, 4416]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4416, .f32⟩
  | .hbm, ⟨1, _⟩ => ⟨S4096x4416, .f32⟩
  | .hbm, ⟨2, _⟩ => ⟨S_, .f32⟩
  | .hbm, ⟨3, _⟩ => ⟨S4096x2048, .f32⟩
  | .hbm, ⟨4, _⟩ => ⟨S4096x4416, .f32⟩
  | .hbm, ⟨5, _⟩ => ⟨S4096x2048, .f32⟩
  | _, _ => ⟨S2048x4416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S1x2048x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S2048x11264 : Shape := ⟨2, ![2048, 11264]⟩
abbrev S3x11264 : Shape := ⟨2, ![3, 11264]⟩
abbrev S1x11264 : Shape := ⟨2, ![1, 11264]⟩
abbrev S2048x8x1408 : Shape := ⟨3, ![2048, 8, 1408]⟩
abbrev S8x2048x1408 : Shape := ⟨3, ![8, 2048, 1408]⟩
abbrev S_ : Shape := ⟨0, ![]⟩
abbrev S8x11264 : Shape := ⟨2, ![8, 11264]⟩
abbrev S4096x5632 : Shape := ⟨2, ![4096, 5632]⟩
abbrev S512x2048 : Shape := ⟨2, ![512, 2048]⟩
abbrev S1x2048x1408 : Shape := ⟨3, ![1, 2048, 1408]⟩
abbrev S8x1408 : Shape := ⟨2, ![8, 1408]⟩
abbrev S1x1408 : Shape := ⟨2, ![1, 1408]⟩
abbrev S512x1408 : Shape := ⟨2, ![512, 1408]⟩
abbrev S2048x1408 : Shape := ⟨2, ![2048, 1408]⟩
abbrev S520x1408 : Shape := ⟨2, ![520, 1408]⟩

abbrev nBuf : Space → Nat
  | .hbm => 14
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S2048x11264, .bf16⟩
  | .hbm, ⟨5, _⟩ => ⟨S2048x8x1408, .bf16⟩
  | .hbm, ⟨6, _⟩ => ⟨S8x2048x1408, .bf16⟩
  | .hbm, ⟨7, _⟩ => ⟨S4096x2048, .bf16⟩
  | .hbm, ⟨8, _⟩ => ⟨S_, .i32⟩
  | .hbm, ⟨9, _⟩ => ⟨S_, .f32⟩
  | .hbm, ⟨10, _⟩ => ⟨S8x11264, .f32⟩
  | .hbm, ⟨11, _⟩ => ⟨S4096x5632, .f32⟩
  | .hbm, ⟨12, _⟩ => ⟨S4096x5632, .f32⟩
  | .hbm, ⟨13, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S8x1408, .f32⟩
  | .local _ .vmem, ⟨5, _⟩ => ⟨S8x1408, .f32⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | .local _ .vmem, ⟨16, _⟩ => ⟨S512x1408, .bf16⟩
  | .local _ .vmem, ⟨17, _⟩ => ⟨S512x1408, .bf16⟩
  | .local _ .vmem, ⟨18, _⟩ => ⟨S8x1408, .f32⟩
  | .local _ .vmem, ⟨19, _⟩ => ⟨S8x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference16Ideal.lean ====
abbrev S4096x2048 : Shape := ⟨2, ![4096, 2048]⟩
abbrev S2048x11264 : Shape := ⟨2, ![2048, 11264]⟩
abbrev S3x11264 : Shape := ⟨2, ![3, 11264]⟩
abbrev S1x11264 : Shape := ⟨2, ![1, 11264]⟩
abbrev S4096x11264 : Shape := ⟨2, ![4096, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x5632 : Shape := ⟨2, ![4096, 5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S4096x11264, .f32⟩
  | .hbm, ⟨5, _⟩ => ⟨S_, .f32⟩
  | .hbm, ⟨6, _⟩ => ⟨S2x11264, .f32⟩
  | .hbm, ⟨7, _⟩ => ⟨S4098x11264, .f32⟩
  | .hbm, ⟨8, _⟩ => ⟨S1x11264, .f32⟩
  | .hbm, ⟨9, _⟩ => ⟨S11264, .f32⟩
  | .hbm, ⟨10, _⟩ => ⟨S4096x11264, .f32⟩
  | .hbm, ⟨11, _⟩ => ⟨S1x11264, .f32⟩
  | .hbm, ⟨12, _⟩ => ⟨S4096x11264, .f32⟩
  | .hbm, ⟨13, _⟩ => ⟨S4096x11264, .f32⟩
  | .hbm, ⟨14, _⟩ => ⟨S1x11264, .f32⟩
  | .hbm, ⟨15, _⟩ => ⟨S11264, .f32⟩
  | .hbm, ⟨16, _⟩ => ⟨S4096x11264, .f32⟩
  | .hbm, ⟨17, _⟩ => ⟨S1x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S1x11264, .f32⟩
  | .hbm, ⟨22, _⟩ => ⟨S11264, .f32⟩
  | .hbm, ⟨23, _⟩ => ⟨S4096x11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel17.lean ====
abbrev S4096x2048 : Shape := ⟨2, ![4096, 2048]⟩
abbrev S2048x4416 : Shape := ⟨2, ![2048, 4416]⟩
abbrev S4416x2048 : Shape := ⟨2, ![4416, 2048]⟩
abbrev S3840x2048 : Shape := ⟨2, ![3840, 2048]⟩
abbrev S64x2048 : Shape := ⟨2, ![64, 2048]⟩
abbrev S_ : Shape := ⟨0, ![]⟩
abbrev S32x2048 : Shape := ⟨2, ![32, 2048]⟩
abbrev S128x2048 : Shape := ⟨2, ![128, 2048]⟩
abbrev S512x2048 : Shape := ⟨2, ![512, 2048]⟩
abbrev S4608x2048 : Shape := ⟨2, ![4608, 2048]⟩
abbrev S1x4608x2048 : Shape := ⟨3, ![1, 4608, 2048]⟩
abbrev S4096x4608 : Shape := ⟨2, ![4096, 4608]⟩
abbrev S1024x2048 : Shape := ⟨2, ![1024, 2048]⟩
abbrev S1x1536x2048 : Shape := ⟨3, ![1, 1536, 2048]⟩
abbrev S1024x1536 : Shape := ⟨2, ![1024, 1536]⟩
abbrev S1536x2048 : Shape := ⟨2, ![1536, 2048]⟩
abbrev S4096x3840 : Shape := ⟨2, ![4096, 3840]⟩
abbrev S4096x512 : Shape := ⟨2, ![4096, 512]⟩
abbrev S4096x32 : Shape := ⟨2, ![4096, 32]⟩

abbrev nBuf : Space → Nat
  | .hbm => 22
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4416, .f32⟩
  | .hbm, ⟨2, _⟩ => ⟨S2048x4416, .bf16⟩
  | .hbm, ⟨3, _⟩ => ⟨S4416x2048, .bf16⟩
  | .hbm, ⟨4, _⟩ => ⟨S3840x2048, .bf16⟩
  | .hbm, ⟨5, _⟩ => ⟨S64x2048, .bf16⟩
  | .hbm, ⟨6, _⟩ => ⟨S_, .bf16⟩
  | .hbm, ⟨7, _⟩ => ⟨S32x2048, .bf16⟩
  | .hbm, ⟨8, _⟩ => ⟨S32x2048, .bf16⟩
  | .hbm, ⟨9, _⟩ => ⟨S32x2048, .bf16⟩
  | .hbm, ⟨10, _⟩ => ⟨S128x2048, .bf16⟩
  | .hbm, ⟨11, _⟩ => ⟨S_, .bf16⟩
  | .hbm, ⟨12, _⟩ => ⟨S128x2048, .bf16⟩
  | .hbm, ⟨13, _⟩ => ⟨S512x2048, .bf16⟩
  | .hbm, ⟨14, _⟩ => ⟨S4608x2048, .bf16⟩
  | .hbm, ⟨15, _⟩ => ⟨S1x4608x2048, .bf16⟩
  | .hbm, ⟨16, _⟩ => ⟨S4096x2048, .bf16⟩
  | .hbm, ⟨17, _⟩ => ⟨S4096x4608, .f32⟩
  | .hbm, ⟨18, _⟩ => ⟨S4096x3840, .f32⟩
  | .hbm, ⟨19, _⟩ => ⟨S4096x512, .f32⟩
  | .hbm, ⟨20, _⟩ => ⟨S4096x32, .f32⟩
  | .hbm, ⟨21, _⟩ => ⟨S4096x32, .f32⟩
  | .local _ .vmem, ⟨0, _⟩ => ⟨S1024x2048, .bf16⟩
  | .local _ .vmem, ⟨1, _⟩ => ⟨S1024x2048, .bf16⟩
  | .local _ .vmem, ⟨2, _⟩ => ⟨S1x1536x2048, .bf16⟩
  | .local _ .vmem, ⟨3, _⟩ => ⟨S1x1536x2048, .bf16⟩
  | .local _ .vmem, ⟨4, _⟩ => ⟨S1024x1536, .f32⟩
  | .local _ .vmem, ⟨5, _⟩ => ⟨S1024x1536, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x4416 : Shape := ⟨2, ![2048, 4416]⟩
abbrev S4096x4416 : Shape := ⟨2, ![4096, 4416]⟩
abbrev S4096x3840 : Shape := ⟨2, ![4096, 3840]⟩
abbrev S4096x512 : Shape := ⟨2, ![4096, 512]⟩
abbrev S4096x32 : Shape := ⟨2, ![4096, 32]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4416, .f32⟩
  | .hbm, ⟨2, _⟩ => ⟨S4096x4416, .f32⟩
  | .hbm, ⟨3, _⟩ => ⟨S4096x3840, .f32⟩
  | .hbm, ⟨4, _⟩ => ⟨S4096x512, .f32⟩
  | .hbm, ⟨5, _⟩ => ⟨S4096x32, .f32⟩
  | .hbm, ⟨6, _⟩ => ⟨S4096x32, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S2048x4096 : Shape := ⟨2, ![2048, 4096]⟩
abbrev S1x4096x2048 : Shape := ⟨3, ![1, 4096, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S4096x2048, .bf16⟩
  | .hbm, ⟨5, _⟩ => ⟨S1x4096x2048, .bf16⟩
  | .hbm, ⟨6, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x5632 : Shape := ⟨2, ![4096, 5632]⟩
abbrev S5632x2048 : Shape := ⟨2, ![5632, 2048]⟩
abbrev S4096x2048 : Shape := ⟨2, ![4096, 2048]⟩
abbrev S1x5632x2048 : Shape := ⟨3, ![1, 5632, 2048]⟩
abbrev S8x128 : Shape := ⟨2, ![8, 128]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x5632, .bf16⟩
  | .hbm, ⟨5, _⟩ => ⟨S5632x2048, .bf16⟩
  | .hbm, ⟨6, _⟩ => ⟨S1x5632x2048, .bf16⟩
  | .hbm, ⟨7, _⟩ => ⟨S4096x2048, .f32⟩
  | .hbm, ⟨8, _⟩ => ⟨S4096x2048, .bf16⟩
  | .hbm, ⟨9, _⟩ => ⟨S8x128, .f32⟩
  | .hbm, ⟨10, _⟩ => ⟨S1x1, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32_7 : BitVec 32 := 3#32
  let v15 : BitVec 1 := Scalar.cmpi .eq arg2 c3_i32_7
  let v16 : BitVec 32 := Scalar.extui v15
  let c0_i32_8 : BitVec 32 := 0#32
  let v17 : BitVec 1 := Scalar.cmpi .ne v16 c0_i32_8
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference19Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S1x1, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S4096x4096 : Shape := ⟨2, ![4096, 4096]⟩
abbrev S1x4096 : Shape := ⟨2, ![1, 4096]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1024 : Shape := ⟨2, ![1, 1024]⟩
abbrev S2048x1024 : Shape := ⟨2, ![2048, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x4096, .f32⟩
  | .hbm, ⟨3, _⟩ => ⟨S1x4096, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S1x2048x2048, .bf16⟩
  | .hbm, ⟨8, _⟩ => ⟨S4096x4096, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S4096x2048 : Shape := ⟨2, ![4096, 2048]⟩
abbrev S2048x2048 : Shape := ⟨2, ![2048, 2048]⟩
abbrev S4096x4096 : Shape := ⟨2, ![4096, 4096]⟩
abbrev S1x4096 : Shape := ⟨2, ![1, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x4096, .f32⟩
  | .hbm, ⟨3, _⟩ => ⟨S1x4096, .f32⟩
  | .hbm, ⟨4, _⟩ => ⟨S4096x2048, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel21.lean ====
abbrev S4096x2048 : Shape := ⟨2, ![4096, 2048]⟩
abbrev S1024x2048 : Shape := ⟨2, ![1024, 2048]⟩
abbrev S1x1024x2048 : Shape := ⟨3, ![1, 1024, 2048]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S1x1024x2048, .bf16⟩
  | .hbm, ⟨5, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S2048x1024, .f32⟩
  | .local _ .vmem, ⟨4, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S4096x1024 : Shape := ⟨2, ![4096, 1024]⟩
abbrev S4096x2048 : Shape := ⟨2, ![4096, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1024x1024 : Shape := ⟨2, ![1024, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1x1024x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x512 : Shape := ⟨2, ![4096, 512]⟩
abbrev S4096x4096 : Shape := ⟨2, ![4096, 4096]⟩
abbrev S1x512x4096 : Shape := ⟨3, ![1, 512, 4096]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩
abbrev S512x4096 : Shape := ⟨2, ![512, 4096]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x512, .bf16⟩
  | .hbm, ⟨3, _⟩ => ⟨S4096x4096, .bf16⟩
  | .hbm, ⟨4, _⟩ => ⟨S1x512x4096, .bf16⟩
  | .hbm, ⟨5, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S_, .f32⟩
  | .hbm, ⟨3, _⟩ => ⟨S512x4096, .f32⟩
  | .hbm, ⟨4, _⟩ => ⟨S4096x4096, .f32⟩
  | .hbm, ⟨5, _⟩ => ⟨S4096x512, .f32⟩
  | .hbm, ⟨6, _⟩ => ⟨S512x4096, .f32⟩
  | .hbm, ⟨7, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4096x1024 : Shape := ⟨2, ![4096, 1024]⟩
abbrev S1024x2048 : Shape := ⟨2, ![1024, 2048]⟩
abbrev S1x1024x2048 : Shape := ⟨3, ![1, 1024, 2048]⟩
abbrev S4096x2048 : Shape := ⟨2, ![4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S1x1024x2048, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S8x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel26.lean ====
abbrev S4096x2048 : Shape := ⟨2, ![4096, 2048]⟩
abbrev S2048x2048 : Shape := ⟨2, ![2048, 2048]⟩
abbrev S1x2048 : Shape := ⟨2, ![1, 2048]⟩
abbrev S1x2048x2048 : Shape := ⟨3, ![1, 2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S1x2048x2048, .bf16⟩
  | .hbm, ⟨7, _⟩ => ⟨S4096x2048, .f32⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel28.lean ====
abbrev S4096x4096 : Shape := ⟨2, ![4096, 4096]⟩
abbrev S512x4096 : Shape := ⟨2, ![512, 4096]⟩
abbrev S4096x512 : Shape := ⟨2, ![4096, 512]⟩
abbrev S1x512 : Shape := ⟨2, ![1, 512]⟩
abbrev S_ : Shape := ⟨0, ![]⟩
abbrev S4096x4608 : Shape := ⟨2, ![4096, 4608]⟩
abbrev S1x512x4096 : Shape := ⟨3, ![1, 512, 4096]⟩
abbrev S8x512 : Shape := ⟨2, ![8, 512]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩
abbrev S1024 : Shape := ⟨1, ![1024]⟩
abbrev S1024x1 : Shape := ⟨2, ![1024, 1]⟩
abbrev S512 : Shape := ⟨1, ![512]⟩

abbrev nBuf : Space → Nat
  | .hbm => 13
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096x512, .f32⟩
  | .hbm, ⟨3, _⟩ => ⟨S1x512, .f32⟩
  | .hbm, ⟨4, _⟩ => ⟨S_, .f32⟩
  | .hbm, ⟨5, _⟩ => ⟨S4096x4096, .f32⟩
  | .hbm, ⟨6, _⟩ => ⟨S4096x4608, .f32⟩
  | .hbm, ⟨7, _⟩ => ⟨S4096x4096, .bf16⟩
  | .hbm, ⟨8, _⟩ => ⟨S512x4096, .bf16⟩
  | .hbm, ⟨9, _⟩ => ⟨S1x512x4096, .bf16⟩
  | .hbm, ⟨10, _⟩ => ⟨S4096x512, .bf16⟩
  | .hbm, ⟨11, _⟩ => ⟨S8x512, .f32⟩
  | .hbm, ⟨12, _⟩ => ⟨S1x512, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S8x512, .f32⟩
  | .local _ .vmem, ⟨10, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def k0_cond4 (i : grid0.Coords) : BitVec 1 :=
  let arg1 : BitVec 32 := BitVec.ofNat 32 (i 1).val
  let c1_i32_6 : BitVec 32 := 1#32
  let v13 : BitVec 1 := Scalar.cmpi .eq arg1 c1_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference28Ideal.lean ====
abbrev S4096x4096 : Shape := ⟨2, ![4096, 4096]⟩
abbrev S512x4096 : Shape := ⟨2, ![512, 4096]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x4096, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Steps.lean ====
/-
  What one grid point of the gradient kernel does to the blocks it keeps, as plain functions of vectors: the three
  running sums (the query gradient of the head, and the key and value gradients of the key tile), the step of a tile
  below the diagonal and the step of a tile on it. Nothing here mentions a buffer.
-/
module

public import proofs.«01_k».proof.Proof.Gen.KernelIdeal.Skeleton
public import Idealize.ShloMosaic.Lib.VecWindow

@[expose] public section

noncomputable section

namespace Cert.KernelIdeal.Body

open Idealize.ShloMosaic
open Idealize.ShloMosaic.VecWindow (window put)
open Cert.KernelIdeal.Gen

variable {F : FTy → Type} [FloatOps F] [Named F]

/-- The six input blocks of a grid point: queries, keys, values, output gradient, output, log-sum. -/
structure Ins (F : FTy → Type) where
  q : Vec F S1024x256 .bf16
  k : Vec F S1024x256 .bf16
  v : Vec F S1024x128 .bf16
  g : Vec F S1024x128 .bf16
  o : Vec F S1024x128 .f32
  l : Vec F S1x1024x1 .f32

/-- The running sums: the query gradient of a head, the key gradient and the value gradient of a key tile. -/
structure Acc (F : FTy → Type) where
  dq : Vec F S4096x256 .f32
  dk : Vec F S1024x256 .f32
  dv : Vec F S1024x128 .f32

/-- Query tile `r`'s rows lie in the head's query gradient. -/
theorem rows_inb (r : Fin 4) : ∀ a, (![1024 * r.val, 0] : Fin 2 → ℕ) a + S1024x256.size a ≤ S4096x256.size a := by
  revert r; decide
/-- So do the first half of its rows. -/
theorem rowsA_inb (r : Fin 4) : ∀ a, (![1024 * r.val, 0] : Fin 2 → ℕ) a + S512x256.size a ≤ S4096x256.size a := by
  revert r; decide
/-- And the second half. -/
theorem rowsB_inb (r : Fin 4) : ∀ a, (![1024 * r.val + 512, 0] : Fin 2 → ℕ) a + S512x256.size a ≤ S4096x256.size a := by
  revert r; decide

/-- A tile below the diagonal, of query tile `r`: every row against every key. -/
def offStep (r : Fin 4) (B : Ins F) (A : Acc F) : Acc F where
  dq := put A.dq ![1024 * r.val, 0] S1024x256.size
    (k0_pay5 (k0_pay9 B.k) (k0_pay12 B.q B.k B.g B.l B.v B.o) (window A.dq ![1024 * r.val, 0] S1024x256.size (rows_inb r)))
  dk := k0_pay4 (k0_pay14 B.q B.k B.g B.l B.v B.o A.dk)
  dv := k0_pay13 B.q B.k B.g B.l A.dv

/-- Rows 0 to 511 of a block. -/
abbrev loQ {e : EltTy} (x : Vec F S1024x256 e) : Vec F S512x256 e := window x ![0, 0] S512x256.size inb_S1024x256_S512x256_0_0
abbrev loV {e : EltTy} (x : Vec F S1024x128 e) : Vec F S512x128 e := window x ![0, 0] S512x128.size inb_S1024x128_S512x128_0_0
abbrev loL (x : Vec F S1x1024x1 .f32) : Vec F S1x512x1 .f32 := window x ![0, 0, 0] S1x512x1.size inb_S1x1024x1_S1x512x1_0_0_0
/-- Rows 512 to 1023 of a block. -/
abbrev hiQ {e : EltTy} (x : Vec F S1024x256 e) : Vec F S512x256 e := window x ![512, 0] S512x256.size inb_S1024x256_S512x256_512_0
abbrev hiV {e : EltTy} (x : Vec F S1024x128 e) : Vec F S512x128 e := window x ![512, 0] S512x128.size inb_S1024x128_S512x128_512_0
abbrev hiL (x : Vec F S1x1024x1 .f32) : Vec F S1x512x1 .f32 := window x ![0, 512, 0] S1x512x1.size inb_S1x1024x1_S1x512x1_0_512_0

/-- The first half of a tile on the diagonal: its first 512 rows against the first 512 keys. -/
def diagA (r : Fin 4) (B : Ins F) (A : Acc F) : Acc F where
  dq := put A.dq ![1024 * r.val, 0] S512x256.size
    (k0_pay23 (k0_pay16 (loQ B.k)) (k0_pay19 (loQ B.q) (loQ B.k) (loV B.g) (loL B.l) (loV B.v) (loV B.o))
      (window A.dq ![1024 * r.val, 0] S512x256.size (rowsA_inb r)))
  dk := put A.dk ![0, 0] S512x256.size
    (k0_pay22 (k0_pay15 (loQ B.q)) (k0_pay19 (loQ B.q) (loQ B.k) (loV B.g) (loL B.l) (loV B.v) (loV B.o)) (loQ A.dk))
  dv := put A.dv ![0, 0] S512x128.size (k0_pay21 (k0_pay20 (loQ B.q) (loQ B.k) (loV B.g) (loL B.l) (loV A.dv)))

/-- The second half: its last 512 rows against every key of the tile. -/
def diagB (r : Fin 4) (B : Ins F) (A : Acc F) : Acc F where
  dq := put A.dq ![1024 * r.val + 512, 0] S512x256.size
    (k0_pay33 (k0_pay25 B.k) (k0_pay26 (hiV B.g)) (k0_pay27 (hiQ B.q) B.k) (k0_pay28 (hiL B.l)) B.v (hiV B.o)
      (window A.dq ![1024 * r.val + 512, 0] S512x256.size (rowsB_inb r)))
  dk := k0_pay32 (k0_pay24 (hiQ B.q)) (k0_pay26 (hiV B.g)) (k0_pay27 (hiQ B.q) B.k) (k0_pay28 (hiL B.l)) B.v (hiV B.o) A.dk
  dv := k0_pay31 (k0_pay26 (hiV B.g)) (k0_pay27 (hiQ B.q) B.k) (k0_pay28 (hiL B.l)) A.dv

/-- A tile on the diagonal: the tile's key and value gradients begin at zero. -/
def diagStep (r : Fin 4) (B : Ins F) (A : Acc F) : Acc F :=
  diagB r B (diagA r B { A with dk := k0_pay2, dv := k0_pay3 })

/-- The query gradient begins at zero with a head's first point. -/
def zeroQ (A : Acc F) : Acc F := { A with dq := k0_pay1 }

end Cert.KernelIdeal.Body

end
-- ==== Proof.Body.lean ====
/-
  One grid point of the gradient kernel, run: from the blocks held by their values, the printed body runs to its
  return and leaves the input blocks and the tables as they were and the running sums as Steps.lean's step says.
-/
module

public import proofs.«01_k».proof.Proof.Steps
public import proofs.«01_k».proof.Proof.Gen.KernelIdeal.Launch
public import Idealize.ShloMosaic.Lib.Pipeline.Frame
public import Idealize.ShloMosaic.Lib.Exec
public import Idealize.ShloMosaic.Lib.Tactic
public import Idealize.ShloMosaic.Lib.Rounds

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Gen

variable {F : FTy → Type} [FloatOps F] [Named F]

/-- The resource algebra of the launch: the pipeline's own cells. -/
abbrev UR (nD : Nat) (τ : Topo) : Type := URounds (GSem nD τ sig) Unit

local notation "𝕄" => MT nD τ sig Unit (Elt F) ℕ (UR nD τ) ℕ

section Reads

variable {κ : Kind} {sp : Space} {s : Shape} {e : EltTy} {Val : EltTy → Type}

/-- A load at a unit-stride rectangle reads a window of what the view reads. -/
theorem readAt_window (v : View sig κ sp s e) (f : v.ty.Contents Val) (off size : Fin s.rank → ℕ) (inb : ∀ a, off a + size a ≤ s.size a) :
    v.readAt Val (Rect.unit off size inb).toLoadRect f = window (v.read Val f) off size inb := rfl

/-- The same, at offsets known by an equation. -/
theorem readAt_at (v : View sig κ sp s e) (f : v.ty.Contents Val) {off off' size : Fin s.rank → ℕ} (h : off = off')
    (inb : ∀ a, off a + size a ≤ s.size a) (inb' : ∀ a, off' a + size a ≤ s.size a) :
    v.readAt Val (Rect.unit off size inb).toLoadRect f = window (v.read Val f) off' size inb' := by
  subst h; rfl

/-- A window of one whole store: a window of its payload. -/
theorem readCov_window [∀ e, Nonempty (Val e)] (v : View sig κ sp s e) {off off' size : Fin s.rank → ℕ} (inb : ∀ a, off a + size a ≤ s.size a)
    (inb' : ∀ a, off' a + s.size a ≤ s.size a) (w : (Rect.unit off' s.size inb').shape.Idx → Val e) :
    v.readCov [⟨Rect.unit off' s.size inb', w⟩] (Rect.unit off size inb).toLoadRect = window w off size inb := by
  show v.readAt Val _ _ = _
  rw [readAt_window, View.read_writes_full]

/-- The whole of a store over one window of a whole store: the first payload with the second put over that window. -/
theorem readCov_two [∀ e, Nonempty (Val e)] (v : View sig κ sp s e) {off off' off'' size : Fin s.rank → ℕ} (inb : ∀ a, off a + size a ≤ s.size a)
    (inb' : ∀ a, off' a + s.size a ≤ s.size a) (inb'' : ∀ a, off'' a + s.size a ≤ s.size a)
    (w : (Rect.unit off' s.size inb').shape.Idx → Val e) (w' : (Rect.unit off size inb).shape.Idx → Val e) :
    v.readCov [⟨Rect.unit off size inb, w'⟩, ⟨Rect.unit off' s.size inb', w⟩] (Rect.unit off'' s.size inb'').toLoadRect = put w off size w' := by
  show v.readAt Val _ _ = _
  rw [View.readAt_full, View.read_writes_cons_put v _ inb w' _ rfl, View.read_writes_full]

/-- Two loads and stores in turn at two windows, each store's payload made of the load before it. -/
theorem read_two (v : View sig κ sp s e) (f : v.ty.Contents Val) (L : List (View.Piece Val s e)) {offA offA' offB offB' size : Fin s.rank → ℕ} (eA : offA = offA') (eB : offB = offB')
    (inA : ∀ a, offA a + size a ≤ s.size a) (inB : ∀ a, offB a + size a ≤ s.size a)
    (inA' : ∀ a, offA' a + size a ≤ s.size a) (inB' : ∀ a, offB' a + size a ≤ s.size a)
    (PA PB : (((a : Fin s.rank) → Fin (size a)) → Val e) → ((a : Fin s.rank) → Fin (size a)) → Val e) (x : s.Idx → Val e)
    (hx : v.read Val (v.writes Val f L) = x) :
    v.read Val (v.writes Val f (⟨Rect.unit offB size inB, PB (v.readAt Val (Rect.unit offB size inB).toLoadRect
        (v.writes Val f (⟨Rect.unit offA size inA, PA (v.readAt Val (Rect.unit offA size inA).toLoadRect (v.writes Val f L))⟩ :: L)))⟩ ::
        ⟨Rect.unit offA size inA, PA (v.readAt Val (Rect.unit offA size inA).toLoadRect (v.writes Val f L))⟩ :: L))
      = put (put x offA' size (PA (window x offA' size inA'))) offB' size
          (PB (window (put x offA' size (PA (window x offA' size inA'))) offB' size inB')) := by
  subst eA eB hx
  have h : v.read Val (v.writes Val f (⟨Rect.unit offA size inA, PA (v.readAt Val (Rect.unit offA size inA).toLoadRect (v.writes Val f L))⟩ :: L)) = _ :=
    View.read_writes_cons_put v f inA _ _ rfl
  rw [View.read_writes_cons_put v f inB _ _ rfl, readAt_window v _ offB, h]
  rfl

end Reads

section Point

variable (c : Dev nD) (i : grid0.Coords)
    (M2 : Memref sig .tc .smem S10 .i32) (h2 : M2.IsWhole) (M3 : Memref sig .tc .smem S10 .i32) (h3 : M3.IsWhole)
    (M4 : Memref sig .tc .vmem S1024x256 .bf16) (h4 : M4.IsWhole) (M5 : Memref sig .tc .vmem S1024x256 .bf16) (h5 : M5.IsWhole)
    (M6 : Memref sig .tc .vmem S1024x128 .bf16) (h6 : M6.IsWhole) (M7 : Memref sig .tc .vmem S1024x128 .bf16) (h7 : M7.IsWhole)
    (M8 : Memref sig .tc .vmem S1024x128 .f32) (h8 : M8.IsWhole) (M9 : Memref sig .tc .vmem S1x1024x1 .f32) (h9 : M9.IsWhole)
    (M10 : Memref sig .tc .vmem S4096x256 .f32) (h10 : M10.IsWhole) (M11 : Memref sig .tc .vmem S1024x256 .bf16) (h11 : M11.IsWhole)
    (M12 : Memref sig .tc .vmem S1024x128 .bf16) (h12 : M12.IsWhole) (M13 : Memref sig .tc .vmem S1024x256 .f32) (h13 : M13.IsWhole)
    (M14 : Memref sig .tc .vmem S1024x128 .f32) (h14 : M14.IsWhole)
    (q2 q3 : PosShare TreeShare) (f2 : Buf (Elt F) (M2.view.loc (c : Thread nD τ))) (f3 : Buf (Elt F) (M3.view.loc (c : Thread nD τ)))

/-- The buffers of a grid point, by the values they read: the two tables at `f2` and `f3`, the input blocks at `B`,
    the running sums at `A`, the two result blocks at `x11` and `x12`. -/
def bufs (B : Ins F) (A : Acc F) (x11 : Vec F S1024x256 .bf16) (x12 : Vec F S1024x128 .bf16) : sProp 𝕄 :=
  iprop((M2.view.loc (c : Thread nD τ) ↦{q2} f2) ∗ (M3.view.loc (c : Thread nD τ) ↦{q3} f3)
    ∗ owns (c : Thread nD τ) M4 fullShare B.q ∗ owns (c : Thread nD τ) M5 fullShare B.k ∗ owns (c : Thread nD τ) M6 fullShare B.v
    ∗ owns (c : Thread nD τ) M7 fullShare B.g ∗ owns (c : Thread nD τ) M8 fullShare B.o ∗ owns (c : Thread nD τ) M9 fullShare B.l
    ∗ owns (c : Thread nD τ) M10 fullShare A.dq ∗ owns (c : Thread nD τ) M11 fullShare x11 ∗ owns (c : Thread nD τ) M12 fullShare x12
    ∗ owns (c : Thread nD τ) M13 fullShare A.dk ∗ owns (c : Thread nD τ) M14 fullShare A.dv)

/-- A tile below the diagonal that is not the last of its key tile. -/
theorem run_off (B : Ins F) (A : Acc F) (x11 : Vec F S1024x256 .bf16) (x12 : Vec F S1024x128 .bf16) (w1 w3 : BitVec 32) (r : Fin 4)
    (e1 : ∀ inb, M2.view.readAt (Elt F) (Rect.unit (s := S10) (k0_off1 i) S1.size inb).toLoadRect f2 = fun _ => w1)
    (e3 : ∀ inb, M3.view.readAt (Elt F) (Rect.unit (s := S10) (k0_off1 i) S1.size inb).toLoadRect f3 = fun _ => w3)
    (o2 : k0_off2 w1 = ![1024 * r.val, 0]) (oA : k0_off3 w1 0#32 = ![1024 * r.val, 0]) (oB : k0_off3 w1 512#32 = ![1024 * r.val + 512, 0])
    (hchk : k0_chk1 w1 w3) (c1 : ¬ k0_cond1 i = 1#1) (c2 : ¬ Scalar.cmpi .ne (Scalar.extui (Scalar.cmpi .eq w1 w3)) 0#32 = 1#1)
    (c3 : k0_cond3 w1 w3 = 1#1) (c4 : ¬ k0_cond4 w1 w3 = 1#1) (c5 : ¬ k0_cond5 w1 = 1#1) (E : Set ℕ) :
    bufs c M2 M3 M4 M5 M6 M7 M8 M9 M10 M11 M12 M13 M14 q2 q3 f2 f3 B A x11 x12
      ⊢ wp frame (wpE (defs₀ (F := F)) Variants.none c none) E
          (cc0_attn_bwd i M2 h2 M3 h3 M4 h4 M5 h5 M6 h6 M7 h7 M8 h8 M9 h9 M10 h10 M11 h11 M12 h12 M13 h13 M14 h14)
          (fun _ => bufs c M2 M3 M4 M5 M6 M7 M8 M9 M10 M11 M12 M13 M14 q2 q3 f2 f3 B (offStep r B A) x11 x12) := by
  unfold bufs owns
  iintro ⟨H2, H3, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩⟩
  have g4 : ∀ inb, M4.view.readAt (Elt F) (Rect.unit (s := S1024x256) ![0, 0] S1024x256.size inb).toLoadRect f4 = B.q := fun inb => (View.readAt_full _ _ inb).trans r4
  have g5 : ∀ inb, M5.view.readAt (Elt F) (Rect.unit (s := S1024x256) ![0, 0] S1024x256.size inb).toLoadRect f5 = B.k := fun inb => (View.readAt_full _ _ inb).trans r5
  have g6 : ∀ inb, M6.view.readAt (Elt F) (Rect.unit (s := S1024x128) ![0, 0] S1024x128.size inb).toLoadRect f6 = B.v := fun inb => (View.readAt_full _ _ inb).trans r6
  have g7 : ∀ inb, M7.view.readAt (Elt F) (Rect.unit (s := S1024x128) ![0, 0] S1024x128.size inb).toLoadRect f7 = B.g := fun inb => (View.readAt_full _ _ inb).trans r7
  have g8 : ∀ inb, M8.view.readAt (Elt F) (Rect.unit (s := S1024x128) ![0, 0] S1024x128.size inb).toLoadRect f8 = B.o := fun inb => (View.readAt_full _ _ inb).trans r8
  have g9 : ∀ inb, M9.view.readAt (Elt F) (Rect.unit (s := S1x1024x1) ![0, 0, 0] S1x1024x1.size inb).toLoadRect f9 = B.l := fun inb => (View.readAt_full _ _ inb).trans r9
  have g13 : ∀ inb, M13.view.readAt (Elt F) (Rect.unit (s := S1024x256) ![0, 0] S1024x256.size inb).toLoadRect f13 = A.dk := fun inb => (View.readAt_full _ _ inb).trans r13
  have g14 : ∀ inb, M14.view.readAt (Elt F) (Rect.unit (s := S1024x128) ![0, 0] S1024x128.size inb).toLoadRect f14 = A.dv := fun inb => (View.readAt_full _ _ inb).trans r14
  have g10 : ∀ inb, M10.view.readAt (Elt F) (Rect.unit (s := S4096x256) (k0_off2 w1) S1024x256.size inb).toLoadRect f10 = window A.dq ![1024 * r.val, 0] S1024x256.size (rows_inb r) := fun inb => (readAt_at _ _ o2 inb (rows_inb r)).trans (congrArg (fun x => window x _ _ (rows_inb r)) r10)
  sl_exec_parts (disch := first | sl_exact hchk | sl_exact c1 | sl_exact c2 | sl_exact c3 | sl_exact c4 | sl_exact c5)
  sl_step
  isplitl [H2]; · iexact H2
  isplitl [H3]; · iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists _; isplitr
    swap
    · iexact H10
    ipureintro
    (try sl_unfold_run_names)
    rw [View.read_writes_cons_put _ _ _ _ _ o2, View.writes_nil, r10]; rfl
  isplitl [H11]
  · iexists f11; isplitr
    · ipureintro; exact r11
    iexact H11
  isplitl [H12]
  · iexists f12; isplitr
    · ipureintro; exact r12
    iexact H12
  isplitl [H13]
  · iexists _; isplitr
    swap
    · iexact H13
    ipureintro
    (try sl_unfold_run_names)
    rw [View.read_writes_full]; rfl
  · iexists _; isplitr
    swap
    · iexact H14
    ipureintro
    (try sl_unfold_run_names)
    rw [View.read_writes_full]; rfl

/-- The last tile of its key tile, below the diagonal: the results are written. -/
theorem run_off_last (B : Ins F) (A : Acc F) (x11 : Vec F S1024x256 .bf16) (x12 : Vec F S1024x128 .bf16) (w1 w3 : BitVec 32) (r : Fin 4)
    (e1 : ∀ inb, M2.view.readAt (Elt F) (Rect.unit (s := S10) (k0_off1 i) S1.size inb).toLoadRect f2 = fun _ => w1)
    (e3 : ∀ inb, M3.view.readAt (Elt F) (Rect.unit (s := S10) (k0_off1 i) S1.size inb).toLoadRect f3 = fun _ => w3)
    (o2 : k0_off2 w1 = ![1024 * r.val, 0]) (oA : k0_off3 w1 0#32 = ![1024 * r.val, 0]) (oB : k0_off3 w1 512#32 = ![1024 * r.val + 512, 0])
    (hchk : k0_chk1 w1 w3) (c1 : ¬ k0_cond1 i = 1#1) (c2 : ¬ Scalar.cmpi .ne (Scalar.extui (Scalar.cmpi .eq w1 w3)) 0#32 = 1#1)
    (c3 : k0_cond3 w1 w3 = 1#1) (c4 : ¬ k0_cond4 w1 w3 = 1#1) (c5 : k0_cond5 w1 = 1#1) (E : Set ℕ) :
    bufs c M2 M3 M4 M5 M6 M7 M8 M9 M10 M11 M12 M13 M14 q2 q3 f2 f3 B A x11 x12
      ⊢ wp frame (wpE (defs₀ (F := F)) Variants.none c none) E
          (cc0_attn_bwd i M2 h2 M3 h3 M4 h4 M5 h5 M6 h6 M7 h7 M8 h8 M9 h9 M10 h10 M11 h11 M12 h12 M13 h13 M14 h14)
          (fun _ => bufs c M2 M3 M4 M5 M6 M7 M8 M9 M10 M11 M12 M13 M14 q2 q3 f2 f3 B (offStep r B A) (k0_pay6 (offStep r B A).dk) (k0_pay7 (offStep r B A).dv)) := by
  unfold bufs owns
  iintro ⟨H2, H3, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩⟩
  have g4 : ∀ inb, M4.view.readAt (Elt F) (Rect.unit (s := S1024x256) ![0, 0] S1024x256.size inb).toLoadRect f4 = B.q := fun inb => (View.readAt_full _ _ inb).trans r4
  have g5 : ∀ inb, M5.view.readAt (Elt F) (Rect.unit (s := S1024x256) ![0, 0] S1024x256.size inb).toLoadRect f5 = B.k := fun inb => (View.readAt_full _ _ inb).trans r5
  have g6 : ∀ inb, M6.view.readAt (Elt F) (Rect.unit (s := S1024x128) ![0, 0] S1024x128.size inb).toLoadRect f6 = B.v := fun inb => (View.readAt_full _ _ inb).trans r6
  have g7 : ∀ inb, M7.view.readAt (Elt F) (Rect.unit (s := S1024x128) ![0, 0] S1024x128.size inb).toLoadRect f7 = B.g := fun inb => (View.readAt_full _ _ inb).trans r7
  have g8 : ∀ inb, M8.view.readAt (Elt F) (Rect.unit (s := S1024x128) ![0, 0] S1024x128.size inb).toLoadRect f8 = B.o := fun inb => (View.readAt_full _ _ inb).trans r8
  have g9 : ∀ inb, M9.view.readAt (Elt F) (Rect.unit (s := S1x1024x1) ![0, 0, 0] S1x1024x1.size inb).toLoadRect f9 = B.l := fun inb => (View.readAt_full _ _ inb).trans r9
  have g13 : ∀ inb, M13.view.readAt (Elt F) (Rect.unit (s := S1024x256) ![0, 0] S1024x256.size inb).toLoadRect f13 = A.dk := fun inb => (View.readAt_full _ _ inb).trans r13
  have g14 : ∀ inb, M14.view.readAt (Elt F) (Rect.unit (s := S1024x128) ![0, 0] S1024x128.size inb).toLoadRect f14 = A.dv := fun inb => (View.readAt_full _ _ inb).trans r14
  have g10 : ∀ inb, M10.view.readAt (Elt F) (Rect.unit (s := S4096x256) (k0_off2 w1) S1024x256.size inb).toLoadRect f10 = window A.dq ![1024 * r.val, 0] S1024x256.size (rows_inb r) := fun inb => (readAt_at _ _ o2 inb (rows_inb r)).trans (congrArg (fun x => window x _ _ (rows_inb r)) r10)
  sl_exec_parts (disch := first | sl_exact hchk | sl_exact c1 | sl_exact c2 | sl_exact c3 | sl_exact c4 | sl_exact c5)
  sl_step
  isplitl [H2]; · iexact H2
  isplitl [H3]; · iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists _; isplitr
    swap
    · iexact H10
    ipureintro
    (try sl_unfold_run_names)
    rw [View.read_writes_cons_put _ _ _ _ _ o2, View.writes_nil, r10]; rfl
  isplitl [H11]
  · iexists _; isplitr
    swap
    · iexact H11
    ipureintro
    (try sl_unfold_run_names)
    rw [View.read_writes_full, View.readCov_full]; rfl
  isplitl [H12]
  · iexists _; isplitr
    swap
    · iexact H12
    ipureintro
    (try sl_unfold_run_names)
    rw [View.read_writes_full, View.readCov_full]; rfl
  isplitl [H13]
  · iexists _; isplitr
    swap
    · iexact H13
    ipureintro
    (try sl_unfold_run_names)
    rw [View.read_writes_full]; rfl
  · iexists _; isplitr
    swap
    · iexact H14
    ipureintro
    (try sl_unfold_run_names)
    rw [View.read_writes_full]; rfl

/-- The first point of a head: a tile on the diagonal, the query gradient zeroed before. -/
theorem run_first (B : Ins F) (A : Acc F) (x11 : Vec F S1024x256 .bf16) (x12 : Vec F S1024x128 .bf16) (w1 w3 : BitVec 32) (r : Fin 4)
    (e1 : ∀ inb, M2.view.readAt (Elt F) (Rect.unit (s := S10) (k0_off1 i) S1.size inb).toLoadRect f2 = fun _ => w1)
    (e3 : ∀ inb, M3.view.readAt (Elt F) (Rect.unit (s := S10) (k0_off1 i) S1.size inb).toLoadRect f3 = fun _ => w3)
    (o2 : k0_off2 w1 = ![1024 * r.val, 0]) (oA : k0_off3 w1 0#32 = ![1024 * r.val, 0]) (oB : k0_off3 w1 512#32 = ![1024 * r.val + 512, 0])
    (hchk : k0_chk1 w1 w3) (c1 : k0_cond1 i = 1#1) (c2 : Scalar.cmpi .ne (Scalar.extui (Scalar.cmpi .eq w1 w3)) 0#32 = 1#1)
    (c3 : ¬ k0_cond3 w1 w3 = 1#1) (c4 : k0_cond4 w1 w3 = 1#1) (c5 : ¬ k0_cond5 w1 = 1#1) (E : Set ℕ) :
    bufs c M2 M3 M4 M5 M6 M7 M8 M9 M10 M11 M12 M13 M14 q2 q3 f2 f3 B A x11 x12
      ⊢ wp frame (wpE (defs₀ (F := F)) Variants.none c none) E
          (cc0_attn_bwd i M2 h2 M3 h3 M4 h4 M5 h5 M6 h6 M7 h7 M8 h8 M9 h9 M10 h10 M11 h11 M12 h12 M13 h13 M14 h14)
          (fun _ => bufs c M2 M3 M4 M5 M6 M7 M8 M9 M10 M11 M12 M13 M14 q2 q3 f2 f3 B (diagStep r B (zeroQ A)) x11 x12) := by
  unfold bufs owns
  iintro ⟨H2, H3, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩⟩
  have g4 : ∀ inb, M4.view.readAt (Elt F) (Rect.unit (s := S1024x256) ![0, 0] S1024x256.size inb).toLoadRect f4 = B.q := fun inb => (View.readAt_full _ _ inb).trans r4
  have l4 : ∀ inb, M4.view.readAt (Elt F) (Rect.unit (s := S1024x256) ![0, 0] S512x256.size inb).toLoadRect f4 = loQ B.q := fun inb => (readAt_window _ _ _ _ inb).trans (by rw [r4])
  have u4 : ∀ inb, M4.view.readAt (Elt F) (Rect.unit (s := S1024x256) ![512, 0] S512x256.size inb).toLoadRect f4 = hiQ B.q := fun inb => (readAt_window _ _ _ _ inb).trans (by rw [r4])
  have g5 : ∀ inb, M5.view.readAt (Elt F) (Rect.unit (s := S1024x256) ![0, 0] S1024x256.size inb).toLoadRect f5 = B.k := fun inb => (View.readAt_full _ _ inb).trans r5
  have l5 : ∀ inb, M5.view.readAt (Elt F) (Rect.unit (s := S1024x256) ![0, 0] S512x256.size inb).toLoadRect f5 = loQ B.k := fun inb => (readAt_window _ _ _ _ inb).trans (by rw [r5])
  have g6 : ∀ inb, M6.view.readAt (Elt F) (Rect.unit (s := S1024x128) ![0, 0] S1024x128.size inb).toLoadRect f6 = B.v := fun inb => (View.readAt_full _ _ inb).trans r6
  have l6 : ∀ inb, M6.view.readAt (Elt F) (Rect.unit (s := S1024x128) ![0, 0] S512x128.size inb).toLoadRect f6 = loV B.v := fun inb => (readAt_window _ _ _ _ inb).trans (by rw [r6])
  have g7 : ∀ inb, M7.view.readAt (Elt F) (Rect.unit (s := S1024x128) ![0, 0] S1024x128.size inb).toLoadRect f7 = B.g := fun inb => (View.readAt_full _ _ inb).trans r7
  have l7 : ∀ inb, M7.view.readAt (Elt F) (Rect.unit (s := S1024x128) ![0, 0] S512x128.size inb).toLoadRect f7 = loV B.g := fun inb => (readAt_window _ _ _ _ inb).trans (by rw [r7])
  have u7 : ∀ inb, M7.view.readAt (Elt F) (Rect.unit (s := S1024x128) ![512, 0] S512x128.size inb).toLoadRect f7 = hiV B.g := fun inb => (readAt_window _ _ _ _ inb).trans (by rw [r7])
  have g8 : ∀ inb, M8.view.readAt (Elt F) (Rect.unit (s := S1024x128) ![0, 0] S1024x128.size inb).toLoadRect f8 = B.o := fun inb => (View.readAt_full _ _ inb).trans r8
  have l8 : ∀ inb, M8.view.readAt (Elt F) (Rect.unit (s := S1024x128) ![0, 0] S512x128.size inb).toLoadRect f8 = loV B.o := fun inb => (readAt_window _ _ _ _ inb).trans (by rw [r8])
  have u8 : ∀ inb, M8.view.readAt (Elt F) (Rect.unit (s := S1024x128) ![512, 0] S512x128.size inb).toLoadRect f8 = hiV B.o := fun inb => (readAt_window _ _ _ _ inb).trans (by rw [r8])
  have g9 : ∀ inb, M9.view.readAt (Elt F) (Rect.unit (s := S1x1024x1) ![0, 0, 0] S1x1024x1.size inb).toLoadRect f9 = B.l := fun inb => (View.readAt_full _ _ inb).trans r9
  have l9 : ∀ inb, M9.view.readAt (Elt F) (Rect.unit (s := S1x1024x1) ![0, 0, 0] S1x512x1.size inb).toLoadRect f9 = loL B.l := fun inb => (readAt_window _ _ _ _ inb).trans (by rw [r9])
  have u9 : ∀ inb, M9.view.readAt (Elt F) (Rect.unit (s := S1x1024x1) ![0, 512, 0] S1x512x1.size inb).toLoadRect f9 = hiL B.l := fun inb => (readAt_window _ _ _ _ inb).trans (by rw [r9])
  sl_exec_parts (disch := first | sl_exact hchk | sl_exact c1 | sl_exact c2 | sl_exact c3 | sl_exact c4 | sl_exact c5)
  sl_step
  isplitl [H2]; · iexact H2
  isplitl [H3]; · iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists _; isplitr
    swap
    · iexact H10
    ipureintro
    (try sl_unfold_run_names)
    have iA : ∀ a, k0_off3 w1 0#32 a + S512x256.size a ≤ S4096x256.size a := by rw [oA]; exact rowsA_inb r
    have iB : ∀ a, k0_off3 w1 512#32 a + S512x256.size a ≤ S4096x256.size a := by rw [oB]; exact rowsB_inb r
    refine Eq.trans ?_ (read_two M10.view M10.view.junk [⟨Rect.unit ![0, 0] S4096x256.size inb_S4096x256_S4096x256_0_0, k0_pay1⟩] oA oB iA iB (rowsA_inb r) (rowsB_inb r) (fun x => k0_pay23 (k0_pay16 (loQ B.k)) (k0_pay19 (loQ B.q) (loQ B.k) (loV B.g) (loL B.l) (loV B.v) (loV B.o)) x) (fun x => k0_pay33 (k0_pay25 B.k) (k0_pay26 (hiV B.g)) (k0_pay27 (hiQ B.q) B.k) (k0_pay28 (hiL B.l)) B.v (hiV B.o) x) k0_pay1 (View.read_writes_full _ _ _ _ _))
    with_reducible congr 4
    rfl
  isplitl [H11]
  · iexists f11; isplitr
    · ipureintro; exact r11
    iexact H11
  isplitl [H12]
  · iexists f12; isplitr
    · ipureintro; exact r12
    iexact H12
  isplitl [H13]
  · iexists _; isplitr
    swap
    · iexact H13
    ipureintro
    (try sl_unfold_run_names)
    rw [View.read_writes_full, readCov_two, readCov_window]; rfl
  · iexists _; isplitr
    swap
    · iexact H14
    ipureintro
    (try sl_unfold_run_names)
    rw [View.read_writes_full, readCov_two, readCov_window]; rfl

/-- A tile on the diagonal that is not the last of its key tile. -/
theorem run_diag (B : Ins F) (A : Acc F) (x11 : Vec F S1024x256 .bf16) (x12 : Vec F S1024x128 .bf16) (w1 w3 : BitVec 32) (r : Fin 4)
    (e1 : ∀ inb, M2.view.readAt (Elt F) (Rect.unit (s := S10) (k0_off1 i) S1.size inb).toLoadRect f2 = fun _ => w1)
    (e3 : ∀ inb, M3.view.readAt (Elt F) (Rect.unit (s := S10) (k0_off1 i) S1.size inb).toLoadRect f3 = fun _ => w3)
    (o2 : k0_off2 w1 = ![1024 * r.val, 0]) (oA : k0_off3 w1 0#32 = ![1024 * r.val, 0]) (oB : k0_off3 w1 512#32 = ![1024 * r.val + 512, 0])
    (hchk : k0_chk1 w1 w3) (c1 : ¬ k0_cond1 i = 1#1) (c2 : Scalar.cmpi .ne (Scalar.extui (Scalar.cmpi .eq w1 w3)) 0#32 = 1#1)
    (c3 : ¬ k0_cond3 w1 w3 = 1#1) (c4 : k0_cond4 w1 w3 = 1#1) (c5 : ¬ k0_cond5 w1 = 1#1) (E : Set ℕ) :
    bufs c M2 M3 M4 M5 M6 M7 M8 M9 M10 M11 M12 M13 M14 q2 q3 f2 f3 B A x11 x12
      ⊢ wp frame (wpE (defs₀ (F := F)) Variants.none c none) E
          (cc0_attn_bwd i M2 h2 M3 h3 M4 h4 M5 h5 M6 h6 M7 h7 M8 h8 M9 h9 M10 h10 M11 h11 M12 h12 M13 h13 M14 h14)
          (fun _ => bufs c M2 M3 M4 M5 M6 M7 M8 M9 M10 M11 M12 M13 M14 q2 q3 f2 f3 B (diagStep r B A) x11 x12) := by
  unfold bufs owns
  iintro ⟨H2, H3, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩⟩
  have g4 : ∀ inb, M4.view.readAt (Elt F) (Rect.unit (s := S1024x256) ![0, 0] S1024x256.size inb).toLoadRect f4 = B.q := fun inb => (View.readAt_full _ _ inb).trans r4
  have l4 : ∀ inb, M4.view.readAt (Elt F) (Rect.unit (s := S1024x256) ![0, 0] S512x256.size inb).toLoadRect f4 = loQ B.q := fun inb => (readAt_window _ _ _ _ inb).trans (by rw [r4])
  have u4 : ∀ inb, M4.view.readAt (Elt F) (Rect.unit (s := S1024x256) ![512, 0] S512x256.size inb).toLoadRect f4 = hiQ B.q := fun inb => (readAt_window _ _ _ _ inb).trans (by rw [r4])
  have g5 : ∀ inb, M5.view.readAt (Elt F) (Rect.unit (s := S1024x256) ![0, 0] S1024x256.size inb).toLoadRect f5 = B.k := fun inb => (View.readAt_full _ _ inb).trans r5
  have l5 : ∀ inb, M5.view.readAt (Elt F) (Rect.unit (s := S1024x256) ![0, 0] S512x256.size inb).toLoadRect f5 = loQ B.k := fun inb => (readAt_window _ _ _ _ inb).trans (by rw [r5])
  have g6 : ∀ inb, M6.view.readAt (Elt F) (Rect.unit (s := S1024x128) ![0, 0] S1024x128.size inb).toLoadRect f6 = B.v := fun inb => (View.readAt_full _ _ inb).trans r6
  have l6 : ∀ inb, M6.view.readAt (Elt F) (Rect.unit (s := S1024x128) ![0, 0] S512x128.size inb).toLoadRect f6 = loV B.v := fun inb => (readAt_window _ _ _ _ inb).trans (by rw [r6])
  have g7 : ∀ inb, M7.view.readAt (Elt F) (Rect.unit (s := S1024x128) ![0, 0] S1024x128.size inb).toLoadRect f7 = B.g := fun inb => (View.readAt_full _ _ inb).trans r7
  have l7 : ∀ inb, M7.view.readAt (Elt F) (Rect.unit (s := S1024x128) ![0, 0] S512x128.size inb).toLoadRect f7 = loV B.g := fun inb => (readAt_window _ _ _ _ inb).trans (by rw [r7])
  have u7 : ∀ inb, M7.view.readAt (Elt F) (Rect.unit (s := S1024x128) ![512, 0] S512x128.size inb).toLoadRect f7 = hiV B.g := fun inb => (readAt_window _ _ _ _ inb).trans (by rw [r7])
  have g8 : ∀ inb, M8.view.readAt (Elt F) (Rect.unit (s := S1024x128) ![0, 0] S1024x128.size inb).toLoadRect f8 = B.o := fun inb => (View.readAt_full _ _ inb).trans r8
  have l8 : ∀ inb, M8.view.readAt (Elt F) (Rect.unit (s := S1024x128) ![0, 0] S512x128.size inb).toLoadRect f8 = loV B.o := fun inb => (readAt_window _ _ _ _ inb).trans (by rw [r8])
  have u8 : ∀ inb, M8.view.readAt (Elt F) (Rect.unit (s := S1024x128) ![512, 0] S512x128.size inb).toLoadRect f8 = hiV B.o := fun inb => (readAt_window _ _ _ _ inb).trans (by rw [r8])
  have g9 : ∀ inb, M9.view.readAt (Elt F) (Rect.unit (s := S1x1024x1) ![0, 0, 0] S1x1024x1.size inb).toLoadRect f9 = B.l := fun inb => (View.readAt_full _ _ inb).trans r9
  have l9 : ∀ inb, M9.view.readAt (Elt F) (Rect.unit (s := S1x1024x1) ![0, 0, 0] S1x512x1.size inb).toLoadRect f9 = loL B.l := fun inb => (readAt_window _ _ _ _ inb).trans (by rw [r9])
  have u9 : ∀ inb, M9.view.readAt (Elt F) (Rect.unit (s := S1x1024x1) ![0, 512, 0] S1x512x1.size inb).toLoadRect f9 = hiL B.l := fun inb => (readAt_window _ _ _ _ inb).trans (by rw [r9])
  sl_exec_parts (disch := first | sl_exact hchk | sl_exact c1 | sl_exact c2 | sl_exact c3 | sl_exact c4 | sl_exact c5)
  sl_step
  isplitl [H2]; · iexact H2
  isplitl [H3]; · iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists _; isplitr
    swap
    · iexact H10
    ipureintro
    (try sl_unfold_run_names)
    exact read_two M10.view f10 [] oA oB _ _ (rowsA_inb r) (rowsB_inb r) (fun x => k0_pay23 (k0_pay16 (loQ B.k)) (k0_pay19 (loQ B.q) (loQ B.k) (loV B.g) (loL B.l) (loV B.v) (loV B.o)) x) (fun x => k0_pay33 (k0_pay25 B.k) (k0_pay26 (hiV B.g)) (k0_pay27 (hiQ B.q) B.k) (k0_pay28 (hiL B.l)) B.v (hiV B.o) x) A.dq (r10)
  isplitl [H11]
  · iexists f11; isplitr
    · ipureintro; exact r11
    iexact H11
  isplitl [H12]
  · iexists f12; isplitr
    · ipureintro; exact r12
    iexact H12
  isplitl [H13]
  · iexists _; isplitr
    swap
    · iexact H13
    ipureintro
    (try sl_unfold_run_names)
    rw [View.read_writes_full, readCov_two, readCov_window]; rfl
  · iexists _; isplitr
    swap
    · iexact H14
    ipureintro
    (try sl_unfold_run_names)
    rw [View.read_writes_full, readCov_two, readCov_window]; rfl

/-- A tile on the diagonal that is the only one of its key tile. -/
theorem run_diag_last (B : Ins F) (A : Acc F) (x11 : Vec F S1024x256 .bf16) (x12 : Vec F S1024x128 .bf16) (w1 w3 : BitVec 32) (r : Fin 4)
    (e1 : ∀ inb, M2.view.readAt (Elt F) (Rect.unit (s := S10) (k0_off1 i) S1.size inb).toLoadRect f2 = fun _ => w1)
    (e3 : ∀ inb, M3.view.readAt (Elt F) (Rect.unit (s := S10) (k0_off1 i) S1.size inb).toLoadRect f3 = fun _ => w3)
    (o2 : k0_off2 w1 = ![1024 * r.val, 0]) (oA : k0_off3 w1 0#32 = ![1024 * r.val, 0]) (oB : k0_off3 w1 512#32 = ![1024 * r.val + 512, 0])
    (hchk : k0_chk1 w1 w3) (c1 : ¬ k0_cond1 i = 1#1) (c2 : Scalar.cmpi .ne (Scalar.extui (Scalar.cmpi .eq w1 w3)) 0#32 = 1#1)
    (c3 : ¬ k0_cond3 w1 w3 = 1#1) (c4 : k0_cond4 w1 w3 = 1#1) (c5 : k0_cond5 w1 = 1#1) (E : Set ℕ) :
    bufs c M2 M3 M4 M5 M6 M7 M8 M9 M10 M11 M12 M13 M14 q2 q3 f2 f3 B A x11 x12
      ⊢ wp frame (wpE (defs₀ (F := F)) Variants.none c none) E
          (cc0_attn_bwd i M2 h2 M3 h3 M4 h4 M5 h5 M6 h6 M7 h7 M8 h8 M9 h9 M10 h10 M11 h11 M12 h12 M13 h13 M14 h14)
          (fun _ => bufs c M2 M3 M4 M5 M6 M7 M8 M9 M10 M11 M12 M13 M14 q2 q3 f2 f3 B (diagStep r B A) (k0_pay6 (diagStep r B A).dk) (k0_pay7 (diagStep r B A).dv)) := by
  unfold bufs owns
  iintro ⟨H2, H3, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩⟩
  have g4 : ∀ inb, M4.view.readAt (Elt F) (Rect.unit (s := S1024x256) ![0, 0] S1024x256.size inb).toLoadRect f4 = B.q := fun inb => (View.readAt_full _ _ inb).trans r4
  have l4 : ∀ inb, M4.view.readAt (Elt F) (Rect.unit (s := S1024x256) ![0, 0] S512x256.size inb).toLoadRect f4 = loQ B.q := fun inb => (readAt_window _ _ _ _ inb).trans (by rw [r4])
  have u4 : ∀ inb, M4.view.readAt (Elt F) (Rect.unit (s := S1024x256) ![512, 0] S512x256.size inb).toLoadRect f4 = hiQ B.q := fun inb => (readAt_window _ _ _ _ inb).trans (by rw [r4])
  have g5 : ∀ inb, M5.view.readAt (Elt F) (Rect.unit (s := S1024x256) ![0, 0] S1024x256.size inb).toLoadRect f5 = B.k := fun inb => (View.readAt_full _ _ inb).trans r5
  have l5 : ∀ inb, M5.view.readAt (Elt F) (Rect.unit (s := S1024x256) ![0, 0] S512x256.size inb).toLoadRect f5 = loQ B.k := fun inb => (readAt_window _ _ _ _ inb).trans (by rw [r5])
  have g6 : ∀ inb, M6.view.readAt (Elt F) (Rect.unit (s := S1024x128) ![0, 0] S1024x128.size inb).toLoadRect f6 = B.v := fun inb => (View.readAt_full _ _ inb).trans r6
  have l6 : ∀ inb, M6.view.readAt (Elt F) (Rect.unit (s := S1024x128) ![0, 0] S512x128.size inb).toLoadRect f6 = loV B.v := fun inb => (readAt_window _ _ _ _ inb).trans (by rw [r6])
  have g7 : ∀ inb, M7.view.readAt (Elt F) (Rect.unit (s := S1024x128) ![0, 0] S1024x128.size inb).toLoadRect f7 = B.g := fun inb => (View.readAt_full _ _ inb).trans r7
  have l7 : ∀ inb, M7.view.readAt (Elt F) (Rect.unit (s := S1024x128) ![0, 0] S512x128.size inb).toLoadRect f7 = loV B.g := fun inb => (readAt_window _ _ _ _ inb).trans (by rw [r7])
  have u7 : ∀ inb, M7.view.readAt (Elt F) (Rect.unit (s := S1024x128) ![512, 0] S512x128.size inb).toLoadRect f7 = hiV B.g := fun inb => (readAt_window _ _ _ _ inb).trans (by rw [r7])
  have g8 : ∀ inb, M8.view.readAt (Elt F) (Rect.unit (s := S1024x128) ![0, 0] S1024x128.size inb).toLoadRect f8 = B.o := fun inb => (View.readAt_full _ _ inb).trans r8
  have l8 : ∀ inb, M8.view.readAt (Elt F) (Rect.unit (s := S1024x128) ![0, 0] S512x128.size inb).toLoadRect f8 = loV B.o := fun inb => (readAt_window _ _ _ _ inb).trans (by rw [r8])
  have u8 : ∀ inb, M8.view.readAt (Elt F) (Rect.unit (s := S1024x128) ![512, 0] S512x128.size inb).toLoadRect f8 = hiV B.o := fun inb => (readAt_window _ _ _ _ inb).trans (by rw [r8])
  have g9 : ∀ inb, M9.view.readAt (Elt F) (Rect.unit (s := S1x1024x1) ![0, 0, 0] S1x1024x1.size inb).toLoadRect f9 = B.l := fun inb => (View.readAt_full _ _ inb).trans r9
  have l9 : ∀ inb, M9.view.readAt (Elt F) (Rect.unit (s := S1x1024x1) ![0, 0, 0] S1x512x1.size inb).toLoadRect f9 = loL B.l := fun inb => (readAt_window _ _ _ _ inb).trans (by rw [r9])
  have u9 : ∀ inb, M9.view.readAt (Elt F) (Rect.unit (s := S1x1024x1) ![0, 512, 0] S1x512x1.size inb).toLoadRect f9 = hiL B.l := fun inb => (readAt_window _ _ _ _ inb).trans (by rw [r9])
  sl_exec_parts (disch := first | sl_exact hchk | sl_exact c1 | sl_exact c2 | sl_exact c3 | sl_exact c4 | sl_exact c5)
  sl_step
  isplitl [H2]; · iexact H2
  isplitl [H3]; · iexact H3
  isplitl [H4]
  · iexists f4; isplitr
    · ipureintro; exact r4
    iexact H4
  isplitl [H5]
  · iexists f5; isplitr
    · ipureintro; exact r5
    iexact H5
  isplitl [H6]
  · iexists f6; isplitr
    · ipureintro; exact r6
    iexact H6
  isplitl [H7]
  · iexists f7; isplitr
    · ipureintro; exact r7
    iexact H7
  isplitl [H8]
  · iexists f8; isplitr
    · ipureintro; exact r8
    iexact H8
  isplitl [H9]
  · iexists f9; isplitr
    · ipureintro; exact r9
    iexact H9
  isplitl [H10]
  · iexists _; isplitr
    swap
    · iexact H10
    ipureintro
    (try sl_unfold_run_names)
    exact read_two M10.view f10 [] oA oB _ _ (rowsA_inb r) (rowsB_inb r) (fun x => k0_pay23 (k0_pay16 (loQ B.k)) (k0_pay19 (loQ B.q) (loQ B.k) (loV B.g) (loL B.l) (loV B.v) (loV B.o)) x) (fun x => k0_pay33 (k0_pay25 B.k) (k0_pay26 (hiV B.g)) (k0_pay27 (hiQ B.q) B.k) (k0_pay28 (hiL B.l)) B.v (hiV B.o) x) A.dq (r10)
  isplitl [H11]
  · iexists _; isplitr
    swap
    · iexact H11
    ipureintro
    (try sl_unfold_run_names)
    rw [View.read_writes_full, View.readCov_full, readCov_two, readCov_window]; rfl
  isplitl [H12]
  · iexists _; isplitr
    swap
    · iexact H12
    ipureintro
    (try sl_unfold_run_names)
    rw [View.read_writes_full, View.readCov_full, readCov_two, readCov_window]; rfl
  isplitl [H13]
  · iexists _; isplitr
    swap
    · iexact H13
    ipureintro
    (try sl_unfold_run_names)
    rw [View.read_writes_full, readCov_two, readCov_window]; rfl
  · iexists _; isplitr
    swap
    · iexact H14
    ipureintro
    (try sl_unfold_run_names)
    rw [View.read_writes_full, readCov_two, readCov_window]; rfl

end Point

end Cert.KernelIdeal.Body

end
-- ==== Proof.Tables.lean ====
/-
  The two tables of the gradient kernel's grid, as @main makes them: the query tile and the key tile of each of the
  ten steps of a head. With them the blocks a grid point uses lie inside their arrays.
-/
module

public import proofs.«01_k».proof.Proof.Body

@[expose] public section

set_option maxRecDepth 16384

noncomputable section

namespace Cert.KernelIdeal.Body

open Idealize.ShloMosaic Idealize.ShloMosaic.TcCoe
open Cert.KernelIdeal.Gen

variable {F : FTy → Type} [FloatOps F] [Named F]

/-- The tables' contents. -/
def tables : pre0.Contents (Elt F) := fun
  | ⟨0, _⟩ => fun i => lit0 (S10.rowMajor i)
  | ⟨1, _⟩ => fun i => lit1 (S10.rowMajor i)
  | ⟨_ + 2, h⟩ => absurd h (by simp)

/-- The query tile of a step. -/
def qTile : Fin 10 → Fin 4 := ![0, 1, 2, 3, 1, 2, 3, 2, 3, 3]
/-- The key tile of a step. -/
def kTile : Fin 10 → Fin 4 := ![0, 0, 0, 0, 1, 1, 1, 2, 2, 3]

/-- The words of the two tables at a step. -/
def qWord (s : Fin 10) : BitVec 32 := BitVec.ofNat 32 (qTile s).val
def kWord (s : Fin 10) : BitVec 32 := BitVec.ofNat 32 (kTile s).val

theorem lit0_eq : ∀ s : Fin 10, lit0 s = qWord s := by decide
theorem lit1_eq : ∀ s : Fin 10, lit1 s = kWord s := by decide

/-- A table index of ten numbers itself in row-major order. -/
theorem rowMajor10 (x : S10.Idx) : (S10.rowMajor x : Fin 10) = x 0 := Fin.ext (Shape.rowMajor_val_one x)

theorem tables0 (x : S10.Idx) : tables (F := F) 0 x = qWord (x 0) := by
  exact (congrArg lit0 (rowMajor10 x)).trans (lit0_eq _)
theorem tables1 (x : S10.Idx) : tables (F := F) 1 x = kWord (x 0) := by
  exact (congrArg lit1 (rowMajor10 x)).trans (lit1_eq _)

theorem off1_val : ∀ i : grid0.Coords, k0_off1 i 0 = (i 1).val := by decide +kernel

/-- The step of a grid point. -/
abbrev stepOf (i : grid0.Coords) : Fin 10 := i 1
/-- The head of a grid point. -/
abbrev headOf (i : grid0.Coords) : Fin 16 := i 0

theorem at0 (i : grid0.Coords) (inb : ∀ a, (k0_off1 i) a + S1.size a ≤ S10.size a) (h : (Rect.unit (s := S10) (k0_off1 i) S1.size inb).shape.numel = 1) :
    (tables (F := F)).at 0 (Rect.unit (s := S10) (k0_off1 i) S1.size inb) h = qWord (stepOf i) := by
  refine (tables0 _).trans (congrArg qWord (Fin.ext ?_))
  exact off1_val i
theorem at1 (i : grid0.Coords) (inb : ∀ a, (k0_off1 i) a + S1.size a ≤ S10.size a) (h : (Rect.unit (s := S10) (k0_off1 i) S1.size inb).shape.numel = 1) :
    (tables (F := F)).at 1 (Rect.unit (s := S10) (k0_off1 i) S1.size inb) h = kWord (stepOf i) := by
  refine (tables1 _).trans (congrArg kWord (Fin.ext ?_))
  exact off1_val i

theorem atD0 (i : grid0.Coords) : (tables (F := F)).atD 0 (k0_off1 i) = qWord (stepOf i) := by
  have h : ∀ a : Fin 1, k0_off1 i a + 1 ≤ S10.size a := fun a => by have := Gen.k0_off1_inb i a; revert this; revert a; exact fun | 0 => id
  refine (dif_pos h).trans ((tables0 _).trans (congrArg qWord (Fin.ext (off1_val i))))
theorem atD1 (i : grid0.Coords) : (tables (F := F)).atD 1 (k0_off1 i) = kWord (stepOf i) := by
  have h : ∀ a : Fin 1, k0_off1 i a + 1 ≤ S10.size a := fun a => by have := Gen.k0_off1_inb i a; revert this; revert a; exact fun | 0 => id
  refine (dif_pos h).trans ((tables1 _).trans (congrArg kWord (Fin.ext (off1_val i))))

theorem qWord_toNat : ∀ s, (qWord s).toNat = (qTile s).val := by decide
theorem kWord_toNat : ∀ s, (kWord s).toNat = (kTile s).val := by decide
theorem head_toNat : ∀ h : Fin 16, (BitVec.ofNat 32 h.val).toNat = h.val := by decide

/-- The block a window's map gives, by the tile (of the queries or the keys) and the head. -/
theorem map0 (i : grid0.Coords) : cc0_transform_0 Gen.k0_off1_inb Gen.numel1_S1 (tables (F := F)) i = ![(qTile (stepOf i)).val, (headOf i).val] := by
  show ![((tables (F := F)).at 0 (Rect.unit (s := S10) (k0_off1 i) S1.size _) _).toNat, (BitVec.ofNat 32 (headOf i).val).toNat] = _
  rw [at0, qWord_toNat, head_toNat]
theorem map1 (i : grid0.Coords) : cc0_transform_1 Gen.k0_off1_inb Gen.numel1_S1 (tables (F := F)) i = ![(kTile (stepOf i)).val, (headOf i).val] := by
  show ![((tables (F := F)).at 1 (Rect.unit (s := S10) (k0_off1 i) S1.size _) _).toNat, (BitVec.ofNat 32 (headOf i).val).toNat] = _
  rw [at1, kWord_toNat, head_toNat]
theorem map2 (i : grid0.Coords) : cc0_transform_2 Gen.k0_off1_inb Gen.numel1_S1 (tables (F := F)) i = ![(kTile (stepOf i)).val, (headOf i).val] := map1 i
theorem map3 (i : grid0.Coords) : cc0_transform_3 Gen.k0_off1_inb Gen.numel1_S1 (tables (F := F)) i = ![(qTile (stepOf i)).val, (headOf i).val] := map0 i
theorem map4 (i : grid0.Coords) : cc0_transform_4 Gen.k0_off1_inb Gen.numel1_S1 (tables (F := F)) i = ![(qTile (stepOf i)).val, (headOf i).val] := map0 i
theorem map5 (i : grid0.Coords) : cc0_transform_5 Gen.k0_off1_inb Gen.numel1_S1 (tables (F := F)) i = ![(headOf i).val, (qTile (stepOf i)).val, 0] := by
  show ![(BitVec.ofNat 32 (headOf i).val).toNat, ((tables (F := F)).at 0 (Rect.unit (s := S10) (k0_off1 i) S1.size _) _).toNat, 0] = _
  rw [at0, qWord_toNat, head_toNat]
theorem map6 (i : grid0.Coords) : cc0_transform_6 i = ![0, (headOf i).val] := by
  show ![0, (BitVec.ofNat 32 (headOf i).val).toNat] = _
  rw [head_toNat]
theorem map7 (i : grid0.Coords) : cc0_transform_7 Gen.k0_off1_inb Gen.numel1_S1 (tables (F := F)) i = ![(kTile (stepOf i)).val, (headOf i).val] := map1 i
theorem map8 (i : grid0.Coords) : cc0_transform_8 Gen.k0_off1_inb Gen.numel1_S1 (tables (F := F)) i = ![(kTile (stepOf i)).val, (headOf i).val] := map1 i

theorem blk256 : ∀ (a : Fin 4) (b : Fin 16), ∃ h : (∀ x, ((![a.val, b.val] : Fin 2 → ℕ) x + 1) * S1024x256.size x ≤ S4096x4096.size x),
    EltTy.bits .bf16 = 32 ∨ (Rect.block (s := S4096x4096) S1024x256.size ![a.val, b.val] h).WholeWords (EltTy.packing .bf16) := by decide +kernel
theorem blk128 : ∀ (a : Fin 4) (b : Fin 16), ∃ h : (∀ x, ((![a.val, b.val] : Fin 2 → ℕ) x + 1) * S1024x128.size x ≤ S4096x2048.size x),
    EltTy.bits .bf16 = 32 ∨ (Rect.block (s := S4096x2048) S1024x128.size ![a.val, b.val] h).WholeWords (EltTy.packing .bf16) := by decide +kernel
theorem blkL : ∀ (a : Fin 4) (b : Fin 16), ∃ h : (∀ x, ((![b.val, a.val, 0] : Fin 3 → ℕ) x + 1) * S1x1024x1.size x ≤ S16x4096x1.size x),
    EltTy.bits .f32 = 32 ∨ (Rect.block (s := S16x4096x1) S1x1024x1.size ![b.val, a.val, 0] h).WholeWords (EltTy.packing .f32) := by decide +kernel

/-- Every block lies in its array. -/
theorem tables_ok : ok0 (F := F) tables := by
  refine ⟨fun i => ?_, fun i => ?_, fun i => ?_, fun i => ?_, fun i => ?_, fun i => ?_, fun i => ?_, fun i => ?_⟩
  · rw [map0]; exact blk256 _ _
  · rw [map1]; exact blk256 _ _
  · rw [map2]; exact blk128 _ _
  · rw [map3]; exact blk128 _ _
  · rw [map4]; exact ⟨(blk128 (qTile (stepOf i)) (headOf i)).elim fun h _ => h, .inl rfl⟩
  · rw [map5]; exact blkL _ _
  · rw [map7]; exact blk256 _ _
  · rw [map8]; exact blk128 _ _

/-- The tables, as contents the pipeline admits. -/
def adm : (p : Fin 1) → (pcfgs (F := F) p).Adm := fun _ => ⟨tables, tables_ok⟩

/-- What the kernel asks of the words of a step. -/
theorem words_chk : ∀ s : Fin 10, k0_chk1 (qWord s) (kWord s) := by decide +kernel
theorem words_off2 : ∀ s : Fin 10, k0_off2 (qWord s) = ![1024 * (qTile s).val, 0] := by decide +kernel
theorem words_offA : ∀ s : Fin 10, k0_off3 (qWord s) 0#32 = ![1024 * (qTile s).val, 0] := by decide +kernel
theorem words_offB : ∀ s : Fin 10, k0_off3 (qWord s) 512#32 = ![1024 * (qTile s).val + 512, 0] := by decide +kernel
theorem cond1_iff : ∀ i : grid0.Coords, k0_cond1 i = 1#1 ↔ stepOf i = 0 := by decide +kernel
theorem cond2_iff : ∀ s : Fin 10, Scalar.cmpi .ne (Scalar.extui (Scalar.cmpi .eq (qWord s) (kWord s))) 0#32 = 1#1 ↔ qTile s = kTile s := by decide +kernel
theorem cond3_iff : ∀ s : Fin 10, k0_cond3 (qWord s) (kWord s) = 1#1 ↔ qTile s ≠ kTile s := by decide +kernel
theorem cond4_iff : ∀ s : Fin 10, k0_cond4 (qWord s) (kWord s) = 1#1 ↔ qTile s = kTile s := by decide +kernel
theorem cond5_iff : ∀ s : Fin 10, k0_cond5 (qWord s) = 1#1 ↔ qTile s = 3 := by decide +kernel

end Cert.KernelIdeal.Body

end
-- ==== Proof.State.lean ====
/-
  The gradient kernel's running sums from step to step of a head, and one grid point of it run at the tables' words:
  the five cases of the body joined into one statement.
-/
module

public import proofs.«01_k».proof.Proof.Tables

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR nD τ) ℕ

/-- What a step makes of the running sums. -/
def stepAt (s : Fin 10) (B : Ins F) (A : Acc F) : Acc F :=
  if qTile s = kTile s then diagStep (qTile s) B A else offStep (qTile s) B A

/-- The running sums after the first `n` steps of a head, from the head's blocks. -/
def headAcc (Bs : Fin 10 → Ins F) : ℕ → Acc F
  | 0 => ⟨k0_pay1, k0_pay2, k0_pay3⟩
  | n + 1 => if h : n < 10 then stepAt ⟨n, h⟩ (Bs ⟨n, h⟩) (headAcc Bs n) else headAcc Bs n

theorem headAcc_succ (Bs : Fin 10 → Ins F) (s : Fin 10) : headAcc Bs (s.val + 1) = stepAt s (Bs s) (headAcc Bs s.val) :=
  dif_pos s.isLt

/-- What the sums are made of at a step: at the first step the query gradient starts at zero. -/
def entry (s : Fin 10) (A : Acc F) : Acc F := if s = 0 then zeroQ A else A

/-- The first step starts afresh, whatever the buffers hold; a later one takes the sums as they are. -/
theorem stepAt_entry (Bs : Fin 10 → Ins F) (s : Fin 10) (A : Acc F) (hA : s ≠ 0 → A = headAcc Bs s.val) :
    stepAt s (Bs s) (entry s A) = headAcc Bs (s.val + 1) := by
  rw [headAcc_succ]
  by_cases h : s = 0
  · subst h
    unfold entry stepAt
    rw [if_pos rfl, if_pos (by decide), if_pos (by decide)]
    rfl
  · unfold entry; rw [if_neg h, hA h]

section Point

variable (c : Dev nD) (i : grid0.Coords)
    (M4 : Memref sig .tc .vmem S1024x256 .bf16) (h4 : M4.IsWhole) (M5 : Memref sig .tc .vmem S1024x256 .bf16) (h5 : M5.IsWhole)
    (M6 : Memref sig .tc .vmem S1024x128 .bf16) (h6 : M6.IsWhole) (M7 : Memref sig .tc .vmem S1024x128 .bf16) (h7 : M7.IsWhole)
    (M8 : Memref sig .tc .vmem S1024x128 .f32) (h8 : M8.IsWhole) (M9 : Memref sig .tc .vmem S1x1024x1 .f32) (h9 : M9.IsWhole)
    (M10 : Memref sig .tc .vmem S4096x256 .f32) (h10 : M10.IsWhole) (M11 : Memref sig .tc .vmem S1024x256 .bf16) (h11 : M11.IsWhole)
    (M12 : Memref sig .tc .vmem S1024x128 .bf16) (h12 : M12.IsWhole) (M13 : Memref sig .tc .vmem S1024x256 .f32) (h13 : M13.IsWhole)
    (M14 : Memref sig .tc .vmem S1024x128 .f32) (h14 : M14.IsWhole) (q2 q3 : PosShare TreeShare)

/-- The tables as the body finds them in their buffers. -/
abbrev tab0 : Buf (Elt F) ((Memref.whole main_c : Memref sig .tc _ _ _).view.loc (c : Thread nD τ)) := tables (F := F) 0
abbrev tab1 : Buf (Elt F) ((Memref.whole main_c_0 : Memref sig .tc _ _ _).view.loc (c : Thread nD τ)) := tables (F := F) 1

theorem word0 (inb : ∀ a, (k0_off1 i) a + S1.size a ≤ S10.size a) :
    (Memref.whole main_c).view.readAt (Elt F) (Rect.unit (s := S10) (k0_off1 i) S1.size inb).toLoadRect (tab0 c) = fun _ => qWord (stepOf i) := by
  funext x
  refine (tables0 _).trans (congrArg qWord (Fin.ext ?_))
  have hx : (x 0).val = 0 := by have := (x 0).isLt; change _ < 1 at this; omega
  show k0_off1 i 0 + 1 * (x 0).val = (i 1).val
  rw [hx, off1_val]; omega
theorem word1 (inb : ∀ a, (k0_off1 i) a + S1.size a ≤ S10.size a) :
    (Memref.whole main_c_0).view.readAt (Elt F) (Rect.unit (s := S10) (k0_off1 i) S1.size inb).toLoadRect (tab1 c) = fun _ => kWord (stepOf i) := by
  funext x
  refine (tables1 _).trans (congrArg kWord (Fin.ext ?_))
  have hx : (x 0).val = 0 := by have := (x 0).isLt; change _ < 1 at this; omega
  show k0_off1 i 0 + 1 * (x 0).val = (i 1).val
  rw [hx, off1_val]; omega

/-- A grid point, run: whatever the case, the sums step and the two result blocks are written at a key tile's last step. -/
theorem run_point (B : Ins F) (A : Acc F) (x11 : Vec F S1024x256 .bf16) (x12 : Vec F S1024x128 .bf16) (E : Set ℕ) :
    bufs c (Memref.whole main_c) (Memref.whole main_c_0) M4 M5 M6 M7 M8 M9 M10 M11 M12 M13 M14 q2 q3 (tab0 c) (tab1 c) B A x11 x12
      ⊢ wp frame (wpE (defs₀ (F := F)) Variants.none c none) E
          (cc0_attn_bwd i (Memref.whole main_c) (Memref.isWhole_whole _) (Memref.whole main_c_0) (Memref.isWhole_whole _)
            M4 h4 M5 h5 M6 h6 M7 h7 M8 h8 M9 h9 M10 h10 M11 h11 M12 h12 M13 h13 M14 h14)
          (fun _ => bufs c (Memref.whole main_c) (Memref.whole main_c_0) M4 M5 M6 M7 M8 M9 M10 M11 M12 M13 M14 q2 q3 (tab0 c) (tab1 c) B
            (stepAt (stepOf i) B (entry (stepOf i) A))
            (if qTile (stepOf i) = 3 then k0_pay6 (stepAt (stepOf i) B (entry (stepOf i) A)).dk else x11)
            (if qTile (stepOf i) = 3 then k0_pay7 (stepAt (stepOf i) B (entry (stepOf i) A)).dv else x12)) := by
  have e1 := word0 (F := F) c i
  have e3 := word1 (F := F) c i
  have o2 := words_off2 (stepOf i)
  have oA := words_offA (stepOf i)
  have oB := words_offB (stepOf i)
  have hc := words_chk (stepOf i)
  have z2 : stepOf i = 0 → qTile (stepOf i) = kTile (stepOf i) := by rintro h; rw [h]; decide
  have z5 : stepOf i = 0 → ¬ qTile (stepOf i) = 3 := by rintro h; rw [h]; decide
  unfold stepAt entry
  by_cases d : qTile (stepOf i) = kTile (stepOf i)
  · have c2 := (cond2_iff (stepOf i)).mpr d
    have c3 := mt (cond3_iff (stepOf i)).mp (fun h => h d)
    have c4 := (cond4_iff (stepOf i)).mpr d
    simp only [if_pos d]
    by_cases z : stepOf i = 0
    · simp only [if_pos z, if_neg (z5 z)]
      exact run_first c i _ _ _ _ M4 h4 M5 h5 M6 h6 M7 h7 M8 h8 M9 h9 M10 h10 M11 h11 M12 h12 M13 h13 M14 h14 q2 q3 _ _ B A x11 x12 _ _ _ e1 e3 o2 oA oB hc
        ((cond1_iff i).mpr z) c2 c3 c4 (mt (cond5_iff (stepOf i)).mp (z5 z)) E
    · simp only [if_neg z]
      by_cases l : qTile (stepOf i) = 3
      · simp only [if_pos l]
        exact run_diag_last c i _ _ _ _ M4 h4 M5 h5 M6 h6 M7 h7 M8 h8 M9 h9 M10 h10 M11 h11 M12 h12 M13 h13 M14 h14 q2 q3 _ _ B A x11 x12 _ _ _ e1 e3 o2 oA oB hc
          (mt (cond1_iff i).mp z) c2 c3 c4 ((cond5_iff (stepOf i)).mpr l) E
      · simp only [if_neg l]
        exact run_diag c i _ _ _ _ M4 h4 M5 h5 M6 h6 M7 h7 M8 h8 M9 h9 M10 h10 M11 h11 M12 h12 M13 h13 M14 h14 q2 q3 _ _ B A x11 x12 _ _ _ e1 e3 o2 oA oB hc
          (mt (cond1_iff i).mp z) c2 c3 c4 (mt (cond5_iff (stepOf i)).mp l) E
  · have z : ¬ stepOf i = 0 := fun h => d (z2 h)
    have c2 := mt (cond2_iff (stepOf i)).mp d
    have c3 := (cond3_iff (stepOf i)).mpr d
    have c4 := mt (cond4_iff (stepOf i)).mp d
    simp only [if_neg d, if_neg z]
    by_cases l : qTile (stepOf i) = 3
    · simp only [if_pos l]
      exact run_off_last c i _ _ _ _ M4 h4 M5 h5 M6 h6 M7 h7 M8 h8 M9 h9 M10 h10 M11 h11 M12 h12 M13 h13 M14 h14 q2 q3 _ _ B A x11 x12 _ _ _ e1 e3 o2 oA oB hc
        (mt (cond1_iff i).mp z) c2 c3 c4 ((cond5_iff (stepOf i)).mpr l) E
    · simp only [if_neg l]
      exact run_off c i _ _ _ _ M4 h4 M5 h5 M6 h6 M7 h7 M8 h8 M9 h9 M10 h10 M11 h11 M12 h12 M13 h13 M14 h14 q2 q3 _ _ B A x11 x12 _ _ _ e1 e3 o2 oA oB hc
        (mt (cond1_iff i).mp z) c2 c3 c4 (mt (cond5_iff (stepOf i)).mp l) E

end Point

end Cert.KernelIdeal.Body

end
-- ==== Proof.Data.lean ====
/-
  The proof data of the gradient kernel's pipeline: what each staging buffer holds after each grid point, and the
  invariant the kernel carries between points (its two running sums).
-/
module

public import proofs.«01_k».proof.Proof.State

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf arrRef heldIn)
open Cert.KernelIdeal.Gen

variable {F : FTy → Type} [FloatOps F] [Named F]

local notation "𝕄" => MT nD τ sig Unit (Elt F) ℕ (UR nD τ) ℕ

/-- The pipeline at the tables. -/
abbrev cfgT : Cfg sig Λ₀ := cfg0 (F := F) (adm 0)

/-- The number of a head's step in the grid. -/
def pointNo (h : Fin 16) (s : Fin 10) : Fin grid0.N := ⟨10 * h.val + s.val, by have := N_0; omega⟩

theorem pointNo_coords : ∀ t : Fin grid0.N, pointNo (headOf (grid0.coords t)) (stepOf (grid0.coords t)) = t := by decide +kernel
theorem coords_pointNo : ∀ (h : Fin 16) (s : Fin 10), headOf (grid0.coords (pointNo h s)) = h ∧ stepOf (grid0.coords (pointNo h s)) = s := by decide +kernel

section Data

variable (c : Dev nD) (V : (b : Ref sig .tc) → Buf (Elt F) ((c.tc : Thread nD τ).loc b))

/-- The arrays at the kernel's start. -/
def arrs (w : Fin 9) : Buf (Elt F) (((cfgT (F := F)).win w).arr.view.loc (c.tc : Thread nD τ)) := V (arrRef (cfgT (F := F)).spec w)

/-- The input blocks of a point. -/
def ins (t : Fin grid0.N) : Ins F where
  q := heldIn cfgT (arrs c V) 0 t.val t.isLt
  k := heldIn cfgT (arrs c V) 1 t.val t.isLt
  v := heldIn cfgT (arrs c V) 2 t.val t.isLt
  g := heldIn cfgT (arrs c V) 3 t.val t.isLt
  o := heldIn cfgT (arrs c V) 4 t.val t.isLt
  l := heldIn cfgT (arrs c V) 5 t.val t.isLt

/-- The running sums of a head before its step `n`. -/
def accOf (h : Fin 16) (n : ℕ) : Acc F := headAcc (fun s => ins c V (pointNo h s)) n

/-- The running sums after a point. -/
def accAfter (t : Fin grid0.N) : Acc F := accOf c V (headOf (grid0.coords t)) ((stepOf (grid0.coords t)).val + 1)

/-- The kernel's scratch before point `n`: the two running sums, unknown before the first point. -/
def scratch (n : ℕ) (hn : n ≤ grid0.N) : sProp 𝕄 :=
  iprop(∃ (dk : Vec F S1024x256 .f32) (dv : Vec F S1024x128 .f32),
    ⌜∀ h : n ≠ 0, dk = (accAfter c V ⟨n - 1, by omega⟩).dk ∧ dv = (accAfter c V ⟨n - 1, by omega⟩).dv⌝
    ∗ owns (c : Thread nD τ) (Memref.whole cc0_scratch0) fullShare dk ∗ owns (c : Thread nD τ) (Memref.whole cc0_scratch1) fullShare dv)

/-- What the kernel carries between points: the tables, its generator register and its scratch. -/
def inv (n : ℕ) (hn : n ≤ grid0.N) : sProp 𝕄 :=
  iprop(Pipeline.ΦT pre0 (tables (F := F)) c ∗ (∃ r, prngReg c r) ∗ scratch c V n hn)

/-- The proof data. -/
def dats (_ : Fin 1) (c : Dev nD) (V : (b : Ref sig .tc) → Buf (Elt F) ((c.tc : Thread nD τ).loc b)) : Dat τ (Elt F) Unit ℕ (UR nD τ) ℕ (cfgT (F := F)) c where
  A := arrs c V
  after w t := match w with
    | ⟨0, _⟩ => (ins c V t).q
    | ⟨1, _⟩ => (ins c V t).k
    | ⟨2, _⟩ => (ins c V t).v
    | ⟨3, _⟩ => (ins c V t).g
    | ⟨4, _⟩ => (ins c V t).o
    | ⟨5, _⟩ => (ins c V t).l
    | ⟨6, _⟩ => (accAfter c V t).dq
    | ⟨7, _⟩ => k0_pay6 (accAfter c V t).dk
    | ⟨8, _⟩ => k0_pay7 (accAfter c V t).dv
  Φ t := inv c V t.val (Nat.le_of_lt_succ t.isLt)
  q _ := fullShare
  owed _ := 0

end Data

end Cert.KernelIdeal.Body

end
-- ==== Proof.Obligation.lean ====
/-
  The body obligation of the gradient kernel's pipeline: at every grid point the kernel's body runs from what the
  staging buffers then hold to what the proof data say it leaves.
-/
module

public import proofs.«01_k».proof.Proof.Data
public import Idealize.ShloMosaic.Lib.Pipeline.TableIdle

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf arrRef heldIn)
open Cert.KernelIdeal.Gen

variable {F : FTy → Type} [FloatOps F] [Named F]

local notation "𝕄" => MT nD τ sig Unit (Elt F) ℕ (UR nD τ) ℕ

/-- Away from a key tile's last step the next point has the same key tile and head. -/
theorem next_same : ∀ t : Fin grid0.N, qTile (stepOf (grid0.coords t)) ≠ 3 → ∃ h : t.val + 1 < grid0.N,
    kTile (stepOf (grid0.coords ⟨t.val + 1, h⟩)) = kTile (stepOf (grid0.coords t)) ∧ headOf (grid0.coords ⟨t.val + 1, h⟩) = headOf (grid0.coords t) := by
  decide +kernel

/-- A point that is not a head's first comes after one of the same head, a step earlier. -/
theorem prev_same : ∀ t : Fin grid0.N, stepOf (grid0.coords t) ≠ 0 → t.val ≠ 0 ∧ ∀ h : t.val - 1 < grid0.N,
    headOf (grid0.coords ⟨t.val - 1, h⟩) = headOf (grid0.coords t) ∧ (stepOf (grid0.coords ⟨t.val - 1, h⟩)).val + 1 = (stepOf (grid0.coords t)).val := by
  decide +kernel

/-- The query gradient's block is not written back between two points of a head. -/
theorem flush6 (t : Fin grid0.N) (h : stepOf (grid0.coords t) ≠ 0) (hp : t.val - 1 < grid0.N) :
    ((cfgT (F := F)).win 6).flush ⟨t.val - 1, hp⟩ = false := by
  obtain ⟨h0, hs⟩ := prev_same t h
  have he : (⟨t.val - 1 + 1, by have := t.isLt; omega⟩ : Fin grid0.N) = t := Fin.ext (by show t.val - 1 + 1 = t.val; omega)
  unfold Window.flush
  simp only [Bool.and_eq_false_imp, Bool.or_eq_false_iff, decide_eq_false_iff_not]
  refine fun _ => ⟨?_, ?_⟩
  · have := t.isLt; change ¬ t.val - 1 + 1 = grid0.N; omega
  · rintro ⟨h1, hne⟩
    apply hne
    show cc0_transform_6 (grid0.coords ⟨t.val - 1 + 1, _⟩) = cc0_transform_6 (grid0.coords ⟨t.val - 1, hp⟩)
    rw [map6, map6, (hs hp).1, he]

/-- The key and value gradients' blocks are not written back away from a key tile's last step. -/
theorem flush7 (t : Fin grid0.N) (h : qTile (stepOf (grid0.coords t)) ≠ 3) : ((cfgT (F := F)).win 7).flush t = false := by
  obtain ⟨h1, hk, hh⟩ := next_same t h
  unfold Window.flush
  simp only [Bool.and_eq_false_imp, Bool.or_eq_false_iff, decide_eq_false_iff_not]
  refine fun _ => ⟨?_, ?_⟩
  · change ¬ t.val + 1 = grid0.N; omega
  · rintro ⟨h1', hne⟩
    apply hne
    show cc0_transform_7 Gen.k0_off1_inb Gen.numel1_S1 (tables (F := F)) (grid0.coords ⟨t.val + 1, _⟩) = cc0_transform_7 Gen.k0_off1_inb Gen.numel1_S1 (tables (F := F)) (grid0.coords t)
    rw [map7, map7, hk, hh]
theorem flush8 (t : Fin grid0.N) (h : qTile (stepOf (grid0.coords t)) ≠ 3) : ((cfgT (F := F)).win 8).flush t = false := by
  obtain ⟨h1, hk, hh⟩ := next_same t h
  unfold Window.flush
  simp only [Bool.and_eq_false_imp, Bool.or_eq_false_iff, decide_eq_false_iff_not]
  refine fun _ => ⟨?_, ?_⟩
  · change ¬ t.val + 1 = grid0.N; omega
  · rintro ⟨h1', hne⟩
    apply hne
    show cc0_transform_8 Gen.k0_off1_inb Gen.numel1_S1 (tables (F := F)) (grid0.coords ⟨t.val + 1, _⟩) = cc0_transform_8 Gen.k0_off1_inb Gen.numel1_S1 (tables (F := F)) (grid0.coords t)
    rw [map8, map8, hk, hh]

/-- Which windows are idle at a point. -/
theorem idle6 (i : grid0.Coords) : (cfgT (F := F)).idle 6 i = false := by
  show (!(k0_cond1 i == 1#1) && !(k0_cond3 ((tables (F := F)).atD 0 (k0_off1 i)) ((tables (F := F)).atD 1 (k0_off1 i)) == 1#1)
    && !(k0_cond4 ((tables (F := F)).atD 0 (k0_off1 i)) ((tables (F := F)).atD 1 (k0_off1 i)) == 1#1)) = false
  rw [atD0, atD1]
  by_cases d : qTile (stepOf i) = kTile (stepOf i)
  · rw [(cond4_iff (stepOf i)).mpr d]; simp
  · rw [(cond3_iff (stepOf i)).mpr d]; simp
theorem idle7 (i : grid0.Coords) : (cfgT (F := F)).idle 7 i = decide (qTile (stepOf i) ≠ 3) := by
  show (!(k0_cond5 ((tables (F := F)).atD 0 (k0_off1 i)) == 1#1)) = _
  rw [atD0]
  by_cases d : qTile (stepOf i) = 3
  · rw [(cond5_iff (stepOf i)).mpr d]; simp [d]
  · rw [beq_eq_false_iff_ne.mpr (mt (cond5_iff (stepOf i)).mp d)]; simp [d]
theorem idle8 (i : grid0.Coords) : (cfgT (F := F)).idle 8 i = decide (qTile (stepOf i) ≠ 3) := by
  show (!(k0_cond5 ((tables (F := F)).atD 0 (k0_off1 i)) == 1#1)) = _
  rw [atD0]
  by_cases d : qTile (stepOf i) = 3
  · rw [(cond5_iff (stepOf i)).mpr d]; simp [d]
  · rw [beq_eq_false_iff_ne.mpr (mt (cond5_iff (stepOf i)).mp d)]; simp [d]

section Data

variable (c : Dev nD) (V : (b : Ref sig .tc) → Buf (Elt F) ((c.tc : Thread nD τ).loc b))

/-- An input's buffer holds the point's block. -/
theorem before0 (t : Fin grid0.N) (d) : (dats 0 c V).before 0 t d = (ins c V t).q :=
  (dats 0 c V).before_eq_heldIn 0 rfl (fun _ => rfl) (fun _ _ => rfl) (fun t => by dsimp only [dats]; rfl) t d
theorem before1 (t : Fin grid0.N) (d) : (dats 0 c V).before 1 t d = (ins c V t).k :=
  (dats 0 c V).before_eq_heldIn 1 rfl (fun _ => rfl) (fun _ _ => rfl) (fun t => by dsimp only [dats]; rfl) t d
theorem before2 (t : Fin grid0.N) (d) : (dats 0 c V).before 2 t d = (ins c V t).v :=
  (dats 0 c V).before_eq_heldIn 2 rfl (fun _ => rfl) (fun _ _ => rfl) (fun t => by dsimp only [dats]; rfl) t d
theorem before3 (t : Fin grid0.N) (d) : (dats 0 c V).before 3 t d = (ins c V t).g :=
  (dats 0 c V).before_eq_heldIn 3 rfl (fun _ => rfl) (fun _ _ => rfl) (fun t => by dsimp only [dats]; rfl) t d
theorem before4 (t : Fin grid0.N) (d) : (dats 0 c V).before 4 t d = (ins c V t).o :=
  (dats 0 c V).before_eq_heldIn 4 rfl (fun _ => rfl) (fun _ _ => rfl) (fun t => by dsimp only [dats]; rfl) t d
theorem before5 (t : Fin grid0.N) (d) : (dats 0 c V).before 5 t d = (ins c V t).l :=
  (dats 0 c V).before_eq_heldIn 5 rfl (fun _ => rfl) (fun _ _ => rfl) (fun t => by dsimp only [dats]; rfl) t d

/-- After a head's first step, the query gradient's buffer holds what the step before left. -/
theorem before6 (t : Fin grid0.N) (h : stepOf (grid0.coords t) ≠ 0) (d) :
    (dats 0 c V).before 6 t d = (accOf c V (headOf (grid0.coords t)) (stepOf (grid0.coords t)).val).dq := by
  obtain ⟨h0, hs⟩ := prev_same t h
  have hp : t.val - 1 < grid0.N := by have := t.isLt; omega
  rw [Dat.before_of_pos (dats 0 c V) 6 t h0 (((cfgT (F := F)).win 6).fetch_out rfl t), flush6 t h hp, if_neg Bool.false_ne_true]
  unfold Dat.left
  rw [idle6]
  show (dats 0 c V).kept 6 ⟨t.val - 1, hp⟩ d = _
  unfold Dat.kept
  rw [Pipeline.fill_of_clip_none (cfg := cfgT (F := F)) 6 _ (fun _ => rfl) d ((dats 0 c V).after 6 ⟨t.val - 1, hp⟩), Window.fill_cut]
  show (accAfter c V ⟨t.val - 1, hp⟩).dq = _
  unfold accAfter
  rw [(hs hp).1, (hs hp).2]

/-- The carried sums before a point that is not a head's first. -/
theorem sums_before (t : Fin grid0.N) (h : stepOf (grid0.coords t) ≠ 0) (hp : t.val - 1 < grid0.N) :
    accAfter c V ⟨t.val - 1, hp⟩ = accOf c V (headOf (grid0.coords t)) (stepOf (grid0.coords t)).val := by
  obtain ⟨h0, hs⟩ := prev_same t h
  unfold accAfter
  rw [(hs hp).1, (hs hp).2]

/-- What the point makes of sums that are, after a head's first step, those carried so far. -/
theorem step_after (t : Fin grid0.N) (A : Acc F) (hA : stepOf (grid0.coords t) ≠ 0 → A = accOf c V (headOf (grid0.coords t)) (stepOf (grid0.coords t)).val) :
    stepAt (stepOf (grid0.coords t)) (ins c V t) (entry (stepOf (grid0.coords t)) A) = accAfter c V t := by
  have h := stepAt_entry (fun s => ins c V (pointNo (headOf (grid0.coords t)) s)) (stepOf (grid0.coords t)) A hA
  simp only [pointNo_coords] at h
  exact h

/-- The two tables' halves, one by one. -/
theorem tables_eq : (Pipeline.ΦT pre0 (tables (F := F)) c : sProp 𝕄)
    = iprop(((Memref.whole main_c).view.loc (c : Thread nD τ) ↦{fullShare.right} tab0 c)
        ∗ ((Memref.whole main_c_0).view.loc (c : Thread nD τ) ↦{fullShare.right} tab1 c)) :=
  bigSep_univ_eq_bigSepL [(0 : Fin 2), (1 : Fin 2)] (by decide) (by decide) _

/-- The kernel's body at a point, from the staging buffers' contents to what it leaves there. -/
theorem point_wp (t : Fin grid0.N) (O : sProp 𝕄)
    (x0 x1 : Vec F S1024x256 .bf16) (x2 x3 : Vec F S1024x128 .bf16) (x4 : Vec F S1024x128 .f32) (x5 : Vec F S1x1024x1 .f32)
    (x6 : Vec F S4096x256 .f32) (x7 : Vec F S1024x256 .bf16) (x8 : Vec F S1024x128 .bf16)
    (h0 : x0 = (ins c V t).q) (h1 : x1 = (ins c V t).k) (h2 : x2 = (ins c V t).v) (h3 : x3 = (ins c V t).g) (h4 : x4 = (ins c V t).o) (h5 : x5 = (ins c V t).l)
    (h6 : stepOf (grid0.coords t) ≠ 0 → x6 = (accOf c V (headOf (grid0.coords t)) (stepOf (grid0.coords t)).val).dq)
    (y7 : Vec F S1024x256 .bf16) (y8 : Vec F S1024x128 .bf16) (e7 : y7 = if qTile (stepOf (grid0.coords t)) = 3 then k0_pay6 (accAfter c V t).dk else x7)
    (e8 : y8 = if qTile (stepOf (grid0.coords t)) = 3 then k0_pay7 (accAfter c V t).dv else x8) :
    iprop(inv c V t.val (Nat.le_of_lt t.isLt) ∗ O
        ∗ owns (c : Thread nD τ) (stage0_0 ((cfgT (F := F)).slots t 0)) fullShare x0 ∗ owns (c : Thread nD τ) (stage0_1 ((cfgT (F := F)).slots t 1)) fullShare x1
        ∗ owns (c : Thread nD τ) (stage0_2 ((cfgT (F := F)).slots t 2)) fullShare x2 ∗ owns (c : Thread nD τ) (stage0_3 ((cfgT (F := F)).slots t 3)) fullShare x3
        ∗ owns (c : Thread nD τ) (stage0_4 ((cfgT (F := F)).slots t 4)) fullShare x4 ∗ owns (c : Thread nD τ) (stage0_5 ((cfgT (F := F)).slots t 5)) fullShare x5
        ∗ owns (c : Thread nD τ) (stage0_6 ((cfgT (F := F)).slots t 6)) fullShare x6 ∗ owns (c : Thread nD τ) (stage0_7 ((cfgT (F := F)).slots t 7)) fullShare x7
        ∗ owns (c : Thread nD τ) (stage0_8 ((cfgT (F := F)).slots t 8)) fullShare x8)
      ⊢ wp frame (wpE (defs₀ (F := F)) Variants.none (c : Thread nD τ) none) Set.univ (defs₀ Proc.tc 0 (t, (cfgT (F := F)).slots t)) (fun _ =>
        iprop(inv c V (t.val + 1) t.isLt ∗ O
        ∗ owns (c : Thread nD τ) (stage0_0 ((cfgT (F := F)).slots t 0)) fullShare (ins c V t).q ∗ owns (c : Thread nD τ) (stage0_1 ((cfgT (F := F)).slots t 1)) fullShare (ins c V t).k
        ∗ owns (c : Thread nD τ) (stage0_2 ((cfgT (F := F)).slots t 2)) fullShare (ins c V t).v ∗ owns (c : Thread nD τ) (stage0_3 ((cfgT (F := F)).slots t 3)) fullShare (ins c V t).g
        ∗ owns (c : Thread nD τ) (stage0_4 ((cfgT (F := F)).slots t 4)) fullShare (ins c V t).o ∗ owns (c : Thread nD τ) (stage0_5 ((cfgT (F := F)).slots t 5)) fullShare (ins c V t).l
        ∗ owns (c : Thread nD τ) (stage0_6 ((cfgT (F := F)).slots t 6)) fullShare (accAfter c V t).dq
        ∗ owns (c : Thread nD τ) (stage0_7 ((cfgT (F := F)).slots t 7)) fullShare y7
        ∗ owns (c : Thread nD τ) (stage0_8 ((cfgT (F := F)).slots t 8)) fullShare y8)) := by
  subst h0 h1 h2 h3 h4 h5
  unfold inv scratch
  rw [tables_eq]
  iintro ⟨⟨⟨T0, T1⟩, Hp, ⟨%dk, %dv, %hd, S0, S1⟩⟩, HO, H0, H1, H2, H3, H4, H5, H6, H7, H8⟩
  have hA : stepOf (grid0.coords t) ≠ 0 → (⟨x6, dk, dv⟩ : Acc F) = accOf c V (headOf (grid0.coords t)) (stepOf (grid0.coords t)).val := fun h => by
    obtain ⟨z, -⟩ := prev_same t h
    have hp : t.val - 1 < grid0.N := by have := t.isLt; omega
    obtain ⟨e1, e2⟩ := hd z
    rw [sums_before c V t h hp] at e1 e2
    rw [h6 h, e1, e2]
  have R := run_point (F := F) c (grid0.coords t) (stage0_0 ((cfgT (F := F)).slots t 0)) (hstage0_0 _) (stage0_1 ((cfgT (F := F)).slots t 1)) (hstage0_1 _)
    (stage0_2 ((cfgT (F := F)).slots t 2)) (hstage0_2 _) (stage0_3 ((cfgT (F := F)).slots t 3)) (hstage0_3 _)
    (stage0_4 ((cfgT (F := F)).slots t 4)) (hstage0_4 _) (stage0_5 ((cfgT (F := F)).slots t 5)) (hstage0_5 _)
    (stage0_6 ((cfgT (F := F)).slots t 6)) (hstage0_6 _) (stage0_7 ((cfgT (F := F)).slots t 7)) (hstage0_7 _)
    (stage0_8 ((cfgT (F := F)).slots t 8)) (hstage0_8 _) (Memref.whole cc0_scratch0) (Memref.isWhole_whole _) (Memref.whole cc0_scratch1) (Memref.isWhole_whole _)
    fullShare.right fullShare.right (ins c V t) ⟨x6, dk, dv⟩ x7 x8 Set.univ
  rw [step_after c V t _ hA] at R
  rw [← e7, ← e8] at R
  unfold bufs at R
  iapply (wp_wand_r frame (wpE (defs₀ (F := F)) Variants.none (c : Thread nD τ) none) Set.univ)
  isplitl [T0 T1 S0 S1 H0 H1 H2 H3 H4 H5 H6 H7 H8]
  · iapply R
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    iexact S1
  iintro %u ⟨T0, T1, H0, H1, H2, H3, H4, H5, H6, H7, H8, S0, S1⟩
  isplitl [T0 T1 Hp S0 S1]
  · isplitl [T0 T1]
    · isplitl [T0]; · iexact T0
      iexact T1
    isplitl [Hp]; · iexact Hp
    iexists _; iexists _
    isplitr [S0 S1]; swap
    · isplitl [S0]; · iexact S0
      iexact S1
    ipureintro
    exact fun _ => ⟨rfl, rfl⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation : BodyObligation (dats (F := F) 0 c V) (defs₀ (F := F)) Variants.none () Set.univ := fun t => by
  rw [bigSep_W0, bigSep_W0]
  rw [show (dats 0 c V).Φ t.castSucc = inv c V t.val (Nat.le_of_lt t.isLt) from
      Dat.Φ_castSucc (fun n hn => inv c V n hn) t,
    show (dats 0 c V).Φ t.succ = inv c V (t.val + 1) t.isLt from rfl,
    show (dats 0 c V).owesAt () t.succ = (dats 0 c V).owesAt () t.castSucc from rfl]
  have i6 : (cfgT (F := F)).idle (6 : Fin 9) ((cfgT (F := F)).grid.coords t) = false := idle6 _
  have i7 : (cfgT (F := F)).idle (7 : Fin 9) ((cfgT (F := F)).grid.coords t) = decide (qTile (stepOf (grid0.coords t)) ≠ 3) := idle7 _
  rw [i6]
  by_cases h : qTile (stepOf (grid0.coords t)) = 3
  · rw [i7.trans (decide_eq_false (fun hn => hn h))]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame (wpE (defs₀ (F := F)) Variants.none (c : Thread nD τ) none) Set.univ)
    isplitl
    · iapply (point_wp c V t ((dats 0 c V).owesAt () t.castSucc) ((dats 0 c V).before 0 t d0) ((dats 0 c V).before 1 t d1) ((dats 0 c V).before 2 t d2)
        ((dats 0 c V).before 3 t d3) ((dats 0 c V).before 4 t d4) ((dats 0 c V).before 5 t d5) ((dats 0 c V).before 6 t d6) ((dats 0 c V).before 7 t d7) ((dats 0 c V).before 8 t d8)
        (before0 c V t d0) (before1 c V t d1) (before2 c V t d2) (before3 c V t d3) (before4 c V t d4) (before5 c V t d5) (fun h => before6 c V t h d6)
        _ _ (if_pos h).symm (if_pos h).symm)
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %u ⟨HΦ, HO, H0, H1, H2, H3, H4, H5, H6, H7, H8⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have f7 : ((cfgT (F := F)).win (7 : Fin 9)).flush t = false := flush7 t h
    have f8 : ((cfgT (F := F)).win (8 : Fin 9)).flush t = false := flush8 t h
    rw [i7.trans (decide_eq_true h), f7, f8]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame (wpE (defs₀ (F := F)) Variants.none (c : Thread nD τ) none) Set.univ)
    isplitl
    · iapply (point_wp c V t ((dats 0 c V).owesAt () t.castSucc) ((dats 0 c V).before 0 t d0) ((dats 0 c V).before 1 t d1) ((dats 0 c V).before 2 t d2)
        ((dats 0 c V).before 3 t d3) ((dats 0 c V).before 4 t d4) ((dats 0 c V).before 5 t d5) ((dats 0 c V).before 6 t d6) ((dats 0 c V).before 7 t d7) ((dats 0 c V).before 8 t d8)
        (before0 c V t d0) (before1 c V t d1) (before2 c V t d2) (before3 c V t d3) (before4 c V t d4) (before5 c V t d5) (fun h => before6 c V t h d6)
        _ _ (if_neg h).symm (if_neg h).symm)
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %u ⟨HΦ, HO, H0, H1, H2, H3, H4, H5, H6, H7, H8⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

end Data

end Cert.KernelIdeal.Body

end
-- ==== Proof.Run.lean ====
/-
  The gradient kernel's program run: @main's host lines, then the pipeline at the tables, every weakly fair execution
  ending with each array at what the proof data compute and every other buffer as the host lines left it.
-/
module

public import proofs.«01_k».proof.Proof.Obligation
public import Idealize.ShloMosaic.Lib.StableHlo.RunRead

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf arrRef heldIn)
open Cert.KernelIdeal.Gen

variable {F : FTy → Type} [FloatOps F] [Named F]

local notation "𝕄" => MT nD τ sig Unit (Elt F) ℕ (UR nD τ) ℕ

/-- @main's host lines. -/
abbrev lines : List (HloOp τ sig (Elt F)) := [hostOps0, hostOps0_1, hostOps0_2].flatten

variable (m : (ℓ : Loc nD τ sig) → Buf (Elt F) ℓ) (ρ : Dev nD → PrngReg)

/-- What the buffers hold when the pipeline starts. -/
def V (c : Dev nD) (b : Ref sig .tc) : Buf (Elt F) ((c.tc : Thread nD τ).loc b) :=
  StableHlo.after lines (fun b => m (c, b)) (Proc.devRef .tc b)

/-- The proof data of every core. -/
abbrev data (p : Fin 1) (c : Dev nD) : Dat τ (Elt F) Unit ℕ (UR nD τ) ℕ (cfgT (F := F)) c := dats p c (V m c)

theorem table0_held (c : Dev nD) : V m c main_c = tables (F := F) 0 := by
  unfold V lines
  after_reads_simp
  rfl
theorem table1_held (c : Dev nD) : V m c main_c_0 = tables (F := F) 1 := by
  unfold V lines
  after_reads_simp
  rfl

set_option backward.isDefEq.respectTransparency.types false in
theorem run_main : θ_run defs (onTc (τ := τ) (main (F := F))) ⟨m, fun _ => 0, ρ⟩
    (fun r => Pipeline.FramePost (Pipeline.pin pcfgs adm) (data m) 0 (V m) r ∧ r.2.sem = fun _ => 0) :=
  Pipeline.θ_run_frameP_track (pcfgs (F := F)) adm (data m) 0 launch0 (defs₀ (F := F)) Variants.none m ρ main
    (hbody := fun c => (body_obligation c (V m c)).loose)
    (hshare := fun c w => by unfold Dat.share; split <;> rfl)
    (howed := fun _ _ => rfl)
    (V := V m)
    (hmain := Pipeline.hmainP_prefixes pcfgs 0 defs₀ Variants.none m main [hostOps0, hostOps0_1, hostOps0_2]
      ⟨hostOps0_sub, hostOps0_1_sub, hostOps0_2_sub⟩
      ⟨StableHlo.forall_fresh_of_map rfl, StableHlo.forall_fresh_of_map rfl, StableHlo.forall_fresh_of_map rfl⟩ main_chain)
    (hA := fun _ _ => rfl)
    (hpf := fun c => fun | 0 => table0_held m c | 1 => table1_held m c | ⟨_ + 2, h⟩ => absurd h (by simp))
    (hin := fun c => by
      show _ ⊢ inv c (V m c) 0 _
      unfold inv scratch Pipeline.ΦA
      rw [scopedRest0_eq]
      iintro ⟨⟨⟨⟨%f0, H0⟩, ⟨%f1, H1⟩⟩, Hp⟩, HT⟩
      isplitl [HT]; · iexact HT
      isplitl [Hp]; · iexact Hp
      iexists f0; iexists f1
      isplitr
      · ipureintro; exact fun h => absurd rfl h
      rw [owns_whole_eq, owns_whole_eq]
      isplitl [H0]
      · iexists f0; isplitr; · ipureintro; rfl
        iexact H0
      · iexists f1; isplitr; · ipureintro; rfl
        iexact H1)
    (hout := fun c => by
      show inv c (V m c) _ _ ⊢ _
      unfold inv scratch Pipeline.ΦA
      rw [scopedRest0_eq]
      simp only [owns_whole_eq]
      iintro ⟨-, Hp, ⟨%dk, %dv, -, ⟨%f0, -, H0⟩, ⟨%f1, -, H1⟩⟩⟩
      isplitr [Hp]
      · isplitl [H0]
        · iexists f0; iexact H0
        · iexists f1; iexact H1
      iexact Hp)
    (Q' := fun r => Pipeline.FramePost (Pipeline.pin pcfgs adm) (data m) 0 (V m) r ∧ r.2.sem = fun _ => 0)
    (hQ' := fun _ h => h)

end Cert.KernelIdeal.Body

end
-- ==== Proof.Frames.lean ====
/-
  The frames: each program of the certificate ends, its arguments as they were, its semaphores at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Init

@[expose] public section

set_option maxRecDepth 16384

noncomputable section

namespace Cert.KernelIdeal.Body

open Idealize.ShloMosaic Idealize.ShloMosaic.TcCoe Idealize.SL.Sem
open Cert.KernelIdeal.Gen

variable {F : FTy → Type} [FloatOps F] [Named F]
variable (m : (ℓ : Loc nD τ sig) → Buf (Elt F) ℓ) (ρ : Dev nD → PrngReg)

theorem V_arg0 (c : Dev nD) : V m c main_arg0 = m ((c.tc : Thread nD τ).loc main_arg0) := by
  unfold V lines
  after_reads_simp
theorem V_arg1 (c : Dev nD) : V m c main_arg1 = m ((c.tc : Thread nD τ).loc main_arg1) := by
  unfold V lines
  after_reads_simp
theorem V_arg2 (c : Dev nD) : V m c main_arg2 = m ((c.tc : Thread nD τ).loc main_arg2) := by
  unfold V lines
  after_reads_simp
theorem V_arg3 (c : Dev nD) : V m c main_arg3 = m ((c.tc : Thread nD τ).loc main_arg3) := by
  unfold V lines
  after_reads_simp

/-- Ended: the arguments as they were, the semaphores at zero. -/
theorem run_held :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (by decide : main_arg0 ∈ Pipeline.restRefs sig spec0)).trans (V_arg0 m c), ((h.1 c).2 main_arg1 (by decide : main_arg1 ∈ Pipeline.restRefs sig spec0)).trans (V_arg1 m c),
      ((h.1 c).2 main_arg2 (by decide : main_arg2 ∈ Pipeline.restRefs sig spec0)).trans (V_arg2 m c), ((h.1 c).2 main_arg3 (by decide : main_arg3 ∈ Pipeline.restRefs sig spec0)).trans (V_arg3 m c)⟩, h.2⟩)
    (run_main m ρ)

end Cert.KernelIdeal.Body

namespace Cert.Proof

open Idealize.ShloMosaic Idealize.ShloMosaic.TcCoe Idealize.SL.Sem

/-! Over machine words the kernel's program is its idealization's: the same text, a named constant the word it was
printed from. -/

/-- Over machine words a named constant is the word it was printed from. -/
abbrev namedBits : Named Bits := ⟨fun _ _ {_} b => FloatOps.ofBits _ b⟩

attribute [local instance] namedBits

theorem body_same : @Cert.KernelIdeal.cc0_attn_bwd Bits _ _ _ = @Cert.Kernel.cc0_attn_bwd Bits _ _ := rfl

section
open Cert.KernelIdeal Cert.KernelIdeal.Gen
set_option maxHeartbeats 4000000 in
theorem bodies_same : @Cert.Kernel.defs₀ Bits _ _ = @Cert.KernelIdeal.defs₀ Bits _ _ _ := by
  unfold Cert.Kernel.defs₀ Cert.KernelIdeal.defs₀
  congr 1
  funext l x
  match l, x with
  | 0, (t, s) => exact (congrArg (fun f => f (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (Memref.whole cc0_scratch0) (Memref.isWhole_whole _) (Memref.whole cc0_scratch1) (Memref.isWhole_whole _)) body_same).symm
end

set_option maxHeartbeats 8000000 in
theorem procs_same : @Cert.Kernel.defs Bits _ _ = @Cert.KernelIdeal.defs Bits _ _ _ := by
  unfold Cert.Kernel.defs Cert.KernelIdeal.defs
  exact congrArg (Pipeline.defs (@Cert.KernelIdeal.pcfgs Bits _ _ _)) bodies_same

set_option maxHeartbeats 8000000 in
theorem main_same : @Cert.Kernel.main Bits _ _ = @Cert.KernelIdeal.main Bits _ _ _ := by
  unfold Cert.Kernel.main Cert.KernelIdeal.main
  rfl

theorem frame_kernel : Cert.quiescent_Kernel := by
  intro m ρ _
  rw [procs_same, main_same]
  exact Cert.KernelIdeal.Body.run_held (F := Bits) m ρ

theorem frame_ideal : Cert.quiescent_KernelIdeal := fun m ρ _ => Cert.KernelIdeal.Body.run_held m ρ

/-- The reference declares no semaphore: its run read at its arguments is its frame. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The named constants are their table's. -/
theorem named_constants : Cert.preserves_Kernel_KernelIdeal :=
  ⟨IdealRules.named_const.statement _ _ _ _ _ rfl, IdealRules.named_const.statement _ _ _ _ _ rfl⟩

end Cert.Proof

end
-- ==== Proof.Tile.lean ====
/-
  What a step adds to the three running sums, element by element over the reals: a tile's probabilities, their
  gradients, and the products of these with the tile's queries, keys and output gradients. A tile on the diagonal, done
  in two halves, adds the same as a whole tile whose probabilities above the diagonal are zero.
-/
module

public import proofs.«01_k».proof.Proof.Steps
public import Idealize.ShloMosaic.Lib.Pointwise
public import Idealize.ShloMosaic.Lib.WordCmp

@[expose] public section

set_option maxRecDepth 16384

noncomputable section

namespace Cert.KernelIdeal.Body

open Idealize.ShloMosaic
open Idealize.ShloMosaic.VecWindow (window put)
open Cert.KernelIdeal.Gen

/-- Rows put into an array, read at a row. -/
theorem put_rows {α : Type} {R C o n : ℕ} (x : (⟨2, ![R, C]⟩ : Shape).Idx → α) (w : (⟨2, ![n, C]⟩ : Shape).Idx → α) (i : Fin R) (d : Fin C) :
    put x ![o, 0] ![n, C] w (ix2 i d) = if h : o ≤ i.val ∧ i.val < o + n then w (ix2 ⟨i.val - o, by omega⟩ d) else x (ix2 i d) := by
  unfold put
  by_cases h : o ≤ i.val ∧ i.val < o + n
  · rw [dif_pos h, dif_pos (fun a => by fin_cases a; · exact h
                                        · exact ⟨Nat.zero_le _, by simpa using d.isLt⟩)]
    exact congrArg w (funext fun a => by fin_cases a <;> rfl)
  · rw [dif_neg h, dif_neg (fun hh => h (hh 0))]

/-- A window of rows, read at a row. -/
theorem window_rows {α : Type} {R C o n : ℕ} (x : (⟨2, ![R, C]⟩ : Shape).Idx → α)
    (inb : ∀ a, (![o, 0] : Fin 2 → ℕ) a + (![n, C] : Fin 2 → ℕ) a ≤ (![R, C] : Fin 2 → ℕ) a) (i : Fin n) (d : Fin C) :
    window (s := ⟨2, ![R, C]⟩) x ![o, 0] ![n, C] inb (ix2 i d) = x (ix2 ⟨o + i.val, by have := inb 0; simp at this; omega⟩ d) := by
  unfold window
  refine congrArg x (funext fun a => ?_)
  fin_cases a
  · exact Fin.ext (by show o + 1 * i.val = o + i.val; omega)
  · exact Fin.ext (by show 0 + 1 * d.val = d.val; omega)

/-- The mask's word at a row and a column. -/
theorem mask_word (o : ℕ) (i j : ℕ) (hi : i < 1024) (hj : j < 1024) (ho : o ≤ 1024) (a b : EReal) :
    Scalar.select (IntOp.cmpi .sle (BitVec.ofNat 32 j) (IntOp.addi (BitVec.ofNat 32 i) (BitVec.ofNat 32 o))) a b
      = if o + i < j then b else a := by
  have e : IntOp.addi (BitVec.ofNat 32 i) (BitVec.ofNat 32 o) = BitVec.ofNat 32 (o + i) := by
    rw [Nat.add_comm]; exact (BitVec.ofNat_add ..).symm
  rw [e]
  unfold Scalar.select
  by_cases h : o + i < j
  · rw [if_pos h, if_neg]
    rw [show (1 : BitVec 1) = 1#1 from rfl, WordCmp.cmpi_sle_ofNat_eq_one_iff (by omega) (by omega)]; omega
  · rw [if_neg h, if_pos]
    rw [show (1 : BitVec 1) = 1#1 from rfl, WordCmp.cmpi_sle_ofNat_eq_one_iff (by omega) (by omega)]; omega

theorem mask_named : (Named.named κ "mask" 0xF149F2CA#32 : Ideal .f32) = (⊥ : EReal) :=
  IdealRules.named_const.ideal_named_scalar κ "mask" _ _ rfl

section Tile

variable (B : Ins Ideal) (A : Acc Ideal)

/-- A row's score against a key. -/
def score (i j : Fin 1024) : EReal := ∑ x : Fin 256, B.q (ix2 i x) * B.k (ix2 j x)

/-- A row's probability of a key; on the diagonal a row sees the keys up to its own. -/
def tileP (diag : Bool) (i j : Fin 1024) : EReal :=
  FloatOps.exp2 (F := Ideal) (φ := .f32) ((if diag = true ∧ i.val < j.val then ⊥ else score B i j) - B.l (ix3 0 i 0))

/-- The gradient of a row's score of a key. -/
def tileD (diag : Bool) (i j : Fin 1024) : EReal :=
  tileP B diag i j * (∑ x : Fin 128, B.g (ix2 i x) * B.v (ix2 j x) - ∑ x : Fin 128, B.g (ix2 i x) * B.o (ix2 i x))

theorem tileP_above (i j : Fin 1024) (h : i.val < j.val) : tileP B true i j = 0 := by
  unfold tileP
  rw [if_pos ⟨rfl, h⟩, sub_eq_add_neg, EReal.bot_add]
  rfl
theorem tileD_above (i j : Fin 1024) (h : i.val < j.val) : tileD B true i j = 0 := by
  unfold tileD; rw [tileP_above B i j h, zero_mul]

/-- Row `i` of a half. -/
abbrev lo (i : Fin 512) : Fin 1024 := ⟨i.val, by omega⟩
abbrev hi (i : Fin 512) : Fin 1024 := ⟨512 + i.val, by omega⟩

variable (r : Fin 4)

/-! ## A tile below the diagonal -/

theorem off_dk (j : Fin 1024) (d : Fin 256) :
    (offStep r B A).dk (ix2 j d) = A.dk (ix2 j d) + ∑ i, tileD B false i j * B.q (ix2 i d) := by
  unfold tileD tileP score
  pointwise [offStep, k0_pay4, k0_pay14, k0_pay12, k0_pay11, k0_pay10, k0_pay9, k0_pay8]
  simp

theorem off_dv (j : Fin 1024) (d : Fin 128) :
    (offStep r B A).dv (ix2 j d) = A.dv (ix2 j d) + ∑ i, tileP B false i j * B.g (ix2 i d) := by
  unfold tileP score
  pointwise [offStep, k0_pay13, k0_pay11, k0_pay10, k0_pay9, k0_pay8]
  simp

theorem off_dq (i : Fin 4096) (d : Fin 256) :
    (offStep r B A).dq (ix2 i d) = A.dq (ix2 i d)
      + if h : 1024 * r.val ≤ i.val ∧ i.val < 1024 * r.val + 1024 then
          ∑ j, tileD B false ⟨i.val - 1024 * r.val, by omega⟩ j * B.k (ix2 j d) else 0 := by
  refine (put_rows A.dq _ i d).trans ?_
  by_cases h : 1024 * r.val ≤ i.val ∧ i.val < 1024 * r.val + 1024
  · rw [dif_pos h, dif_pos h]
    unfold tileD tileP score
    have e := window_rows (C := 256) (n := 1024) A.dq (rows_inb r) ⟨i.val - 1024 * r.val, by omega⟩ d
    have ei : (⟨1024 * r.val + (i.val - 1024 * r.val), by omega⟩ : Fin 4096) = i := Fin.ext (by show 1024 * r.val + (i.val - 1024 * r.val) = i.val; omega)
    rw [ei] at e
    generalize window A.dq ![1024 * r.val, 0] S1024x256.size (rows_inb r) = W at e ⊢
    rw [← e]
    pointwise [k0_pay5, k0_pay12, k0_pay11, k0_pay10, k0_pay9, k0_pay8]
    simp
  · rw [dif_neg h, dif_neg h, add_zero]

/-! ## A tile on the diagonal -/

theorem loQ_at (x : Vec Ideal S1024x256 .bf16) (i : Fin 512) (d : Fin 256) : loQ x (ix2 i d) = x (ix2 (lo i) d) :=
  (window_rows x inb_S1024x256_S512x256_0_0 i d).trans (congrArg (fun a => x (ix2 a d)) (Fin.ext (Nat.zero_add _)))
theorem loA_at (x : Vec Ideal S1024x256 .f32) (i : Fin 512) (d : Fin 256) : loQ x (ix2 i d) = x (ix2 (lo i) d) :=
  (window_rows x inb_S1024x256_S512x256_0_0 i d).trans (congrArg (fun a => x (ix2 a d)) (Fin.ext (Nat.zero_add _)))
theorem loV_at {e : EltTy} (x : Vec Ideal S1024x128 e) (i : Fin 512) (d : Fin 128) : loV x (ix2 i d) = x (ix2 (lo i) d) :=
  (window_rows x inb_S1024x128_S512x128_0_0 i d).trans (congrArg (fun a => x (ix2 a d)) (Fin.ext (Nat.zero_add _)))
theorem loL_at (x : Vec Ideal S1x1024x1 .f32) (i : Fin 512) : loL x (ix3 0 i 0) = x (ix3 0 (lo i) 0) := by
  refine congrArg x (funext fun a => ?_)
  fin_cases a
  · rfl
  · exact Fin.ext (by show 0 + 1 * i.val = i.val; omega)
  · rfl
theorem hiQ_at (x : Vec Ideal S1024x256 .bf16) (i : Fin 512) (d : Fin 256) : hiQ x (ix2 i d) = x (ix2 (hi i) d) :=
  window_rows x inb_S1024x256_S512x256_512_0 i d
theorem hiV_at {e : EltTy} (x : Vec Ideal S1024x128 e) (i : Fin 512) (d : Fin 128) : hiV x (ix2 i d) = x (ix2 (hi i) d) :=
  window_rows x inb_S1024x128_S512x128_512_0 i d
theorem hiL_at (x : Vec Ideal S1x1024x1 .f32) (i : Fin 512) : hiL x (ix3 0 i 0) = x (ix3 0 (hi i) 0) := by
  refine congrArg x (funext fun a => ?_)
  fin_cases a
  · rfl
  · exact Fin.ext (by show 512 + 1 * i.val = 512 + i.val; omega)
  · rfl

/-- The first half's probabilities are the tile's. -/
theorem first_P (i j : Fin 512) : k0_pay18 (loQ B.q) (loQ B.k) (loL B.l) (ix2 i j) = tileP B true (lo i) (lo j) := by
  have hq := loQ_at B.q; have hk := loQ_at B.k; have hl := loL_at B.l
  generalize loQ B.q = q at hq ⊢; generalize loQ B.k = k at hk ⊢; generalize loL B.l = l at hl ⊢
  unfold tileP score
  simp only [← hq, ← hk, ← hl, true_and]
  pointwise [k0_pay18, k0_pay16, k0_pay15]
  rw [mask_word 0 i.val j.val (by omega) (by omega) (by omega), mask_named, Nat.zero_add]

/-- And its score gradients. -/
theorem first_D (i j : Fin 512) :
    k0_pay19 (loQ B.q) (loQ B.k) (loV B.g) (loL B.l) (loV B.v) (loV B.o) (ix2 i j) = tileD B true (lo i) (lo j) := by
  unfold tileD
  rw [← first_P]
  have hg := loV_at B.g; have hv := loV_at B.v; have ho := loV_at B.o
  generalize loV B.g = g at hg ⊢; generalize loV B.v = v at hv ⊢; generalize loV B.o = o at ho ⊢
  simp only [← hg, ← hv, ← ho]
  pointwise [k0_pay19, k0_pay17]

/-- The second half's probabilities are the tile's. -/
theorem second_P (i : Fin 512) (j : Fin 1024) :
    k0_pay29 (k0_pay27 (hiQ B.q) B.k) (k0_pay28 (hiL B.l)) (ix2 i j) = tileP B true (hi i) j := by
  have hq := hiQ_at B.q; have hl := hiL_at B.l
  generalize hiQ B.q = q at hq ⊢; generalize hiL B.l = l at hl ⊢
  unfold tileP score
  simp only [← hq, ← hl, true_and]
  pointwise [k0_pay29, k0_pay28, k0_pay27, k0_pay25, k0_pay24]
  rw [mask_word 512 i.val j.val (by omega) (by omega) (by omega), mask_named]

theorem second_D (i : Fin 512) (j : Fin 1024) :
    k0_pay30 (k0_pay26 (hiV B.g)) (k0_pay27 (hiQ B.q) B.k) (k0_pay28 (hiL B.l)) B.v (hiV B.o) (ix2 i j) = tileD B true (hi i) j := by
  unfold tileD
  rw [← second_P]
  have hg := hiV_at B.g; have ho := hiV_at B.o
  generalize hiV B.g = g at hg ⊢; generalize hiV B.o = o at ho ⊢
  simp only [← hg, ← ho]
  pointwise [k0_pay30, k0_pay26]

theorem zero_dq (i : Fin 4096) (d : Fin 256) : k0_pay1 (F := Ideal) (ix2 i d) = 0 := by pointwise [k0_pay1]
theorem zero_dk (j : Fin 1024) (d : Fin 256) : k0_pay2 (F := Ideal) (ix2 j d) = 0 := by pointwise [k0_pay2]
theorem zero_dv (j : Fin 1024) (d : Fin 128) : k0_pay3 (F := Ideal) (ix2 j d) = 0 := by pointwise [k0_pay3]

/-- A sum over a tile's rows is a sum over the first half and one over the second. -/
theorem sum_halves (f : Fin 1024 → EReal) : ∑ i, f i = ∑ i, f (lo i) + ∑ i, f (hi i) :=
  Fin.sum_univ_two_halves 512 512 rfl f

theorem diag_dk (j : Fin 1024) (d : Fin 256) :
    (diagStep r B A).dk (ix2 j d) = ∑ i, tileD B true i j * B.q (ix2 i d) := by
  rw [sum_halves]
  have e2 : ∀ (X : Vec Ideal S1024x256 .f32), k0_pay32 (k0_pay24 (hiQ B.q)) (k0_pay26 (hiV B.g)) (k0_pay27 (hiQ B.q) B.k) (k0_pay28 (hiL B.l)) B.v (hiV B.o) X (ix2 j d)
      = X (ix2 j d) + ∑ i, tileD B true (hi i) j * B.q (ix2 (hi i) d) := fun X => by
    simp only [← second_D, ← hiQ_at]
    generalize hiQ B.q = q
    pointwise [k0_pay32, k0_pay24]
  refine (e2 _).trans (congrArg (· + _) ?_)
  have hz := zero_dk
  unfold diagA
  generalize k0_pay2 (F := Ideal) = Z at hz ⊢
  refine (put_rows Z _ j d).trans ?_
  by_cases h : 0 ≤ j.val ∧ j.val < 0 + 512
  · rw [dif_pos h]
    obtain ⟨j', rfl⟩ : ∃ j' : Fin 512, j = lo j' := ⟨⟨j.val, by omega⟩, rfl⟩
    simp only [← first_D, ← loQ_at]
    rw [show (⟨(lo j').val - 0, by omega⟩ : Fin 512) = j' from Fin.ext (Nat.sub_zero _)]
    have z : loQ (F := Ideal) (e := .f32) Z (ix2 j' d) = 0 := (loA_at Z j' d).trans (hz _ _)
    generalize loQ (F := Ideal) (e := .f32) Z = Y at z ⊢
    pointwise [k0_pay22, k0_pay15]
    rw [z, zero_add]
  · rw [dif_neg h, hz]
    refine (Finset.sum_eq_zero fun i _ => ?_).symm
    rw [tileD_above B (lo i) j (by show i.val < j.val; omega), zero_mul]

theorem diag_dv (j : Fin 1024) (d : Fin 128) :
    (diagStep r B A).dv (ix2 j d) = ∑ i, tileP B true i j * B.g (ix2 i d) := by
  rw [sum_halves]
  have e2 : ∀ (X : Vec Ideal S1024x128 .f32), k0_pay31 (k0_pay26 (hiV B.g)) (k0_pay27 (hiQ B.q) B.k) (k0_pay28 (hiL B.l)) X (ix2 j d)
      = X (ix2 j d) + ∑ i, tileP B true (hi i) j * B.g (ix2 (hi i) d) := fun X => by
    simp only [← second_P, ← hiV_at]
    generalize hiV B.g = g
    pointwise [k0_pay31, k0_pay26]
  refine (e2 _).trans (congrArg (· + _) ?_)
  have hz := zero_dv
  unfold diagA
  generalize k0_pay3 (F := Ideal) = Z at hz ⊢
  refine (put_rows Z _ j d).trans ?_
  by_cases h : 0 ≤ j.val ∧ j.val < 0 + 512
  · rw [dif_pos h]
    obtain ⟨j', rfl⟩ : ∃ j' : Fin 512, j = lo j' := ⟨⟨j.val, by omega⟩, rfl⟩
    simp only [← first_P, ← loV_at]
    rw [show (⟨(lo j').val - 0, by omega⟩ : Fin 512) = j' from Fin.ext (Nat.sub_zero _)]
    have z : loV (F := Ideal) (e := .f32) Z (ix2 j' d) = 0 := (loV_at (e := .f32) Z j' d).trans (hz _ _)
    generalize loV (F := Ideal) (e := .f32) Z = Y at z ⊢
    pointwise [k0_pay21, k0_pay20, k0_pay17]
    rw [z, zero_add]
  · rw [dif_neg h, hz]
    refine (Finset.sum_eq_zero fun i _ => ?_).symm
    rw [tileP_above B (lo i) j (by show i.val < j.val; omega), zero_mul]

theorem diag_dq (i : Fin 4096) (d : Fin 256) :
    (diagStep r B A).dq (ix2 i d) = A.dq (ix2 i d)
      + if h : 1024 * r.val ≤ i.val ∧ i.val < 1024 * r.val + 1024 then
          ∑ j, tileD B true ⟨i.val - 1024 * r.val, by omega⟩ j * B.k (ix2 j d) else 0 := by
  have eB : ∀ (W : Vec Ideal S512x256 .f32) (a : Fin 512),
      k0_pay33 (k0_pay25 B.k) (k0_pay26 (hiV B.g)) (k0_pay27 (hiQ B.q) B.k) (k0_pay28 (hiL B.l)) B.v (hiV B.o) W (ix2 a d)
        = W (ix2 a d) + ∑ j, tileD B true (hi a) j * B.k (ix2 j d) := fun W a => by
    simp only [← second_D]
    pointwise [k0_pay33, k0_pay25]
  have eA : ∀ (W : Vec Ideal S512x256 .f32) (a : Fin 512),
      k0_pay23 (k0_pay16 (loQ B.k)) (k0_pay19 (loQ B.q) (loQ B.k) (loV B.g) (loL B.l) (loV B.v) (loV B.o)) W (ix2 a d)
        = W (ix2 a d) + ∑ j, tileD B true (lo a) j * B.k (ix2 j d) := fun W a => by
    rw [sum_halves, Finset.sum_eq_zero (f := fun j => tileD B true (lo a) (hi j) * B.k (ix2 (hi j) d)) (fun j _ => by
      rw [tileD_above B (lo a) (hi j) (by show a.val < 512 + j.val; omega), zero_mul]), add_zero]
    simp only [← first_D, ← loQ_at]
    pointwise [k0_pay23, k0_pay16]
  refine (put_rows (diagA r B { A with dk := k0_pay2 (F := Ideal), dv := k0_pay3 (F := Ideal) }).dq _ i d).trans ?_
  have hA := fun i' : Fin 4096 => put_rows A.dq (k0_pay23 (k0_pay16 (loQ B.k)) (k0_pay19 (loQ B.q) (loQ B.k) (loV B.g) (loL B.l) (loV B.v) (loV B.o))
      (window A.dq ![1024 * r.val, 0] S512x256.size (rowsA_inb r))) i' d (o := 1024 * r.val) (n := 512)
  by_cases hB : 1024 * r.val + 512 ≤ i.val ∧ i.val < 1024 * r.val + 512 + 512
  · rw [dif_pos hB, dif_pos ⟨by omega, by omega⟩]
    refine (eB _ _).trans ?_
    refine congrArg₂ (· + ·) ?_ (congrArg (fun a => ∑ j, tileD B true a j * B.k (ix2 j d)) (Fin.ext ?_))
    · refine (window_rows (C := 256) (n := 512) _ (rowsB_inb r) _ d).trans ((congrArg (fun a => (diagA r B { A with dk := k0_pay2 (F := Ideal), dv := k0_pay3 (F := Ideal) }).dq (ix2 a d)) (Fin.ext ?_)).trans ((hA i).trans (dif_neg (by omega))))
      show 1024 * r.val + 512 + (i.val - (1024 * r.val + 512)) = i.val
      omega
    · show 512 + (i.val - (1024 * r.val + 512)) = i.val - 1024 * r.val
      omega
  · rw [dif_neg hB]
    refine (hA i).trans ?_
    by_cases h : 1024 * r.val ≤ i.val ∧ i.val < 1024 * r.val + 512
    · rw [dif_pos h, dif_pos ⟨by omega, by omega⟩]
      refine (eA _ _).trans (congrArg (· + _) ?_)
      refine (window_rows (C := 256) (n := 512) _ (rowsA_inb r) _ d).trans (congrArg (fun a => A.dq (ix2 a d)) (Fin.ext ?_))
      show 1024 * r.val + (i.val - 1024 * r.val) = i.val
      omega
    · rw [dif_neg h, dif_neg (by omega), add_zero]

/-! ## The two result blocks of a key tile -/

theorem out_dk (X : Vec Ideal S1024x256 .f32) (j : Fin 1024) (d : Fin 256) : k0_pay6 X (ix2 j d) = X (ix2 j d) * ((Real.log 2 : ℝ) : EReal) := by
  have e : (Named.named κ "ln2" 0x3F317218#32 : Ideal .f32) = ((Real.log 2 : ℝ) : EReal) := IdealRules.named_const.ideal_named_scalar κ "ln2" _ _ rfl
  pointwise [k0_pay6]
  rw [e]
theorem out_dv (X : Vec Ideal S1024x128 .f32) (j : Fin 1024) (d : Fin 128) : k0_pay7 X (ix2 j d) = X (ix2 j d) := by
  pointwise [k0_pay7]

end Tile

end Cert.KernelIdeal.Body

end
-- ==== Proof.Head.lean ====
/-
  A head's ten steps joined, over the reals: the query gradient the head ends with, and the key and value gradients a
  key tile ends with, as sums over all rows and keys of the head.
-/
module

public import proofs.«01_k».proof.Proof.Tile
public import proofs.«01_k».proof.Proof.State

@[expose] public section

set_option maxRecDepth 16384

noncomputable section

namespace Cert.KernelIdeal.Body

open Idealize.ShloMosaic
open Cert.KernelIdeal.Gen

/-- A head's arrays: scaled queries, keys, values, output gradient, output, log-sum. -/
structure Head where
  Q : Fin 4096 → Fin 256 → EReal
  K : Fin 4096 → Fin 256 → EReal
  V : Fin 4096 → Fin 128 → EReal
  G : Fin 4096 → Fin 128 → EReal
  O : Fin 4096 → Fin 128 → EReal
  L : Fin 4096 → EReal

/-- Position `j` of tile `t`. -/
def inTile (t : Fin 4) (j : Fin 1024) : Fin 4096 := ⟨1024 * t.val + j.val, by omega⟩

variable (H : Head)

/-- A row's probability of a key: the keys after its own have none. -/
def prob (i j : Fin 4096) : EReal :=
  FloatOps.exp2 (F := Ideal) (φ := .f32) ((if i.val < j.val then ⊥ else ∑ x, H.Q i x * H.K j x) - H.L i)

/-- The gradient of a row's score of a key. -/
def dscore (i j : Fin 4096) : EReal := prob H i j * (∑ x, H.G i x * H.V j x - ∑ x, H.G i x * H.O i x)

theorem prob_above (i j : Fin 4096) (h : i.val < j.val) : prob H i j = 0 := by
  unfold prob
  rw [if_pos h, sub_eq_add_neg, EReal.bot_add]
  rfl
theorem dscore_above (i j : Fin 4096) (h : i.val < j.val) : dscore H i j = 0 := by
  unfold dscore; rw [prob_above H i j h, zero_mul]

/-- The blocks a head's steps find: the tiles the tables name. -/
structure Blocks (Bs : Fin 10 → Ins Ideal) : Prop where
  q : ∀ s i d, (Bs s).q (ix2 i d) = H.Q (inTile (qTile s) i) d
  k : ∀ s j d, (Bs s).k (ix2 j d) = H.K (inTile (kTile s) j) d
  v : ∀ s j d, (Bs s).v (ix2 j d) = H.V (inTile (kTile s) j) d
  g : ∀ s i d, (Bs s).g (ix2 i d) = H.G (inTile (qTile s) i) d
  o : ∀ s i d, (Bs s).o (ix2 i d) = H.O (inTile (qTile s) i) d
  l : ∀ s i, (Bs s).l (ix3 0 i 0) = H.L (inTile (qTile s) i)

/-- Whether a step's tile is on the diagonal. -/
def onDiag (s : Fin 10) : Bool := decide (qTile s = kTile s)

theorem tiles_below : ∀ s : Fin 10, (kTile s).val ≤ (qTile s).val := by decide

section Steps

variable {H} {Bs : Fin 10 → Ins Ideal} (hB : Blocks H Bs)

include hB in
theorem step_prob (s : Fin 10) (i j : Fin 1024) :
    tileP (Bs s) (onDiag s) i j = prob H (inTile (qTile s) i) (inTile (kTile s) j) := by
  unfold tileP prob score
  rw [hB.l]
  simp only [hB.q, hB.k]
  have hc : (onDiag s = true ∧ i.val < j.val) ↔ (inTile (qTile s) i).val < (inTile (kTile s) j).val := by
    show _ ↔ 1024 * (qTile s).val + i.val < 1024 * (kTile s).val + j.val
    have hb := tiles_below s
    have hj := j.isLt
    unfold onDiag
    rw [decide_eq_true_eq]
    constructor
    · rintro ⟨h, h'⟩; rw [h]; omega
    · intro h
      have e : qTile s = kTile s := Fin.ext (by omega)
      refine ⟨e, ?_⟩
      rw [e] at h; omega
  rw [if_congr hc rfl rfl]

include hB in
theorem step_dscore (s : Fin 10) (i j : Fin 1024) :
    tileD (Bs s) (onDiag s) i j = dscore H (inTile (qTile s) i) (inTile (kTile s) j) := by
  unfold tileD dscore
  rw [step_prob hB]
  simp only [hB.g, hB.v, hB.o]

/-- What a step adds to a row of the query gradient, by the tile the row is in. -/
def rowAdd (H : Head) (i : Fin 4096) (d : Fin 256) (t : Fin 4) : EReal := ∑ j, dscore H i (inTile t j) * H.K (inTile t j) d

include hB in
theorem step_dq (s : Fin 10) (A : Acc Ideal) (r : Fin 4) (i : Fin 1024) (d : Fin 256) :
    (stepAt s (Bs s) A).dq (ix2 (inTile r i) d)
      = A.dq (ix2 (inTile r i) d) + if qTile s = r then rowAdd H (inTile r i) d (kTile s) else 0 := by
  have key : ∀ D : Bool, D = onDiag s → (∀ (h : 1024 * (qTile s).val ≤ (inTile r i).val ∧ (inTile r i).val < 1024 * (qTile s).val + 1024),
      (∑ j, tileD (Bs s) D ⟨(inTile r i).val - 1024 * (qTile s).val, by omega⟩ j * (Bs s).k (ix2 j d)) = rowAdd H (inTile r i) d (kTile s)) := by
    rintro _ rfl h
    refine Finset.sum_congr rfl fun j _ => ?_
    rw [step_dscore hB, hB.k]
    have e : inTile (qTile s) ⟨(inTile r i).val - 1024 * (qTile s).val, by omega⟩ = inTile r i :=
      Fin.ext (by show 1024 * (qTile s).val + ((inTile r i).val - 1024 * (qTile s).val) = (inTile r i).val; omega)
    rw [e]
  have hc : (1024 * (qTile s).val ≤ (inTile r i).val ∧ (inTile r i).val < 1024 * (qTile s).val + 1024) ↔ qTile s = r := by
    show (1024 * (qTile s).val ≤ 1024 * r.val + i.val ∧ 1024 * r.val + i.val < 1024 * (qTile s).val + 1024) ↔ _
    have := i.isLt
    constructor
    · intro h; exact Fin.ext (by omega)
    · rintro rfl; omega
  unfold stepAt
  by_cases hd : qTile s = kTile s
  · rw [if_pos hd]
    refine (diag_dq _ _ _ _ _).trans (congrArg (_ + ·) ?_)
    by_cases h : qTile s = r
    · rw [if_pos h, dif_pos (hc.mpr h)]; exact key true (by unfold onDiag; rw [decide_eq_true hd]) (hc.mpr h)
    · rw [if_neg h, dif_neg (fun h' => h (hc.mp h'))]
  · rw [if_neg hd]
    refine (off_dq _ _ _ _ _).trans (congrArg (_ + ·) ?_)
    by_cases h : qTile s = r
    · rw [if_pos h, dif_pos (hc.mpr h)]; exact key false (by unfold onDiag; rw [decide_eq_false hd]) (hc.mpr h)
    · rw [if_neg h, dif_neg (fun h' => h (hc.mp h'))]

/-- What a step adds to its key tile's gradients, by the query tile. -/
def keyAdd (H : Head) (j : Fin 4096) (d : Fin 256) (r : Fin 4) : EReal := ∑ i, dscore H (inTile r i) j * H.Q (inTile r i) d
def valueAdd (H : Head) (j : Fin 4096) (d : Fin 128) (r : Fin 4) : EReal := ∑ i, prob H (inTile r i) j * H.G (inTile r i) d

include hB in
theorem step_dk (s : Fin 10) (A : Acc Ideal) (j : Fin 1024) (d : Fin 256) :
    (stepAt s (Bs s) A).dk (ix2 j d)
      = if qTile s = kTile s then keyAdd H (inTile (kTile s) j) d (qTile s) else A.dk (ix2 j d) + keyAdd H (inTile (kTile s) j) d (qTile s) := by
  have key : ∀ D : Bool, D = onDiag s → (∑ i, tileD (Bs s) D i j * (Bs s).q (ix2 i d)) = keyAdd H (inTile (kTile s) j) d (qTile s) := by
    rintro _ rfl
    exact Finset.sum_congr rfl fun i _ => by rw [step_dscore hB, hB.q]
  unfold stepAt
  by_cases hd : qTile s = kTile s
  · rw [if_pos hd, if_pos hd]
    exact (diag_dk _ _ _ _ _).trans (key true (by unfold onDiag; rw [decide_eq_true hd]))
  · rw [if_neg hd, if_neg hd]
    exact (off_dk _ _ _ _ _).trans (congrArg (_ + ·) (key false (by unfold onDiag; rw [decide_eq_false hd])))

include hB in
theorem step_dv (s : Fin 10) (A : Acc Ideal) (j : Fin 1024) (d : Fin 128) :
    (stepAt s (Bs s) A).dv (ix2 j d)
      = if qTile s = kTile s then valueAdd H (inTile (kTile s) j) d (qTile s) else A.dv (ix2 j d) + valueAdd H (inTile (kTile s) j) d (qTile s) := by
  have key : ∀ D : Bool, D = onDiag s → (∑ i, tileP (Bs s) D i j * (Bs s).g (ix2 i d)) = valueAdd H (inTile (kTile s) j) d (qTile s) := by
    rintro _ rfl
    exact Finset.sum_congr rfl fun i _ => by rw [step_prob hB, hB.g]
  unfold stepAt
  by_cases hd : qTile s = kTile s
  · rw [if_pos hd, if_pos hd]
    exact (diag_dv _ _ _ _ _).trans (key true (by unfold onDiag; rw [decide_eq_true hd]))
  · rw [if_neg hd, if_neg hd]
    exact (off_dv _ _ _ _ _).trans (congrArg (_ + ·) (key false (by unfold onDiag; rw [decide_eq_false hd])))

/-! ## The ten steps -/

/-- A sum over the head's positions, tile by tile. -/
theorem sum_tiles (f : Fin 4096 → EReal) : ∑ j, f j = ∑ t : Fin 4, ∑ j : Fin 1024, f (inTile t j) := by
  refine (Fin.sum_univ_tiles 4 1024 rfl f).trans (Finset.sum_congr rfl fun t _ => Finset.sum_congr rfl fun j _ => congrArg f (Fin.ext ?_))
  show t.val * 1024 + j.val = 1024 * t.val + j.val
  omega

/-- A query tile's steps are those against the key tiles up to its own. -/
theorem sum_steps (T : Fin 4 → EReal) (r : Fin 4) :
    (∑ s : Fin 10, if qTile s = r then T (kTile s) else 0) = ∑ t : Fin 4, if t.val ≤ r.val then T t else 0 := by
  fin_cases r <;> simp [Fin.sum_univ_succ, qTile, kTile]

/-- A key tile's last step. -/
def lastStep : Fin 4 → Fin 10 := ![3, 6, 8, 9]

/-- A key tile's steps are those of the query tiles from its own on, one after another. -/
theorem run_sum (a : ℕ → EReal) (T : Fin 4 → EReal) (t : Fin 4)
    (h : ∀ s : Fin 10, kTile s = t → a (s.val + 1) = if qTile s = kTile s then T (qTile s) else a s.val + T (qTile s)) :
    a ((lastStep t).val + 1) = ∑ r : Fin 4, if t.val ≤ r.val then T r else 0 := by
  fin_cases t
  · have h0 : a 1 = T 0 := h 0 rfl
    have h1 : a 2 = a 1 + T 1 := h 1 rfl
    have h2 : a 3 = a 2 + T 2 := h 2 rfl
    have h3 : a 4 = a 3 + T 3 := h 3 rfl
    show a 4 = _
    rw [h3, h2, h1, h0]; simp [Fin.sum_univ_four]
  · have h0 : a 5 = T 1 := h 4 rfl
    have h1 : a 6 = a 5 + T 2 := h 5 rfl
    have h2 : a 7 = a 6 + T 3 := h 6 rfl
    show a 7 = _
    rw [h2, h1, h0]; simp [Fin.sum_univ_four]
  · have h0 : a 8 = T 2 := h 7 rfl
    have h1 : a 9 = a 8 + T 3 := h 8 rfl
    show a 9 = _
    rw [h1, h0]; simp [Fin.sum_univ_four]
  · have h0 : a 10 = T 3 := h 9 rfl
    show a 10 = _
    rw [h0]; simp [Fin.sum_univ_four]

include hB in
theorem dq_upto (r : Fin 4) (i : Fin 1024) (d : Fin 256) : ∀ n (hn : n ≤ 10),
    (headAcc Bs n).dq (ix2 (inTile r i) d)
      = ∑ s : Fin n, if qTile ⟨s.val, by omega⟩ = r then rowAdd H (inTile r i) d (kTile ⟨s.val, by omega⟩) else 0 := by
  intro n
  induction n with
  | zero => intro _; rw [Fin.sum_univ_zero]; exact zero_dq (inTile r i) d
  | succ n ih =>
    intro hn
    rw [Fin.sum_univ_castSucc]
    refine (congrArg (fun A : Acc Ideal => A.dq (ix2 (inTile r i) d)) (headAcc_succ Bs ⟨n, by omega⟩)).trans ?_
    refine (step_dq hB ⟨n, by omega⟩ _ r i d).trans ?_
    exact congrArg (· + _) (ih (by omega))

include hB in
/-- A row's query gradient, over all the head's keys. -/
theorem head_dq (i : Fin 4096) (d : Fin 256) :
    (headAcc Bs 10).dq (ix2 i d) = ∑ j, dscore H i j * H.K j d := by
  obtain ⟨r, i', rfl⟩ : ∃ r i', i = inTile r i' :=
    ⟨⟨i.val / 1024, by omega⟩, ⟨i.val % 1024, by omega⟩, Fin.ext (by show i.val = 1024 * (i.val / 1024) + i.val % 1024; omega)⟩
  refine (dq_upto hB r i' d 10 (le_refl _)).trans ?_
  refine (sum_steps (rowAdd H (inTile r i') d) r).trans ?_
  rw [sum_tiles]
  refine Finset.sum_congr rfl fun t _ => ?_
  by_cases h : t.val ≤ r.val
  · rw [if_pos h]; rfl
  · rw [if_neg h]
    refine (Finset.sum_eq_zero fun j _ => ?_).symm
    rw [dscore_above H _ _ (by show 1024 * r.val + i'.val < 1024 * t.val + j.val; omega), zero_mul]

include hB in
/-- A key's gradient, over all the head's rows. -/
theorem head_dk (t : Fin 4) (j : Fin 1024) (d : Fin 256) :
    (headAcc Bs ((lastStep t).val + 1)).dk (ix2 j d) = ∑ i, dscore H i (inTile t j) * H.Q i d := by
  refine (run_sum (fun n => (headAcc Bs n).dk (ix2 j d)) (keyAdd H (inTile t j) d) t ?_).trans ?_
  · rintro s rfl
    exact (congrArg (fun A : Acc Ideal => A.dk (ix2 j d)) (headAcc_succ Bs s)).trans (step_dk hB s _ j d)
  rw [sum_tiles]
  refine Finset.sum_congr rfl fun r _ => ?_
  by_cases h : t.val ≤ r.val
  · rw [if_pos h]; rfl
  · rw [if_neg h]
    refine (Finset.sum_eq_zero fun i _ => ?_).symm
    rw [dscore_above H _ _ (by show 1024 * r.val + i.val < 1024 * t.val + j.val; omega), zero_mul]

include hB in
/-- A value's gradient, over all the head's rows. -/
theorem head_dv (t : Fin 4) (j : Fin 1024) (d : Fin 128) :
    (headAcc Bs ((lastStep t).val + 1)).dv (ix2 j d) = ∑ i, prob H i (inTile t j) * H.G i d := by
  refine (run_sum (fun n => (headAcc Bs n).dv (ix2 j d)) (valueAdd H (inTile t j) d) t ?_).trans ?_
  · rintro s rfl
    exact (congrArg (fun A : Acc Ideal => A.dv (ix2 j d)) (headAcc_succ Bs s)).trans (step_dv hB s _ j d)
  rw [sum_tiles]
  refine Finset.sum_congr rfl fun r _ => ?_
  by_cases h : t.val ≤ r.val
  · rw [if_pos h]; rfl
  · rw [if_neg h]
    refine (Finset.sum_eq_zero fun i _ => ?_).symm
    rw [prob_above H _ _ (by show 1024 * r.val + i.val < 1024 * t.val + j.val; omega), zero_mul]

end Steps

end Cert.KernelIdeal.Body

end
-- ==== Proof.Softmax.lean ====
/-
  Causal softmax attention of one head and its gradient, over the reals: the sums the reference takes, the sums the
  kernel takes, and their equality for real inputs.
-/
module

public import proofs.«01_k».proof.Proof.Head

@[expose] public section

noncomputable section

namespace Cert.Attention

open Idealize.ShloMosaic

variable (q k : Fin 4096 → Fin 256 → EReal) (v g : Fin 4096 → Fin 128 → EReal)

/-- A row's score of a key: the keys after its own are at the bottom. -/
def scr (i j : Fin 4096) : EReal := if j.val ≤ i.val then ∑ x, q i x * k j x else ⊥
/-- A row's greatest score. -/
def top (i : Fin 4096) : EReal := Finset.univ.fold max ⊥ (scr q k i)
/-- A key's weight, and a row's total. -/
def wt (i j : Fin 4096) : EReal := Ideal.exp (scr q k i j - top q k i)
def tot (i : Fin 4096) : EReal := ∑ j, wt q k i j
/-- A key's probability. -/
def pr (i j : Fin 4096) : EReal := Ideal.div (wt q k i j) (tot q k i)
/-- The output, and the log of the total, of a row. -/
def out (i : Fin 4096) (d : Fin 128) : EReal := ∑ j, v j d * pr q k i j
def lse (i : Fin 4096) : EReal := Ideal.div (top q k i + Ideal.log (tot q k i)) (Ideal.log ((2 : ℝ) : EReal))
/-- The gradient of a probability. -/
def dpr (i j : Fin 4096) : EReal := ∑ d, g i d * v j d
/-- The gradient of a score, as the derivative of the softmax spells it. -/
def ds (i j : Fin 4096) : EReal :=
  if j.val ≤ i.val then
    (Ideal.div (dpr v g i j) (tot q k i) + -(∑ j', dpr v g i j' * Ideal.div 1 (tot q k i * tot q k i) * wt q k i j')) * wt q k i j
  else 0

/-- The arrays the kernel takes of a head. -/
def head : KernelIdeal.Body.Head where
  Q i x := Ideal.div (q i x) (Ideal.log ((2 : ℝ) : EReal))
  K := k
  V := v
  G := g
  O := out q k v
  L := lse q k

/-! ## Real inputs -/

theorem log_two : Ideal.log ((2 : ℝ) : EReal) = ((Real.log 2 : ℝ) : EReal) := by
  rw [Ideal.log_coe, if_neg (by norm_num)]

theorem log_two_ne : Real.log 2 ≠ 0 := (Real.log_pos (by norm_num)).ne'

theorem coe_sum {ι : Type} [Fintype ι] (f : ι → ℝ) : ((∑ i, f i : ℝ) : EReal) = ∑ i, (f i : EReal) := by
  induction (Finset.univ : Finset ι) using Finset.cons_induction with
  | empty => simp
  | cons a s h ih => rw [Finset.sum_cons, Finset.sum_cons, EReal.coe_add, ih]

theorem div_real (x y : ℝ) (h : y ≠ 0) : Ideal.div (x : EReal) (y : EReal) = ((x / y : ℝ) : EReal) := by
  rw [Ideal.div_coe h, ← EReal.coe_mul]; congr 1; ring

section Real

variable (Q K : Fin 4096 → Fin 256 → ℝ) (V G : Fin 4096 → Fin 128 → ℝ)

/-- Numbers as extended numbers. -/
abbrev up {n : ℕ} (X : Fin 4096 → Fin n → ℝ) : Fin 4096 → Fin n → EReal := fun i x => (X i x : EReal)

/-- The product of a row and a key. -/
def dotQK (i j : Fin 4096) : ℝ := ∑ x, Q i x * K j x
/-- The product of a row's output gradient and a value. -/
def dotGV (i j : Fin 4096) : ℝ := ∑ x, G i x * V j x

theorem scr_real (i j : Fin 4096) : scr (up Q) (up K) i j = if j.val ≤ i.val then ((dotQK Q K i j : ℝ) : EReal) else ⊥ := by
  unfold scr dotQK
  by_cases h : j.val ≤ i.val
  · rw [if_pos h, if_pos h, coe_sum]; simp only [EReal.coe_mul]
  · rw [if_neg h, if_neg h]

theorem dpr_real (i j : Fin 4096) : dpr (up V) (up G) i j = ((dotGV V G i j : ℝ) : EReal) := by
  unfold dpr dotGV; rw [coe_sum]; simp only [EReal.coe_mul]

/-- A row's greatest score is a number: its own key has one. -/
theorem top_real (i : Fin 4096) : ∃ M : ℝ, top (up Q) (up K) i = ((M : ℝ) : EReal) := by
  have h1 : ((dotQK Q K i i : ℝ) : EReal) ≤ top (up Q) (up K) i := by
    unfold top
    rw [Finset.le_fold_max]
    exact .inr ⟨i, Finset.mem_univ _, by rw [scr_real, if_pos (le_refl _)]⟩
  have h2 : top (up Q) (up K) i < ⊤ := by
    unfold top
    rw [Finset.fold_max_lt]
    refine ⟨bot_lt_top, fun j _ => ?_⟩
    rw [scr_real]
    split
    · exact EReal.coe_lt_top _
    · exact bot_lt_top
  exact ⟨(top (up Q) (up K) i).toReal, (EReal.coe_toReal h2.ne (fun e => by rw [e] at h1; exact absurd h1 (not_le.mpr (EReal.bot_lt_coe _)))).symm⟩

/-- A key's weight, as a number, at the row's greatest score `M`. -/
def wtR (M : ℝ) (i j : Fin 4096) : ℝ := if j.val ≤ i.val then Real.exp (dotQK Q K i j - M) else 0
def totR (M : ℝ) (i : Fin 4096) : ℝ := ∑ j, wtR Q K M i j

theorem totR_pos (M : ℝ) (i : Fin 4096) : 0 < totR Q K M i := by
  refine Finset.sum_pos' (fun j _ => ?_) ⟨i, Finset.mem_univ _, ?_⟩
  · unfold wtR; split
    · exact (Real.exp_pos _).le
    · exact le_refl _
  · unfold wtR; rw [if_pos (le_refl _)]; exact Real.exp_pos _

section Row

variable {Q K} {i : Fin 4096} {M : ℝ} (hM : top (up Q) (up K) i = ((M : ℝ) : EReal))

include hM in
theorem wt_real (j : Fin 4096) : wt (up Q) (up K) i j = ((wtR Q K M i j : ℝ) : EReal) := by
  unfold wt wtR
  rw [hM, scr_real]
  by_cases h : j.val ≤ i.val
  · rw [if_pos h, if_pos h, ← EReal.coe_sub, Ideal.exp_coe]
  · rw [if_neg h, if_neg h, sub_eq_add_neg, EReal.bot_add]; rfl

include hM in
theorem tot_real : tot (up Q) (up K) i = ((totR Q K M i : ℝ) : EReal) := by
  unfold tot totR
  rw [coe_sum]; exact Finset.sum_congr rfl fun j _ => wt_real hM j

include hM in
theorem pr_real (j : Fin 4096) : pr (up Q) (up K) i j = ((wtR Q K M i j / totR Q K M i : ℝ) : EReal) := by
  unfold pr
  rw [wt_real hM, tot_real hM, div_real _ _ (totR_pos Q K M i).ne']

include hM in
theorem lse_real : lse (up Q) (up K) i = (((M + Real.log (totR Q K M i)) / Real.log 2 : ℝ) : EReal) := by
  unfold lse
  rw [hM, tot_real hM, Ideal.log_coe, if_neg (not_le.mpr (totR_pos Q K M i)), log_two, ← EReal.coe_add, div_real _ _ log_two_ne]

include hM in
/-- The kernel's probability: a power of two of the scaled score less the scaled log of the total. -/
theorem prob_eq (j : Fin 4096) : KernelIdeal.Body.prob (head (up Q) (up K) (up V) (up G)) i j = pr (up Q) (up K) i j := by
  by_cases h : i.val < j.val
  · rw [KernelIdeal.Body.prob_above _ _ _ h, pr_real hM]
    unfold wtR
    rw [if_neg (not_le.mpr h), zero_div, EReal.coe_zero]
  · have h' : j.val ≤ i.val := not_lt.mp h
    unfold KernelIdeal.Body.prob
    rw [if_neg h, pr_real hM]
    show Ideal.exp2 ((∑ x, Ideal.div ((Q i x : ℝ) : EReal) (Ideal.log ((2 : ℝ) : EReal)) * ((K j x : ℝ) : EReal)) - lse (up Q) (up K) i) = _
    rw [lse_real hM, log_two]
    have hs : (∑ x, Ideal.div ((Q i x : ℝ) : EReal) ((Real.log 2 : ℝ) : EReal) * ((K j x : ℝ) : EReal)) = ((dotQK Q K i j / Real.log 2 : ℝ) : EReal) := by
      unfold dotQK
      rw [Finset.sum_div, coe_sum]
      refine Finset.sum_congr rfl fun x _ => ?_
      rw [div_real _ _ log_two_ne, ← EReal.coe_mul]; congr 1; ring
    rw [hs, ← EReal.coe_sub, Ideal.exp2_coe]
    congr 1
    unfold wtR
    rw [if_pos h']
    have hp := totR_pos Q K M i
    generalize totR Q K M i = L at hp ⊢
    show (2 : ℝ) ^ (_ : ℝ) = _
    rw [Real.rpow_def_of_pos (by norm_num : (0 : ℝ) < 2)]
    have e : Real.log 2 * (dotQK Q K i j / Real.log 2 - (M + Real.log L) / Real.log 2) = (dotQK Q K i j - M) - Real.log L := by
      have := log_two_ne
      field_simp
      ring
    rw [e, Real.exp_sub, Real.exp_log hp]

/-- The gradient of a score, as a number. -/
def dsR (V G : Fin 4096 → Fin 128 → ℝ) (Q K : Fin 4096 → Fin 256 → ℝ) (M : ℝ) (i j : Fin 4096) : ℝ :=
  wtR Q K M i j / totR Q K M i * (dotGV V G i j - ∑ j', wtR Q K M i j' / totR Q K M i * dotGV V G i j')

include hM in
theorem ds_real (j : Fin 4096) : ds (up Q) (up K) (up V) (up G) i j = ((dsR V G Q K M i j : ℝ) : EReal) := by
  have hp := (totR_pos Q K M i).ne'
  unfold ds dsR
  by_cases h : j.val ≤ i.val
  · rw [if_pos h]
    have hs : (∑ j', dpr (up V) (up G) i j' * Ideal.div 1 (tot (up Q) (up K) i * tot (up Q) (up K) i) * wt (up Q) (up K) i j')
        = ((∑ j', dotGV V G i j' * (1 / (totR Q K M i * totR Q K M i)) * wtR Q K M i j' : ℝ) : EReal) := by
      rw [coe_sum]
      refine Finset.sum_congr rfl fun j' _ => ?_
      rw [dpr_real, wt_real hM, tot_real hM, ← EReal.coe_mul, ← EReal.coe_one, div_real _ _ (mul_ne_zero hp hp), EReal.coe_mul, EReal.coe_mul]
    rw [hs, dpr_real, tot_real hM, wt_real hM, div_real _ _ hp, ← EReal.coe_neg, ← EReal.coe_add, ← EReal.coe_mul]
    congr 1
    have e : (∑ j', dotGV V G i j' * (1 / (totR Q K M i * totR Q K M i)) * wtR Q K M i j')
        = (∑ j', wtR Q K M i j' / totR Q K M i * dotGV V G i j') / totR Q K M i := by
      rw [Finset.sum_div]
      refine Finset.sum_congr rfl fun j' _ => ?_
      field_simp
    rw [e]
    field_simp
    ring
  · rw [if_neg h]
    unfold wtR
    rw [if_neg h, zero_div, zero_mul, EReal.coe_zero]

include hM in
/-- The kernel's gradient of a score: the probability times the probability's gradient less the row's product of
    output and output gradient. -/
theorem dscore_eq (j : Fin 4096) : KernelIdeal.Body.dscore (head (up Q) (up K) (up V) (up G)) i j = ds (up Q) (up K) (up V) (up G) i j := by
  unfold KernelIdeal.Body.dscore
  rw [prob_eq V G hM, pr_real hM, ds_real V G hM]
  show ((_ : ℝ) : EReal) * (dpr (up V) (up G) i j - ∑ x, ((G i x : ℝ) : EReal) * out (up Q) (up K) (up V) i x) = _
  have ho : (∑ x, ((G i x : ℝ) : EReal) * out (up Q) (up K) (up V) i x) = ((∑ j', wtR Q K M i j' / totR Q K M i * dotGV V G i j' : ℝ) : EReal) := by
    have : ∀ x, out (up Q) (up K) (up V) i x = ((∑ j', V j' x * (wtR Q K M i j' / totR Q K M i) : ℝ) : EReal) := fun x => by
      unfold out
      rw [coe_sum]
      exact Finset.sum_congr rfl fun j' _ => by rw [pr_real hM, EReal.coe_mul]
    simp only [this, ← EReal.coe_mul, ← coe_sum]
    congr 1
    unfold dotGV
    simp only [Finset.mul_sum]
    rw [Finset.sum_comm]
    exact Finset.sum_congr rfl fun j' _ => Finset.sum_congr rfl fun x _ => by ring
  rw [ho, dpr_real, ← EReal.coe_sub, ← EReal.coe_mul]
  rfl

end Row

/-- The key gradient: the scaling of the queries by one over log two is undone by log two. -/
theorem dk_eq (j : Fin 4096) (d : Fin 256) :
    (∑ i, KernelIdeal.Body.dscore (head (up Q) (up K) (up V) (up G)) i j * (head (up Q) (up K) (up V) (up G)).Q i d) * ((Real.log 2 : ℝ) : EReal)
      = ∑ i, ds (up Q) (up K) (up V) (up G) i j * ((Q i d : ℝ) : EReal) := by
  choose M hM using top_real Q K
  have e : ∀ i, KernelIdeal.Body.dscore (head (up Q) (up K) (up V) (up G)) i j * (head (up Q) (up K) (up V) (up G)).Q i d
      = ((dsR V G Q K (M i) i j * (Q i d / Real.log 2) : ℝ) : EReal) := fun i => by
    rw [dscore_eq V G (hM i), ds_real V G (hM i)]
    show _ * Ideal.div ((Q i d : ℝ) : EReal) (Ideal.log ((2 : ℝ) : EReal)) = _
    rw [log_two, div_real _ _ log_two_ne, ← EReal.coe_mul]
  have e' : ∀ i, ds (up Q) (up K) (up V) (up G) i j * ((Q i d : ℝ) : EReal) = ((dsR V G Q K (M i) i j * Q i d : ℝ) : EReal) := fun i => by
    rw [ds_real V G (hM i), ← EReal.coe_mul]
  simp only [e, e', ← coe_sum, ← EReal.coe_mul]
  congr 1
  rw [Finset.sum_mul]
  refine Finset.sum_congr rfl fun i _ => ?_
  have := log_two_ne
  field_simp

end Real

end Cert.Attention

end
-- ==== Proof.Blocks.lean ====
/-
  The blocks a grid point's steps find, read in the arrays: each input window holds the block its own point names,
  whenever it was fetched.
-/
module

public import proofs.«01_k».proof.Proof.Head
public import proofs.«01_k».proof.Proof.Data
public import Idealize.ShloMosaic.Lib.Pipeline.ValueKit.Geometry

@[expose] public section

set_option maxRecDepth 16384

noncomputable section

namespace Cert.KernelIdeal.Body

open Idealize.ShloMosaic Idealize.ShloMosaic.TcCoe
open Idealize.SL Idealize.SL.RA
open Idealize.ShloMosaic.Pipeline (Dat Cfg Window BodyObligation cellOf arrRef heldIn)
open Cert.KernelIdeal.Gen

variable {F : FTy → Type} [FloatOps F] [Named F]

/-- The column of a head's lane: in an array of 256 lanes a head, and of 128. -/
def wide (h : Fin 16) (d : Fin 256) : Fin 4096 := ⟨h.val * 256 + d.val, by omega⟩
def narrow (h : Fin 16) (d : Fin 128) : Fin 2048 := ⟨h.val * 128 + d.val, by omega⟩

section Data

variable (c : Dev nD) (V : (b : Ref sig .tc) → Buf (Elt F) ((c.tc : Thread nD τ).loc b))

/-- An input window holds the block its own point names, whenever it was fetched. -/
theorem heldIn_own (w : Fin 9) (hin : ((cfgT (F := F)).win w).isOut = false) (hc : ∀ i i', ((cfgT (F := F)).win w).clip i = ((cfgT (F := F)).win w).clip i') :
    ∀ n (hn : n < grid0.N), heldIn cfgT (arrs c V) w n hn
      = (dats 0 c V).fetched w ⟨n, hn⟩ (fun _ => Classical.arbitrary _) := by
  intro n
  induction n with
  | zero => intro hn; rfl
  | succ n ih =>
    intro hn
    cases hf : ((cfgT (F := F)).win w).fetch ⟨n + 1, hn⟩ with
    | true => exact Pipeline.heldIn_of_fetch (cfg := cfgT (F := F)) (arrs c V) w ⟨n + 1, hn⟩ hf
    | false =>
      refine (Pipeline.heldIn_of_not_fetch (cfg := cfgT (F := F)) (arrs c V) w n hn hf).trans ((ih (by omega)).trans ?_)
      refine Dat.fetched_congr (dats 0 c V) w ?_ (hc _ _) _
      unfold Window.fetch at hf
      rw [hin] at hf
      simp only [Bool.not_false, Bool.true_and, Bool.or_eq_false_iff, decide_eq_false_iff_not, not_exists, not_not] at hf
      exact (hf.2 (by show 0 < n + 1; omega)).symm

theorem q_at (t : Fin grid0.N) (i : Fin 1024) (d : Fin 256) :
    (ins c V t).q (ix2 i d) = V main_v30 (ix2 (inTile (qTile (stepOf (grid0.coords t))) i) (wide (headOf (grid0.coords t)) d)) := by
  refine (congrFun (heldIn_own c V 0 rfl (fun _ _ => rfl) t.val t.isLt) (ix2 i d)).trans ?_
  show V main_v30 ((((cfgT (F := F)).win 0).blk t).view.emb (ix2 i d)) = _
  refine congrArg (V main_v30) (funext fun a => Fin.ext ?_)
  have e : ((cfgT (F := F)).win 0).index t = _ := map0 (F := F) (grid0.coords t)
  blk_simp
  rw [e]
  change Fin 2 at a
  match a with
  | 0 => show (qTile (stepOf (grid0.coords t))).val * 1024 + i.val = 1024 * (qTile (stepOf (grid0.coords t))).val + i.val; omega
  | 1 => rfl
theorem k_at (t : Fin grid0.N) (i : Fin 1024) (d : Fin 256) :
    (ins c V t).k (ix2 i d) = V main_v31 (ix2 (inTile (kTile (stepOf (grid0.coords t))) i) (wide (headOf (grid0.coords t)) d)) := by
  refine (congrFun (heldIn_own c V 1 rfl (fun _ _ => rfl) t.val t.isLt) (ix2 i d)).trans ?_
  show V main_v31 ((((cfgT (F := F)).win 1).blk t).view.emb (ix2 i d)) = _
  refine congrArg (V main_v31) (funext fun a => Fin.ext ?_)
  have e : ((cfgT (F := F)).win 1).index t = _ := map1 (F := F) (grid0.coords t)
  blk_simp
  rw [e]
  change Fin 2 at a
  match a with
  | 0 => show (kTile (stepOf (grid0.coords t))).val * 1024 + i.val = 1024 * (kTile (stepOf (grid0.coords t))).val + i.val; omega
  | 1 => rfl
theorem v_at (t : Fin grid0.N) (i : Fin 1024) (d : Fin 128) :
    (ins c V t).v (ix2 i d) = V main_v32 (ix2 (inTile (kTile (stepOf (grid0.coords t))) i) (narrow (headOf (grid0.coords t)) d)) := by
  refine (congrFun (heldIn_own c V 2 rfl (fun _ _ => rfl) t.val t.isLt) (ix2 i d)).trans ?_
  show V main_v32 ((((cfgT (F := F)).win 2).blk t).view.emb (ix2 i d)) = _
  refine congrArg (V main_v32) (funext fun a => Fin.ext ?_)
  have e : ((cfgT (F := F)).win 2).index t = _ := map2 (F := F) (grid0.coords t)
  blk_simp
  rw [e]
  change Fin 2 at a
  match a with
  | 0 => show (kTile (stepOf (grid0.coords t))).val * 1024 + i.val = 1024 * (kTile (stepOf (grid0.coords t))).val + i.val; omega
  | 1 => rfl
theorem g_at (t : Fin grid0.N) (i : Fin 1024) (d : Fin 128) :
    (ins c V t).g (ix2 i d) = V main_v33 (ix2 (inTile (qTile (stepOf (grid0.coords t))) i) (narrow (headOf (grid0.coords t)) d)) := by
  refine (congrFun (heldIn_own c V 3 rfl (fun _ _ => rfl) t.val t.isLt) (ix2 i d)).trans ?_
  show V main_v33 ((((cfgT (F := F)).win 3).blk t).view.emb (ix2 i d)) = _
  refine congrArg (V main_v33) (funext fun a => Fin.ext ?_)
  have e : ((cfgT (F := F)).win 3).index t = _ := map3 (F := F) (grid0.coords t)
  blk_simp
  rw [e]
  change Fin 2 at a
  match a with
  | 0 => show (qTile (stepOf (grid0.coords t))).val * 1024 + i.val = 1024 * (qTile (stepOf (grid0.coords t))).val + i.val; omega
  | 1 => rfl
theorem o_at (t : Fin grid0.N) (i : Fin 1024) (d : Fin 128) :
    (ins c V t).o (ix2 i d) = V main_v22 (ix2 (inTile (qTile (stepOf (grid0.coords t))) i) (narrow (headOf (grid0.coords t)) d)) := by
  refine (congrFun (heldIn_own c V 4 rfl (fun _ _ => rfl) t.val t.isLt) (ix2 i d)).trans ?_
  show V main_v22 ((((cfgT (F := F)).win 4).blk t).view.emb (ix2 i d)) = _
  refine congrArg (V main_v22) (funext fun a => Fin.ext ?_)
  have e : ((cfgT (F := F)).win 4).index t = _ := map4 (F := F) (grid0.coords t)
  blk_simp
  rw [e]
  change Fin 2 at a
  match a with
  | 0 => show (qTile (stepOf (grid0.coords t))).val * 1024 + i.val = 1024 * (qTile (stepOf (grid0.coords t))).val + i.val; omega
  | 1 => rfl
theorem l_at (t : Fin grid0.N) (i : Fin 1024) :
    (ins c V t).l (ix3 0 i 0) = V main_v27 (ix3 (headOf (grid0.coords t)) (inTile (qTile (stepOf (grid0.coords t))) i) 0) := by
  refine (congrFun (heldIn_own c V 5 rfl (fun _ _ => rfl) t.val t.isLt) (ix3 0 i 0)).trans ?_
  show V main_v27 ((((cfgT (F := F)).win 5).blk t).view.emb (ix3 0 i 0)) = _
  refine congrArg (V main_v27) (funext fun a => Fin.ext ?_)
  have e : ((cfgT (F := F)).win 5).index t = _ := map5 (F := F) (grid0.coords t)
  blk_simp
  rw [e]
  change Fin 3 at a
  match a with
  | 0 => show (headOf (grid0.coords t)).val * 1 + 0 = (headOf (grid0.coords t)).val; omega
  | 1 => show (qTile (stepOf (grid0.coords t))).val * 1024 + i.val = 1024 * (qTile (stepOf (grid0.coords t))).val + i.val; omega
  | 2 => rfl

/-! ## What the arrays hold at the end -/

/-- When an output is written back, by its blocks' indices. -/
theorem flush_by (w : Fin 9) (hout : ((cfgT (F := F)).win w).isOut = true) {A : Type} [DecidableEq A] (ι : Fin grid0.N → A)
    (hι : ∀ t t', ((cfgT (F := F)).win w).index t = ((cfgT (F := F)).win w).index t' ↔ ι t = ι t') (t : Fin grid0.N) :
    ((cfgT (F := F)).win w).flush t = true ↔ (t.val + 1 = grid0.N ∨ ∃ h : t.val + 1 < grid0.N, ι ⟨t.val + 1, h⟩ ≠ ι t) := by
  unfold Window.flush
  rw [hout]
  simp only [Bool.true_and, Bool.or_eq_true, decide_eq_true_eq]
  exact or_congr Iff.rfl (exists_congr fun h => not_congr (hι _ _))

theorem last_head : ∀ t : Fin grid0.N, (t.val + 1 = grid0.N ∨ ∃ h : t.val + 1 < grid0.N, headOf (grid0.coords ⟨t.val + 1, h⟩) ≠ headOf (grid0.coords t))
    ↔ stepOf (grid0.coords t) = 9 := by decide +kernel
theorem last_tile : ∀ t : Fin grid0.N, (t.val + 1 = grid0.N ∨ ∃ h : t.val + 1 < grid0.N,
      (kTile (stepOf (grid0.coords ⟨t.val + 1, h⟩)), headOf (grid0.coords ⟨t.val + 1, h⟩)) ≠ (kTile (stepOf (grid0.coords t)), headOf (grid0.coords t)))
    ↔ stepOf (grid0.coords t) = lastStep (kTile (stepOf (grid0.coords t))) := by decide +kernel

theorem flush_dq (t : Fin grid0.N) : ((cfgT (F := F)).win 6).flush t = true ↔ stepOf (grid0.coords t) = 9 := by
  refine (flush_by (F := F) 6 rfl (fun t => headOf (grid0.coords t)) (fun t t' => ?_) t).trans (last_head t)
  show cc0_transform_6 (grid0.coords t) = cc0_transform_6 (grid0.coords t') ↔ _
  rw [map6, map6]
  exact ⟨fun h => Fin.ext (congrFun h 1), fun h => by rw [h]⟩
theorem flush_dk (t : Fin grid0.N) : ((cfgT (F := F)).win 7).flush t = true ↔ stepOf (grid0.coords t) = lastStep (kTile (stepOf (grid0.coords t))) := by
  refine (flush_by (F := F) 7 rfl (fun t => (kTile (stepOf (grid0.coords t)), headOf (grid0.coords t))) (fun t t' => ?_) t).trans (last_tile t)
  show cc0_transform_7 Gen.k0_off1_inb Gen.numel1_S1 (tables (F := F)) (grid0.coords t) = cc0_transform_7 Gen.k0_off1_inb Gen.numel1_S1 (tables (F := F)) (grid0.coords t') ↔ _
  rw [map7, map7]
  exact ⟨fun h => Prod.ext (Fin.ext (congrFun h 0)) (Fin.ext (congrFun h 1)), fun h => by rw [(Prod.mk.inj h).1, (Prod.mk.inj h).2]⟩
theorem flush_dv (t : Fin grid0.N) : ((cfgT (F := F)).win 8).flush t = true ↔ stepOf (grid0.coords t) = lastStep (kTile (stepOf (grid0.coords t))) := by
  refine (flush_by (F := F) 8 rfl (fun t => (kTile (stepOf (grid0.coords t)), headOf (grid0.coords t))) (fun t t' => ?_) t).trans (last_tile t)
  show cc0_transform_8 Gen.k0_off1_inb Gen.numel1_S1 (tables (F := F)) (grid0.coords t) = cc0_transform_8 Gen.k0_off1_inb Gen.numel1_S1 (tables (F := F)) (grid0.coords t') ↔ _
  rw [map8, map8]
  exact ⟨fun h => Prod.ext (Fin.ext (congrFun h 0)) (Fin.ext (congrFun h 1)), fun h => by rw [(Prod.mk.inj h).1, (Prod.mk.inj h).2]⟩

theorem point_ext (t t' : Fin grid0.N) (hh : headOf (grid0.coords t) = headOf (grid0.coords t')) (hs : stepOf (grid0.coords t) = stepOf (grid0.coords t')) : t = t' := by
  rw [← pointNo_coords t, ← pointNo_coords t', hh, hs]

/-- The query gradient: what a head's last step leaves. -/
theorem arr_dq (h : Fin 16) (i : Fin 4096) (d : Fin 256) :
    (dats 0 c V).arrAt 6 grid0.N (ix2 i (wide h d)) = (accOf c V h 10).dq (ix2 i d) := by
  obtain ⟨ch, cs⟩ := coords_pointNo h 9
  have hd := Window.hdisj_of_index_inj ((cfgT (F := F)).win 6) fun t t' hf hf' he => by
    rw [flush_dq] at hf hf'
    have he' : cc0_transform_6 (grid0.coords t) = cc0_transform_6 (grid0.coords t') := he
    rw [map6, map6] at he'
    exact point_ext t t' (Fin.ext (congrFun he' 1)) (hf.trans hf'.symm)
  have hfl := (flush_dq (F := F) (pointNo h 9)).mpr cs
  have hy : ((((cfgT (F := F)).win 6).blk (pointNo h 9)).view.emb (ix2 i d)) = ix2 i (wide h d) := by
    refine funext fun a => Fin.ext ?_
    have e : ((cfgT (F := F)).win 6).index (pointNo h 9) = _ := map6 (grid0.coords (pointNo h 9))
    blk_simp
    rw [e, ch]
    change Fin 2 at a
    match a with
    | 0 => show 0 * 4096 + i.val = i.val; omega
    | 1 => rfl
  have := (dats 0 c V).arrAt_emb_eq_flushed 6 hd (pointNo h 9) hfl (ix2 i d)
  rw [hy] at this
  refine this.trans ?_
  show (accAfter c V (pointNo h 9)).dq (ix2 i d) = _
  unfold accAfter
  rw [ch, cs]
  rfl

theorem last_key : ∀ t : Fin 4, kTile (lastStep t) = t := by decide

/-- The key and value gradients: what a key tile's last step leaves. -/
theorem arr_dk (h : Fin 16) (t : Fin 4) (j : Fin 1024) (d : Fin 256) :
    (dats 0 c V).arrAt 7 grid0.N (ix2 (inTile t j) (wide h d)) = k0_pay6 (accOf c V h ((lastStep t).val + 1)).dk (ix2 j d) := by
  obtain ⟨ch, cs⟩ := coords_pointNo h (lastStep t)
  have ck : kTile (lastStep t) = t := last_key t
  have hd := Window.hdisj_of_index_inj ((cfgT (F := F)).win 7) fun t t' hf hf' he => by
    rw [flush_dk] at hf hf'
    have he' : cc0_transform_7 Gen.k0_off1_inb Gen.numel1_S1 (tables (F := F)) (grid0.coords t) = cc0_transform_7 Gen.k0_off1_inb Gen.numel1_S1 (tables (F := F)) (grid0.coords t') := he
    rw [map7, map7] at he'
    have hk : kTile (stepOf (grid0.coords t)) = kTile (stepOf (grid0.coords t')) := Fin.ext (congrFun he' 0)
    exact point_ext t t' (Fin.ext (congrFun he' 1)) (by rw [hf, hf', hk])
  have hfl := (flush_dk (F := F) (pointNo h (lastStep t))).mpr (by rw [cs, ck])
  have hy : ((((cfgT (F := F)).win 7).blk (pointNo h (lastStep t))).view.emb (ix2 j d)) = ix2 (inTile t j) (wide h d) := by
    refine funext fun a => Fin.ext ?_
    have e : ((cfgT (F := F)).win 7).index (pointNo h (lastStep t)) = _ := map7 (F := F) (grid0.coords (pointNo h (lastStep t)))
    blk_simp
    rw [e, ch, cs, ck]
    change Fin 2 at a
    match a with
    | 0 => show t.val * 1024 + j.val = 1024 * t.val + j.val; omega
    | 1 => rfl
  have := (dats 0 c V).arrAt_emb_eq_flushed 7 hd (pointNo h (lastStep t)) hfl (ix2 j d)
  rw [hy] at this
  refine this.trans ?_
  show k0_pay6 (accAfter c V (pointNo h (lastStep t))).dk (ix2 j d) = _
  unfold accAfter
  rw [ch, cs]
theorem arr_dv (h : Fin 16) (t : Fin 4) (j : Fin 1024) (d : Fin 128) :
    (dats 0 c V).arrAt 8 grid0.N (ix2 (inTile t j) (narrow h d)) = k0_pay7 (accOf c V h ((lastStep t).val + 1)).dv (ix2 j d) := by
  obtain ⟨ch, cs⟩ := coords_pointNo h (lastStep t)
  have ck : kTile (lastStep t) = t := last_key t
  have hd := Window.hdisj_of_index_inj ((cfgT (F := F)).win 8) fun t t' hf hf' he => by
    rw [flush_dv] at hf hf'
    have he' : cc0_transform_8 Gen.k0_off1_inb Gen.numel1_S1 (tables (F := F)) (grid0.coords t) = cc0_transform_8 Gen.k0_off1_inb Gen.numel1_S1 (tables (F := F)) (grid0.coords t') := he
    rw [map8, map8] at he'
    have hk : kTile (stepOf (grid0.coords t)) = kTile (stepOf (grid0.coords t')) := Fin.ext (congrFun he' 0)
    exact point_ext t t' (Fin.ext (congrFun he' 1)) (by rw [hf, hf', hk])
  have hfl := (flush_dv (F := F) (pointNo h (lastStep t))).mpr (by rw [cs, ck])
  have hy : ((((cfgT (F := F)).win 8).blk (pointNo h (lastStep t))).view.emb (ix2 j d)) = ix2 (inTile t j) (narrow h d) := by
    refine funext fun a => Fin.ext ?_
    have e : ((cfgT (F := F)).win 8).index (pointNo h (lastStep t)) = _ := map8 (F := F) (grid0.coords (pointNo h (lastStep t)))
    blk_simp
    rw [e, ch, cs, ck]
    change Fin 2 at a
    match a with
    | 0 => show t.val * 1024 + j.val = 1024 * t.val + j.val; omega
    | 1 => rfl
  have := (dats 0 c V).arrAt_emb_eq_flushed 8 hd (pointNo h (lastStep t)) hfl (ix2 j d)
  rw [hy] at this
  refine this.trans ?_
  show k0_pay7 (accAfter c V (pointNo h (lastStep t))).dv (ix2 j d) = _
  unfold accAfter
  rw [ch, cs]

end Data

end Cert.KernelIdeal.Body

end
-- ==== Proof.Reference.lean ====
/-
  The reference, operation by operation: what its results hold, as the attention's sums of one head.
-/
module

public import proofs.«01_k».proof.Proof.Gen.ReferenceIdeal.Run
public import proofs.«01_k».proof.Proof.Softmax
public import proofs.«01_k».proof.Proof.Blocks
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe
open Cert.ReferenceIdeal.Gen
open Cert.Attention
open Cert.KernelIdeal.Body (wide narrow)

/-- A head's lanes of an array. -/
abbrev lanes (X : FVec Ideal S4096x4096 .f32) (h : Fin 16) : Fin 4096 → Fin 256 → EReal := fun i x => X (ix2 i (wide h x))
abbrev lanes' (X : FVec Ideal S4096x2048 .f32) (h : Fin 16) : Fin 4096 → Fin 128 → EReal := fun i x => X (ix2 i (narrow h x))

/-- The causal mask of every head. -/
def causal : IVec S16x4096x4096 1 :=
  broadcastInDim S16x4096x4096 ![1, 2] bcast_S4096x4096_S16x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores. -/
def scoreArr (Q K : FVec Ideal S4096x4096 .f32) : FVec Ideal S16x4096x4096 .f32 :=
  select causal
    (Host.dotGeneral dot_S4096x16x256_S4096x16x256_S16x4096x4096_2_2_0_0_1_1 none (shapeCast _ Q shapeCasts_S4096x4096_S4096x16x256) (shapeCast _ K shapeCasts_S4096x4096_S4096x16x256))
    (broadcastInDim S16x4096x4096 ![] bcast_S_S16x4096x4096 (id (constant S_ .f32 0xFF800000#32)))

/-- The rows' greatest scores. -/
def greatestArr (S : FVec Ideal S16x4096x4096 .f32) : FVec Ideal S16x4096 .f32 :=
  Host.reduce FloatOps.maximumf S (constant S_ .f32 0xFF800000#32) reducesTo_S16x4096x4096_S16x4096_d2 h_S_

/-- The weights: the exponentials of the scores less their row's greatest. -/
def weightArr (S : FVec Ideal S16x4096x4096 .f32) (X : FVec Ideal S16x4096 .f32) : FVec Ideal S16x4096x4096 .f32 :=
  Host.exp (subf S (broadcastInDim S16x4096x4096 ![0, 1, 2] bcast_S16x4096x1_S16x4096x4096_0_1_2 (broadcastInDim S16x4096x1 ![0, 1] bcast_S16x4096_S16x4096x1_0_1
    (maximumf (broadcastInDim S16x4096 ![] bcast_S_S16x4096 (constant S_ .f32 0xFF800000#32)) X))))

/-- The rows' totals. -/
def totalArr (E : FVec Ideal S16x4096x4096 .f32) : FVec Ideal S16x4096x1 .f32 :=
  broadcastInDim S16x4096x1 ![0, 1] bcast_S16x4096_S16x4096x1_0_1
    (Host.reduceAdd E (constant S_ .f32 0x00000000#32) reducesTo_S16x4096x4096_S16x4096_d2 h_S_)

/-- The probabilities. -/
def probArr (E : FVec Ideal S16x4096x4096 .f32) (T : FVec Ideal S16x4096x1 .f32) : FVec Ideal S16x4096x4096 .f32 :=
  Host.divf E (broadcastInDim S16x4096x4096 ![0, 1, 2] bcast_S16x4096x1_S16x4096x4096_0_1_2 T)

/-- The output gradient by head. -/
def outArr (G : FVec Ideal S4096x2048 .f32) : FVec Ideal S16x128x4096 .f32 :=
  transpose S16x128x4096 [1, 2, 0] (shapeCast _ G shapeCasts_S4096x2048_S4096x16x128) transposes_S4096x16x128_S16x128x4096_1_2_0

/-- The probabilities' gradients. -/
def dprobArr (V G : FVec Ideal S4096x2048 .f32) : FVec Ideal S16x4096x4096 .f32 :=
  Host.dotGeneral dot_S16x128x4096_S4096x16x128_S16x4096x4096_1_2_2_0_0_1 none (outArr G) (shapeCast _ V shapeCasts_S4096x2048_S4096x16x128)

/-- The scores' gradients. -/
def dscoreArr (D E : FVec Ideal S16x4096x4096 .f32) (T : FVec Ideal S16x4096x1 .f32) : FVec Ideal S16x4096x4096 .f32 :=
  select causal
    (mulf (addf (Host.divf D (broadcastInDim S16x4096x4096 ![0, 1, 2] bcast_S16x4096x1_S16x4096x4096_0_1_2 T))
      (broadcastInDim S16x4096x4096 ![0, 1] bcast_S16x4096_S16x4096x4096_0_1
        (Host.reduceAdd (Host.negf (shapeCast S16x4096x1 (Host.reduceAdd
            (mulf (mulf D (broadcastInDim S16x4096x4096 ![0, 1, 2] bcast_S16x4096x1_S16x4096x4096_0_1_2
              (Host.divf (broadcastInDim S16x4096x1 ![] bcast_S_S16x4096x1 (constant S_ .f32 0x3F800000#32)) (mulf T T)))) E)
            (constant S_ .f32 0x00000000#32) reducesTo_S16x4096x4096_S16x4096_d2 h_S_) shapeCasts_S16x4096_S16x4096x1))
          (constant S_ .f32 0x00000000#32) reducesTo_S16x4096x1_S16x4096_d2 h_S_))) E)
    (broadcastInDim S16x4096x4096 ![] bcast_S_S16x4096x4096 (constant S_ .f32 0x00000000#32))

/-- The three gradients. -/
def dqArr (D : FVec Ideal S16x4096x4096 .f32) (K : FVec Ideal S4096x4096 .f32) : FVec Ideal S4096x4096 .f32 :=
  shapeCast _ (transpose S4096x16x256 [1, 0, 2]
    (Host.dotGeneral dot_S16x4096x4096_S4096x16x256_S16x4096x256_2_0_1_2_0_1 none D (shapeCast _ K shapeCasts_S4096x4096_S4096x16x256) : FVec Ideal S16x4096x256 .f32)
    transposes_S16x4096x256_S4096x16x256_1_0_2) shapeCasts_S4096x16x256_S4096x4096
def dkArr (D : FVec Ideal S16x4096x4096 .f32) (Q : FVec Ideal S4096x4096 .f32) : FVec Ideal S4096x4096 .bf16 :=
  truncf .bf16 (shapeCast S4096x4096 (transpose S4096x16x256 [1, 0, 2]
    (Host.dotGeneral dot_S16x4096x4096_S4096x16x256_S16x4096x256_1_0_2_2_0_1 none D (shapeCast _ Q shapeCasts_S4096x4096_S4096x16x256) : FVec Ideal S16x4096x256 .f32)
    transposes_S16x4096x256_S4096x16x256_1_0_2) shapeCasts_S4096x16x256_S4096x4096 : FVec Ideal S4096x4096 .f32) bitsLt_bf16_f32
def dvArr (P : FVec Ideal S16x4096x4096 .f32) (G : FVec Ideal S4096x2048 .f32) : FVec Ideal S4096x2048 .bf16 :=
  truncf .bf16 (shapeCast S4096x2048 (transpose S4096x16x128 [2, 0, 1]
    (Host.dotGeneral dot_S16x128x4096_S16x4096x4096_S16x128x4096_2_1_1_2_0_0 none (outArr G) P : FVec Ideal S16x128x4096 .f32)
    transposes_S16x128x4096_S4096x16x128_2_0_1) shapeCasts_S4096x16x128_S4096x2048 : FVec Ideal S4096x2048 .f32) bitsLt_bf16_f32

section Results

variable (m : (ℓ : Loc nD τ sig) → Buf (Elt Ideal) ℓ) (c : Dev nD)

/-- The arguments, and the stages of them. -/
abbrev argQ : FVec Ideal S4096x4096 .f32 := m ((c.tc : Thread nD τ).loc main_arg0)
abbrev argK : FVec Ideal S4096x4096 .f32 := m ((c.tc : Thread nD τ).loc main_arg1)
abbrev argV : FVec Ideal S4096x2048 .f32 := m ((c.tc : Thread nD τ).loc main_arg2)
abbrev argG : FVec Ideal S4096x2048 .f32 := m ((c.tc : Thread nD τ).loc main_arg3)
def weights : FVec Ideal S16x4096x4096 .f32 := weightArr (scoreArr (argQ m c) (argK m c)) (greatestArr (scoreArr (argQ m c) (argK m c)))
def totals : FVec Ideal S16x4096x1 .f32 := totalArr (weights m c)
def dscores : FVec Ideal S16x4096x4096 .f32 := dscoreArr (dprobArr (argV m c) (argG m c)) (weights m c) (totals m c)

theorem dq_stages : res_main_v66 m c = dqArr (dscores m c) (argK m c) := rfl
theorem dk_stages : res_main_v67 m c = dkArr (dscores m c) (argQ m c) := rfl
theorem dv_stages : res_main_v68 m c = dvArr (probArr (weights m c) (totals m c)) (argG m c) := rfl

end Results

/-! ## The stages, element by element -/

theorem least : Ideal.ofBits .f32 0xFF800000#32 = (⊥ : EReal) := by
  simp [Ideal.ofBits, Ideal.ieee]

theorem causal_select (i j : Fin 4096) (a b : EReal) :
    Scalar.select (IntOp.cmpi .sle (BitVec.ofNat 32 j.val) (BitVec.ofNat 32 i.val)) a b = if j.val ≤ i.val then a else b := by
  unfold Scalar.select
  by_cases h : j.val ≤ i.val
  · rw [if_pos h, if_pos]
    rw [show (1 : BitVec 1) = 1#1 from rfl, WordCmp.cmpi_sle_ofNat_eq_one_iff (by omega) (by omega)]; exact h
  · rw [if_neg h, if_neg]
    rw [show (1 : BitVec 1) = 1#1 from rfl, WordCmp.cmpi_sle_ofNat_eq_one_iff (by omega) (by omega)]; exact h

theorem scoreArr_at (Q K : FVec Ideal S4096x4096 .f32) (h : Fin 16) (i j : Fin 4096) :
    scoreArr Q K (ix3 h i j) = scr (lanes Q h) (lanes K h) i j := by
  unfold scr
  rw [← causal_select, ← least]
  pointwise [scoreArr, causal]
  rfl

theorem greatestArr_at (S : FVec Ideal S16x4096x4096 .f32) (h : Fin 16) (i : Fin 4096) :
    greatestArr S (ix2 h i) = Finset.univ.fold max ⊥ (fun j => S (ix3 h i j)) := by
  rw [← least]
  pointwise [greatestArr]

theorem weightArr_at (S : FVec Ideal S16x4096x4096 .f32) (X : FVec Ideal S16x4096 .f32) (h : Fin 16) (i j : Fin 4096) :
    weightArr S X (ix3 h i j) = Ideal.exp (S (ix3 h i j) - X (ix2 h i)) := by
  rw [← bot_sup_eq (X (ix2 h i)), ← least]
  pointwise [weightArr]

theorem totalArr_at (E : FVec Ideal S16x4096x4096 .f32) (h : Fin 16) (i : Fin 4096) :
    totalArr E (ix3 h i 0) = ∑ j, E (ix3 h i j) := by
  pointwise [totalArr]

theorem probArr_at (E : FVec Ideal S16x4096x4096 .f32) (T : FVec Ideal S16x4096x1 .f32) (h : Fin 16) (i j : Fin 4096) :
    probArr E T (ix3 h i j) = Ideal.div (E (ix3 h i j)) (T (ix3 h i 0)) := by
  pointwise [probArr]

theorem dprobArr_at (V G : FVec Ideal S4096x2048 .f32) (h : Fin 16) (i j : Fin 4096) :
    dprobArr V G (ix3 h i j) = dpr (lanes' V h) (lanes' G h) i j := by
  pointwise [dprobArr, outArr]
  rfl

theorem dscoreArr_at (D E : FVec Ideal S16x4096x4096 .f32) (T : FVec Ideal S16x4096x1 .f32) (h : Fin 16) (i j : Fin 4096) :
    dscoreArr D E T (ix3 h i j) = if j.val ≤ i.val then
      (Ideal.div (D (ix3 h i j)) (T (ix3 h i 0)) + -(∑ j', D (ix3 h i j') * Ideal.div 1 (T (ix3 h i 0) * T (ix3 h i 0)) * E (ix3 h i j'))) * E (ix3 h i j)
    else 0 := by
  rw [← causal_select]
  pointwise [dscoreArr, causal]
  rw [Fin.sum_univ_one]

theorem dqArr_at (D : FVec Ideal S16x4096x4096 .f32) (K : FVec Ideal S4096x4096 .f32) (h : Fin 16) (i : Fin 4096) (d : Fin 256) :
    dqArr D K (ix2 i (wide h d)) = ∑ j, D (ix3 h i j) * lanes K h j d := by
  unfold wide
  pointwise [dqArr]
  rfl
theorem dkArr_at (D : FVec Ideal S16x4096x4096 .f32) (Q : FVec Ideal S4096x4096 .f32) (h : Fin 16) (j : Fin 4096) (d : Fin 256) :
    dkArr D Q (ix2 j (wide h d)) = ∑ i, D (ix3 h i j) * lanes Q h i d := by
  unfold wide
  pointwise [dkArr]
  rfl
theorem dvArr_at (P : FVec Ideal S16x4096x4096 .f32) (G : FVec Ideal S4096x2048 .f32) (h : Fin 16) (j : Fin 4096) (d : Fin 128) :
    dvArr P G (ix2 j (narrow h d)) = ∑ i, P (ix3 h i j) * lanes' G h i d := by
  unfold narrow
  pointwise [dvArr, outArr]
  exact Finset.sum_congr rfl fun i _ => mul_comm _ _

/-! ## The results -/

section Values

variable (m : (ℓ : Loc nD τ sig) → Buf (Elt Ideal) ℓ) (c : Dev nD) (h : Fin 16)

theorem greatest_eq (Q K : FVec Ideal S4096x4096 .f32) (i : Fin 4096) :
    greatestArr (scoreArr Q K) (ix2 h i) = top (lanes Q h) (lanes K h) i := by
  rw [greatestArr_at]
  exact congrArg (Finset.univ.fold max ⊥) (funext fun j => scoreArr_at Q K h i j)

theorem weights_at (i j : Fin 4096) : weights m c (ix3 h i j) = wt (lanes (argQ m c) h) (lanes (argK m c) h) i j := by
  unfold weights
  rw [weightArr_at, scoreArr_at, greatest_eq]
  rfl

theorem totals_at (i : Fin 4096) : totals m c (ix3 h i 0) = tot (lanes (argQ m c) h) (lanes (argK m c) h) i := by
  unfold totals
  rw [totalArr_at]
  exact Finset.sum_congr rfl fun j _ => weights_at m c h i j

theorem dscores_at (i j : Fin 4096) : dscores m c (ix3 h i j)
    = ds (lanes (argQ m c) h) (lanes (argK m c) h) (lanes' (argV m c) h) (lanes' (argG m c) h) i j := by
  unfold dscores
  rw [dscoreArr_at]
  simp only [dprobArr_at, weights_at, totals_at]
  rfl

theorem dq_value (i : Fin 4096) (d : Fin 256) : dqArr (dscores m c) (argK m c) (ix2 i (wide h d))
    = ∑ j, ds (lanes (argQ m c) h) (lanes (argK m c) h) (lanes' (argV m c) h) (lanes' (argG m c) h) i j * lanes (argK m c) h j d := by
  rw [dqArr_at]; simp only [dscores_at]
theorem dk_value (j : Fin 4096) (d : Fin 256) : dkArr (dscores m c) (argQ m c) (ix2 j (wide h d))
    = ∑ i, ds (lanes (argQ m c) h) (lanes (argK m c) h) (lanes' (argV m c) h) (lanes' (argG m c) h) i j * lanes (argQ m c) h i d := by
  rw [dkArr_at]; simp only [dscores_at]
theorem dv_value (j : Fin 4096) (d : Fin 128) : dvArr (probArr (weights m c) (totals m c)) (argG m c) (ix2 j (narrow h d))
    = ∑ i, pr (lanes (argQ m c) h) (lanes (argK m c) h) i j * lanes' (argG m c) h i d := by
  rw [dvArr_at]; simp only [probArr_at, weights_at, totals_at]; rfl

end Values

end Cert.ReferenceIdeal.Value

end
-- ==== Proof.Prefix.lean ====
/-
  What the kernel's host lines hand to the pipeline, element by element: the scaled queries, the keys, values and output
  gradient as they are, the attention's output and the scaled log of its rows' totals.
-/
module

public import proofs.«01_k».proof.Proof.Reference
public import proofs.«01_k».proof.Proof.Run

@[expose] public section

set_option maxRecDepth 16384

noncomputable section

namespace Cert.KernelIdeal.Body

open Idealize.ShloMosaic Idealize.ShloMosaic.TcCoe
open Cert.KernelIdeal.Gen
open Cert.Attention
open Cert.ReferenceIdeal.Value (lanes lanes' scoreArr greatestArr totalArr probArr)

/-- The weights, the output and the scaled logs the host lines compute. -/
def hostWeight (S : FVec Ideal S16x4096x4096 .f32) (X : FVec Ideal S16x4096x1 .f32) : FVec Ideal S16x4096x4096 .f32 :=
  Host.exp (subf S (broadcastInDim S16x4096x4096 ![0, 1, 2] bcast_S16x4096x1_S16x4096x4096_0_1_2 X))
def hostTop (X : FVec Ideal S16x4096 .f32) : FVec Ideal S16x4096x1 .f32 := broadcastInDim S16x4096x1 ![0, 1] bcast_S16x4096_S16x4096x1_0_1 X
def hostOut (P : FVec Ideal S16x4096x4096 .f32) (V : FVec Ideal S4096x2048 .f32) : FVec Ideal S4096x2048 .f32 :=
  shapeCast _ (transpose S4096x16x128 [2, 0, 1]
    (Host.dotGeneral dot_S4096x16x128_S16x4096x4096_S16x128x4096_0_2_2_1_1_0 none (shapeCast _ V shapeCasts_S4096x2048_S4096x16x128) P : FVec Ideal S16x128x4096 .f32)
    transposes_S16x128x4096_S4096x16x128_2_0_1) shapeCasts_S4096x16x128_S4096x2048
def hostLog2 : FVec Ideal S_ .f32 := Host.log (constant S_ .f32 0x40000000#32)
def hostLse (X T : FVec Ideal S16x4096x1 .f32) : FVec Ideal S16x4096x1 .f32 :=
  Host.divf (addf X (Host.log T)) (broadcastInDim S16x4096x1 ![] bcast_S_S16x4096x1 hostLog2)
def hostScaled (Q : FVec Ideal S4096x4096 .f32) : FVec Ideal S4096x4096 .bf16 :=
  truncf .bf16 (Host.divf Q (broadcastInDim S4096x4096 ![] bcast_S_S4096x4096 hostLog2)) bitsLt_bf16_f32

variable (m : (ℓ : Loc nD τ sig) → Buf (Elt Ideal) ℓ) (c : Dev nD)

abbrev inQ : FVec Ideal S4096x4096 .f32 := m ((c.tc : Thread nD τ).loc main_arg0)
abbrev inK : FVec Ideal S4096x4096 .f32 := m ((c.tc : Thread nD τ).loc main_arg1)
abbrev inV : FVec Ideal S4096x2048 .f32 := m ((c.tc : Thread nD τ).loc main_arg2)
abbrev inG : FVec Ideal S4096x2048 .f32 := m ((c.tc : Thread nD τ).loc main_arg3)
def tops : FVec Ideal S16x4096x1 .f32 := hostTop (greatestArr (scoreArr (inQ m c) (inK m c)))
def weights : FVec Ideal S16x4096x4096 .f32 := hostWeight (scoreArr (inQ m c) (inK m c)) (tops m c)

theorem V_q : V m c main_v30 = hostScaled (inQ m c) := by
  unfold V lines
  after_reads_simp
  rfl
theorem V_k : V m c main_v31 = truncf .bf16 (inK m c) bitsLt_bf16_f32 := by
  unfold V lines
  after_reads_simp
  try rfl
theorem V_v : V m c main_v32 = truncf .bf16 (inV m c) bitsLt_bf16_f32 := by
  unfold V lines
  after_reads_simp
  try rfl
theorem V_g : V m c main_v33 = truncf .bf16 (inG m c) bitsLt_bf16_f32 := by
  unfold V lines
  after_reads_simp
  try rfl
theorem V_o : V m c main_v22 = hostOut (probArr (weights m c) (totalArr (weights m c))) (inV m c) := by
  unfold V lines
  after_reads_simp
  rfl
theorem V_l : V m c main_v27 = hostLse (tops m c) (totalArr (weights m c)) := by
  unfold V lines
  after_reads_simp
  rfl

theorem two : Ideal.ofBits .f32 0x40000000#32 = ((2 : ℝ) : EReal) := by
  simp [Ideal.ofBits, Ideal.ieee, -EReal.coe_mul]
  try norm_num

theorem hostScaled_at (Q : FVec Ideal S4096x4096 .f32) (i j : Fin 4096) : hostScaled Q (ix2 i j) = Ideal.div (Q (ix2 i j)) (Ideal.log ((2 : ℝ) : EReal)) := by
  rw [← two]
  pointwise [hostScaled, hostLog2]
theorem hostLse_at (X T : FVec Ideal S16x4096x1 .f32) (h : Fin 16) (i : Fin 4096) :
    hostLse X T (ix3 h i 0) = Ideal.div (X (ix3 h i 0) + Ideal.log (T (ix3 h i 0))) (Ideal.log ((2 : ℝ) : EReal)) := by
  rw [← two]
  pointwise [hostLse, hostLog2]
theorem hostOut_at (P : FVec Ideal S16x4096x4096 .f32) (W : FVec Ideal S4096x2048 .f32) (h : Fin 16) (i : Fin 4096) (d : Fin 128) :
    hostOut P W (ix2 i (narrow h d)) = ∑ j, W (ix2 j (narrow h d)) * P (ix3 h i j) := by
  unfold narrow
  pointwise [hostOut]
theorem hostTop_at (X : FVec Ideal S16x4096 .f32) (h : Fin 16) (i : Fin 4096) : hostTop X (ix3 h i 0) = X (ix2 h i) := by
  pointwise [hostTop]
theorem hostWeight_at (S : FVec Ideal S16x4096x4096 .f32) (X : FVec Ideal S16x4096x1 .f32) (h : Fin 16) (i j : Fin 4096) :
    hostWeight S X (ix3 h i j) = Ideal.exp (S (ix3 h i j) - X (ix3 h i 0)) := by
  pointwise [hostWeight]

theorem tops_at (h : Fin 16) (i : Fin 4096) : tops m c (ix3 h i 0) = top (lanes (inQ m c) h) (lanes (inK m c) h) i := by
  unfold tops
  rw [hostTop_at]
  exact Cert.ReferenceIdeal.Value.greatest_eq h (inQ m c) (inK m c) i
theorem weights_at (h : Fin 16) (i j : Fin 4096) : weights m c (ix3 h i j) = wt (lanes (inQ m c) h) (lanes (inK m c) h) i j := by
  unfold weights
  rw [hostWeight_at, tops_at]
  exact congrArg (fun s => Ideal.exp (s - _)) (Cert.ReferenceIdeal.Value.scoreArr_at (inQ m c) (inK m c) h i j)
theorem totals_at (h : Fin 16) (i : Fin 4096) : totalArr (weights m c) (ix3 h i 0) = tot (lanes (inQ m c) h) (lanes (inK m c) h) i := by
  rw [Cert.ReferenceIdeal.Value.totalArr_at]
  exact Finset.sum_congr rfl fun j _ => weights_at m c h i j

/-- The head the kernel works on. -/
abbrev headOn (h : Fin 16) : Head := Attention.head (lanes (inQ m c) h) (lanes (inK m c) h) (lanes' (inV m c) h) (lanes' (inG m c) h)

/-- The blocks a head's steps find are its own. -/
theorem blocks_held (h : Fin 16) : Blocks (headOn m c h) (fun s => ins c (V m c) (pointNo h s)) where
  q s i d := by
    refine (q_at c (V m c) (pointNo h s) i d).trans ?_
    rw [(coords_pointNo h s).1, (coords_pointNo h s).2, V_q, hostScaled_at]
    rfl
  k s j d := by
    refine (k_at c (V m c) (pointNo h s) j d).trans ?_
    rw [(coords_pointNo h s).1, (coords_pointNo h s).2, V_k]
    rfl
  v s j d := by
    refine (v_at c (V m c) (pointNo h s) j d).trans ?_
    rw [(coords_pointNo h s).1, (coords_pointNo h s).2, V_v]
    rfl
  g s i d := by
    refine (g_at c (V m c) (pointNo h s) i d).trans ?_
    rw [(coords_pointNo h s).1, (coords_pointNo h s).2, V_g]
    rfl
  o s i d := by
    refine (o_at c (V m c) (pointNo h s) i d).trans ?_
    rw [(coords_pointNo h s).1, (coords_pointNo h s).2, V_o, hostOut_at]
    show _ = ∑ j, lanes' (inV m c) h j d * pr (lanes (inQ m c) h) (lanes (inK m c) h) (inTile (qTile s) i) j
    refine Finset.sum_congr rfl fun j _ => ?_
    rw [Cert.ReferenceIdeal.Value.probArr_at, weights_at, totals_at]
    rfl
  l s i := by
    refine (l_at c (V m c) (pointNo h s) i).trans ?_
    rw [(coords_pointNo h s).1, (coords_pointNo h s).2, V_l, hostLse_at, tops_at, totals_at]
    rfl

end Cert.KernelIdeal.Body

end
-- ==== Proof.Finite.lean ====
/-
  The precondition, element by element: every argument is a number.
-/
module

public import proofs.«01_k».proof.Pre_finite
public import Idealize.ShloMosaic.Lib.ReduceAll
public import Idealize.ShloMosaic.Lib.Pointwise

@[expose] public section

noncomputable section

namespace Cert.Pre_finite

open Idealize.ShloMosaic
open Facts
variable [Facts]

/-- A value whose absolute value is below the top is a number. -/
theorem real_of_abs (x : EReal)
    (h : FloatOps.cmpf (F := Ideal) (φ := .f32) .olt (FloatOps.absf (F := Ideal) (φ := .f32) x)
      (Ideal.ofBits .f32 0x7F800000#32) = 1#1) : ∃ r : ℝ, x = (r : EReal) := by
  have top : Ideal.ofBits .f32 0x7F800000#32 = ⊤ := by simp [Ideal.ofBits, Ideal.ieee]
  rw [top] at h
  induction x with
  | bot => simp [FloatOps.cmpf, FloatOps.absf, Ideal.cmp] at h
  | top => simp [FloatOps.cmpf, FloatOps.absf, Ideal.cmp] at h
  | coe r => exact ⟨r, rfl⟩

/-- The test of one array, of any shape: all its elements are numbers. -/
theorem array_real {s : Shape} {axes : List (Fin s.rank)} (x : FVec Ideal s .f32) (b : S_.BroadcastsInDim s ![])
    (r : s.ReducesTo axes S_)
    (h : Host.reduce IntOp.andi (cmpf .olt (Host.absf x) (broadcastInDim s ![] b (constant S_ .f32 0x7F800000#32)))
      (constantI S_ 1 1#1) r h_S_ ix0 = 1#1) (i : s.Idx) : ∃ y : ℝ, x i = (y : EReal) :=
  real_of_abs _ (Host.reduce_andi_eq_one _ _ _ _ _ h i (Subsingleton.elim _ _))

/-- Both bits of a conjunction that is one are one. -/
theorem both {a b : BitVec 1} : a &&& b = 1#1 → a = 1#1 ∧ b = 1#1 := by
  revert a b
  decide

/-- What the precondition says of the four arguments: their elements are numbers. -/
theorem all_real {q k : FVec Ideal S4096x4096 .f32} {v g : FVec Ideal S4096x2048 .f32} (h : fn (F := Ideal) q k v g = fun _ => 1#1) :
    (∀ i, ∃ y : ℝ, q i = (y : EReal)) ∧ (∀ i, ∃ y : ℝ, k i = (y : EReal)) ∧ (∀ i, ∃ y : ℝ, v i = (y : EReal)) ∧
      ∀ i, ∃ y : ℝ, g i = (y : EReal) := by
  obtain ⟨h3, hg⟩ := both (congrFun h ix0)
  obtain ⟨h2, hv⟩ := both h3
  obtain ⟨hq, hk⟩ := both h2
  exact ⟨array_real q _ _ hq, array_real k _ _ hk, array_real v _ _ hv, array_real g _ _ hg⟩

end Cert.Pre_finite

end
-- ==== Proof.Value.lean ====
/-
  The two programs give the same three gradients.
-/
module

public import proofs.«01_k».proof.Proof.Prefix
public import proofs.«01_k».proof.Proof.Finite
public import proofs.«01_k».proof.Proof.Frames
public import proofs.«01_k».proof.Proof.Gen.Pre_finite

@[expose] public section

set_option maxRecDepth 16384

noncomputable section

namespace Cert.KernelIdeal.Body

open Idealize.ShloMosaic Idealize.ShloMosaic.TcCoe Idealize.SL.Sem
open Cert.KernelIdeal.Gen Cert.Attention
open Cert.ReferenceIdeal.Value (lanes lanes')

/-! A row and a column of the arrays, as a tile's row and a head's column. -/

theorem row_split (i : Fin 4096) : ∃ t j, i = inTile t j :=
  ⟨⟨i.val / 1024, by omega⟩, ⟨i.val % 1024, by omega⟩, Fin.ext (by show i.val = 1024 * (i.val / 1024) + i.val % 1024; omega)⟩
theorem wide_split (i : Fin 4096) : ∃ h d, i = wide h d :=
  ⟨⟨i.val / 256, by omega⟩, ⟨i.val % 256, by omega⟩, Fin.ext (by show i.val = i.val / 256 * 256 + i.val % 256; omega)⟩
theorem narrow_split (i : Fin 2048) : ∃ h d, i = narrow h d :=
  ⟨⟨i.val / 128, by omega⟩, ⟨i.val % 128, by omega⟩, Fin.ext (by show i.val = i.val / 128 * 128 + i.val % 128; omega)⟩

/-- An array of numbers, a head's columns read as reals. -/
theorem lanes_up {X : FVec Ideal S4096x4096 .f32} (r : ∀ i, ∃ y : ℝ, X i = (y : EReal)) (h : Fin 16) :
    lanes X h = up fun i d => (X (ix2 i (wide h d))).toReal :=
  funext fun i => funext fun d => by
    obtain ⟨y, e⟩ := r (ix2 i (wide h d))
    show X (ix2 i (wide h d)) = ((X (ix2 i (wide h d))).toReal : EReal)
    rw [e, EReal.toReal_coe]
theorem lanes_up' {X : FVec Ideal S4096x2048 .f32} (r : ∀ i, ∃ y : ℝ, X i = (y : EReal)) (h : Fin 16) :
    lanes' X h = up fun i d => (X (ix2 i (narrow h d))).toReal :=
  funext fun i => funext fun d => by
    obtain ⟨y, e⟩ := r (ix2 i (narrow h d))
    show X (ix2 i (narrow h d)) = ((X (ix2 i (narrow h d))).toReal : EReal)
    rw [e, EReal.toReal_coe]

section

variable (m : (ℓ : Loc nD τ sig) → Buf (Elt Ideal) ℓ) (c : Dev nD)

/-- The kernel's three arrays at the attention's formulas, over arguments that are numbers. -/
theorem dq_kernel (hq : ∀ i, ∃ y : ℝ, inQ m c i = (y : EReal)) (hk : ∀ i, ∃ y : ℝ, inK m c i = (y : EReal))
    (hv : ∀ i, ∃ y : ℝ, inV m c i = (y : EReal)) (hg : ∀ i, ∃ y : ℝ, inG m c i = (y : EReal)) (h : Fin 16) (i : Fin 4096) (d : Fin 256) :
    (dats 0 c (V m c)).arrAt 6 grid0.N (ix2 i (wide h d))
      = ∑ j, ds (lanes (inQ m c) h) (lanes (inK m c) h) (lanes' (inV m c) h) (lanes' (inG m c) h) i j * lanes (inK m c) h j d := by
  refine (arr_dq c (V m c) h i d).trans ((head_dq (blocks_held m c h) i d).trans ?_)
  unfold headOn
  rw [lanes_up hq, lanes_up hk, lanes_up' hv, lanes_up' hg]
  obtain ⟨M, e⟩ := top_real (fun i d => (inQ m c (ix2 i (wide h d))).toReal) (fun i d => (inK m c (ix2 i (wide h d))).toReal) i
  refine Finset.sum_congr rfl fun j _ => ?_
  rw [dscore_eq _ _ e]
  rfl
theorem dk_kernel (hq : ∀ i, ∃ y : ℝ, inQ m c i = (y : EReal)) (hk : ∀ i, ∃ y : ℝ, inK m c i = (y : EReal))
    (hv : ∀ i, ∃ y : ℝ, inV m c i = (y : EReal)) (hg : ∀ i, ∃ y : ℝ, inG m c i = (y : EReal)) (h : Fin 16) (j : Fin 4096) (d : Fin 256) :
    (dats 0 c (V m c)).arrAt 7 grid0.N (ix2 j (wide h d))
      = ∑ i, ds (lanes (inQ m c) h) (lanes (inK m c) h) (lanes' (inV m c) h) (lanes' (inG m c) h) i j * lanes (inQ m c) h i d := by
  obtain ⟨t, j, rfl⟩ := row_split j
  refine (arr_dk c (V m c) h t j d).trans ((out_dk _ j d).trans ?_)
  show (_ : EReal) * _ = _
  rw [show (accOf c (V m c) h ((lastStep t).val + 1)).dk (ix2 j d) = _ from head_dk (blocks_held m c h) t j d]
  unfold headOn
  rw [lanes_up hq, lanes_up hk, lanes_up' hv, lanes_up' hg]
  exact dk_eq _ _ _ _ _ _
theorem dv_kernel (hq : ∀ i, ∃ y : ℝ, inQ m c i = (y : EReal)) (hk : ∀ i, ∃ y : ℝ, inK m c i = (y : EReal))
    (hv : ∀ i, ∃ y : ℝ, inV m c i = (y : EReal)) (hg : ∀ i, ∃ y : ℝ, inG m c i = (y : EReal)) (h : Fin 16) (j : Fin 4096) (d : Fin 128) :
    (dats 0 c (V m c)).arrAt 8 grid0.N (ix2 j (narrow h d))
      = ∑ i, pr (lanes (inQ m c) h) (lanes (inK m c) h) i j * lanes' (inG m c) h i d := by
  obtain ⟨t, j, rfl⟩ := row_split j
  refine (arr_dv c (V m c) h t j d).trans ((out_dv _ j d).trans ((head_dv (blocks_held m c h) t j d).trans ?_))
  unfold headOn
  rw [lanes_up hq, lanes_up hk, lanes_up' hv, lanes_up' hg]
  refine Finset.sum_congr rfl fun i _ => ?_
  obtain ⟨M, e⟩ := top_real (fun i d => (inQ m c (ix2 i (wide h d))).toReal) (fun i d => (inK m c (ix2 i (wide h d))).toReal) i
  rw [prob_eq _ _ e]
  rfl

end

end Cert.KernelIdeal.Body

namespace Cert.Proof

open Idealize.ShloMosaic Idealize.ShloMosaic.TcCoe Idealize.SL.Sem
open Cert.KernelIdeal Cert.KernelIdeal.Gen Cert.KernelIdeal.Body

set_option maxHeartbeats 2000000 in
/-- The kernel and the reference end with the same gradients. -/
theorem same_gradients : @Cert.algebraic_KernelIdeal_ReferenceIdeal_pre_finite Cert.KernelIdeal.Gen.facts Cert.ReferenceIdeal.Gen.facts Cert.Pre_finite.Gen.facts := by
  intro m g m' g' hpre hargs
  have hreal := fun c => Cert.Pre_finite.all_real (hpre c)
  refine ⟨fun c => Cert.ReferenceIdeal.Value.res_main_v66 m' c, fun c => Cert.ReferenceIdeal.Value.res_main_v67 m' c,
    fun c => Cert.ReferenceIdeal.Value.res_main_v68 m' c, ?_, Cert.ReferenceIdeal.Value.run m' g'⟩
  refine (θ_run Cert.KernelIdeal.defs _ _).mono (fun r h c => ?_) (run_main m g)
  obtain ⟨hq, hk, hv, hg⟩ := hreal c
  obtain ⟨eq, ek, ev, eg⟩ := hargs c
  have eq : Cert.ReferenceIdeal.Value.argQ m' c = inQ m c := eq
  have ek : Cert.ReferenceIdeal.Value.argK m' c = inK m c := ek
  have ev : Cert.ReferenceIdeal.Value.argV m' c = inV m c := ev
  have eg : Cert.ReferenceIdeal.Value.argG m' c = inG m c := eg
  refine ⟨((h.1 c).1 6).trans ?_, ((h.1 c).1 7).trans ?_, ((h.1 c).1 8).trans ?_, ?_⟩
  · refine Eq.trans ?_ (Cert.ReferenceIdeal.Value.dq_stages m' c).symm
    refine funext fun (x : S4096x4096.Idx) => ?_
    rw [← ix2_eta x]
    obtain ⟨h, d, e⟩ := wide_split (x 1)
    rw [e]
    refine (dq_kernel m c hq hk hv hg h (x 0) d).trans ?_
    refine Eq.trans ?_ (Cert.ReferenceIdeal.Value.dq_value m' c h (x 0) d).symm
    rw [eq, ek, ev, eg]
  · refine Eq.trans ?_ (Cert.ReferenceIdeal.Value.dk_stages m' c).symm
    refine funext fun (x : S4096x4096.Idx) => ?_
    rw [← ix2_eta x]
    obtain ⟨h, d, e⟩ := wide_split (x 1)
    rw [e]
    refine (dk_kernel m c hq hk hv hg h (x 0) d).trans ?_
    refine Eq.trans ?_ (Cert.ReferenceIdeal.Value.dk_value m' c h (x 0) d).symm
    rw [eq, ek, ev, eg]
  · refine Eq.trans ?_ (Cert.ReferenceIdeal.Value.dv_stages m' c).symm
    refine funext fun (x : S4096x2048.Idx) => ?_
    rw [← ix2_eta x]
    obtain ⟨h, d, e⟩ := narrow_split (x 1)
    rw [e]
    refine (dv_kernel m c hq hk hv hg h (x 0) d).trans ?_
    refine Eq.trans ?_ (Cert.ReferenceIdeal.Value.dv_value m' c h (x 0) d).symm
    rw [eq, ek, eg]
  · exact ⟨((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩

end Cert.Proof

end
-- ==== Proof.Gates.lean ====
/-
  The gradient of the two mixers' gates. The gradient of the mixed rows is one product; from a tile of it come the
  gradients of the two gates' rows and of the two mixers' results, and, added up over the eight tiles of rows, the gradient
  of the gates' bias.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel2Ideal.Value

open Idealize.ShloMosaic Idealize.ShloMosaic.TcCoe Idealize.SL.Sem
open Cert.Kernel2Ideal.Gen

variable (m : (ℓ : Loc nD τ sig) → Buf (Elt Ideal) ℓ) (c : Dev nD)

/-- The arguments. -/
abbrev grad : FVec Ideal S4096x2048 .f32 := m ((c.tc : Thread nD τ).loc main_arg0)
abbrev weight : FVec Ideal S2048x2048 .f32 := m ((c.tc : Thread nD τ).loc main_arg1)
abbrev rows : FVec Ideal S4096x4096 .f32 := m ((c.tc : Thread nD τ).loc main_arg2)
abbrev bias : FVec Ideal S1x4096 .f32 := m ((c.tc : Thread nD τ).loc main_arg3)
abbrev mixA : FVec Ideal S4096x2048 .f32 := m ((c.tc : Thread nD τ).loc main_arg4)
abbrev mixB : FVec Ideal S4096x2048 .f32 := m ((c.tc : Thread nD τ).loc main_arg5)

/-! ## The gradient, element by element -/

/-- The gradient of the mixed rows; a gate; and the gradient of a gate's row, the mixer's result being `y`. -/
def dm (x : FVec Ideal S4096x2048 .f32) (w : FVec Ideal S2048x2048 .f32) (i : Fin 4096) (j : Fin 2048) : EReal := ∑ k, x (ix2 i k) * w (ix2 j k)
def gate (z : FVec Ideal S4096x4096 .f32) (b : FVec Ideal S1x4096 .f32) (i : Fin 4096) (j : Fin 4096) : EReal := Ideal.logistic (z (ix2 i j) + b (ix2 0 j))
def slope (d y g : EReal) : EReal := d * y * (g * (1 - g))

/-- The columns of the two gates. -/
def left (j : Fin 2048) : Fin 4096 := ⟨j.val, by omega⟩
def right (j : Fin 2048) : Fin 4096 := ⟨2048 + j.val, by omega⟩

theorem one_eq : (FloatOps.ofBits (F := Ideal) .f32 0x3F800000#32 : EReal) = 1 := by
  simp [Ideal.ofBits, Ideal.ieee]
  rw [← EReal.coe_mul]
  norm_num

/-! ## The values a visit computes -/

theorem prod_at (x : FVec Ideal S512x2048 .bf16) (w : FVec Ideal S1x1024x2048 .bf16) (i : Fin 512) (j : Fin 1024) :
    k0_pay2 (F := Ideal) x w (ix2 i j) = ∑ k, x (ix2 i k) * w (ix3 0 j k) := by
  pointwise [k0_pay2]
theorem gate_a_at (z : FVec Ideal S512x1024 .bf16) (b : FVec Ideal S1x1024 .f32) (i : Fin 512) (j : Fin 1024) :
    k0_pay3 (F := Ideal) z b (ix2 i j) = Ideal.logistic (z (ix2 i j) + b (ix2 0 j)) := by
  pointwise [k0_pay3]
theorem gate_b_at (z : FVec Ideal S512x1024 .bf16) (b : FVec Ideal S1x1024 .f32) (i : Fin 512) (j : Fin 1024) :
    k0_pay4 (F := Ideal) z b (ix2 i j) = Ideal.logistic (z (ix2 i j) + b (ix2 0 j)) := by
  pointwise [k0_pay4]
theorem slope_a_at (x : FVec Ideal S512x2048 .bf16) (w : FVec Ideal S1x1024x2048 .bf16) (z : FVec Ideal S512x1024 .bf16) (b : FVec Ideal S1x1024 .f32) (y : FVec Ideal S512x1024 .bf16) (i : Fin 512) (j : Fin 1024) :
    k0_pay5 (F := Ideal) x w z b y (ix2 i j) = slope (k0_pay2 (F := Ideal) x w (ix2 i j)) (y (ix2 i j)) (k0_pay3 (F := Ideal) z b (ix2 i j)) := by
  unfold slope
  rw [← one_eq]
  pointwise [k0_pay5]
theorem slope_b_at (x : FVec Ideal S512x2048 .bf16) (w : FVec Ideal S1x1024x2048 .bf16) (z : FVec Ideal S512x1024 .bf16) (b : FVec Ideal S1x1024 .f32) (y : FVec Ideal S512x1024 .bf16) (i : Fin 512) (j : Fin 1024) :
    k0_pay6 (F := Ideal) x w z b y (ix2 i j) = slope (k0_pay2 (F := Ideal) x w (ix2 i j)) (y (ix2 i j)) (k0_pay4 (F := Ideal) z b (ix2 i j)) := by
  unfold slope
  rw [← one_eq]
  pointwise [k0_pay6]

/-- A sum over a tile's rows, in the first row of eight. -/
def onFirst (x : EReal) (r : Fin 8) : EReal := if r = 0 then x else 0
def first (s : Fin 1024 → EReal) (r : Fin 8) (j : Fin 1024) : EReal := onFirst (s j) r

theorem sum_onFirst (x : Fin 8 → EReal) (r : Fin 8) : ∑ s, onFirst (x s) r = onFirst (∑ s, x s) r := by
  unfold onFirst
  by_cases h : r = 0
  · simp only [if_pos h]
  · simp only [if_neg h, Finset.sum_const_zero]

theorem is_first : ∀ r : Fin 8, IntOp.cmpi .eq (BitVec.ofNat 32 r.val) 0#32 = if r = 0 then 1#1 else 0#1 := by decide
theorem select_first (r : Fin 8) (x : EReal) : Scalar.select (IntOp.cmpi .eq (BitVec.ofNat 32 r.val) 0#32) x 0 = if r = 0 then x else 0 := by
  rw [is_first]
  by_cases h : r = 0
  · simp [h, Scalar.select]
  · simp [h, Scalar.select]

theorem sum_a_at (x : FVec Ideal S512x1024 .f32) (a : FVec Ideal S8x1024 .f32) (r : Fin 8) (j : Fin 1024) :
    k0_pay13 (F := Ideal) x a (ix2 r j) = a (ix2 r j) + first (fun j => ∑ i, x (ix2 i j)) r j := by
  unfold first onFirst
  pointwise [k0_pay13]
  exact congrArg (a (ix2 r j) + ·) (select_first r _)
theorem sum_b_at (x : FVec Ideal S512x1024 .f32) (a : FVec Ideal S8x1024 .f32) (r : Fin 8) (j : Fin 1024) :
    k0_pay1 (F := Ideal) (k0_pay14 a) k0_pay15 k0_pay16 (k0_pay17 x) (ix2 r j) = a (ix2 r j) + first (fun j => ∑ i, x (ix2 i j)) r j := by
  unfold first onFirst
  pointwise [k0_pay1, k0_pay14, k0_pay15, k0_pay16, k0_pay17]
  exact congrArg (a (ix2 r j) + ·) (select_first r _)

/-! ## The blocks of a visit -/

theorem V_grad : V m c main_v0 = truncf .bf16 (grad m c) bitsLt_bf16_f32 := by
  unfold V
  after_reads_simp
theorem V_weight : V m c main_v2 = broadcastInDim S1x2048x2048 ![1, 2] bcast_S2048x2048_S1x2048x2048_1_2 (truncf .bf16 (weight m c) bitsLt_bf16_f32 : FVec Ideal S2048x2048 .bf16) := by
  unfold V
  after_reads_simp
theorem V_rows : V m c main_v3 = truncf .bf16 (rows m c) bitsLt_bf16_f32 := by
  unfold V
  after_reads_simp
theorem V_mix_a : V m c main_v4 = truncf .bf16 (mixA m c) bitsLt_bf16_f32 := by
  unfold V
  after_reads_simp
theorem V_mix_b : V m c main_v5 = truncf .bf16 (mixB m c) bitsLt_bf16_f32 := by
  unfold V
  after_reads_simp

theorem tile_grad : ∀ t : Fin grid0.N, win0_0.index t = ![t.val % 8, 0] := by decide +kernel
theorem tile_weight : ∀ t : Fin grid0.N, win0_1.index t = ![0, t.val / 8, 0] := by decide +kernel
theorem tile_row_a : ∀ t : Fin grid0.N, win0_2.index t = ![t.val % 8, t.val / 8] := by decide +kernel
theorem tile_row_b : ∀ t : Fin grid0.N, win0_3.index t = ![t.val % 8, 2 + t.val / 8] := by decide +kernel
theorem tile_bias_a : ∀ t : Fin grid0.N, win0_4.index t = ![0, t.val / 8] := by decide +kernel
theorem tile_bias_b : ∀ t : Fin grid0.N, win0_5.index t = ![0, 2 + t.val / 8] := by decide +kernel
theorem tile_mix_a : ∀ t : Fin grid0.N, win0_6.index t = ![t.val % 8, t.val / 8] := by decide +kernel
theorem tile_mix_b : ∀ t : Fin grid0.N, win0_7.index t = ![t.val % 8, t.val / 8] := by decide +kernel
theorem tile_out_8 : ∀ t : Fin grid0.N, win0_8.index t = ![t.val % 8, t.val / 8] := by decide +kernel
theorem tile_out_9 : ∀ t : Fin grid0.N, win0_9.index t = ![t.val % 8, t.val / 8] := by decide +kernel
theorem tile_out_10 : ∀ t : Fin grid0.N, win0_10.index t = ![t.val % 8, t.val / 8] := by decide +kernel
theorem tile_out_11 : ∀ t : Fin grid0.N, win0_11.index t = ![t.val % 8, t.val / 8] := by decide +kernel
theorem tile_out_12 : ∀ t : Fin grid0.N, win0_12.index t = ![0, t.val / 8] := by decide +kernel
theorem tile_out_13 : ∀ t : Fin grid0.N, win0_13.index t = ![0, t.val / 8] := by decide +kernel

theorem N_lt (t : Fin grid0.N) : t.val < 16 := t.isLt

/-- A visit's rows and columns. -/
def row (t : Fin grid0.N) (i : Fin 512) : Fin 4096 := ⟨t.val % 8 * 512 + i.val, by omega⟩
def col (t : Fin grid0.N) (j : Fin 1024) : Fin 2048 := ⟨t.val / 8 * 1024 + j.val, by have := N_lt t; omega⟩

theorem block_grad (t : Fin grid0.N) (i : Fin 512) (k : Fin 2048) : iblk m c 0 t (ix2 i k) = grad m c (ix2 (row t i) k) := by
  refine Eq.trans (?_ : _ = V m c main_v0 (ix2 (row t i) k)) ?_
  · show V m c main_v0 (((cfg0.win 0).blk t).view.emb (ix2 i k)) = _
    refine congrArg (V m c main_v0) (funext fun a => Fin.ext ?_)
    have e := tile_grad t
    blk_simp
    rw [e]
    change Fin 2 at a
    match a with
    | 0 => rfl
    | 1 => show 0 * 2048 + k.val = k.val; omega
  · rw [V_grad]
    pointwise []

theorem block_weight (t : Fin grid0.N) (j : Fin 1024) (k : Fin 2048) : iblk m c 1 t (ix3 0 j k) = weight m c (ix2 (col t j) k) := by
  refine Eq.trans (?_ : _ = V m c main_v2 (ix3 0 (col t j) k)) ?_
  · show V m c main_v2 (((cfg0.win 1).blk t).view.emb (ix3 0 j k)) = _
    refine congrArg (V m c main_v2) (funext fun a => Fin.ext ?_)
    have e := tile_weight t
    blk_simp
    rw [e]
    change Fin 3 at a
    match a with
    | 0 => rfl
    | 1 => rfl
    | 2 => show 0 * 2048 + k.val = k.val; omega
  · rw [V_weight]
    pointwise []

theorem block_row_a (t : Fin grid0.N) (i : Fin 512) (j : Fin 1024) : iblk m c 2 t (ix2 i j) = rows m c (ix2 (row t i) (left (col t j))) := by
  refine Eq.trans (?_ : _ = V m c main_v3 (ix2 (row t i) (left (col t j)))) ?_
  · show V m c main_v3 (((cfg0.win 2).blk t).view.emb (ix2 i j)) = _
    refine congrArg (V m c main_v3) (funext fun a => Fin.ext ?_)
    have e := tile_row_a t
    blk_simp
    rw [e]
    change Fin 2 at a
    match a with
    | 0 => rfl
    | 1 => rfl
  · rw [V_rows]
    pointwise []

theorem block_bias_a (t : Fin grid0.N) (j : Fin 1024) : iblk m c 4 t (ix2 0 j) = bias m c (ix2 0 (left (col t j))) := by
  refine Eq.trans (?_ : _ = V m c main_arg3 (ix2 0 (left (col t j)))) ?_
  · show V m c main_arg3 (((cfg0.win 4).blk t).view.emb (ix2 0 j)) = _
    refine congrArg (V m c main_arg3) (funext fun a => Fin.ext ?_)
    have e := tile_bias_a t
    blk_simp
    rw [e]
    change Fin 2 at a
    match a with
    | 0 => rfl
    | 1 => rfl
  · rw [V_main_arg3]

theorem block_mix_a (t : Fin grid0.N) (i : Fin 512) (j : Fin 1024) : iblk m c 6 t (ix2 i j) = mixA m c (ix2 (row t i) (col t j)) := by
  refine Eq.trans (?_ : _ = V m c main_v4 (ix2 (row t i) (col t j))) ?_
  · show V m c main_v4 (((cfg0.win 6).blk t).view.emb (ix2 i j)) = _
    refine congrArg (V m c main_v4) (funext fun a => Fin.ext ?_)
    have e := tile_mix_a t
    blk_simp
    rw [e]
    change Fin 2 at a
    match a with
    | 0 => rfl
    | 1 => rfl
  · rw [V_mix_a]
    pointwise []

theorem block_row_b (t : Fin grid0.N) (i : Fin 512) (j : Fin 1024) : iblk m c 3 t (ix2 i j) = rows m c (ix2 (row t i) (right (col t j))) := by
  refine Eq.trans (?_ : _ = V m c main_v3 (ix2 (row t i) (right (col t j)))) ?_
  · show V m c main_v3 (((cfg0.win 3).blk t).view.emb (ix2 i j)) = _
    refine congrArg (V m c main_v3) (funext fun a => Fin.ext ?_)
    have e := tile_row_b t
    blk_simp
    rw [e]
    change Fin 2 at a
    match a with
    | 0 => rfl
    | 1 => show (2 + t.val / 8) * 1024 + j.val = 2048 + (t.val / 8 * 1024 + j.val); omega
  · rw [V_rows]
    pointwise []

theorem block_bias_b (t : Fin grid0.N) (j : Fin 1024) : iblk m c 5 t (ix2 0 j) = bias m c (ix2 0 (right (col t j))) := by
  refine Eq.trans (?_ : _ = V m c main_arg3 (ix2 0 (right (col t j)))) ?_
  · show V m c main_arg3 (((cfg0.win 5).blk t).view.emb (ix2 0 j)) = _
    refine congrArg (V m c main_arg3) (funext fun a => Fin.ext ?_)
    have e := tile_bias_b t
    blk_simp
    rw [e]
    change Fin 2 at a
    match a with
    | 0 => rfl
    | 1 => show (2 + t.val / 8) * 1024 + j.val = 2048 + (t.val / 8 * 1024 + j.val); omega
  · rw [V_main_arg3]

theorem block_mix_b (t : Fin grid0.N) (i : Fin 512) (j : Fin 1024) : iblk m c 7 t (ix2 i j) = mixB m c (ix2 (row t i) (col t j)) := by
  refine Eq.trans (?_ : _ = V m c main_v5 (ix2 (row t i) (col t j))) ?_
  · show V m c main_v5 (((cfg0.win 7).blk t).view.emb (ix2 i j)) = _
    refine congrArg (V m c main_v5) (funext fun a => Fin.ext ?_)
    have e := tile_mix_b t
    blk_simp
    rw [e]
    change Fin 2 at a
    match a with
    | 0 => rfl
    | 1 => rfl
  · rw [V_mix_b]
    pointwise []

/-! ## The values of a visit, from the arguments -/

theorem dm_eq (t : Fin grid0.N) (i : Fin 512) (j : Fin 1024) :
    k0_pay2 (F := Ideal) (iblk m c 0 t) (iblk m c 1 t) (ix2 i j) = dm (grad m c) (weight m c) (row t i) (col t j) :=
  (prod_at _ _ i j).trans (Finset.sum_congr rfl fun k _ => congrArg₂ (· * ·) (block_grad m c t i k) (block_weight m c t j k))
theorem gate_a_eq (t : Fin grid0.N) (i : Fin 512) (j : Fin 1024) :
    k0_pay3 (F := Ideal) (iblk m c 2 t) (iblk m c 4 t) (ix2 i j) = gate (rows m c) (bias m c) (row t i) (left (col t j)) :=
  (gate_a_at _ _ i j).trans (congrArg₂ (fun a b : EReal => Ideal.logistic (a + b)) (block_row_a m c t i j) (block_bias_a m c t j))
/-- The gradient of the gate's row. -/
def slopeA (i : Fin 4096) (j : Fin 2048) : EReal :=
  slope (dm (grad m c) (weight m c) i j) (mixA m c (ix2 i j)) (gate (rows m c) (bias m c) i (left j))
theorem slope_a_eq (t : Fin grid0.N) (i : Fin 512) (j : Fin 1024) :
    k0_pay5 (F := Ideal) (iblk m c 0 t) (iblk m c 1 t) (iblk m c 2 t) (iblk m c 4 t) (iblk m c 6 t) (ix2 i j) = slopeA m c (row t i) (col t j) := by
  unfold slopeA
  rw [← dm_eq m c t i j, ← gate_a_eq m c t i j, ← block_mix_a m c t i j]
  exact slope_a_at _ _ _ _ _ i j
theorem gate_b_eq (t : Fin grid0.N) (i : Fin 512) (j : Fin 1024) :
    k0_pay4 (F := Ideal) (iblk m c 3 t) (iblk m c 5 t) (ix2 i j) = gate (rows m c) (bias m c) (row t i) (right (col t j)) :=
  (gate_b_at _ _ i j).trans (congrArg₂ (fun a b : EReal => Ideal.logistic (a + b)) (block_row_b m c t i j) (block_bias_b m c t j))
/-- The gradient of the gate's row. -/
def slopeB (i : Fin 4096) (j : Fin 2048) : EReal :=
  slope (dm (grad m c) (weight m c) i j) (mixB m c (ix2 i j)) (gate (rows m c) (bias m c) i (right j))
theorem slope_b_eq (t : Fin grid0.N) (i : Fin 512) (j : Fin 1024) :
    k0_pay6 (F := Ideal) (iblk m c 0 t) (iblk m c 1 t) (iblk m c 3 t) (iblk m c 5 t) (iblk m c 7 t) (ix2 i j) = slopeB m c (row t i) (col t j) := by
  unfold slopeB
  rw [← dm_eq m c t i j, ← gate_b_eq m c t i j, ← block_mix_b m c t i j]
  exact slope_b_at _ _ _ _ _ i j

/-! ## What a visit leaves -/

theorem after_8 (t : Fin cfg0.N) (i : Fin 512) (j : Fin 1024) :
    (outsAt0 m c t.val t.isLt).1 (ix2 i j) = slopeA m c (row t i) (col t j) := by
  by_cases h : t.val % 8 = 0
  · rw [outsAt0_A m c t h]
    frame_out
    exact slope_a_eq m c t i j
  · rw [outsAt0_B m c t h]
    frame_out
    exact slope_a_eq m c t i j
theorem after_9 (t : Fin cfg0.N) (i : Fin 512) (j : Fin 1024) :
    (outsAt0 m c t.val t.isLt).2.1 (ix2 i j) = slopeB m c (row t i) (col t j) := by
  by_cases h : t.val % 8 = 0
  · rw [outsAt0_A m c t h]
    frame_out
    exact slope_b_eq m c t i j
  · rw [outsAt0_B m c t h]
    frame_out
    exact slope_b_eq m c t i j
theorem after_10 (t : Fin cfg0.N) (i : Fin 512) (j : Fin 1024) :
    (outsAt0 m c t.val t.isLt).2.2.1 (ix2 i j) = dm (grad m c) (weight m c) (row t i) (col t j) * gate (rows m c) (bias m c) (row t i) (left (col t j)) := by
  by_cases h : t.val % 8 = 0
  · rw [outsAt0_A m c t h]
    frame_out
    exact congrArg₂ (· * ·) (dm_eq m c t i j) (gate_a_eq m c t i j)
  · rw [outsAt0_B m c t h]
    frame_out
    exact congrArg₂ (· * ·) (dm_eq m c t i j) (gate_a_eq m c t i j)
theorem after_11 (t : Fin cfg0.N) (i : Fin 512) (j : Fin 1024) :
    (outsAt0 m c t.val t.isLt).2.2.2.1 (ix2 i j) = dm (grad m c) (weight m c) (row t i) (col t j) * gate (rows m c) (bias m c) (row t i) (right (col t j)) := by
  by_cases h : t.val % 8 = 0
  · rw [outsAt0_A m c t h]
    frame_out
    exact congrArg₂ (· * ·) (dm_eq m c t i j) (gate_b_eq m c t i j)
  · rw [outsAt0_B m c t h]
    frame_out
    exact congrArg₂ (· * ·) (dm_eq m c t i j) (gate_b_eq m c t i j)

/-- A visit's share of the bias's gradient. -/
def termA (t : Fin grid0.N) (y : S8x1024.Idx) : EReal := first (fun j => ∑ i, slopeA m c (row t i) (col t j)) (y 0) (y 1)
def heldA (n : ℕ) (h : n < cfg0.N) (y : S8x1024.Idx) : EReal := (outsAt0 m c n h).2.2.2.2.1 y

theorem heldA_first (t : Fin cfg0.N) (h : t.val % 8 = 0) (y : S8x1024.Idx) : heldA m c t.val t.isLt y = 0 + termA m c t y := by
  unfold heldA
  rw [outsAt0_A m c t h, ← ix2_eta y]
  frame_out
  exact (sum_a_at _ _ _ _).trans (congrArg₂ (· + ·) (by pointwise [k0_pay11])
    (congrArg (fun f => first f (y 0) (y 1)) (funext fun j => Finset.sum_congr rfl fun i _ => slope_a_eq m c t i j)))

theorem heldA_next (t : Fin cfg0.N) (h : ¬t.val % 8 = 0) (y : S8x1024.Idx) :
    heldA m c t.val t.isLt y = heldA m c (t.val - 1) (Nat.lt_of_le_of_lt (Nat.sub_le _ _) t.isLt) y + termA m c t y := by
  unfold heldA
  rw [outsAt0_B m c t h, ← ix2_eta y]
  frame_out
  exact (sum_a_at _ _ _ _).trans (congrArg (_ + ·)
    (congrArg (fun f => first f (y 0) (y 1)) (funext fun j => Finset.sum_congr rfl fun i _ => slope_a_eq m c t i j)))

/-- A visit's share of the bias's gradient. -/
def termB (t : Fin grid0.N) (y : S8x1024.Idx) : EReal := first (fun j => ∑ i, slopeB m c (row t i) (col t j)) (y 0) (y 1)
def heldB (n : ℕ) (h : n < cfg0.N) (y : S8x1024.Idx) : EReal := (outsAt0 m c n h).2.2.2.2.2 y

theorem heldB_first (t : Fin cfg0.N) (h : t.val % 8 = 0) (y : S8x1024.Idx) : heldB m c t.val t.isLt y = 0 + termB m c t y := by
  unfold heldB
  rw [outsAt0_A m c t h, ← ix2_eta y]
  frame_out
  exact (sum_b_at _ _ _ _).trans (congrArg₂ (· + ·) (by pointwise [k0_pay12])
    (congrArg (fun f => first f (y 0) (y 1)) (funext fun j => Finset.sum_congr rfl fun i _ => slope_b_eq m c t i j)))

theorem heldB_next (t : Fin cfg0.N) (h : ¬t.val % 8 = 0) (y : S8x1024.Idx) :
    heldB m c t.val t.isLt y = heldB m c (t.val - 1) (Nat.lt_of_le_of_lt (Nat.sub_le _ _) t.isLt) y + termB m c t y := by
  unfold heldB
  rw [outsAt0_B m c t h, ← ix2_eta y]
  frame_out
  exact (sum_b_at _ _ _ _).trans (congrArg (_ + ·)
    (congrArg (fun f => first f (y 0) (y 1)) (funext fun j => Finset.sum_congr rfl fun i _ => slope_b_eq m c t i j)))

/-- The visits of a tile of columns have the same columns, and their rows are the array's. -/
theorem sumA (t : Fin cfg0.N) (h : t.val % 8 = 7) (y : S8x1024.Idx) :
    heldA m c t.val t.isLt y = first (fun j => ∑ i, slopeA m c i (col t j)) (y 0) (y 1) := by
  rw [Pipeline.eq_sum_fin_of_reset_step_apply_of_flush (heldA m c) 8 (fun _ => (0 : EReal)) (termA m c) (heldA_first m c) (heldA_next m c) t h y]
  rw [zero_add]
  refine (sum_onFirst _ (y 0)).trans (congrArg (fun x => onFirst x (y 0)) ?_)
  refine Eq.trans ?_ (Fin.sum_mul_add_fin 8 512 (fun i => slopeA m c i (col t (y 1))))
  refine Finset.sum_congr rfl fun s _ => Finset.sum_congr rfl fun i _ => ?_
  have hs := s.isLt
  refine congrArg₂ (slopeA m c) (Fin.ext ?_) (Fin.ext ?_)
  · show (8 * (t.val / 8) + s.val) % 8 * 512 + i.val = s.val * 512 + i.val
    omega
  · show (8 * (t.val / 8) + s.val) / 8 * 1024 + (y 1).val = t.val / 8 * 1024 + (y 1).val
    omega

theorem array_12 : (dats m 0 c).arrAt 12 cfg0.N = (fun y : S8x2048.Idx => onFirst (∑ i, slopeA m c i (y 1)) (y 0) : S8x2048.Idx → EReal) := by
  refine (dats m 0 c).arrAt_eq_of_covers 12 _ (by decide +kernel) fun t hf y => ?_
  blk_simp
  rw [after0_12]
  have h := (flush0_12 t).mp hf
  obtain ⟨r, j, rfl⟩ : ∃ (r : Fin 8) (j : Fin 1024), y = ix2 r j := ⟨y 0, y 1, (ix2_eta y).symm⟩
  have hy : ((cfg0.win 12).blk t).view.emb (ix2 r j) = ix2 r (col t j) := by
    refine funext fun a => Fin.ext ?_
    have e := tile_out_12 t
    blk_simp
    rw [e]
    change Fin 2 at a
    match a with
    | 0 => show 0 * 8 + r.val = r.val; omega
    | 1 => rfl
  rw [hy]
  exact sumA m c t h (ix2 r j)

/-- The visits of a tile of columns have the same columns, and their rows are the array's. -/
theorem sumB (t : Fin cfg0.N) (h : t.val % 8 = 7) (y : S8x1024.Idx) :
    heldB m c t.val t.isLt y = first (fun j => ∑ i, slopeB m c i (col t j)) (y 0) (y 1) := by
  rw [Pipeline.eq_sum_fin_of_reset_step_apply_of_flush (heldB m c) 8 (fun _ => (0 : EReal)) (termB m c) (heldB_first m c) (heldB_next m c) t h y]
  rw [zero_add]
  refine (sum_onFirst _ (y 0)).trans (congrArg (fun x => onFirst x (y 0)) ?_)
  refine Eq.trans ?_ (Fin.sum_mul_add_fin 8 512 (fun i => slopeB m c i (col t (y 1))))
  refine Finset.sum_congr rfl fun s _ => Finset.sum_congr rfl fun i _ => ?_
  have hs := s.isLt
  refine congrArg₂ (slopeB m c) (Fin.ext ?_) (Fin.ext ?_)
  · show (8 * (t.val / 8) + s.val) % 8 * 512 + i.val = s.val * 512 + i.val
    omega
  · show (8 * (t.val / 8) + s.val) / 8 * 1024 + (y 1).val = t.val / 8 * 1024 + (y 1).val
    omega

theorem array_13 : (dats m 0 c).arrAt 13 cfg0.N = (fun y : S8x2048.Idx => onFirst (∑ i, slopeB m c i (y 1)) (y 0) : S8x2048.Idx → EReal) := by
  refine (dats m 0 c).arrAt_eq_of_covers 13 _ (by decide +kernel) fun t hf y => ?_
  blk_simp
  rw [after0_13]
  have h := (flush0_13 t).mp hf
  obtain ⟨r, j, rfl⟩ : ∃ (r : Fin 8) (j : Fin 1024), y = ix2 r j := ⟨y 0, y 1, (ix2_eta y).symm⟩
  have hy : ((cfg0.win 13).blk t).view.emb (ix2 r j) = ix2 r (col t j) := by
    refine funext fun a => Fin.ext ?_
    have e := tile_out_13 t
    blk_simp
    rw [e]
    change Fin 2 at a
    match a with
    | 0 => show 0 * 8 + r.val = r.val; omega
    | 1 => rfl
  rw [hy]
  exact sumB m c t h (ix2 r j)

theorem array_8 : (dats m 0 c).arrAt 8 cfg0.N = (fun y : S4096x2048.Idx => slopeA m c (y 0) (y 1) : S4096x2048.Idx → EReal) := by
  refine (dats m 0 c).arrAt_eq_of_covers 8 _ (by decide +kernel) fun t hf y => ?_
  blk_simp
  rw [after0_8]
  obtain ⟨i, j, rfl⟩ : ∃ (i : Fin 512) (j : Fin 1024), y = ix2 i j := ⟨y 0, y 1, (ix2_eta y).symm⟩
  have hy : ((cfg0.win 8).blk t).view.emb (ix2 i j) = ix2 (row t i) (col t j) := by
    refine funext fun a => Fin.ext ?_
    have e := tile_out_8 t
    blk_simp
    rw [e]
    change Fin 2 at a
    match a with
    | 0 => rfl
    | 1 => rfl
  rw [hy]
  exact after_8 m c t i j

theorem array_9 : (dats m 0 c).arrAt 9 cfg0.N = (fun y : S4096x2048.Idx => slopeB m c (y 0) (y 1) : S4096x2048.Idx → EReal) := by
  refine (dats m 0 c).arrAt_eq_of_covers 9 _ (by decide +kernel) fun t hf y => ?_
  blk_simp
  rw [after0_9]
  obtain ⟨i, j, rfl⟩ : ∃ (i : Fin 512) (j : Fin 1024), y = ix2 i j := ⟨y 0, y 1, (ix2_eta y).symm⟩
  have hy : ((cfg0.win 9).blk t).view.emb (ix2 i j) = ix2 (row t i) (col t j) := by
    refine funext fun a => Fin.ext ?_
    have e := tile_out_9 t
    blk_simp
    rw [e]
    change Fin 2 at a
    match a with
    | 0 => rfl
    | 1 => rfl
  rw [hy]
  exact after_9 m c t i j

theorem array_10 : (dats m 0 c).arrAt 10 cfg0.N = (fun y : S4096x2048.Idx => dm (grad m c) (weight m c) (y 0) (y 1) * gate (rows m c) (bias m c) (y 0) (left (y 1)) : S4096x2048.Idx → EReal) := by
  refine (dats m 0 c).arrAt_eq_of_covers 10 _ (by decide +kernel) fun t hf y => ?_
  blk_simp
  rw [after0_10]
  obtain ⟨i, j, rfl⟩ : ∃ (i : Fin 512) (j : Fin 1024), y = ix2 i j := ⟨y 0, y 1, (ix2_eta y).symm⟩
  have hy : ((cfg0.win 10).blk t).view.emb (ix2 i j) = ix2 (row t i) (col t j) := by
    refine funext fun a => Fin.ext ?_
    have e := tile_out_10 t
    blk_simp
    rw [e]
    change Fin 2 at a
    match a with
    | 0 => rfl
    | 1 => rfl
  rw [hy]
  exact after_10 m c t i j

theorem array_11 : (dats m 0 c).arrAt 11 cfg0.N = (fun y : S4096x2048.Idx => dm (grad m c) (weight m c) (y 0) (y 1) * gate (rows m c) (bias m c) (y 0) (right (y 1)) : S4096x2048.Idx → EReal) := by
  refine (dats m 0 c).arrAt_eq_of_covers 11 _ (by decide +kernel) fun t hf y => ?_
  blk_simp
  rw [after0_11]
  obtain ⟨i, j, rfl⟩ : ∃ (i : Fin 512) (j : Fin 1024), y = ix2 i j := ⟨y 0, y 1, (ix2_eta y).symm⟩
  have hy : ((cfg0.win 11).blk t).view.emb (ix2 i j) = ix2 (row t i) (col t j) := by
    refine funext fun a => Fin.ext ?_
    have e := tile_out_11 t
    blk_simp
    rw [e]
    change Fin 2 at a
    match a with
    | 0 => rfl
    | 1 => rfl
  rw [hy]
  exact after_11 m c t i j

theorem top_a : StableHlo.upto [hostOps1].flatten (Pipeline.withArrays spec0 c (V0 m c) fun w => (dats m 0 c).arrAt w cfg0.N) 2 (Proc.devRef .tc main_v7)
    = (fun y : S1x2048.Idx => ∑ i, slopeA m c i (y 1) : S1x2048.Idx → EReal) := by
  after_reads_simp
  rw [show Pipeline.withArrays spec0 c (V0 m c) (fun w => (dats m 0 c).arrAt w cfg0.N) (Proc.devRef .tc main_v6_4) = _ from
    (dats m 0 c).withArrays_arrAt sharedIn0 (V0 m c) (A_eq m c) 12]
  rw [array_12]
  funext y
  rw [← ix2_eta y]
  pointwise [onFirst]
theorem top_b : StableHlo.upto [hostOps1].flatten (Pipeline.withArrays spec0 c (V0 m c) fun w => (dats m 0 c).arrAt w cfg0.N) 2 (Proc.devRef .tc main_v8)
    = (fun y : S1x2048.Idx => ∑ i, slopeB m c i (y 1) : S1x2048.Idx → EReal) := by
  after_reads_simp
  rw [show Pipeline.withArrays spec0 c (V0 m c) (fun w => (dats m 0 c).arrAt w cfg0.N) (Proc.devRef .tc main_v6_5) = _ from
    (dats m 0 c).withArrays_arrAt sharedIn0 (V0 m c) (A_eq m c) 13]
  rw [array_13]
  funext y
  rw [← ix2_eta y]
  pointwise [onFirst]
/-- The bias's gradient: the first row of either array, one beside the other. -/
theorem result : Pipeline.afterTail₀ cfgs (dats m) 0 (V0 m) [hostOps1] c main_v9
    = (fun y : S1x4096.Idx => if h : (y 1).val < 2048 then ∑ i, slopeA m c i ⟨(y 1).val, h⟩ else ∑ i, slopeB m c i ⟨(y 1).val - 2048, by have : (y 1).val < 4096 := (y 1).isLt; omega⟩ : S1x4096.Idx → EReal) := by
  unfold Pipeline.afterTail₀
  after_reads_simp
  refine (congrArg₂ (fun a b : FVec Ideal S1x2048 .f32 => concatenate S1x4096 1 [⟨S1x2048, a⟩, ⟨S1x2048, b⟩] concatenates_S1x2048_S1x2048_S1x4096_d1)
    (top_a m c) (top_b m c)).trans ?_
  funext y
  rw [← ix2_eta y]
  pointwise []

/-! ## The reference -/

section
open Cert.Reference2Ideal
variable (x : FVec Ideal S4096x2048 .f32) (w : FVec Ideal S2048x2048 .f32) (z : FVec Ideal S4096x4096 .f32) (b : FVec Ideal S1x4096 .f32) (ya yb : FVec Ideal S4096x2048 .f32)

def refProduct : FVec Ideal S4096x2048 .f32 := Host.dotGeneral (F := Ideal) dot_S4096x2048_S2048x2048_S4096x2048_1_1_0_0_n_n none x w
def refOne : FVec Ideal S4096x4096 .f32 := broadcastInDim S4096x4096 ![] Facts₀.bcast_S_S4096x4096 (constant (F := Ideal) S_ .f32 0x3F800000#32)
def refGate : FVec Ideal S4096x4096 .f32 := Host.divf refOne (addf refOne (Host.exp (Host.negf (addf z (broadcastInDim S4096x4096 ![0, 1] Facts₀.bcast_S1x4096_S4096x4096_0_1 b)))))
def refPair (d : FVec Ideal S4096x2048 .f32) : FVec Ideal S4096x4096 .f32 := concatenate S4096x4096 1 [⟨S4096x2048, mulf d ya⟩, ⟨S4096x2048, mulf d yb⟩] Facts₀.concatenates_S4096x2048_S4096x2048_S4096x4096_d1
def refSlope (p g : FVec Ideal S4096x4096 .f32) : FVec Ideal S4096x4096 .f32 := mulf p (mulf g (subf refOne g))
def refRows : FVec Ideal S4096x4096 .f32 := refSlope (refPair ya yb (refProduct x w)) (refGate z b)
def refLeft (a : FVec Ideal S4096x4096 .f32) : FVec Ideal S4096x2048 .f32 := extractStridedSlice S4096x2048 ![0, 0] a Facts₀.slices_S4096x4096_S4096x2048_0_0
def refRight (a : FVec Ideal S4096x4096 .f32) : FVec Ideal S4096x2048 .f32 := extractStridedSlice S4096x2048 ![0, 2048] a Facts₀.slices_S4096x4096_S4096x2048_0_2048
def refBias (a : FVec Ideal S4096x4096 .f32) : FVec Ideal S1x4096 .f32 := shapeCast _ (Host.reduceAdd a (constant (F := Ideal) S_ .f32 0x00000000#32) Facts₀.reducesTo_S4096x4096_S4096_d0) Facts₀.shapeCasts_S4096_S1x4096

theorem refProduct_at (i : Fin 4096) (j : Fin 2048) : refProduct x w (ix2 i j) = dm x w i j := by
  unfold dm
  pointwise [refProduct]
theorem refOne_at (i j : Fin 4096) : refOne (ix2 i j) = 1 := by
  rw [← one_eq]
  pointwise [refOne]
theorem refGate_at (i j : Fin 4096) : refGate z b (ix2 i j) = gate z b i j := by
  unfold refGate gate
  show Ideal.div (refOne (ix2 i j)) (refOne (ix2 i j) + Ideal.exp (-(z (ix2 i j) + _))) = _
  rw [refOne_at]
  pointwise []
  rfl
theorem refPair_left (d : FVec Ideal S4096x2048 .f32) (i : Fin 4096) (j : Fin 2048) : refPair ya yb d (ix2 i (left j)) = d (ix2 i j) * ya (ix2 i j) := by
  pointwise [refPair]
  exact dif_pos j.isLt
theorem refPair_right (d : FVec Ideal S4096x2048 .f32) (i : Fin 4096) (j : Fin 2048) : refPair ya yb d (ix2 i (right j)) = d (ix2 i j) * yb (ix2 i j) := by
  pointwise [refPair]
  refine (dif_neg (show ¬(2048 + j.val < 2048) by omega)).trans ?_
  have e : (⟨2048 + j.val - 2048, by omega⟩ : Fin 2048) = j := Fin.ext (Nat.add_sub_cancel_left _ _)
  exact congrArg (fun k => d (ix2 i k) * yb (ix2 i k)) e
theorem refSlope_at (p g : FVec Ideal S4096x4096 .f32) (i j : Fin 4096) : refSlope p g (ix2 i j) = p (ix2 i j) * (g (ix2 i j) * (1 - g (ix2 i j))) := by
  rw [← refOne_at i j]
  pointwise [refSlope]
theorem refRows_left (i : Fin 4096) (j : Fin 2048) : refRows x w z b ya yb (ix2 i (left j)) = slope (dm x w i j) (ya (ix2 i j)) (gate z b i (left j)) := by
  unfold refRows
  rw [refSlope_at, refPair_left, refProduct_at, refGate_at]
  rfl
theorem refRows_right (i : Fin 4096) (j : Fin 2048) : refRows x w z b ya yb (ix2 i (right j)) = slope (dm x w i j) (yb (ix2 i j)) (gate z b i (right j)) := by
  unfold refRows
  rw [refSlope_at, refPair_right, refProduct_at, refGate_at]
  rfl
theorem refLeft_at (a : FVec Ideal S4096x4096 .f32) (i : Fin 4096) (j : Fin 2048) : refLeft a (ix2 i j) = a (ix2 i (left j)) := by
  pointwise [refLeft, left]
theorem refRight_at (a : FVec Ideal S4096x4096 .f32) (i : Fin 4096) (j : Fin 2048) : refRight a (ix2 i j) = a (ix2 i (right j)) := by
  pointwise [refRight, right]
theorem refBias_at (a : FVec Ideal S4096x4096 .f32) (j : Fin 4096) : refBias a (ix2 0 j) = ∑ i, a (ix2 i j) := by
  pointwise [refBias]
end

/-! ## The arrays are the reference's results -/

theorem rows_a_eq : (fun y : S4096x2048.Idx => slopeA m c (y 0) (y 1) : S4096x2048.Idx → EReal) = refLeft (refRows (grad m c) (weight m c) (rows m c) (bias m c) (mixA m c) (mixB m c)) := by
  refine funext fun (y : S4096x2048.Idx) => ?_
  rw [← ix2_eta y]
  exact ((refLeft_at _ _ _).trans (refRows_left _ _ _ _ _ _ (y 0) (y 1))).symm
theorem rows_b_eq : (fun y : S4096x2048.Idx => slopeB m c (y 0) (y 1) : S4096x2048.Idx → EReal) = refRight (refRows (grad m c) (weight m c) (rows m c) (bias m c) (mixA m c) (mixB m c)) := by
  refine funext fun (y : S4096x2048.Idx) => ?_
  rw [← ix2_eta y]
  exact ((refRight_at _ _ _).trans (refRows_right _ _ _ _ _ _ (y 0) (y 1))).symm
theorem mix_a_eq : (fun y : S4096x2048.Idx => dm (grad m c) (weight m c) (y 0) (y 1) * gate (rows m c) (bias m c) (y 0) (left (y 1)) : S4096x2048.Idx → EReal)
    = mulf (refLeft (refGate (rows m c) (bias m c))) (refProduct (grad m c) (weight m c)) := by
  refine funext fun (y : S4096x2048.Idx) => ?_
  rw [← ix2_eta y]
  refine (mul_comm _ _).trans (congrArg₂ (fun a b : EReal => a * b) ?_ ?_)
  · exact ((refLeft_at _ _ _).trans (refGate_at _ _ _ _)).symm
  · exact (refProduct_at _ _ _ _).symm
theorem mix_b_eq : (fun y : S4096x2048.Idx => dm (grad m c) (weight m c) (y 0) (y 1) * gate (rows m c) (bias m c) (y 0) (right (y 1)) : S4096x2048.Idx → EReal)
    = mulf (refRight (refGate (rows m c) (bias m c))) (refProduct (grad m c) (weight m c)) := by
  refine funext fun (y : S4096x2048.Idx) => ?_
  rw [← ix2_eta y]
  refine (mul_comm _ _).trans (congrArg₂ (fun a b : EReal => a * b) ?_ ?_)
  · exact ((refRight_at _ _ _).trans (refGate_at _ _ _ _)).symm
  · exact (refProduct_at _ _ _ _).symm
theorem bias_eq : (fun y : S1x4096.Idx => if h : (y 1).val < 2048 then ∑ i, slopeA m c i ⟨(y 1).val, h⟩ else ∑ i, slopeB m c i ⟨(y 1).val - 2048, by have : (y 1).val < 4096 := (y 1).isLt; omega⟩ : S1x4096.Idx → EReal)
    = refBias (refRows (grad m c) (weight m c) (rows m c) (bias m c) (mixA m c) (mixB m c)) := by
  refine funext fun (y : S1x4096.Idx) => ?_
  obtain ⟨j, rfl⟩ : ∃ (j : Fin 4096), y = ix2 0 j := ⟨y 1, funext fun a => match a with | 0 => Fin.ext (by have := (y 0).isLt; show (y 0).val = 0; change (y 0).val < 1 at this; omega) | 1 => rfl⟩
  refine Eq.trans ?_ (refBias_at _ j).symm
  show (if h : j.val < 2048 then _ else _) = _
  by_cases h : j.val < 2048
  · rw [dif_pos h]
    exact Finset.sum_congr rfl fun i _ => (refRows_left (grad m c) (weight m c) (rows m c) (bias m c) (mixA m c) (mixB m c) i ⟨j.val, h⟩).symm
  · rw [dif_neg h]
    refine Finset.sum_congr rfl fun i _ => (refRows_right (grad m c) (weight m c) (rows m c) (bias m c) (mixA m c) (mixB m c) i ⟨j.val - 2048, by omega⟩).symm.trans ?_
    refine congrArg _ (congrArg (ix2 i) (Fin.ext ?_))
    show 2048 + (j.val - 2048) = j.val
    omega

end Cert.Kernel2Ideal.Value

namespace Cert.Proof

open Idealize.ShloMosaic Idealize.ShloMosaic.TcCoe Idealize.SL.Sem
open Cert.Kernel2Ideal Cert.Kernel2Ideal.Gen Cert.Kernel2Ideal.Value

theorem frame_gates : Cert.quiescent_Kernel2 := fun m ρ _ => Cert.Kernel2.Gen.frame m ρ
theorem frame_gates_ideal : Cert.quiescent_Kernel2Ideal := fun m ρ _ => Cert.Kernel2Ideal.Gen.frame m ρ
theorem frame_gates_reference : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

set_option maxHeartbeats 1000000 in
theorem same_gates : @Cert.algebraic_Kernel2Ideal_Reference2Ideal Cert.Kernel2Ideal.Gen.facts Cert.Reference2Ideal.Gen.facts := by
  intro m g m' g' hpre hargs
  refine ⟨_, _, _, _, _, ?_, Cert.Reference2Ideal.Value.run m' g'⟩
  refine (θ_run Cert.Kernel2Ideal.defs _ _).mono (fun r h c => ?_) (run_main m g)
  obtain ⟨e0, e1, e2, e3, e4, e5⟩ := hargs c
  refine ⟨((h c).1 8).trans ((array_8 m c).trans ((rows_a_eq m c).trans ?_)), ((h c).1 9).trans ((array_9 m c).trans ((rows_b_eq m c).trans ?_)),
    ((h c).1 10).trans ((array_10 m c).trans ((mix_a_eq m c).trans ?_)), ((h c).1 11).trans ((array_11 m c).trans ((mix_b_eq m c).trans ?_)),
    ((h c).2 main_v9 (Pipeline.mem_restRefs_of main_v9 (by decide) (by decide))).trans ((result m c).trans ((bias_eq m c).trans ?_)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 5).trans (((dats m 0 c).arrAt_in 5 rfl _).trans ((A_eq m c 5).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩
  · rw [e0, e1, e2, e3, e4, e5]
    rfl
  · rw [e0, e1, e2, e3, e4, e5]
    rfl
  · rw [e0, e1, e2, e3]
    rfl
  · rw [e0, e1, e2, e3]
    rfl
  · rw [e0, e1, e2, e3, e4, e5]
    rfl

end Cert.Proof

end
-- ==== Proof.UpInput.lean ====
/-
  The gradient of the feed-forward layer's input: the gradients of the gate's and the value's columns, in two arrays, times
  the up projection transposed. A tile of rows is visited eight times, once for each block of the columns, the first four
  reading the first array and the others the second; the products are added up in the scratch.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel4Ideal.Value

open Idealize.ShloMosaic Idealize.ShloMosaic.TcCoe Idealize.SL.Sem
open Cert.Kernel4Ideal.Gen

variable (m : (ℓ : Loc nD τ sig) → Buf (Elt Ideal) ℓ) (c : Dev nD)

/-- The arguments. -/
abbrev grad : FVec Ideal S4096x11264 .f32 := m ((c.tc : Thread nD τ).loc main_arg0)
abbrev weight : FVec Ideal S2048x11264 .f32 := m ((c.tc : Thread nD τ).loc main_arg1)

/-- Which of the two arrays a visit reads. -/
abbrev side (i : grid0.Coords) : BitVec 1 := Scalar.cmpi .slt (BitVec.ofNat 32 (i 2).val) 4#32
theorem side_eq : ∀ t : Fin grid0.N, side (grid0.coords t) = if t.val % 8 < 4 then 1#1 else 0#1 := by decide +kernel

/-- The product of a visit's blocks. -/
def part (x : FVec Ideal S1024x1408 .bf16) (w : FVec Ideal S1x2048x1408 .bf16) (i : Fin 1024) (j : Fin 2048) : EReal :=
  ∑ d : Fin 1408, x (ix2 i d) * w (ix3 0 j d)

theorem first_at (p : grid0.Coords) (x y : FVec Ideal S1024x1408 .bf16) (w : FVec Ideal S1x2048x1408 .bf16) (i : Fin 1024) (j : Fin 2048) :
    k0_pay1 (F := Ideal) p x y w (ix2 i j) = part (Scalar.select (side p) x y) w i j := by
  unfold part k0_pay1
  dsimp only
  generalize hs : Scalar.select _ _ _ = z
  have hz : z = Scalar.select (side p) x y := by rw [← hs, shapeCast_self, shapeCast_self]
  rw [← hz]
  pointwise []
theorem next_at (p : grid0.Coords) (a : FVec Ideal S1024x2048 .f32) (x y : FVec Ideal S1024x1408 .bf16) (w : FVec Ideal S1x2048x1408 .bf16) (i : Fin 1024) (j : Fin 2048) :
    k0_pay2 (F := Ideal) p a x y w (ix2 i j) = a (ix2 i j) + part (Scalar.select (side p) x y) w i j := by
  unfold part k0_pay2
  dsimp only
  generalize hs : Scalar.select _ _ _ = z
  have hz : z = Scalar.select (side p) x y := by rw [← hs, shapeCast_self, shapeCast_self]
  rw [← hz]
  pointwise []
theorem last_at (p : grid0.Coords) (a : FVec Ideal S1024x2048 .f32) (x y : FVec Ideal S1024x1408 .bf16) (w : FVec Ideal S1x2048x1408 .bf16) (i : Fin 1024) (j : Fin 2048) :
    k0_pay3 (F := Ideal) p a x y w (ix2 i j) = a (ix2 i j) + part (Scalar.select (side p) x y) w i j := by
  unfold part k0_pay3
  dsimp only
  generalize hs : Scalar.select _ _ _ = z
  have hz : z = Scalar.select (side p) x y := by rw [← hs, shapeCast_self, shapeCast_self]
  rw [← hz]
  pointwise []

theorem V_gate : V m c main_v4 = extractStridedSlice S4096x5632 ![0, 0] (truncf .bf16 (grad m c) bitsLt_bf16_f32) slices_S4096x11264_S4096x5632_0_0 := by
  unfold V
  after_reads_simp
theorem V_value : V m c main_v5 = extractStridedSlice S4096x5632 ![0, 5632] (truncf .bf16 (grad m c) bitsLt_bf16_f32) slices_S4096x11264_S4096x5632_0_5632 := by
  unfold V
  after_reads_simp
theorem V_weight : V m c main_v2 = transpose S8x2048x1408 [1, 0, 2]
    (shapeCast S2048x8x1408 (truncf .bf16 (weight m c) bitsLt_bf16_f32 : FVec Ideal S2048x11264 .bf16) shapeCasts_S2048x11264_S2048x8x1408) transposes_S2048x8x1408_S8x2048x1408_1_0_2 := by
  unfold V
  after_reads_simp
  rfl

theorem tile_gate : ∀ t : Fin grid0.N, win0_0.index t = ![t.val / 8, min (t.val % 8) 3] := by decide +kernel
theorem tile_value : ∀ t : Fin grid0.N, win0_1.index t = ![t.val / 8, t.val % 8 - 4] := by decide +kernel
theorem tile_weight : ∀ t : Fin grid0.N, win0_2.index t = ![t.val % 8, 0, 0] := by decide +kernel
theorem tile_out : ∀ t : Fin grid0.N, win0_3.index t = ![t.val / 8, 0] := by decide +kernel

theorem N_lt (t : Fin grid0.N) : t.val < 32 := t.isLt

/-- Columns of a block; rows of a visit's tile. -/
def col (b : Fin 8) (d : Fin 1408) : Fin 11264 := ⟨b.val * 1408 + d.val, by omega⟩
def turn (t : Fin grid0.N) : Fin 8 := ⟨t.val % 8, by omega⟩
def row (t : Fin grid0.N) (i : Fin 1024) : Fin 4096 := ⟨t.val / 8 * 1024 + i.val, by have := N_lt t; omega⟩

theorem block_gate (t : Fin grid0.N) (h : t.val % 8 < 4) (i : Fin 1024) (d : Fin 1408) :
    iblk m c 0 t (ix2 i d) = grad m c (ix2 (row t i) (col (turn t) d)) := by
  refine Eq.trans (?_ : _ = V m c main_v4 (ix2 (row t i) ⟨t.val % 8 * 1408 + d.val, by omega⟩)) ?_
  · show V m c main_v4 (((cfg0.win 0).blk t).view.emb (ix2 i d)) = _
    refine congrArg (V m c main_v4) (funext fun a => Fin.ext ?_)
    have e := tile_gate t
    blk_simp
    rw [e]
    change Fin 2 at a
    match a with
    | 0 => rfl
    | 1 => show min (t.val % 8) 3 * 1408 + d.val = t.val % 8 * 1408 + d.val; omega
  · rw [V_gate]
    pointwise []
    exact congrArg (fun k => grad m c (ix2 (row t i) k)) (Fin.ext (by simp [col, turn]))

theorem block_value (t : Fin grid0.N) (h : ¬t.val % 8 < 4) (i : Fin 1024) (d : Fin 1408) :
    iblk m c 1 t (ix2 i d) = grad m c (ix2 (row t i) (col (turn t) d)) := by
  refine Eq.trans (?_ : _ = V m c main_v5 (ix2 (row t i) ⟨(t.val % 8 - 4) * 1408 + d.val, by omega⟩)) ?_
  · show V m c main_v5 (((cfg0.win 1).blk t).view.emb (ix2 i d)) = _
    refine congrArg (V m c main_v5) (funext fun a => Fin.ext ?_)
    have e := tile_value t
    blk_simp
    rw [e]
    change Fin 2 at a
    match a with
    | 0 => rfl
    | 1 => rfl
  · rw [V_value]
    pointwise []
    exact congrArg (fun k => grad m c (ix2 (row t i) k)) (Fin.ext (by simp only [col, turn]; omega))

theorem block_weight (t : Fin grid0.N) (j : Fin 2048) (d : Fin 1408) : iblk m c 2 t (ix3 0 j d) = weight m c (ix2 j (col (turn t) d)) := by
  refine Eq.trans (?_ : _ = V m c main_v2 (ix3 (turn t) j d)) ?_
  · show V m c main_v2 (((cfg0.win 2).blk t).view.emb (ix3 0 j d)) = _
    refine congrArg (V m c main_v2) (funext fun a => Fin.ext ?_)
    have e := tile_weight t
    blk_simp
    rw [e]
    change Fin 3 at a
    match a with
    | 0 => show t.val % 8 * 1 + 0 = t.val % 8; omega
    | 1 => show 0 * 2048 + j.val = j.val; omega
    | 2 => show 0 * 1408 + d.val = d.val; omega
  · rw [V_weight]
    unfold col
    pointwise []

/-- A visit's share of the result. -/
def term (t : Fin grid0.N) (i : Fin 1024) (j : Fin 2048) : EReal :=
  part (Scalar.select (side (grid0.coords t)) (iblk m c 0 t) (iblk m c 1 t)) (iblk m c 2 t) i j

theorem term_eq (t : Fin grid0.N) (i : Fin 1024) (j : Fin 2048) : term m c t i j
    = ∑ d, grad m c (ix2 (row t i) (col (turn t) d)) * weight m c (ix2 j (col (turn t) d)) := by
  unfold term part
  rw [side_eq]
  refine Finset.sum_congr rfl fun d _ => congrArg₂ (· * ·) ?_ (block_weight m c t j d)
  by_cases h : t.val % 8 < 4
  · rw [if_pos h]; exact block_gate m c t h i d
  · rw [if_neg h]; exact block_value m c t h i d

/-- What stands for a tile after a visit: the scratch, and after the last visit what is written. -/
def held (n : ℕ) (h : n < cfg0.N) (y : S1024x2048.Idx) : EReal := if n % 8 = 7 then (outsAt0 m c n h).1 y else (outsAt0 m c n h).2 y

theorem held_first (t : Fin cfg0.N) (h : t.val % 8 = 0) (y : S1024x2048.Idx) : held m c t.val t.isLt y = 0 + term m c t (y 0) (y 1) := by
  unfold held
  rw [if_neg (by omega), outsAt0_A m c t h (by omega) (by omega), zero_add, ← ix2_eta y]
  frame_out
  exact first_at _ _ _ _ _ _

theorem held_next (t : Fin cfg0.N) (h : ¬t.val % 8 = 0) (y : S1024x2048.Idx) :
    held m c t.val t.isLt y = held m c (t.val - 1) (Nat.lt_of_le_of_lt (Nat.sub_le _ _) t.isLt) y + term m c t (y 0) (y 1) := by
  unfold held
  rw [if_neg (by omega : ¬(t.val - 1) % 8 = 7)]
  by_cases h7 : t.val % 8 = 7
  · rw [if_pos h7, outsAt0_C m c t h (by omega) h7, ← ix2_eta y]
    frame_out
    simp only [read_unread_whole]
    exact last_at _ _ _ _ _ _ _
  · rw [if_neg h7, outsAt0_B m c t h (by omega) h7, ← ix2_eta y]
    frame_out
    simp only [read_unread_whole]
    exact next_at _ _ _ _ _ _ _

theorem written (t : Fin cfg0.N) (h : t.val % 8 = 7) (i : Fin 1024) (j : Fin 2048) :
    (outsAt0 m c t.val t.isLt).1 (ix2 i j) = ∑ k, grad m c (ix2 (row t i) k) * weight m c (ix2 j k) := by
  have e := Pipeline.eq_sum_fin_of_reset_step_apply_of_flush (held m c) 8 (fun _ => (0 : EReal)) (fun t y => term m c t (y 0) (y 1))
    (held_first m c) (held_next m c) t h (ix2 i j)
  refine Eq.trans (?_ : _ = held m c t.val t.isLt (ix2 i j)) (e.trans ?_)
  · unfold held; rw [if_pos h]
  rw [zero_add, ← Fin.sum_mul_add_fin 8 1408 (fun k : Fin 11264 => grad m c (ix2 (row t i) k) * weight m c (ix2 j k))]
  refine Finset.sum_congr rfl fun s _ => ?_
  refine (term_eq m c _ i j).trans ?_
  have hs : turn ⟨8 * (t.val / 8) + s.val, Pipeline.run_point_lt_of_flush t h s⟩ = s := Fin.ext (by show (8 * (t.val / 8) + s.val) % 8 = s.val; omega)
  have hr : row ⟨8 * (t.val / 8) + s.val, Pipeline.run_point_lt_of_flush t h s⟩ i = row t i :=
    Fin.ext (by show (8 * (t.val / 8) + s.val) / 8 * 1024 + i.val = t.val / 8 * 1024 + i.val; omega)
  rw [hs, hr]
  rfl

theorem reference_at (x : FVec Ideal S4096x11264 .f32) (w : FVec Ideal S2048x11264 .f32) (i : Fin 4096) (j : Fin 2048) :
    (truncf .bf16 (Host.dotGeneral Cert.Reference4Ideal.dot_S4096x11264_S2048x11264_S4096x2048_1_1_0_0_n_n none x w : FVec Ideal S4096x2048 .f32) bitsLt_bf16_f32 : FVec Ideal S4096x2048 .bf16) (ix2 i j)
      = ∑ k, x (ix2 i k) * w (ix2 j k) := by
  pointwise []

theorem result : (dats m 0 c).arrAt 3 cfg0.N = (truncf .bf16
    (Host.dotGeneral Cert.Reference4Ideal.dot_S4096x11264_S2048x11264_S4096x2048_1_1_0_0_n_n none (grad m c) (weight m c) : FVec Ideal S4096x2048 .f32) bitsLt_bf16_f32 : FVec Ideal S4096x2048 .bf16) := by
  refine (dats m 0 c).arrAt_eq_of_covers 3 _ (by decide +kernel) fun t hf y => ?_
  blk_simp
  rw [after0_3]
  have h := (flush0_3 t).mp hf
  obtain ⟨i, j, rfl⟩ : ∃ (i : Fin 1024) (j : Fin 2048), y = ix2 i j := ⟨y 0, y 1, (ix2_eta y).symm⟩
  have hy : ((cfg0.win 3).blk t).view.emb (ix2 i j) = ix2 (row t i) j := by
    refine funext fun a => Fin.ext ?_
    have e := tile_out t
    blk_simp
    rw [e]
    change Fin 2 at a
    match a with
    | 0 => rfl
    | 1 => show 0 * 2048 + j.val = j.val; omega
  rw [hy, reference_at]
  exact written m c t h i j

end Cert.Kernel4Ideal.Value

namespace Cert.Proof

open Idealize.ShloMosaic Idealize.ShloMosaic.TcCoe Idealize.SL.Sem
open Cert.Kernel4Ideal Cert.Kernel4Ideal.Gen Cert.Kernel4Ideal.Value

theorem frame_up_input : Cert.quiescent_Kernel4 := fun m ρ _ => Cert.Kernel4.Gen.frame m ρ
theorem frame_up_input_ideal : Cert.quiescent_Kernel4Ideal := fun m ρ _ => Cert.Kernel4Ideal.Gen.frame m ρ
theorem frame_up_input_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem same_up_input : @Cert.algebraic_Kernel4Ideal_Reference4Ideal Cert.Kernel4Ideal.Gen.facts Cert.Reference4Ideal.Gen.facts := by
  intro m g m' g' hpre hargs
  refine ⟨_, ?_, Cert.Reference4Ideal.Value.run m' g'⟩
  refine (θ_run Cert.Kernel4Ideal.defs _ _).mono (fun r h c => ?_) (run_main m g)
  refine ⟨((h c).1 3).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.DownInput.lean ====
/-
  The gradient of the feed-forward layer's middle array: the output's gradient times the down projection, one tile of
  rows and one of columns at a grid point.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel6Ideal.Value

open Idealize.ShloMosaic Idealize.ShloMosaic.TcCoe Idealize.SL.Sem
open Cert.Kernel6Ideal.Gen

variable (m : (ℓ : Loc nD τ sig) → Buf (Elt Ideal) ℓ) (c : Dev nD)

/-- The arguments. -/
abbrev grad : FVec Ideal S4096x2048 .f32 := m ((c.tc : Thread nD τ).loc main_arg0)
abbrev weight : FVec Ideal S5632x2048 .f32 := m ((c.tc : Thread nD τ).loc main_arg1)

/-- The product of a point's blocks. -/
theorem part_at (x : FVec Ideal S1024x2048 .bf16) (w : FVec Ideal S1x1408x2048 .bf16) (i : Fin 1024) (j : Fin 1408) :
    k0_pay1 (F := Ideal) x w (ix2 i j) = ∑ d, x (ix2 i d) * w (ix3 0 j d) := by
  pointwise [k0_pay1]

theorem V_grad : V m c main_v0 = truncf .bf16 (grad m c) bitsLt_bf16_f32 := by
  unfold V
  after_reads_simp
theorem V_weight : V m c main_v2 = broadcastInDim S1x5632x2048 ![1, 2] bcast_S5632x2048_S1x5632x2048_1_2 (truncf .bf16 (weight m c) bitsLt_bf16_f32) := by
  unfold V
  after_reads_simp

theorem tile_grad : ∀ t : Fin grid0.N, win0_0.index t = ![t.val / 4, 0] := by decide +kernel
theorem tile_weight : ∀ t : Fin grid0.N, win0_1.index t = ![0, t.val % 4, 0] := by decide +kernel
theorem tile_out : ∀ t : Fin grid0.N, win0_2.index t = ![t.val / 4, t.val % 4] := by decide +kernel

theorem N_lt (t : Fin grid0.N) : t.val < 16 := t.isLt

/-- Rows of a point's tile of the gradient; columns of its tile of the result. -/
def row (t : Fin grid0.N) (i : Fin 1024) : Fin 4096 := ⟨t.val / 4 * 1024 + i.val, by have := N_lt t; omega⟩
def col (t : Fin grid0.N) (j : Fin 1408) : Fin 5632 := ⟨t.val % 4 * 1408 + j.val, by omega⟩

theorem block_grad (t : Fin grid0.N) (i : Fin 1024) (d : Fin 2048) : iblk m c 0 t (ix2 i d) = grad m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_grad t
    blk_simp
    rw [e]
    change Fin 2 at a
    match a with
    | 0 => rfl
    | 1 => show 0 * 2048 + d.val = d.val; omega
  · rw [V_grad]
    pointwise []

theorem block_weight (t : Fin grid0.N) (j : Fin 1408) (d : Fin 2048) : iblk m c 1 t (ix3 0 j d) = weight m c (ix2 (col t j) d) := by
  refine Eq.trans (?_ : _ = V m c main_v2 (ix3 0 (col t j) d)) ?_
  · show V m c main_v2 (((cfg0.win 1).blk t).view.emb (ix3 0 j d)) = _
    refine congrArg (V m c main_v2) (funext fun a => Fin.ext ?_)
    have e := tile_weight t
    blk_simp
    rw [e]
    change Fin 3 at a
    match a with
    | 0 => rfl
    | 1 => rfl
    | 2 => show 0 * 2048 + d.val = d.val; omega
  · rw [V_weight]
    pointwise []

/-- The result of the reference. -/
theorem reference_at (x : FVec Ideal S4096x2048 .f32) (w : FVec Ideal S5632x2048 .f32) (i : Fin 4096) (j : Fin 5632) :
    (Host.dotGeneral Cert.Reference6Ideal.dot_S4096x2048_S5632x2048_S4096x5632_1_1_0_0_n_n none x w : FVec Ideal S4096x5632 .f32) (ix2 i j)
      = ∑ d, x (ix2 i d) * w (ix2 j d) := by
  pointwise []

theorem result : (dats m 0 c).arrAt 2 cfg0.N
    = (Host.dotGeneral Cert.Reference6Ideal.dot_S4096x2048_S5632x2048_S4096x5632_1_1_0_0_n_n none (grad m c) (weight m c) : FVec Ideal S4096x5632 .f32) := by
  refine (dats m 0 c).arrAt_eq_of_covers 2 _ (by decide +kernel) fun t hf y => ?_
  blk_simp
  rw [after0_2]
  frame_out
  obtain ⟨i, j, rfl⟩ : ∃ (i : Fin 1024) (j : Fin 1408), y = ix2 i j := ⟨y 0, y 1, (ix2_eta y).symm⟩
  refine (part_at _ _ i j).trans ?_
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact Finset.sum_congr rfl fun d _ => congrArg₂ (· * ·) (block_grad m c t i d) (block_weight m c t j d)

end Cert.Kernel6Ideal.Value

namespace Cert.Proof

open Idealize.ShloMosaic Idealize.ShloMosaic.TcCoe Idealize.SL.Sem
open Cert.Kernel6Ideal Cert.Kernel6Ideal.Gen Cert.Kernel6Ideal.Value

theorem frame_down_input : Cert.quiescent_Kernel6 := fun m ρ _ => Cert.Kernel6.Gen.frame m ρ
theorem frame_down_input_ideal : Cert.quiescent_Kernel6Ideal := fun m ρ _ => Cert.Kernel6Ideal.Gen.frame m ρ
theorem frame_down_input_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem same_down_input : @Cert.algebraic_Kernel6Ideal_Reference6Ideal Cert.Kernel6Ideal.Gen.facts Cert.Reference6Ideal.Gen.facts := by
  intro m g m' g' hpre hargs
  refine ⟨_, ?_, Cert.Reference6Ideal.Value.run m' g'⟩
  refine (θ_run Cert.Kernel6Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.DownWeight.lean ====
/-
  The gradient of the down projection's weight: the middle array transposed times the output's gradient. Each tile of the
  result is visited twice, once for each half of the tokens: the first visit leaves its product in the scratch, the second
  adds its own and writes the tile.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel7Ideal.Value

open Idealize.ShloMosaic Idealize.ShloMosaic.TcCoe Idealize.SL.Sem
open Cert.Kernel7Ideal.Gen

variable (m : (ℓ : Loc nD τ sig) → Buf (Elt Ideal) ℓ) (c : Dev nD)

/-- The arguments. -/
abbrev mid : FVec Ideal S4096x5632 .f32 := m ((c.tc : Thread nD τ).loc main_arg0)
abbrev grad : FVec Ideal S4096x2048 .f32 := m ((c.tc : Thread nD τ).loc main_arg1)

/-- The product of a point's blocks, over its tokens. -/
def part (x : FVec Ideal S2048x1408 .bf16) (g : FVec Ideal S2048x1024 .bf16) (i : Fin 1408) (j : Fin 1024) : EReal :=
  ∑ s : Fin 2048, x (ix2 s i) * g (ix2 s j)

theorem first_at (x : FVec Ideal S2048x1408 .bf16) (g : FVec Ideal S2048x1024 .bf16) (i : Fin 1408) (j : Fin 1024) :
    k0_pay1 (F := Ideal) x g (ix2 i j) = part x g i j := by
  unfold part
  pointwise [k0_pay1]

theorem last_at (a : FVec Ideal S1408x1024 .f32) (x : FVec Ideal S2048x1408 .bf16) (g : FVec Ideal S2048x1024 .bf16) (i : Fin 1408) (j : Fin 1024) :
    k0_pay3 (F := Ideal) a x g (ix3 0 i j) = a (ix2 i j) + part x g i j := by
  unfold part
  pointwise [k0_pay3]

theorem V_mid : V m c main_v0 = truncf .bf16 (mid m c) bitsLt_bf16_f32 := by
  unfold V
  after_reads_simp
theorem V_grad : V m c main_v1 = truncf .bf16 (grad m c) bitsLt_bf16_f32 := by
  unfold V
  after_reads_simp

theorem tile_mid : ∀ t : Fin grid0.N, win0_0.index t = ![t.val % 2, t.val / 4] := by decide +kernel
theorem tile_grad : ∀ t : Fin grid0.N, win0_1.index t = ![t.val % 2, t.val / 2 % 2] := by decide +kernel
theorem tile_out : ∀ t : Fin grid0.N, win0_2.index t = ![0, t.val / 4, t.val / 2 % 2] := by decide +kernel

theorem N_lt (t : Fin grid0.N) : t.val < 16 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 1408) : Fin 5632 := ⟨t.val / 4 * 1408 + i.val, by have := N_lt t; omega⟩
def col (t : Fin grid0.N) (j : Fin 1024) : Fin 2048 := ⟨t.val / 2 % 2 * 1024 + j.val, by omega⟩

theorem block_mid (t : Fin grid0.N) (s : Fin 2048) (i : Fin 1408) : iblk m c 0 t (ix2 s i) = mid m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_mid t
    blk_simp
    rw [e]
    change Fin 2 at a
    match a with
    | 0 => rfl
    | 1 => rfl
  · rw [V_mid]
    pointwise []

theorem block_grad (t : Fin grid0.N) (s : Fin 2048) (j : Fin 1024) : iblk m c 1 t (ix2 s j) = grad m c (ix2 (token (half t) s) (col t j)) := by
  refine Eq.trans (?_ : _ = V m c main_v1 (ix2 (token (half t) s) (col t j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => rfl
  · rw [V_grad]
    pointwise []

/-- A point's share of the result. -/
theorem part_eq (t : Fin grid0.N) (i : Fin 1408) (j : Fin 1024) : part (iblk m c 0 t) (iblk m c 1 t) i j
    = ∑ s, mid m c (ix2 (token (half t) s) (row t i)) * grad m c (ix2 (token (half t) s) (col t j)) := by
  unfold part
  exact Finset.sum_congr rfl fun s _ => congrArg₂ (· * ·) (block_mid m c t s i) (block_grad m c t s j)

theorem after_first (t : Fin cfg0.N) (h : t.val % 2 = 0) (i : Fin 1408) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1408) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1408) (j : Fin 1024) :
    (outsAt0 m c t.val t.isLt).1 (ix3 0 i j) = ∑ s, mid m c (ix2 s (row t i)) * grad m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 4 * 1408 + i.val = t.val / 4 * 1408 + i.val; omega)
  have hc : col ⟨t.val - 1, hlt⟩ j = col t j := Fin.ext (by show (t.val - 1) / 2 % 2 * 1024 + j.val = t.val / 2 % 2 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => mid m c (ix2 s (row t i)) * grad m c (ix2 s (col t j))), Fin.sum_univ_two]
  rfl

/-- The kernel's result under its leading axis, and the reference's. -/
theorem reference_at (x : FVec Ideal S4096x5632 .f32) (g : FVec Ideal S4096x2048 .f32) (i : Fin 5632) (j : Fin 2048) :
    (truncf .bf16 (transpose S5632x2048 [1, 0]
      (Host.dotGeneral Cert.Reference7Ideal.dot_S4096x2048_S4096x5632_S2048x5632_0_0_1_1_n_n none g x : FVec Ideal Cert.Reference7Ideal.S2048x5632 .f32)
      Cert.Reference7Ideal.Facts₀.transposes_S2048x5632_S5632x2048_1_0 : FVec Ideal S5632x2048 .f32) bitsLt_bf16_f32 : FVec Ideal S5632x2048 .bf16) (ix2 i j)
      = ∑ s, x (ix2 s i) * g (ix2 s j) := by
  pointwise []
  exact Finset.sum_congr rfl fun d _ => mul_comm _ _

theorem array : (dats m 0 c).arrAt 2 cfg0.N = (fun y : S1x5632x2048.Idx => ∑ s, mid m c (ix2 s (y 1)) * grad m c (ix2 s (y 2)) : S1x5632x2048.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 1408) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result : Pipeline.afterTail₀ cfgs (dats m) 0 (V0 m) [hostOps1] c main_v3
    = (fun y : S5632x2048.Idx => ∑ s, mid m c (ix2 s (y 0)) * grad m c (ix2 s (y 1)) : S5632x2048.Idx → EReal) := by
  unfold Pipeline.afterTail₀
  after_reads_simp
  rw [show Pipeline.withArrays spec0 c (V0 m c) (fun w => (dats m 0 c).arrAt w cfg0.N) (Proc.devRef .tc main_v2) = _ from
    Pipeline.withArrays_arr spec0 (by decide) c (V0 m c) _ 2]
  rw [array]
  funext y
  rw [← ix2_eta y]
  pointwise []

end Cert.Kernel7Ideal.Value

namespace Cert.Proof

open Idealize.ShloMosaic Idealize.ShloMosaic.TcCoe Idealize.SL.Sem
open Cert.Kernel7Ideal Cert.Kernel7Ideal.Gen Cert.Kernel7Ideal.Value

theorem frame_down_weight : Cert.quiescent_Kernel7 := fun m ρ _ => Cert.Kernel7.Gen.frame m ρ
theorem frame_down_weight_ideal : Cert.quiescent_Kernel7Ideal := fun m ρ _ => Cert.Kernel7Ideal.Gen.frame m ρ
theorem frame_down_weight_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem same_down_weight : @Cert.algebraic_Kernel7Ideal_Reference7Ideal Cert.Kernel7Ideal.Gen.facts Cert.Reference7Ideal.Gen.facts := by
  intro m g m' g' hpre hargs
  refine ⟨_, ?_, Cert.Reference7Ideal.Value.run m' g'⟩
  refine (θ_run Cert.Kernel7Ideal.defs _ _).mono (fun r h c => ?_) (run_main m g)
  refine ⟨((h c).2 main_v3 (Pipeline.mem_restRefs_of main_v3 (by decide) (by decide))).trans ((result m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S5632x2048.Idx) => ?_
  rw [← ix2_eta y]
  exact (reference_at (mid m c) (grad m c) (y 0) (y 1)).symm

end Cert.Proof

end
-- ==== Proof.UpGate.lean ====
/-
  The gradient of the first half of the up projection, the gate's columns, by its four shards. A tile of a shard is
  visited twice, once for each half of the tokens; the array that the call fills holds four shards more, which it leaves.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel8Ideal.Value

open Idealize.ShloMosaic Idealize.ShloMosaic.TcCoe Idealize.SL.Sem
open Cert.Kernel8Ideal.Gen

variable (m : (ℓ : Loc nD τ sig) → Buf (Elt Ideal) ℓ) (c : Dev nD)

/-- The arguments: the layer's input, the gradient of this half's columns, and the array to be filled. -/
abbrev input : FVec Ideal S4096x2048 .f32 := m ((c.tc : Thread nD τ).loc main_arg0)
abbrev grad : FVec Ideal S4096x5632 .f32 := m ((c.tc : Thread nD τ).loc main_arg1)
abbrev into : FVec Ideal S8x2048x1408 .bf16 := m ((c.tc : Thread nD τ).loc main_arg2)

/-- The product of a point's blocks, over its tokens. -/
def part (x : FVec Ideal S2048x1024 .bf16) (g : FVec Ideal S2048x1408 .bf16) (i : Fin 1024) (j : Fin 1408) : EReal :=
  ∑ s : Fin 2048, x (ix2 s i) * g (ix2 s j)

theorem first_at (x : FVec Ideal S2048x1024 .bf16) (g : FVec Ideal S2048x1408 .bf16) (i : Fin 1024) (j : Fin 1408) :
    k0_pay1 (F := Ideal) x g (ix2 i j) = part x g i j := by
  unfold part
  pointwise [k0_pay1]

theorem last_at (a : FVec Ideal S1024x1408 .f32) (x : FVec Ideal S2048x1024 .bf16) (g : FVec Ideal S2048x1408 .bf16) (i : Fin 1024) (j : Fin 1408) :
    k0_pay3 (F := Ideal) a x g (ix3 0 i j) = a (ix2 i j) + part x g i j := by
  unfold part
  pointwise [k0_pay3]

theorem V_input : V m c main_v0 = truncf .bf16 (input m c) bitsLt_bf16_f32 := by
  unfold V
  after_reads_simp
theorem V_grad : V m c main_v1 = truncf .bf16 (grad m c) bitsLt_bf16_f32 := by
  unfold V
  after_reads_simp
theorem V_into : V m c main_v2 = into m c := by
  unfold V
  after_reads_simp
  rfl

theorem tile_input : ∀ t : Fin grid0.N, win0_0.index t = ![t.val % 2, t.val / 8] := by decide +kernel
theorem tile_grad : ∀ t : Fin grid0.N, win0_1.index t = ![t.val % 2, t.val / 2 % 4] := by decide +kernel
theorem tile_out : ∀ t : Fin grid0.N, win0_2.index t = ![t.val / 2 % 4, t.val / 8, 0] := by decide +kernel

theorem N_lt (t : Fin grid0.N) : t.val < 16 := t.isLt

/-- Tokens of a point's blocks; rows of its tile of the result, and the shard it belongs to; the column of a shard's column. -/
def token (h : Fin 2) (s : Fin 2048) : Fin 4096 := ⟨h.val * 2048 + s.val, by omega⟩
def half (t : Fin grid0.N) : Fin 2 := ⟨t.val % 2, by omega⟩
def row (t : Fin grid0.N) (i : Fin 1024) : Fin 2048 := ⟨t.val / 8 * 1024 + i.val, by have := N_lt t; omega⟩
def shard (t : Fin grid0.N) : Fin 8 := ⟨t.val / 2 % 4, by omega⟩
def col (b : Fin 8) (j : Fin 1408) : Fin 5632 := ⟨b.val % 4 * 1408 + j.val, by omega⟩

theorem block_input (t : Fin grid0.N) (s : Fin 2048) (i : Fin 1024) : iblk m c 0 t (ix2 s i) = input m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_input t
    blk_simp
    rw [e]
    change Fin 2 at a
    match a with
    | 0 => rfl
    | 1 => rfl
  · rw [V_input]
    pointwise []

theorem block_grad (t : Fin grid0.N) (s : Fin 2048) (j : Fin 1408) : iblk m c 1 t (ix2 s j) = grad m c (ix2 (token (half t) s) (col (shard t) j)) := by
  refine Eq.trans (?_ : _ = V m c main_v1 (ix2 (token (half t) s) (col (shard t) j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => show t.val / 2 % 4 * 1408 + j.val = (t.val / 2 % 4) % 4 * 1408 + j.val; omega
  · rw [V_grad]
    pointwise []

/-- A point's share of the result. -/
theorem part_eq (t : Fin grid0.N) (i : Fin 1024) (j : Fin 1408) : part (iblk m c 0 t) (iblk m c 1 t) i j
    = ∑ s, input m c (ix2 (token (half t) s) (row t i)) * grad m c (ix2 (token (half t) s) (col (shard t) j)) := by
  unfold part
  exact Finset.sum_congr rfl fun s _ => congrArg₂ (· * ·) (block_input m c t s i) (block_grad m c t s j)

theorem after_first (t : Fin cfg0.N) (h : t.val % 2 = 0) (i : Fin 1024) (j : Fin 1408) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1024) (j : Fin 1408) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1024) (j : Fin 1408) :
    (outsAt0 m c t.val t.isLt).1 (ix3 0 i j) = ∑ s, input m c (ix2 s (row t i)) * grad m c (ix2 s (col (shard t) j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 8 * 1024 + i.val = t.val / 8 * 1024 + i.val; omega)
  have hc : shard ⟨t.val - 1, hlt⟩ = shard t := Fin.ext (by show (t.val - 1) / 2 % 4 = t.val / 2 % 4; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => input m c (ix2 s (row t i)) * grad m c (ix2 s (col (shard t) j))), Fin.sum_univ_two]
  rfl

/-- The array the call leaves: the product in this half's shards, and what was there before in the others. -/
def filled (x : FVec Ideal S4096x2048 .f32) (g : FVec Ideal S4096x5632 .f32) (a : FVec Ideal S8x2048x1408 .bf16) : FVec Ideal S8x2048x1408 .bf16 :=
  fun y => if (y 0).val < 4 then ∑ s, x (ix2 s (y 1)) * g (ix2 s (col (y 0) (y 2))) else a y

theorem result : (dats m 0 c).arrAt 2 cfg0.N = filled (input m c) (grad m c) (into m c) := by
  refine ((dats m 0 c).arrAt_eq_of_coversWhere 2
    (fun y : S8x2048x1408.Idx => ∑ s, input m c (ix2 s (y 1)) * grad m c (ix2 s (col (y 0) (y 2))) : S8x2048x1408.Idx → EReal)
    (P := fun y : S8x2048x1408.Idx => (y 0).val < 4)
    (fun β => β (0 : Fin _) < 4) (by decide +kernel) (fun t hf y => ?_) (fun j => ?_)).trans ?_
  · blk_simp
    rw [after0_2]
    have h := (flush0_2 t).mp hf
    obtain ⟨i, j, rfl⟩ : ∃ (i : Fin 1024) (j : Fin 1408), y = ix3 0 i j :=
      ⟨y 1, y 2, funext fun a => match a with | 0 => Fin.ext (by have := (y 0).isLt; show (y 0).val = 0; change (y 0).val < 1 at this; omega) | 1 => rfl | 2 => rfl⟩
    have hy : ((cfg0.win 2).blk t).view.emb (ix3 0 i j) = ix3 (shard t) (row t i) j := by
      refine funext fun a => Fin.ext ?_
      have e := tile_out t
      blk_simp
      rw [e]
      change Fin 3 at a
      match a with
      | 0 => show (t.val / 2 % 4) * 1 + 0 = t.val / 2 % 4; omega
      | 1 => rfl
      | 2 => show 0 * 1408 + j.val = j.val; omega
    rw [hy]
    exact written m c t h i j
  · show ((j 0).val < 4) ↔ (j 0).val / 1 < 4
    rw [Nat.div_one]
  · funext y
    have e : (dats m 0 c).A 2 = V m c main_v2 := A_eq m c 2
    rw [e, V_into]
    rfl

/-- The reference's gradient of this half's shards, and the array with it put in place. -/
def gradient (x : FVec Ideal S4096x2048 .f32) (g : FVec Ideal S4096x5632 .f32) : FVec Ideal Cert.Reference8Ideal.S4x2048x1408 .bf16 :=
  truncf .bf16 (transpose Cert.Reference8Ideal.S4x2048x1408 [1, 0, 2] (shapeCast Cert.Reference8Ideal.S2048x4x1408 (transpose Cert.Reference8Ideal.S2048x5632 [1, 0]
      (Host.dotGeneral Cert.Reference8Ideal.dot_S4096x5632_S4096x2048_S5632x2048_0_0_1_1_n_n none g x : FVec Ideal Cert.Reference8Ideal.S5632x2048 .f32)
      Cert.Reference8Ideal.Facts₀.transposes_S5632x2048_S2048x5632_1_0) Cert.Reference8Ideal.Facts₀.shapeCasts_S2048x5632_S2048x4x1408)
      Cert.Reference8Ideal.Facts₀.transposes_S2048x4x1408_S4x2048x1408_1_0_2 : FVec Ideal Cert.Reference8Ideal.S4x2048x1408 .f32) bitsLt_bf16_f32

theorem gradient_at (x : FVec Ideal S4096x2048 .f32) (g : FVec Ideal S4096x5632 .f32) (b : Fin 4) (i : Fin 2048) (j : Fin 1408) :
    gradient x g (ix3 b i j) = ∑ s, x (ix2 s i) * g (ix2 s (col (b.castLE (by decide)) j)) := by
  pointwise [gradient]
  refine Finset.sum_congr rfl fun s _ => (mul_comm _ _).trans ?_
  exact congrArg (fun k => x (ix2 s i) * g (ix2 s k)) (Fin.ext (by show b.val * 1408 + j.val = b.val % 4 * 1408 + j.val; omega))

theorem reference_eq (x : FVec Ideal S4096x2048 .f32) (g : FVec Ideal S4096x5632 .f32) (a : FVec Ideal S8x2048x1408 .bf16) :
    concatenate S8x2048x1408 0 [⟨Cert.Reference8Ideal.S4x2048x1408, gradient x g⟩, ⟨Cert.Reference8Ideal.S4x2048x1408, extractStridedSlice Cert.Reference8Ideal.S4x2048x1408 ![4, 0, 0] a Cert.Reference8Ideal.Facts₀.slices_S8x2048x1408_S4x2048x1408_4_0_0⟩]
      Cert.Reference8Ideal.Facts₀.concatenates_S4x2048x1408_S4x2048x1408_S8x2048x1408_d0 = filled x g a := by
  funext y
  obtain ⟨b, i, j, rfl⟩ : ∃ (b : Fin 8) (i : Fin 2048) (j : Fin 1408), y = ix3 b i j := ⟨y 0, y 1, y 2, (ix3_eta y).symm⟩
  by_cases h : b.val < 4
  · refine (?_ : _ = ∑ s, x (ix2 s i) * g (ix2 s (col b j))).trans (if_pos h).symm
    pointwise []
    rw [dif_pos h]
    exact gradient_at x g ⟨b.val, h⟩ i j
  · refine (?_ : _ = a (ix3 b i j)).trans (if_neg h).symm
    pointwise []
    rw [dif_neg h]
    exact congrArg (fun k => a (ix3 k i j)) (Fin.ext (by show 4 + (b.val - 4) = b.val; omega))

end Cert.Kernel8Ideal.Value

namespace Cert.Proof

open Idealize.ShloMosaic Idealize.ShloMosaic.TcCoe Idealize.SL.Sem
open Cert.Kernel8Ideal Cert.Kernel8Ideal.Gen Cert.Kernel8Ideal.Value

theorem frame_up_gate : Cert.quiescent_Kernel8 := fun m ρ _ => Cert.Kernel8.Gen.frame m ρ
theorem frame_up_gate_ideal : Cert.quiescent_Kernel8Ideal := fun m ρ _ => Cert.Kernel8Ideal.Gen.frame m ρ
theorem frame_up_gate_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem same_up_gate : @Cert.algebraic_Kernel8Ideal_Reference8Ideal Cert.Kernel8Ideal.Gen.facts Cert.Reference8Ideal.Gen.facts := by
  intro m g m' g' hpre hargs
  refine ⟨_, ?_, Cert.Reference8Ideal.Value.run m' g'⟩
  refine (θ_run Cert.Kernel8Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩
  obtain ⟨ex, ew, ei⟩ := hargs c
  rw [ex, ew, ei]
  exact (reference_eq (input m c) (grad m c) (into m c)).symm

end Cert.Proof

end
-- ==== Proof.UpValue.lean ====
/-
  The gradient of the second half of the up projection, the value's columns, by its four shards. A tile of a shard is
  visited twice, once for each half of the tokens; the first four shards of the array that the call fills stay as they are.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel9Ideal.Value

open Idealize.ShloMosaic Idealize.ShloMosaic.TcCoe Idealize.SL.Sem
open Cert.Kernel9Ideal.Gen

variable (m : (ℓ : Loc nD τ sig) → Buf (Elt Ideal) ℓ) (c : Dev nD)

/-- The arguments: the layer's input, the gradient of this half's columns, and the array to be filled. -/
abbrev input : FVec Ideal S4096x2048 .f32 := m ((c.tc : Thread nD τ).loc main_arg0)
abbrev grad : FVec Ideal S4096x5632 .f32 := m ((c.tc : Thread nD τ).loc main_arg1)
abbrev into : FVec Ideal S8x2048x1408 .bf16 := m ((c.tc : Thread nD τ).loc main_arg2)

/-- The product of a point's blocks, over its tokens. -/
def part (x : FVec Ideal S2048x1024 .bf16) (g : FVec Ideal S2048x1408 .bf16) (i : Fin 1024) (j : Fin 1408) : EReal :=
  ∑ s : Fin 2048, x (ix2 s i) * g (ix2 s j)

theorem first_at (x : FVec Ideal S2048x1024 .bf16) (g : FVec Ideal S2048x1408 .bf16) (i : Fin 1024) (j : Fin 1408) :
    k0_pay1 (F := Ideal) x g (ix2 i j) = part x g i j := by
  unfold part
  pointwise [k0_pay1]

theorem last_at (a : FVec Ideal S1024x1408 .f32) (x : FVec Ideal S2048x1024 .bf16) (g : FVec Ideal S2048x1408 .bf16) (i : Fin 1024) (j : Fin 1408) :
    k0_pay3 (F := Ideal) a x g (ix3 0 i j) = a (ix2 i j) + part x g i j := by
  unfold part
  pointwise [k0_pay3]

theorem V_input : V m c main_v0 = truncf .bf16 (input m c) bitsLt_bf16_f32 := by
  unfold V
  after_reads_simp
theorem V_grad : V m c main_v1 = truncf .bf16 (grad m c) bitsLt_bf16_f32 := by
  unfold V
  after_reads_simp
theorem V_into : V m c main_v2 = into m c := by
  unfold V
  after_reads_simp
  rfl

theorem tile_input : ∀ t : Fin grid0.N, win0_0.index t = ![t.val % 2, t.val / 8] := by decide +kernel
theorem tile_grad : ∀ t : Fin grid0.N, win0_1.index t = ![t.val % 2, t.val / 2 % 4] := by decide +kernel
theorem tile_out : ∀ t : Fin grid0.N, win0_2.index t = ![4 + t.val / 2 % 4, t.val / 8, 0] := by decide +kernel

theorem N_lt (t : Fin grid0.N) : t.val < 16 := t.isLt

/-- Tokens of a point's blocks; rows of its tile of the result, and the shard it belongs to; the column of a shard's column. -/
def token (h : Fin 2) (s : Fin 2048) : Fin 4096 := ⟨h.val * 2048 + s.val, by omega⟩
def half (t : Fin grid0.N) : Fin 2 := ⟨t.val % 2, by omega⟩
def row (t : Fin grid0.N) (i : Fin 1024) : Fin 2048 := ⟨t.val / 8 * 1024 + i.val, by have := N_lt t; omega⟩
def shard (t : Fin grid0.N) : Fin 8 := ⟨4 + t.val / 2 % 4, by omega⟩
def col (b : Fin 8) (j : Fin 1408) : Fin 5632 := ⟨b.val % 4 * 1408 + j.val, by omega⟩

theorem block_input (t : Fin grid0.N) (s : Fin 2048) (i : Fin 1024) : iblk m c 0 t (ix2 s i) = input m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_input t
    blk_simp
    rw [e]
    change Fin 2 at a
    match a with
    | 0 => rfl
    | 1 => rfl
  · rw [V_input]
    pointwise []

theorem block_grad (t : Fin grid0.N) (s : Fin 2048) (j : Fin 1408) : iblk m c 1 t (ix2 s j) = grad m c (ix2 (token (half t) s) (col (shard t) j)) := by
  refine Eq.trans (?_ : _ = V m c main_v1 (ix2 (token (half t) s) (col (shard t) j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => show t.val / 2 % 4 * 1408 + j.val = (4 + t.val / 2 % 4) % 4 * 1408 + j.val; omega
  · rw [V_grad]
    pointwise []

/-- A point's share of the result. -/
theorem part_eq (t : Fin grid0.N) (i : Fin 1024) (j : Fin 1408) : part (iblk m c 0 t) (iblk m c 1 t) i j
    = ∑ s, input m c (ix2 (token (half t) s) (row t i)) * grad m c (ix2 (token (half t) s) (col (shard t) j)) := by
  unfold part
  exact Finset.sum_congr rfl fun s _ => congrArg₂ (· * ·) (block_input m c t s i) (block_grad m c t s j)

theorem after_first (t : Fin cfg0.N) (h : t.val % 2 = 0) (i : Fin 1024) (j : Fin 1408) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1024) (j : Fin 1408) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1024) (j : Fin 1408) :
    (outsAt0 m c t.val t.isLt).1 (ix3 0 i j) = ∑ s, input m c (ix2 s (row t i)) * grad m c (ix2 s (col (shard t) j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 8 * 1024 + i.val = t.val / 8 * 1024 + i.val; omega)
  have hc : shard ⟨t.val - 1, hlt⟩ = shard t := Fin.ext (by show 4 + (t.val - 1) / 2 % 4 = 4 + t.val / 2 % 4; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => input m c (ix2 s (row t i)) * grad m c (ix2 s (col (shard t) j))), Fin.sum_univ_two]
  rfl

/-- The array the call leaves: the product in this half's shards, and what was there before in the others. -/
def filled (x : FVec Ideal S4096x2048 .f32) (g : FVec Ideal S4096x5632 .f32) (a : FVec Ideal S8x2048x1408 .bf16) : FVec Ideal S8x2048x1408 .bf16 :=
  fun y => if (y 0).val ≥ 4 then ∑ s, x (ix2 s (y 1)) * g (ix2 s (col (y 0) (y 2))) else a y

theorem result : (dats m 0 c).arrAt 2 cfg0.N = filled (input m c) (grad m c) (into m c) := by
  refine ((dats m 0 c).arrAt_eq_of_coversWhere 2
    (fun y : S8x2048x1408.Idx => ∑ s, input m c (ix2 s (y 1)) * grad m c (ix2 s (col (y 0) (y 2))) : S8x2048x1408.Idx → EReal)
    (P := fun y : S8x2048x1408.Idx => (y 0).val ≥ 4)
    (fun β => β (0 : Fin _) ≥ 4) (by decide +kernel) (fun t hf y => ?_) (fun j => ?_)).trans ?_
  · blk_simp
    rw [after0_2]
    have h := (flush0_2 t).mp hf
    obtain ⟨i, j, rfl⟩ : ∃ (i : Fin 1024) (j : Fin 1408), y = ix3 0 i j :=
      ⟨y 1, y 2, funext fun a => match a with | 0 => Fin.ext (by have := (y 0).isLt; show (y 0).val = 0; change (y 0).val < 1 at this; omega) | 1 => rfl | 2 => rfl⟩
    have hy : ((cfg0.win 2).blk t).view.emb (ix3 0 i j) = ix3 (shard t) (row t i) j := by
      refine funext fun a => Fin.ext ?_
      have e := tile_out t
      blk_simp
      rw [e]
      change Fin 3 at a
      match a with
      | 0 => show (4 + t.val / 2 % 4) * 1 + 0 = 4 + t.val / 2 % 4; omega
      | 1 => rfl
      | 2 => show 0 * 1408 + j.val = j.val; omega
    rw [hy]
    exact written m c t h i j
  · show ((j 0).val ≥ 4) ↔ (j 0).val / 1 ≥ 4
    rw [Nat.div_one]
  · funext y
    have e : (dats m 0 c).A 2 = V m c main_v2 := A_eq m c 2
    rw [e, V_into]
    rfl

/-- The reference's gradient of this half's shards, and the array with it put in place. -/
def gradient (x : FVec Ideal S4096x2048 .f32) (g : FVec Ideal S4096x5632 .f32) : FVec Ideal Cert.Reference9Ideal.S4x2048x1408 .bf16 :=
  truncf .bf16 (transpose Cert.Reference9Ideal.S4x2048x1408 [1, 0, 2] (shapeCast Cert.Reference9Ideal.S2048x4x1408 (transpose Cert.Reference9Ideal.S2048x5632 [1, 0]
      (Host.dotGeneral Cert.Reference9Ideal.dot_S4096x5632_S4096x2048_S5632x2048_0_0_1_1_n_n none g x : FVec Ideal Cert.Reference9Ideal.S5632x2048 .f32)
      Cert.Reference9Ideal.Facts₀.transposes_S5632x2048_S2048x5632_1_0) Cert.Reference9Ideal.Facts₀.shapeCasts_S2048x5632_S2048x4x1408)
      Cert.Reference9Ideal.Facts₀.transposes_S2048x4x1408_S4x2048x1408_1_0_2 : FVec Ideal Cert.Reference9Ideal.S4x2048x1408 .f32) bitsLt_bf16_f32

theorem gradient_at (x : FVec Ideal S4096x2048 .f32) (g : FVec Ideal S4096x5632 .f32) (b : Fin 4) (i : Fin 2048) (j : Fin 1408) :
    gradient x g (ix3 b i j) = ∑ s, x (ix2 s i) * g (ix2 s (col (b.castLE (by decide)) j)) := by
  pointwise [gradient]
  refine Finset.sum_congr rfl fun s _ => (mul_comm _ _).trans ?_
  exact congrArg (fun k => x (ix2 s i) * g (ix2 s k)) (Fin.ext (by show b.val * 1408 + j.val = b.val % 4 * 1408 + j.val; omega))

theorem reference_eq (x : FVec Ideal S4096x2048 .f32) (g : FVec Ideal S4096x5632 .f32) (a : FVec Ideal S8x2048x1408 .bf16) :
    concatenate S8x2048x1408 0 [⟨Cert.Reference9Ideal.S4x2048x1408, extractStridedSlice Cert.Reference9Ideal.S4x2048x1408 ![0, 0, 0] a Cert.Reference9Ideal.Facts₀.slices_S8x2048x1408_S4x2048x1408_0_0_0⟩, ⟨Cert.Reference9Ideal.S4x2048x1408, gradient x g⟩]
      Cert.Reference9Ideal.Facts₀.concatenates_S4x2048x1408_S4x2048x1408_S8x2048x1408_d0 = filled x g a := by
  funext y
  obtain ⟨b, i, j, rfl⟩ : ∃ (b : Fin 8) (i : Fin 2048) (j : Fin 1408), y = ix3 b i j := ⟨y 0, y 1, y 2, (ix3_eta y).symm⟩
  by_cases h : b.val ≥ 4
  · refine (?_ : _ = ∑ s, x (ix2 s i) * g (ix2 s (col b j))).trans (if_pos h).symm
    pointwise []
    rw [dif_neg (by omega)]
    refine (gradient_at x g ⟨b.val - 4, by omega⟩ i j).trans (Finset.sum_congr rfl fun s _ => ?_)
    exact congrArg (fun k => x (ix2 s i) * g (ix2 s k)) (Fin.ext (by show (b.val - 4) % 4 * 1408 + j.val = b.val % 4 * 1408 + j.val; omega))
  · refine (?_ : _ = a (ix3 b i j)).trans (if_neg h).symm
    pointwise []
    rw [dif_pos (by omega)]

end Cert.Kernel9Ideal.Value

namespace Cert.Proof

open Idealize.ShloMosaic Idealize.ShloMosaic.TcCoe Idealize.SL.Sem
open Cert.Kernel9Ideal Cert.Kernel9Ideal.Gen Cert.Kernel9Ideal.Value

theorem frame_up_value : Cert.quiescent_Kernel9 := fun m ρ _ => Cert.Kernel9.Gen.frame m ρ
theorem frame_up_value_ideal : Cert.quiescent_Kernel9Ideal := fun m ρ _ => Cert.Kernel9Ideal.Gen.frame m ρ
theorem frame_up_value_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem same_up_value : @Cert.algebraic_Kernel9Ideal_Reference9Ideal Cert.Kernel9Ideal.Gen.facts Cert.Reference9Ideal.Gen.facts := by
  intro m g m' g' hpre hargs
  refine ⟨_, ?_, Cert.Reference9Ideal.Value.run m' g'⟩
  refine (θ_run Cert.Kernel9Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩
  obtain ⟨ex, ew, ei⟩ := hargs c
  rw [ex, ew, ei]
  exact (reference_eq (input m c) (grad m c) (into m c)).symm

end Cert.Proof

end
-- ==== Proof.OutWeight.lean ====
/-
  The gradient of the output projection's weight: the mixed rows transposed times the output's gradient. The mixers' own
  output projection has this gradient too, of its own rows. Each tile of the
  result is visited twice, once for each half of the tokens: the first visit leaves its product in the scratch, the second
  adds its own and writes the tile.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel10Ideal.Value

open Idealize.ShloMosaic Idealize.ShloMosaic.TcCoe Idealize.SL.Sem
open Cert.Kernel10Ideal.Gen

variable (m : (ℓ : Loc nD τ sig) → Buf (Elt Ideal) ℓ) (c : Dev nD)

/-- The arguments. -/
abbrev mix : FVec Ideal S4096x2048 .f32 := m ((c.tc : Thread nD τ).loc main_arg0)
abbrev grad : FVec Ideal S4096x2048 .f32 := m ((c.tc : Thread nD τ).loc main_arg1)

/-- The product of a point's blocks, over its tokens. -/
def part (x : FVec Ideal S2048x1024 .bf16) (g : FVec Ideal S2048x1024 .bf16) (i : Fin 1024) (j : Fin 1024) : EReal :=
  ∑ s : Fin 2048, x (ix2 s i) * g (ix2 s j)

theorem first_at (x : FVec Ideal S2048x1024 .bf16) (g : FVec Ideal S2048x1024 .bf16) (i : Fin 1024) (j : Fin 1024) :
    k0_pay1 (F := Ideal) x g (ix2 i j) = part x g i j := by
  unfold part
  pointwise [k0_pay1]

theorem last_at (a : FVec Ideal S1024x1024 .f32) (x : FVec Ideal S2048x1024 .bf16) (g : FVec Ideal S2048x1024 .bf16) (i : Fin 1024) (j : Fin 1024) :
    k0_pay3 (F := Ideal) a x g (ix3 0 i j) = a (ix2 i j) + part x g i j := by
  unfold part
  pointwise [k0_pay3]

theorem V_mix : V m c main_v0 = truncf .bf16 (mix m c) bitsLt_bf16_f32 := by
  unfold V
  after_reads_simp
theorem V_grad : V m c main_v1 = truncf .bf16 (grad m c) bitsLt_bf16_f32 := by
  unfold V
  after_reads_simp

theorem tile_mix : ∀ t : Fin grid0.N, win0_0.index t = ![t.val % 2, t.val / 4] := by decide +kernel
theorem tile_grad : ∀ t : Fin grid0.N, win0_1.index t = ![t.val % 2, t.val / 2 % 2] := by decide +kernel
theorem tile_out : ∀ t : Fin grid0.N, win0_2.index t = ![0, t.val / 4, t.val / 2 % 2] := by decide +kernel

theorem N_lt (t : Fin grid0.N) : t.val < 8 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 1024) : Fin 2048 := ⟨t.val / 4 * 1024 + i.val, by have := N_lt t; omega⟩
def col (t : Fin grid0.N) (j : Fin 1024) : Fin 2048 := ⟨t.val / 2 % 2 * 1024 + j.val, by omega⟩

theorem block_mix (t : Fin grid0.N) (s : Fin 2048) (i : Fin 1024) : iblk m c 0 t (ix2 s i) = mix m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_mix t
    blk_simp
    rw [e]
    change Fin 2 at a
    match a with
    | 0 => rfl
    | 1 => rfl
  · rw [V_mix]
    pointwise []

theorem block_grad (t : Fin grid0.N) (s : Fin 2048) (j : Fin 1024) : iblk m c 1 t (ix2 s j) = grad m c (ix2 (token (half t) s) (col t j)) := by
  refine Eq.trans (?_ : _ = V m c main_v1 (ix2 (token (half t) s) (col t j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => rfl
  · rw [V_grad]
    pointwise []

/-- A point's share of the result. -/
theorem part_eq (t : Fin grid0.N) (i : Fin 1024) (j : Fin 1024) : part (iblk m c 0 t) (iblk m c 1 t) i j
    = ∑ s, mix m c (ix2 (token (half t) s) (row t i)) * grad m c (ix2 (token (half t) s) (col t j)) := by
  unfold part
  exact Finset.sum_congr rfl fun s _ => congrArg₂ (· * ·) (block_mix m c t s i) (block_grad m c t s j)

theorem after_first (t : Fin cfg0.N) (h : t.val % 2 = 0) (i : Fin 1024) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1024) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1024) (j : Fin 1024) :
    (outsAt0 m c t.val t.isLt).1 (ix3 0 i j) = ∑ s, mix m c (ix2 s (row t i)) * grad m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 4 * 1024 + i.val = t.val / 4 * 1024 + i.val; omega)
  have hc : col ⟨t.val - 1, hlt⟩ j = col t j := Fin.ext (by show (t.val - 1) / 2 % 2 * 1024 + j.val = t.val / 2 % 2 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => mix m c (ix2 s (row t i)) * grad m c (ix2 s (col t j))), Fin.sum_univ_two]
  rfl

/-- The kernel's result under its leading axis, and the reference's. -/
theorem reference_at (x : FVec Ideal S4096x2048 .f32) (g : FVec Ideal S4096x2048 .f32) (i : Fin 2048) (j : Fin 2048) :
    (truncf .bf16 (transpose S2048x2048 [1, 0]
      (Host.dotGeneral Cert.Reference10Ideal.dot_S4096x2048_S4096x2048_S2048x2048_0_0_1_1_n_n none g x : FVec Ideal Cert.Reference10Ideal.S2048x2048 .f32)
      Cert.Reference10Ideal.Facts₀.transposes_S2048x2048_S2048x2048_1_0 : FVec Ideal S2048x2048 .f32) bitsLt_bf16_f32 : FVec Ideal S2048x2048 .bf16) (ix2 i j)
      = ∑ s, x (ix2 s i) * g (ix2 s j) := by
  pointwise []
  exact Finset.sum_congr rfl fun d _ => mul_comm _ _

theorem array : (dats m 0 c).arrAt 2 cfg0.N = (fun y : S1x2048x2048.Idx => ∑ s, mix m c (ix2 s (y 1)) * grad m c (ix2 s (y 2)) : S1x2048x2048.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 1024) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result : Pipeline.afterTail₀ cfgs (dats m) 0 (V0 m) [hostOps1] c main_v3
    = (fun y : S2048x2048.Idx => ∑ s, mix m c (ix2 s (y 0)) * grad m c (ix2 s (y 1)) : S2048x2048.Idx → EReal) := by
  unfold Pipeline.afterTail₀
  after_reads_simp
  rw [show Pipeline.withArrays spec0 c (V0 m c) (fun w => (dats m 0 c).arrAt w cfg0.N) (Proc.devRef .tc main_v2) = _ from
    Pipeline.withArrays_arr spec0 (by decide) c (V0 m c) _ 2]
  rw [array]
  funext y
  rw [← ix2_eta y]
  pointwise []

end Cert.Kernel10Ideal.Value

namespace Cert.Proof

open Idealize.ShloMosaic Idealize.ShloMosaic.TcCoe Idealize.SL.Sem
open Cert.Kernel10Ideal Cert.Kernel10Ideal.Gen Cert.Kernel10Ideal.Value

theorem frame_out_weight : Cert.quiescent_Kernel10 := fun m ρ _ => Cert.Kernel10.Gen.frame m ρ
theorem frame_out_weight_ideal : Cert.quiescent_Kernel10Ideal := fun m ρ _ => Cert.Kernel10Ideal.Gen.frame m ρ
theorem frame_out_weight_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem same_out_weight : @Cert.algebraic_Kernel10Ideal_Reference10Ideal Cert.Kernel10Ideal.Gen.facts Cert.Reference10Ideal.Gen.facts := by
  intro m g m' g' hpre hargs
  refine ⟨_, ?_, Cert.Reference10Ideal.Value.run m' g'⟩
  refine (θ_run Cert.Kernel10Ideal.defs _ _).mono (fun r h c => ?_) (run_main m g)
  refine ⟨((h c).2 main_v3 (Pipeline.mem_restRefs_of main_v3 (by decide) (by decide))).trans ((result m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S2048x2048.Idx) => ?_
  rw [← ix2_eta y]
  exact (reference_at (mix m c) (grad m c) (y 0) (y 1)).symm

end Cert.Proof

end
-- ==== Proof.GateWeight.lean ====
/-
  The gradient of the first weight's columns that make a gate: the kernel forms it transposed, and the host transposes it.
  Each tile of the result is visited twice, once for each half of the tokens: the first visit leaves its product in the
  scratch, the second adds its own and writes the tile. The other gate's columns have this gradient too, of its own rows.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel11Ideal.Value

open Idealize.ShloMosaic Idealize.ShloMosaic.TcCoe Idealize.SL.Sem
open Cert.Kernel11Ideal.Gen

variable (m : (ℓ : Loc nD τ sig) → Buf (Elt Ideal) ℓ) (c : Dev nD)

/-- The arguments. -/
abbrev grad : FVec Ideal S4096x2048 .f32 := m ((c.tc : Thread nD τ).loc main_arg1)
abbrev input : FVec Ideal S4096x2048 .f32 := m ((c.tc : Thread nD τ).loc main_arg0)

/-- The product of a point's blocks, over its tokens. -/
def part (x : FVec Ideal S2048x1024 .bf16) (g : FVec Ideal S2048x1024 .bf16) (i : Fin 1024) (j : Fin 1024) : EReal :=
  ∑ s : Fin 2048, x (ix2 s i) * g (ix2 s j)

theorem first_at (x : FVec Ideal S2048x1024 .bf16) (g : FVec Ideal S2048x1024 .bf16) (i : Fin 1024) (j : Fin 1024) :
    k0_pay1 (F := Ideal) x g (ix2 i j) = part x g i j := by
  unfold part
  pointwise [k0_pay1]

theorem last_at (a : FVec Ideal S1024x1024 .f32) (x : FVec Ideal S2048x1024 .bf16) (g : FVec Ideal S2048x1024 .bf16) (i : Fin 1024) (j : Fin 1024) :
    k0_pay3 (F := Ideal) a x g (ix3 0 i j) = a (ix2 i j) + part x g i j := by
  unfold part
  pointwise [k0_pay3]

theorem V_grad : V m c main_v0 = truncf .bf16 (grad m c) bitsLt_bf16_f32 := by
  unfold V
  after_reads_simp
theorem V_input : V m c main_v1 = truncf .bf16 (input m c) bitsLt_bf16_f32 := by
  unfold V
  after_reads_simp

theorem tile_grad : ∀ t : Fin grid0.N, win0_0.index t = ![t.val % 2, t.val / 4] := by decide +kernel
theorem tile_input : ∀ t : Fin grid0.N, win0_1.index t = ![t.val % 2, t.val / 2 % 2] := by decide +kernel
theorem tile_out : ∀ t : Fin grid0.N, win0_2.index t = ![0, t.val / 4, t.val / 2 % 2] := by decide +kernel

theorem N_lt (t : Fin grid0.N) : t.val < 8 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 1024) : Fin 2048 := ⟨t.val / 4 * 1024 + i.val, by have := N_lt t; omega⟩
def col (t : Fin grid0.N) (j : Fin 1024) : Fin 2048 := ⟨t.val / 2 % 2 * 1024 + j.val, by omega⟩

theorem block_grad (t : Fin grid0.N) (s : Fin 2048) (i : Fin 1024) : iblk m c 0 t (ix2 s i) = grad m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_grad t
    blk_simp
    rw [e]
    change Fin 2 at a
    match a with
    | 0 => rfl
    | 1 => rfl
  · rw [V_grad]
    pointwise []

theorem block_input (t : Fin grid0.N) (s : Fin 2048) (j : Fin 1024) : iblk m c 1 t (ix2 s j) = input m c (ix2 (token (half t) s) (col t j)) := by
  refine Eq.trans (?_ : _ = V m c main_v1 (ix2 (token (half t) s) (col t j))) ?_
  · show V m c main_v1 (((cfg0.win 1).blk t).view.emb (ix2 s j)) = _
    refine congrArg (V m c main_v1) (funext fun a => Fin.ext ?_)
    have e := tile_input t
    blk_simp
    rw [e]
    change Fin 2 at a
    match a with
    | 0 => rfl
    | 1 => rfl
  · rw [V_input]
    pointwise []

/-- A point's share of the result. -/
theorem part_eq (t : Fin grid0.N) (i : Fin 1024) (j : Fin 1024) : part (iblk m c 0 t) (iblk m c 1 t) i j
    = ∑ s, grad m c (ix2 (token (half t) s) (row t i)) * input m c (ix2 (token (half t) s) (col t j)) := by
  unfold part
  exact Finset.sum_congr rfl fun s _ => congrArg₂ (· * ·) (block_grad m c t s i) (block_input m c t s j)

theorem after_first (t : Fin cfg0.N) (h : t.val % 2 = 0) (i : Fin 1024) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1024) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1024) (j : Fin 1024) :
    (outsAt0 m c t.val t.isLt).1 (ix3 0 i j) = ∑ s, grad m c (ix2 s (row t i)) * input m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 4 * 1024 + i.val = t.val / 4 * 1024 + i.val; omega)
  have hc : col ⟨t.val - 1, hlt⟩ j = col t j := Fin.ext (by show (t.val - 1) / 2 % 2 * 1024 + j.val = t.val / 2 % 2 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => grad m c (ix2 s (row t i)) * input m c (ix2 s (col t j))), Fin.sum_univ_two]
  rfl

/-- The kernel's result under its leading axis, and the reference's. -/
theorem reference_at (x : FVec Ideal S4096x2048 .f32) (g : FVec Ideal S4096x2048 .f32) (i : Fin 2048) (j : Fin 2048) :
    (truncf .bf16 (transpose S2048x2048 [1, 0]
      (Host.dotGeneral Cert.Reference11Ideal.dot_S4096x2048_S4096x2048_S2048x2048_0_0_1_1_n_n none g x : FVec Ideal Cert.Reference11Ideal.S2048x2048 .f32)
      Cert.Reference11Ideal.Facts₀.transposes_S2048x2048_S2048x2048_1_0 : FVec Ideal S2048x2048 .f32) bitsLt_bf16_f32 : FVec Ideal S2048x2048 .bf16) (ix2 i j)
      = ∑ s, x (ix2 s i) * g (ix2 s j) := by
  pointwise []
  exact Finset.sum_congr rfl fun d _ => mul_comm _ _

theorem array : (dats m 0 c).arrAt 2 cfg0.N = (fun y : S1x2048x2048.Idx => ∑ s, grad m c (ix2 s (y 1)) * input m c (ix2 s (y 2)) : S1x2048x2048.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 1024) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result : Pipeline.afterTail₀ cfgs (dats m) 0 (V0 m) [hostOps1] c main_v4
    = (fun y : S2048x2048.Idx => ∑ s, input m c (ix2 s (y 0)) * grad m c (ix2 s (y 1)) : S2048x2048.Idx → EReal) := by
  unfold Pipeline.afterTail₀
  after_reads_simp
  rw [show Pipeline.withArrays spec0 c (V0 m c) (fun w => (dats m 0 c).arrAt w cfg0.N) (Proc.devRef .tc main_v2) = _ from
    Pipeline.withArrays_arr spec0 (by decide) c (V0 m c) _ 2]
  rw [array]
  funext y
  rw [← ix2_eta y]
  pointwise []
  exact Finset.sum_congr rfl fun s _ => mul_comm _ _

end Cert.Kernel11Ideal.Value

namespace Cert.Proof

open Idealize.ShloMosaic Idealize.ShloMosaic.TcCoe Idealize.SL.Sem
open Cert.Kernel11Ideal Cert.Kernel11Ideal.Gen Cert.Kernel11Ideal.Value

theorem frame_gate_weight : Cert.quiescent_Kernel11 := fun m ρ _ => Cert.Kernel11.Gen.frame m ρ
theorem frame_gate_weight_ideal : Cert.quiescent_Kernel11Ideal := fun m ρ _ => Cert.Kernel11Ideal.Gen.frame m ρ
theorem frame_gate_weight_reference : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem same_gate_weight : @Cert.algebraic_Kernel11Ideal_Reference11Ideal Cert.Kernel11Ideal.Gen.facts Cert.Reference11Ideal.Gen.facts := by
  intro m g m' g' hpre hargs
  refine ⟨_, ?_, Cert.Reference11Ideal.Value.run m' g'⟩
  refine (θ_run Cert.Kernel11Ideal.defs _ _).mono (fun r h c => ?_) (run_main m g)
  refine ⟨((h c).2 main_v4 (Pipeline.mem_restRefs_of main_v4 (by decide) (by decide))).trans ((result m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S2048x2048.Idx) => ?_
  rw [← ix2_eta y]
  exact (reference_at (input m c) (grad m c) (y 0) (y 1)).symm

end Cert.Proof

end
-- ==== Proof.GateInput.lean ====
/-
  The gradient of the normed input through the gates: the two gates' gradients times their columns of the first weight
  transposed, added to what the other paths give. Each tile of the result is visited twice, once for each gate: the first
  visit leaves its product in the scratch, the second adds its own and the other paths' tile.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel12Ideal.Value

open Idealize.ShloMosaic Idealize.ShloMosaic.TcCoe Idealize.SL.Sem
open Cert.Kernel12Ideal.Gen

variable (m : (ℓ : Loc nD τ sig) → Buf (Elt Ideal) ℓ) (c : Dev nD)

/-- The arguments. -/
abbrev gradA : FVec Ideal S4096x2048 .f32 := m ((c.tc : Thread nD τ).loc main_arg0)
abbrev gradB : FVec Ideal S4096x2048 .f32 := m ((c.tc : Thread nD τ).loc main_arg1)
abbrev weight : FVec Ideal S2048x4096 .f32 := m ((c.tc : Thread nD τ).loc main_arg2)
abbrev other : FVec Ideal S4096x2048 .f32 := m ((c.tc : Thread nD τ).loc main_arg3)

/-- Which of the two gates a visit reads. -/
abbrev side (i : grid0.Coords) : BitVec 1 := Scalar.cmpi .slt (BitVec.ofNat 32 (i 2).val) 1#32
theorem side_eq : ∀ t : Fin grid0.N, side (grid0.coords t) = if t.val % 2 = 0 then 1#1 else 0#1 := by decide +kernel

/-- The product of a visit's blocks. -/
def part (x : FVec Ideal S1024x2048 .bf16) (w : FVec Ideal S1x2048x1024 .bf16) (i : Fin 1024) (j : Fin 1024) : EReal :=
  ∑ d : Fin 2048, x (ix2 i d) * w (ix3 0 d j)

theorem first_at (p : grid0.Coords) (x y : FVec Ideal S1024x2048 .bf16) (w : FVec Ideal S1x2048x1024 .bf16) (i : Fin 1024) (j : Fin 1024) :
    k0_pay1 (F := Ideal) p x y w (ix2 i j) = part (Scalar.select (side p) x y) w i j := by
  unfold part k0_pay1
  dsimp only
  generalize hs : Scalar.select _ _ _ = z
  have hz : z = Scalar.select (side p) x y := by rw [← hs, shapeCast_self, shapeCast_self]
  rw [← hz]
  pointwise []
theorem last_at (p : grid0.Coords) (a : FVec Ideal S1024x1024 .f32) (x y : FVec Ideal S1024x2048 .bf16) (w : FVec Ideal S1x2048x1024 .bf16)
    (b : FVec Ideal S1024x1024 .f32) (i : Fin 1024) (j : Fin 1024) :
    k0_pay3 (F := Ideal) p a x y w b (ix2 i j) = a (ix2 i j) + part (Scalar.select (side p) x y) w i j + b (ix2 i j) := by
  unfold part k0_pay3
  dsimp only
  generalize hs : Scalar.select _ _ _ = z
  have hz : z = Scalar.select (side p) x y := by rw [← hs, shapeCast_self, shapeCast_self]
  rw [← hz]
  pointwise []

theorem V_gradA : V m c main_v0 = truncf .bf16 (gradA m c) bitsLt_bf16_f32 := by
  unfold V
  after_reads_simp
theorem V_gradB : V m c main_v1 = truncf .bf16 (gradB m c) bitsLt_bf16_f32 := by
  unfold V
  after_reads_simp
theorem V_weight : V m c main_v4 = broadcastInDim S1x4096x2048 ![1, 2] bcast_S4096x2048_S1x4096x2048_1_2
    (transpose S4096x2048 [1, 0] (truncf .bf16 (weight m c) bitsLt_bf16_f32 : FVec Ideal S2048x4096 .bf16) transposes_S2048x4096_S4096x2048_1_0) := by
  unfold V
  after_reads_simp

theorem tile_gradA : ∀ t : Fin grid0.N, win0_0.index t = ![t.val / 4, 0] := by decide +kernel
theorem tile_gradB : ∀ t : Fin grid0.N, win0_1.index t = ![t.val / 4, 0] := by decide +kernel
theorem tile_weight : ∀ t : Fin grid0.N, win0_2.index t = ![0, t.val % 2, t.val / 2 % 2] := by decide +kernel
theorem tile_other : ∀ t : Fin grid0.N, win0_3.index t = ![t.val / 4, t.val / 2 % 2] := by decide +kernel
theorem tile_out : ∀ t : Fin grid0.N, win0_4.index t = ![t.val / 4, t.val / 2 % 2] := by decide +kernel

theorem N_lt (t : Fin grid0.N) : t.val < 16 := t.isLt

/-- Rows and columns of a visit's tile; the gates' columns of a half. -/
def row (t : Fin grid0.N) (i : Fin 1024) : Fin 4096 := ⟨t.val / 4 * 1024 + i.val, by have := N_lt t; omega⟩
def col (t : Fin grid0.N) (j : Fin 1024) : Fin 2048 := ⟨t.val / 2 % 2 * 1024 + j.val, by omega⟩
def half (s : Fin 2) (d : Fin 2048) : Fin 4096 := ⟨s.val * 2048 + d.val, by omega⟩

theorem block_gradA (t : Fin grid0.N) (i : Fin 1024) (d : Fin 2048) : iblk m c 0 t (ix2 i d) = gradA m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_gradA t
    blk_simp
    rw [e]
    change Fin 2 at a
    match a with
    | 0 => rfl
    | 1 => show 0 * 2048 + d.val = d.val; omega
  · rw [V_gradA]
    pointwise []

theorem block_gradB (t : Fin grid0.N) (i : Fin 1024) (d : Fin 2048) : iblk m c 1 t (ix2 i d) = gradB m c (ix2 (row t i) d) := by
  refine Eq.trans (?_ : _ = V m c main_v1 (ix2 (row t i) d)) ?_
  · show V m c main_v1 (((cfg0.win 1).blk t).view.emb (ix2 i d)) = _
    refine congrArg (V m c main_v1) (funext fun a => Fin.ext ?_)
    have e := tile_gradB t
    blk_simp
    rw [e]
    change Fin 2 at a
    match a with
    | 0 => rfl
    | 1 => show 0 * 2048 + d.val = d.val; omega
  · rw [V_gradB]
    pointwise []

theorem block_weight (t : Fin grid0.N) (s : Fin 2) (hs : t.val % 2 = s.val) (d : Fin 2048) (j : Fin 1024) :
    iblk m c 2 t (ix3 0 d j) = weight m c (ix2 (col t j) (half s d)) := by
  refine Eq.trans (?_ : _ = V m c main_v4 (ix3 0 (half s d) (col t j))) ?_
  · show V m c main_v4 (((cfg0.win 2).blk t).view.emb (ix3 0 d j)) = _
    refine congrArg (V m c main_v4) (funext fun a => Fin.ext ?_)
    have e := tile_weight t
    blk_simp
    rw [e]
    change Fin 3 at a
    match a with
    | 0 => rfl
    | 1 => show t.val % 2 * 2048 + d.val = s.val * 2048 + d.val; rw [hs]
    | 2 => rfl
  · rw [V_weight]
    pointwise []

theorem block_other (t : Fin grid0.N) (i : Fin 1024) (j : Fin 1024) : iblk m c 3 t (ix2 i j) = other m c (ix2 (row t i) (col t j)) := by
  refine Eq.trans (?_ : _ = V m c main_arg3 (ix2 (row t i) (col t j))) ?_
  · show V m c main_arg3 (((cfg0.win 3).blk t).view.emb (ix2 i j)) = _
    refine congrArg (V m c main_arg3) (funext fun a => Fin.ext ?_)
    have e := tile_other t
    blk_simp
    rw [e]
    change Fin 2 at a
    match a with
    | 0 => rfl
    | 1 => rfl
  · exact congrFun (V_main_arg3 m c) _

/-- The two products of a tile. -/
theorem term_first (t : Fin grid0.N) (h : t.val % 2 = 0) (i : Fin 1024) (j : Fin 1024) :
    part (Scalar.select (side (grid0.coords t)) (iblk m c 0 t) (iblk m c 1 t)) (iblk m c 2 t) i j
      = ∑ d, gradA m c (ix2 (row t i) d) * weight m c (ix2 (col t j) (half 0 d)) := by
  unfold part
  rw [side_eq, if_pos h]
  exact Finset.sum_congr rfl fun d _ => congrArg₂ (· * ·) (block_gradA m c t i d) (block_weight m c t 0 h d j)

theorem term_last (t : Fin grid0.N) (h : t.val % 2 = 1) (i : Fin 1024) (j : Fin 1024) :
    part (Scalar.select (side (grid0.coords t)) (iblk m c 0 t) (iblk m c 1 t)) (iblk m c 2 t) i j
      = ∑ d, gradB m c (ix2 (row t i) d) * weight m c (ix2 (col t j) (half 1 d)) := by
  unfold part
  rw [side_eq, if_neg (by omega)]
  exact Finset.sum_congr rfl fun d _ => congrArg₂ (· * ·) (block_gradB m c t i d) (block_weight m c t 1 h d j)

theorem after_first (t : Fin cfg0.N) (h : t.val % 2 = 0) (i : Fin 1024) (j : Fin 1024) :
    (outsAt0 m c t.val t.isLt).2 (ix2 i j) = ∑ d, gradA m c (ix2 (row t i) d) * weight m c (ix2 (col t j) (half 0 d)) := by
  rw [outsAt0_A m c t h (by omega)]
  frame_out
  exact (first_at _ _ _ _ _ _).trans (term_first m c t h i j)

theorem after_last (t : Fin cfg0.N) (h : t.val % 2 = 1) (i : Fin 1024) (j : Fin 1024) :
    (outsAt0 m c t.val t.isLt).1 (ix2 i j)
      = (outsAt0 m c (t.val - 1) (Nat.lt_of_le_of_lt (Nat.sub_le _ _) t.isLt)).2 (ix2 i j)
        + (∑ d, gradB m c (ix2 (row t i) d) * weight m c (ix2 (col t j) (half 1 d))) + other m c (ix2 (row t i) (col t j)) := by
  rw [outsAt0_B m c t (by omega) h]
  frame_out
  simp only [read_unread_whole]
  exact (last_at _ _ _ _ _ _ _ _).trans (congrArg₂ (· + ·) (congrArg _ (term_last m c t h i j)) (block_other m c t i j))

theorem written (t : Fin cfg0.N) (h : t.val % 2 = 1) (i : Fin 1024) (j : Fin 1024) :
    (outsAt0 m c t.val t.isLt).1 (ix2 i j) = other m c (ix2 (row t i) (col t j))
      + ((∑ d, gradA m c (ix2 (row t i) d) * weight m c (ix2 (col t j) (half 0 d)))
        + ∑ d, gradB m c (ix2 (row t i) d) * weight m c (ix2 (col t j) (half 1 d))) := by
  have e := after_first m c ⟨t.val - 1, Nat.lt_of_le_of_lt (Nat.sub_le _ _) t.isLt⟩ (by show (t.val - 1) % 2 = 0; omega) i j
  have hr : row ⟨t.val - 1, Nat.lt_of_le_of_lt (Nat.sub_le _ _) t.isLt⟩ i = row t i :=
    Fin.ext (by show (t.val - 1) / 4 * 1024 + i.val = t.val / 4 * 1024 + i.val; omega)
  have hc : col ⟨t.val - 1, Nat.lt_of_le_of_lt (Nat.sub_le _ _) t.isLt⟩ j = col t j :=
    Fin.ext (by show (t.val - 1) / 2 % 2 * 1024 + j.val = t.val / 2 % 2 * 1024 + j.val; omega)
  rw [hr, hc] at e
  rw [after_last m c t h i j, add_comm]
  exact congrArg (fun z => _ + (z + _)) e

/-- The two gates' gradients side by side. -/
def both (x y : FVec Ideal S4096x2048 .f32) : FVec Ideal Cert.Reference12Ideal.S4096x4096 .f32 :=
  concatenate Cert.Reference12Ideal.S4096x4096 1 [⟨S4096x2048, x⟩, ⟨S4096x2048, y⟩] Cert.Reference12Ideal.Facts₀.concatenates_S4096x2048_S4096x2048_S4096x4096_d1

theorem both_left (x y : FVec Ideal S4096x2048 .f32) (i : Fin 4096) (d : Fin 2048) : both x y (ix2 i (half 0 d)) = x (ix2 i d) := by
  unfold both half
  pointwise []

theorem both_right (x y : FVec Ideal S4096x2048 .f32) (i : Fin 4096) (d : Fin 2048) : both x y (ix2 i (half 1 d)) = y (ix2 i d) := by
  unfold both half
  pointwise []

/-- The reference's value. -/
def wanted (x y : FVec Ideal S4096x2048 .f32) (w : FVec Ideal S2048x4096 .f32) (a : FVec Ideal S4096x2048 .f32) : FVec Ideal S4096x2048 .f32 :=
  addf a (Host.dotGeneral (F := Ideal) Cert.Reference12Ideal.dot_S4096x4096_S2048x4096_S4096x2048_1_1_0_0_n_n none (both x y) w)

theorem reference_at (x y : FVec Ideal S4096x2048 .f32) (w : FVec Ideal S2048x4096 .f32) (a : FVec Ideal S4096x2048 .f32) (i : Fin 4096) (j : Fin 2048) :
    wanted x y w a (ix2 i j) = a (ix2 i j) + ((∑ d, x (ix2 i d) * w (ix2 j (half 0 d))) + ∑ d, y (ix2 i d) * w (ix2 j (half 1 d))) := by
  unfold wanted
  generalize hz : both x y = z
  pointwise []
  refine congrArg _ (Eq.trans (Fin.sum_mul_add_fin 2 2048 (fun k : Fin 4096 => z (ix2 i k) * w (ix2 j k))).symm ?_)
  refine (Fin.sum_univ_two _).trans (congrArg₂ (· + ·) ?_ ?_)
  · refine Finset.sum_congr rfl fun d _ => congrArg (· * _) ?_
    rw [← hz]; exact both_left x y i d
  · refine Finset.sum_congr rfl fun d _ => congrArg (· * _) ?_
    rw [← hz]; exact both_right x y i d

theorem result : (dats m 0 c).arrAt 4 cfg0.N = wanted (gradA m c) (gradB m c) (weight m c) (other m c) := by
  refine (dats m 0 c).arrAt_eq_of_covers 4 _ (by decide +kernel) fun t hf y => ?_
  blk_simp
  rw [after0_4]
  have h := (flush0_4 t).mp hf
  obtain ⟨i, j, rfl⟩ : ∃ (i : Fin 1024) (j : Fin 1024), y = ix2 i j := ⟨y 0, y 1, (ix2_eta y).symm⟩
  have hy : ((cfg0.win 4).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact written m c t h i j

end Cert.Kernel12Ideal.Value

namespace Cert.Proof

open Idealize.ShloMosaic Idealize.ShloMosaic.TcCoe Idealize.SL.Sem
open Cert.Kernel12Ideal Cert.Kernel12Ideal.Gen Cert.Kernel12Ideal.Value

theorem frame_gate_input : Cert.quiescent_Kernel12 := fun m ρ _ => Cert.Kernel12.Gen.frame m ρ
theorem frame_gate_input_ideal : Cert.quiescent_Kernel12Ideal := fun m ρ _ => Cert.Kernel12Ideal.Gen.frame m ρ
theorem frame_gate_input_reference : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

theorem same_gate_input : @Cert.algebraic_Kernel12Ideal_Reference12Ideal Cert.Kernel12Ideal.Gen.facts Cert.Reference12Ideal.Gen.facts := by
  intro m g m' g' hpre hargs
  refine ⟨_, ?_, Cert.Reference12Ideal.Value.run m' g'⟩
  refine (θ_run Cert.Kernel12Ideal.defs _ _).mono (fun r h c => ?_) (run_main m g)
  refine ⟨((h c).1 4).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c)))⟩
  obtain ⟨e0, e1, e2, e3⟩ := hargs c
  rw [e0, e1, e2, e3]
  rfl

end Cert.Proof

end
-- ==== Proof.Layout.lean ====
/-
  Where the version keeps the columns of its first weight. The arrays hold 4416 columns: the convolution's and the query's
  (3840), the latent's (512) and the rotated key's (64). The version keeps 4608: the latent's moved to the end, each half of
  the rotated key's followed by zeros, and 128 more zeros between.
-/
module

public import Mathlib.Data.EReal.Operations
public import Mathlib.Algebra.BigOperators.Fin

@[expose] public section

namespace Cert.Layout

/-- The place of a column among the 4608. -/
def spot (k : ℕ) : ℕ := if k < 3840 then k else if k < 4352 then k + 256 else if k < 4384 then k - 512 else k - 480

theorem spot_lt (k : Fin 4416) : spot k.val < 4608 := by
  unfold spot; split_ifs <;> omega

def place (k : Fin 4416) : Fin 4608 := ⟨spot k.val, spot_lt k⟩

theorem place_injective : Function.Injective place := by
  intro a b h
  have h : spot a.val = spot b.val := congrArg Fin.val h
  have ha := a.isLt
  have hb := b.isLt
  refine Fin.ext ?_
  unfold spot at h
  split_ifs at h <;> omega

/-- The places that hold zeros. -/
def blank (k : Fin 4608) : Prop := (3872 ≤ k.val ∧ k.val < 3904) ∨ (3936 ≤ k.val ∧ k.val < 4096)

theorem blank_of_not_place (k : Fin 4608) (h : k ∉ Set.range place) : blank k := by
  by_contra hb
  refine h ?_
  have hk := k.isLt
  have hb : ¬((3872 ≤ k.val ∧ k.val < 3904) ∨ (3936 ≤ k.val ∧ k.val < 4096)) := hb
  by_cases h1 : k.val < 3840
  · exact ⟨⟨k.val, by omega⟩, Fin.ext (by show spot k.val = k.val; unfold spot; split_ifs <;> omega)⟩
  by_cases h2 : k.val < 3872
  · exact ⟨⟨k.val + 512, by omega⟩, Fin.ext (by show spot (k.val + 512) = k.val; unfold spot; split_ifs <;> omega)⟩
  by_cases h3 : k.val < 3936
  · exact ⟨⟨k.val + 480, by omega⟩, Fin.ext (by show spot (k.val + 480) = k.val; unfold spot; split_ifs <;> omega)⟩
  · exact ⟨⟨k.val - 256, by omega⟩, Fin.ext (by show spot (k.val - 256) = k.val; unfold spot; split_ifs <;> omega)⟩

/-- A sum over the 4608 places of what is zero at the blank ones is the sum over the columns. -/
theorem sum_place (f : Fin 4416 → EReal) (g : Fin 4608 → EReal) (hg : ∀ k, blank k → g k = 0) (h : ∀ k, f k = g (place k)) :
    ∑ k, f k = ∑ k, g k :=
  Fintype.sum_of_injective place place_injective f g (fun k hk => hg k (blank_of_not_place k hk)) h

/-- A row laid out: the columns at their places, and zeros. -/
noncomputable def laid (f : Fin 4416 → EReal) (k : Fin 4608) : EReal :=
  if _ : k.val < 3840 then f ⟨k.val, by omega⟩
  else if _ : k.val - 3840 < 128 then
    if _ : k.val - 3840 < 32 then f ⟨4352 + (k.val - 3840), by omega⟩
    else if _ : k.val - 3840 - 32 < 32 then 0
    else if _ : k.val - 3840 - 32 - 32 < 32 then f ⟨4352 + (32 + (k.val - 3840 - 32 - 32)), by omega⟩
    else 0
  else if _ : k.val - 3840 - 128 < 128 then 0
  else f ⟨3840 + (k.val - 3840 - 128 - 128), by have := k.isLt; omega⟩

theorem laid_place (f : Fin 4416 → EReal) (k : Fin 4416) : laid f (place k) = f k := by
  have hk := k.isLt
  have hv : (place k).val = spot k.val := rfl
  unfold spot at hv
  unfold laid
  split_ifs at hv ⊢ <;> first | omega | exact congrArg f (Fin.ext (by dsimp only; omega))

theorem laid_blank (f : Fin 4416 → EReal) (k : Fin 4608) (h : blank k) : laid f k = 0 := by
  have hk := k.isLt
  unfold blank at h
  unfold laid
  split_ifs <;> first | rfl | omega

/-- A product of two laid out rows is the product of the rows. -/
theorem sum_laid (f g : Fin 4416 → EReal) : ∑ k, laid f k * laid g k = ∑ k, f k * g k := by
  refine (sum_place (fun k => f k * g k) (fun k => laid f k * laid g k) (fun k hk => ?_) (fun k => ?_)).symm
  · show laid f k * laid g k = 0
    rw [laid_blank f k hk, zero_mul]
  · show f k * g k = laid f (place k) * laid g (place k)
    rw [laid_place, laid_place]

end Cert.Layout

end
-- ==== Proof.LatentWeight.lean ====
/-
  The gradient of the first weight's columns that make the convolution and the latents. The kernel forms it transposed and
  laid out over 4608 rows, the host reads the columns back from their places. Each tile is visited twice, once for each half
  of the tokens: the first visit leaves its product in the scratch, the second adds its own and writes the tile.
-/
module

public import proofs.«01_k».proof.Proof.Layout
public import proofs.«01_k».proof.Defs
public import proofs.«01_k».proof.Proof.Gen.Kernel13.Frame
public import proofs.«01_k».proof.Proof.Gen.Kernel13Ideal.Frame
public import proofs.«01_k».proof.Proof.Gen.Reference13Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel13Ideal.Value

open Idealize.ShloMosaic Idealize.ShloMosaic.TcCoe Idealize.SL.Sem
open Cert.Kernel13Ideal.Gen

variable (m : (ℓ : Loc nD τ sig) → Buf (Elt Ideal) ℓ) (c : Dev nD)

/-- The arguments. -/
abbrev grad : FVec Ideal S4096x4416 .f32 := m ((c.tc : Thread nD τ).loc main_arg1)
abbrev input : FVec Ideal S4096x2048 .f32 := m ((c.tc : Thread nD τ).loc main_arg0)

/-- The rows' gradient, laid out. -/
def gradLaid (i : Fin 4096) (k : Fin 4608) : EReal := Layout.laid (fun k => grad m c (ix2 i k)) k

/-- The product of a point's blocks, over its tokens. -/
def part (x : FVec Ideal S2048x1536 .bf16) (g : FVec Ideal S2048x1024 .bf16) (i : Fin 1536) (j : Fin 1024) : EReal :=
  ∑ s : Fin 2048, x (ix2 s i) * g (ix2 s j)

theorem first_at (x : FVec Ideal S2048x1536 .bf16) (g : FVec Ideal S2048x1024 .bf16) (i : Fin 1536) (j : Fin 1024) :
    k0_pay1 (F := Ideal) x g (ix2 i j) = part x g i j := by
  unfold part
  pointwise [k0_pay1]

theorem last_at (a : FVec Ideal S1536x1024 .f32) (x : FVec Ideal S2048x1536 .bf16) (g : FVec Ideal S2048x1024 .bf16) (i : Fin 1536) (j : Fin 1024) :
    k0_pay3 (F := Ideal) a x g (ix3 0 i j) = a (ix2 i j) + part x g i j := by
  unfold part
  pointwise [k0_pay3]

theorem V_grad (i : Fin 4096) (k : Fin 4608) : V m c main_v9 (ix2 i k) = gradLaid m c i k := by
  unfold V
  after_reads_simp
  pointwise []
  after_reads_simp
  pointwise []
  after_reads_simp
  pointwise []
  rfl
theorem V_input : V m c main_v10 = truncf .bf16 (input m c) bitsLt_bf16_f32 := by
  unfold V
  after_reads_simp

theorem tile_grad : ∀ t : Fin grid0.N, win0_0.index t = ![t.val % 2, t.val / 4] := by decide +kernel
theorem tile_input : ∀ t : Fin grid0.N, win0_1.index t = ![t.val % 2, t.val / 2 % 2] := by decide +kernel
theorem tile_out : ∀ t : Fin grid0.N, win0_2.index t = ![0, t.val / 4, t.val / 2 % 2] := by decide +kernel

theorem N_lt (t : Fin grid0.N) : t.val < 12 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 1536) : Fin 4608 := ⟨t.val / 4 * 1536 + i.val, by have := N_lt t; omega⟩
def col (t : Fin grid0.N) (j : Fin 1024) : Fin 2048 := ⟨t.val / 2 % 2 * 1024 + j.val, by omega⟩

theorem block_grad (t : Fin grid0.N) (s : Fin 2048) (i : Fin 1536) : iblk m c 0 t (ix2 s i) = gradLaid m c (token (half t) s) (row t i) := by
  refine Eq.trans (?_ : _ = V m c main_v9 (ix2 (token (half t) s) (row t i))) ?_
  · show V m c main_v9 (((cfg0.win 0).blk t).view.emb (ix2 s i)) = _
    refine congrArg (V m c main_v9) (funext fun a => Fin.ext ?_)
    have e := tile_grad t
    blk_simp
    rw [e]
    change Fin 2 at a
    match a with
    | 0 => rfl
    | 1 => rfl
  · exact V_grad m c _ _

theorem block_input (t : Fin grid0.N) (s : Fin 2048) (j : Fin 1024) : iblk m c 1 t (ix2 s j) = input m c (ix2 (token (half t) s) (col t j)) := by
  refine Eq.trans (?_ : _ = V m c main_v10 (ix2 (token (half t) s) (col t j))) ?_
  · show V m c main_v10 (((cfg0.win 1).blk t).view.emb (ix2 s j)) = _
    refine congrArg (V m c main_v10) (funext fun a => Fin.ext ?_)
    have e := tile_input t
    blk_simp
    rw [e]
    change Fin 2 at a
    match a with
    | 0 => rfl
    | 1 => rfl
  · rw [V_input]
    pointwise []

/-- A point's share of the result. -/
theorem part_eq (t : Fin grid0.N) (i : Fin 1536) (j : Fin 1024) : part (iblk m c 0 t) (iblk m c 1 t) i j
    = ∑ s, gradLaid m c (token (half t) s) (row t i) * input m c (ix2 (token (half t) s) (col t j)) := by
  unfold part
  exact Finset.sum_congr rfl fun s _ => congrArg₂ (· * ·) (block_grad m c t s i) (block_input m c t s j)

theorem after_first (t : Fin cfg0.N) (h : t.val % 2 = 0) (i : Fin 1536) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1536) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1536) (j : Fin 1024) :
    (outsAt0 m c t.val t.isLt).1 (ix3 0 i j) = ∑ s, gradLaid m c s (row t i) * input m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 4 * 1536 + i.val = t.val / 4 * 1536 + i.val; omega)
  have hc : col ⟨t.val - 1, hlt⟩ j = col t j := Fin.ext (by show (t.val - 1) / 2 % 2 * 1024 + j.val = t.val / 2 % 2 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => gradLaid m c s (row t i) * input m c (ix2 s (col t j))), Fin.sum_univ_two]
  rfl

/-- The reference's result. -/
theorem reference_at (x : FVec Ideal S4096x2048 .f32) (g : FVec Ideal S4096x4416 .f32) (i : Fin 2048) (j : Fin 4416) :
    (truncf .bf16 (transpose S2048x4416 [1, 0]
      (Host.dotGeneral Cert.Reference13Ideal.dot_S4096x4416_S4096x2048_S4416x2048_0_0_1_1_n_n none g x : FVec Ideal Cert.Reference13Ideal.S4416x2048 .f32)
      Cert.Reference13Ideal.Facts₀.transposes_S4416x2048_S2048x4416_1_0 : FVec Ideal S2048x4416 .f32) bitsLt_bf16_f32 : FVec Ideal S2048x4416 .bf16) (ix2 i j)
      = ∑ s, g (ix2 s j) * x (ix2 s i) := by
  pointwise []

/-- A column of the gradient, from its place. -/
theorem from_place (i : Fin 2048) (q : Fin 4416) (k : Fin 4608) (h : Layout.place q = k) :
    ∑ s, gradLaid m c s k * input m c (ix2 s i) = ∑ s, grad m c (ix2 s q) * input m c (ix2 s i) := by
  refine Finset.sum_congr rfl fun s _ => congrArg (· * _) ?_
  unfold gradLaid
  rw [← h, Layout.laid_place]

theorem array : (dats m 0 c).arrAt 2 cfg0.N = (fun y : S1x4608x2048.Idx => ∑ s, gradLaid m c s (y 1) * input m c (ix2 s (y 2)) : S1x4608x2048.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 1536) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result (i : Fin 2048) (k : Fin 4416) : Pipeline.afterTail₀ cfgs (dats m) 0 (V0 m) [hostOps1] c main_v18 (ix2 i k)
    = ∑ s, grad m c (ix2 s k) * input m c (ix2 s i) := by
  unfold Pipeline.afterTail₀
  after_reads_simp
  pointwise []
  after_reads_simp
  rw [show Pipeline.withArrays spec0 c (V0 m c) (fun w => (dats m 0 c).arrAt w cfg0.N) (Proc.devRef .tc main_v11) = _ from
    Pipeline.withArrays_arr spec0 (by decide) c (V0 m c) _ 2]
  rw [array]
  pointwise []
  have hk := k.isLt
  split_ifs
  all_goals
    refine from_place m c i k _ (Fin.ext ?_)
    show Layout.spot k.val = _
    unfold Layout.spot
    dsimp only
    split_ifs <;> omega

end Cert.Kernel13Ideal.Value

namespace Cert.Proof

open Idealize.ShloMosaic Idealize.ShloMosaic.TcCoe Idealize.SL.Sem
open Cert.Kernel13Ideal Cert.Kernel13Ideal.Gen Cert.Kernel13Ideal.Value

theorem frame_latent_weight : Cert.quiescent_Kernel13 := fun m ρ _ => Cert.Kernel13.Gen.frame m ρ
theorem frame_latent_weight_ideal : Cert.quiescent_Kernel13Ideal := fun m ρ _ => Cert.Kernel13Ideal.Gen.frame m ρ
theorem frame_latent_weight_reference : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

theorem same_latent_weight : @Cert.algebraic_Kernel13Ideal_Reference13Ideal Cert.Kernel13Ideal.Gen.facts Cert.Reference13Ideal.Gen.facts := by
  intro m g m' g' hpre hargs
  refine ⟨_, ?_, Cert.Reference13Ideal.Value.run m' g'⟩
  refine (θ_run Cert.Kernel13Ideal.defs _ _).mono (fun r h c => ?_) (run_main m g)
  refine ⟨((h c).2 main_v18 (Pipeline.mem_restRefs_of main_v18 (by decide) (by decide))).trans ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S2048x4416.Idx) => ?_
  obtain ⟨i, k, rfl⟩ : ∃ (i : Fin 2048) (k : Fin 4416), y = ix2 i k := ⟨y 0, y 1, (ix2_eta y).symm⟩
  exact (result m c i k).trans (reference_at (input m c) (grad m c) i k).symm

end Cert.Proof

end
-- ==== Proof.LatentInput.lean ====
/-
  The gradient of the normed input through the columns of the first weight that make the convolution and the latents. The
  kernel reads both factors laid out over 4608 columns, zeros at the blank ones. Each tile of the result is visited three
  times: the scratch holds the sum over the columns met so far, the last visit writes it.
-/
module

public import proofs.«01_k».proof.Proof.Layout
public import proofs.«01_k».proof.Defs
public import proofs.«01_k».proof.Proof.Gen.Kernel14.Frame
public import proofs.«01_k».proof.Proof.Gen.Kernel14Ideal.Frame
public import proofs.«01_k».proof.Proof.Gen.Reference14Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel14Ideal.Value

open Idealize.ShloMosaic Idealize.ShloMosaic.TcCoe Idealize.SL.Sem
open Cert.Kernel14Ideal.Gen

variable (m : (ℓ : Loc nD τ sig) → Buf (Elt Ideal) ℓ) (c : Dev nD)

/-- The arguments. -/
abbrev weight : FVec Ideal S2048x4416 .f32 := m ((c.tc : Thread nD τ).loc main_arg0)
abbrev grad : FVec Ideal S4096x4416 .f32 := m ((c.tc : Thread nD τ).loc main_arg1)

theorem V_grad (i : Fin 4096) (k : Fin 4608) : V m c main_v9 (ix2 i k) = Layout.laid (fun k => grad m c (ix2 i k)) k := by
  unfold V
  after_reads_simp
  pointwise []
  after_reads_simp
  pointwise []
  after_reads_simp
  pointwise []
  rfl

theorem V_weight (k : Fin 4608) (j : Fin 2048) : V m c main_v21 (ix3 0 k j) = Layout.laid (fun k => weight m c (ix2 j k)) k := by
  unfold V
  after_reads_simp
  pointwise []
  after_reads_simp
  pointwise []
  after_reads_simp
  pointwise []
  rfl

/-- The product of a visit's blocks. -/
def part (x : FVec Ideal S1024x1536 .bf16) (w : FVec Ideal S1x1536x1024 .bf16) (i : Fin 1024) (j : Fin 1024) : EReal :=
  ∑ d : Fin 1536, x (ix2 i d) * w (ix3 0 d j)

theorem first_at (x : FVec Ideal S1024x1536 .bf16) (w : FVec Ideal S1x1536x1024 .bf16) (i : Fin 1024) (j : Fin 1024) :
    k0_pay1 (F := Ideal) x w (ix2 i j) = part x w i j := by
  unfold part
  pointwise [k0_pay1]
theorem next_at (a : FVec Ideal S1024x1024 .f32) (x : FVec Ideal S1024x1536 .bf16) (w : FVec Ideal S1x1536x1024 .bf16) (i : Fin 1024) (j : Fin 1024) :
    k0_pay2 (F := Ideal) a x w (ix2 i j) = a (ix2 i j) + part x w i j := by
  unfold part
  pointwise [k0_pay2]
theorem last_at (a : FVec Ideal S1024x1024 .f32) (x : FVec Ideal S1024x1536 .bf16) (w : FVec Ideal S1x1536x1024 .bf16) (i : Fin 1024) (j : Fin 1024) :
    k0_pay3 (F := Ideal) a x w (ix2 i j) = a (ix2 i j) + part x w i j := by
  unfold part
  pointwise [k0_pay3]

theorem tile_grad : ∀ t : Fin grid0.N, win0_0.index t = ![t.val / 6, t.val % 3] := by decide +kernel
theorem tile_weight : ∀ t : Fin grid0.N, win0_1.index t = ![0, t.val % 3, t.val / 3 % 2] := by decide +kernel
theorem tile_out : ∀ t : Fin grid0.N, win0_2.index t = ![t.val / 6, t.val / 3 % 2] := by decide +kernel

theorem N_lt (t : Fin grid0.N) : t.val < 24 := t.isLt

/-- Rows and columns of a visit's tile; the places a visit adds over. -/
def row (t : Fin grid0.N) (i : Fin 1024) : Fin 4096 := ⟨t.val / 6 * 1024 + i.val, by have := N_lt t; omega⟩
def col (t : Fin grid0.N) (j : Fin 1024) : Fin 2048 := ⟨t.val / 3 % 2 * 1024 + j.val, by omega⟩
def turn (t : Fin grid0.N) : Fin 3 := ⟨t.val % 3, by omega⟩
def over (s : Fin 3) (d : Fin 1536) : Fin 4608 := ⟨s.val * 1536 + d.val, by omega⟩

theorem block_grad (t : Fin grid0.N) (i : Fin 1024) (d : Fin 1536) :
    iblk m c 0 t (ix2 i d) = Layout.laid (fun k => grad m c (ix2 (row t i) k)) (over (turn t) d) := by
  refine Eq.trans (?_ : _ = V m c main_v9 (ix2 (row t i) (over (turn t) d))) (V_grad m c _ _)
  show V m c main_v9 (((cfg0.win 0).blk t).view.emb (ix2 i d)) = _
  refine congrArg (V m c main_v9) (funext fun a => Fin.ext ?_)
  have e := tile_grad t
  blk_simp
  rw [e]
  change Fin 2 at a
  match a with
  | 0 => rfl
  | 1 => rfl

theorem block_weight (t : Fin grid0.N) (d : Fin 1536) (j : Fin 1024) :
    iblk m c 1 t (ix3 0 d j) = Layout.laid (fun k => weight m c (ix2 (col t j) k)) (over (turn t) d) := by
  refine Eq.trans (?_ : _ = V m c main_v21 (ix3 0 (over (turn t) d) (col t j))) (V_weight m c _ _)
  show V m c main_v21 (((cfg0.win 1).blk t).view.emb (ix3 0 d j)) = _
  refine congrArg (V m c main_v21) (funext fun a => Fin.ext ?_)
  have e := tile_weight t
  blk_simp
  rw [e]
  change Fin 3 at a
  match a with
  | 0 => rfl
  | 1 => rfl
  | 2 => rfl

/-- What a place gives to an entry of the result, and a visit's share. -/
def share (r : Fin 4096) (q : Fin 2048) (k : Fin 4608) : EReal :=
  Layout.laid (fun k => grad m c (ix2 r k)) k * Layout.laid (fun k => weight m c (ix2 q k)) k
def term (t : Fin grid0.N) (i : Fin 1024) (j : Fin 1024) : EReal := part (iblk m c 0 t) (iblk m c 1 t) i j

theorem term_eq (t : Fin grid0.N) (i : Fin 1024) (j : Fin 1024) : term m c t i j = ∑ d, share m c (row t i) (col t j) (over (turn t) d) := by
  unfold term part share
  exact Finset.sum_congr rfl fun d _ => congrArg₂ (· * ·) (block_grad m c t i d) (block_weight m c t d j)

/-- What stands for a tile after a visit: the scratch, and after the last visit what is written. -/
def held (n : ℕ) (h : n < cfg0.N) (y : S1024x1024.Idx) : EReal := if n % 3 = 2 then (outsAt0 m c n h).1 y else (outsAt0 m c n h).2 y

theorem held_first (t : Fin cfg0.N) (h : t.val % 3 = 0) (y : S1024x1024.Idx) : held m c t.val t.isLt y = 0 + term m c t (y 0) (y 1) := by
  unfold held
  rw [if_neg (by omega), outsAt0_A m c t h (by omega) (by omega), zero_add, ← ix2_eta y]
  frame_out
  exact first_at _ _ _ _

theorem held_next (t : Fin cfg0.N) (h : ¬t.val % 3 = 0) (y : S1024x1024.Idx) :
    held m c t.val t.isLt y = held m c (t.val - 1) (Nat.lt_of_le_of_lt (Nat.sub_le _ _) t.isLt) y + term m c t (y 0) (y 1) := by
  unfold held
  rw [if_neg (by omega : ¬(t.val - 1) % 3 = 2)]
  by_cases h2 : t.val % 3 = 2
  · rw [if_pos h2, outsAt0_C m c t h (by omega) h2, ← ix2_eta y]
    frame_out
    simp only [read_unread_whole]
    exact last_at _ _ _ _ _
  · rw [if_neg h2, outsAt0_B m c t h (by omega) h2, ← ix2_eta y]
    frame_out
    simp only [read_unread_whole]
    exact next_at _ _ _ _ _

theorem written (t : Fin cfg0.N) (h : t.val % 3 = 2) (i : Fin 1024) (j : Fin 1024) :
    (outsAt0 m c t.val t.isLt).1 (ix2 i j) = ∑ k, grad m c (ix2 (row t i) k) * weight m c (ix2 (col t j) k) := by
  have e := Pipeline.eq_sum_fin_of_reset_step_apply_of_flush (held m c) 3 (fun _ => (0 : EReal)) (fun t y => term m c t (y 0) (y 1))
    (held_first m c) (held_next m c) t h (ix2 i j)
  refine Eq.trans (?_ : _ = held m c t.val t.isLt (ix2 i j)) (e.trans ?_)
  · unfold held; rw [if_pos h]
  rw [zero_add, ← Layout.sum_laid]
  refine Eq.trans ?_ (Fin.sum_mul_add_fin 3 1536 (share m c (row t i) (col t j)))
  refine Finset.sum_congr rfl fun s _ => ?_
  refine (term_eq m c _ i j).trans ?_
  have hs : turn ⟨3 * (t.val / 3) + s.val, Pipeline.run_point_lt_of_flush t h s⟩ = s := Fin.ext (by show (3 * (t.val / 3) + s.val) % 3 = s.val; omega)
  have hr : row ⟨3 * (t.val / 3) + s.val, Pipeline.run_point_lt_of_flush t h s⟩ i = row t i :=
    Fin.ext (by show (3 * (t.val / 3) + s.val) / 6 * 1024 + i.val = t.val / 6 * 1024 + i.val; omega)
  have hc : col ⟨3 * (t.val / 3) + s.val, Pipeline.run_point_lt_of_flush t h s⟩ j = col t j :=
    Fin.ext (by show (3 * (t.val / 3) + s.val) / 3 % 2 * 1024 + j.val = t.val / 3 % 2 * 1024 + j.val; omega)
  rw [hs, hr, hc]
  rfl

theorem reference_at (x : FVec Ideal S4096x4416 .f32) (w : FVec Ideal S2048x4416 .f32) (i : Fin 4096) (j : Fin 2048) :
    (Host.dotGeneral Cert.Reference14Ideal.dot_S4096x4416_S2048x4416_S4096x2048_1_1_0_0_n_n none x w : FVec Ideal S4096x2048 .f32) (ix2 i j)
      = ∑ k, x (ix2 i k) * w (ix2 j k) := by
  pointwise []

theorem result : (dats m 0 c).arrAt 2 cfg0.N
    = (Host.dotGeneral Cert.Reference14Ideal.dot_S4096x4416_S2048x4416_S4096x2048_1_1_0_0_n_n none (grad m c) (weight m c) : FVec Ideal S4096x2048 .f32) := by
  refine (dats m 0 c).arrAt_eq_of_covers 2 _ (by decide +kernel) fun t hf y => ?_
  blk_simp
  rw [after0_2]
  have h := (flush0_2 t).mp hf
  obtain ⟨i, j, rfl⟩ : ∃ (i : Fin 1024) (j : Fin 1024), y = ix2 i j := ⟨y 0, y 1, (ix2_eta y).symm⟩
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact written m c t h i j

end Cert.Kernel14Ideal.Value

namespace Cert.Proof

open Idealize.ShloMosaic Idealize.ShloMosaic.TcCoe Idealize.SL.Sem
open Cert.Kernel14Ideal Cert.Kernel14Ideal.Gen Cert.Kernel14Ideal.Value

theorem frame_latent_input : Cert.quiescent_Kernel14 := fun m ρ _ => Cert.Kernel14.Gen.frame m ρ
theorem frame_latent_input_ideal : Cert.quiescent_Kernel14Ideal := fun m ρ _ => Cert.Kernel14Ideal.Gen.frame m ρ
theorem frame_latent_input_reference : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

theorem same_latent_input : @Cert.algebraic_Kernel14Ideal_Reference14Ideal Cert.Kernel14Ideal.Gen.facts Cert.Reference14Ideal.Gen.facts := by
  intro m g m' g' hpre hargs
  refine ⟨_, ?_, Cert.Reference14Ideal.Value.run m' g'⟩
  refine (θ_run Cert.Kernel14Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨e0, e1⟩ := hargs c
  rw [e0, e1]

end Cert.Proof

end
-- ==== Proof.AttentionOutput.lean ====
/-
  The gradient of the attention's output: the gradient of the mixer's result times its output projection transposed. Each
  tile of the result is one product.
-/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel15Ideal.Value

open Idealize.ShloMosaic Idealize.ShloMosaic.TcCoe Idealize.SL.Sem
open Cert.Kernel15Ideal.Gen

variable (m : (ℓ : Loc nD τ sig) → Buf (Elt Ideal) ℓ) (c : Dev nD)

/-- The arguments. -/
abbrev grad : FVec Ideal S4096x2048 .f32 := m ((c.tc : Thread nD τ).loc main_arg0)
abbrev weight : FVec Ideal S2048x2048 .f32 := m ((c.tc : Thread nD τ).loc main_arg1)

/-- The product of a point's blocks. -/
theorem part_at (x : FVec Ideal S1024x2048 .bf16) (w : FVec Ideal S1x1024x2048 .bf16) (i : Fin 1024) (j : Fin 1024) :
    k0_pay1 (F := Ideal) x w (ix2 i j) = ∑ d, x (ix2 i d) * w (ix3 0 j d) := by
  pointwise [k0_pay1]

theorem V_grad : V m c main_v0 = truncf .bf16 (grad m c) bitsLt_bf16_f32 := by
  unfold V
  after_reads_simp
theorem V_weight : V m c main_v2 = broadcastInDim S1x2048x2048 ![1, 2] bcast_S2048x2048_S1x2048x2048_1_2 (truncf .bf16 (weight m c) bitsLt_bf16_f32) := by
  unfold V
  after_reads_simp

theorem tile_grad : ∀ t : Fin grid0.N, win0_0.index t = ![t.val / 2, 0] := by decide +kernel
theorem tile_weight : ∀ t : Fin grid0.N, win0_1.index t = ![0, t.val % 2, 0] := by decide +kernel
theorem tile_out : ∀ t : Fin grid0.N, win0_2.index t = ![t.val / 2, t.val % 2] := by decide +kernel

theorem N_lt (t : Fin grid0.N) : t.val < 8 := t.isLt

/-- Rows of a point's tile of the gradient; columns of its tile of the result. -/
def row (t : Fin grid0.N) (i : Fin 1024) : Fin 4096 := ⟨t.val / 2 * 1024 + i.val, by have := N_lt t; omega⟩
def col (t : Fin grid0.N) (j : Fin 1024) : Fin 2048 := ⟨t.val % 2 * 1024 + j.val, by omega⟩

theorem block_grad (t : Fin grid0.N) (i : Fin 1024) (d : Fin 2048) : iblk m c 0 t (ix2 i d) = grad m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_grad t
    blk_simp
    rw [e]
    change Fin 2 at a
    match a with
    | 0 => rfl
    | 1 => show 0 * 2048 + d.val = d.val; omega
  · rw [V_grad]
    pointwise []

theorem block_weight (t : Fin grid0.N) (j : Fin 1024) (d : Fin 2048) : iblk m c 1 t (ix3 0 j d) = weight m c (ix2 (col t j) d) := by
  refine Eq.trans (?_ : _ = V m c main_v2 (ix3 0 (col t j) d)) ?_
  · show V m c main_v2 (((cfg0.win 1).blk t).view.emb (ix3 0 j d)) = _
    refine congrArg (V m c main_v2) (funext fun a => Fin.ext ?_)
    have e := tile_weight t
    blk_simp
    rw [e]
    change Fin 3 at a
    match a with
    | 0 => rfl
    | 1 => rfl
    | 2 => show 0 * 2048 + d.val = d.val; omega
  · rw [V_weight]
    pointwise []

/-- The result of the reference. -/
theorem reference_at (x : FVec Ideal S4096x2048 .f32) (w : FVec Ideal S2048x2048 .f32) (i : Fin 4096) (j : Fin 2048) :
    (truncf .bf16 (Host.dotGeneral Cert.Reference15Ideal.dot_S4096x2048_S2048x2048_S4096x2048_1_1_0_0_n_n none x w : FVec Ideal S4096x2048 .f32) bitsLt_bf16_f32 : FVec Ideal S4096x2048 .bf16) (ix2 i j)
      = ∑ d, x (ix2 i d) * w (ix2 j d) := by
  pointwise []

theorem result : (dats m 0 c).arrAt 2 cfg0.N
    = (truncf .bf16 (Host.dotGeneral Cert.Reference15Ideal.dot_S4096x2048_S2048x2048_S4096x2048_1_1_0_0_n_n none (grad m c) (weight m c) : FVec Ideal S4096x2048 .f32) bitsLt_bf16_f32 : FVec Ideal S4096x2048 .bf16) := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, (ix2_eta y).symm⟩
  refine (part_at _ _ i j).trans ?_
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact Finset.sum_congr rfl fun d _ => congrArg₂ (· * ·) (block_grad m c t i d) (block_weight m c t j d)

end Cert.Kernel15Ideal.Value

namespace Cert.Proof

open Idealize.ShloMosaic Idealize.ShloMosaic.TcCoe Idealize.SL.Sem
open Cert.Kernel15Ideal Cert.Kernel15Ideal.Gen Cert.Kernel15Ideal.Value

theorem frame_attention_output : Cert.quiescent_Kernel15 := fun m ρ _ => Cert.Kernel15.Gen.frame m ρ
theorem frame_attention_output_ideal : Cert.quiescent_Kernel15Ideal := fun m ρ _ => Cert.Kernel15Ideal.Gen.frame m ρ
theorem frame_attention_output_reference : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

theorem same_attention_output : @Cert.algebraic_Kernel15Ideal_Reference15Ideal Cert.Kernel15Ideal.Gen.facts Cert.Reference15Ideal.Gen.facts := by
  intro m g m' g' hpre hargs
  refine ⟨_, ?_, Cert.Reference15Ideal.Value.run m' g'⟩
  refine (θ_run Cert.Kernel15Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.UpRows.lean ====
/-
  The feed-forward layer's first half: the product with the up projection, a convolution over the last three tokens of each
  column with a bias, and the gate's columns through the sigmoid-weighted unit times the values' columns. A tile of columns
  is visited by all tiles of tokens in order; the last rows of the visit before are kept for the convolution.
-/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import Idealize.ShloMosaic.Lib.KernelVsHost
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel16Ideal.Value

open Idealize.ShloMosaic Idealize.ShloMosaic.TcCoe Idealize.SL.Sem
open Cert.Kernel16Ideal.Gen

/-! ## Rows before a row -/

/-- The value some rows before a row, zero before the first. -/
def before (n : ℕ) (x : Fin 4096 → EReal) (i : Fin 4096) : EReal := if i.val < n then 0 else x ⟨i.val - n, by omega⟩

/-- The same in a tile, the rows before its first being the last of eight. -/
def shifted (n : ℕ) (hn : n ≤ 8) (h : FVec Ideal S8x1408 .f32) (p : FVec Ideal S512x1408 .f32) (i : Fin 512) (j : Fin 1408) : EReal :=
  if hi : i.val < n then h (ix2 (⟨i.val + 8 - n, by omega⟩ : Fin 8) j) else p (ix2 (⟨i.val - n, by omega⟩ : Fin 512) j)

/-- A tile under eight rows, rolled down and cut back to the tile. -/
theorem rolled_at (s : BitVec 32) (n : ℕ) (hs : s.toNat = n) (hn : n ≤ 8) (h : FVec Ideal S8x1408 .f32) (p : FVec Ideal S512x1408 .f32) (i : Fin 512) (j : Fin 1408) :
    extractStridedSlice S512x1408 ![8, 0] (dynamicRotate 0 s none
      (concatenate S520x1408 0 [⟨S8x1408, h⟩, ⟨S512x1408, p⟩] concatenates_S8x1408_S512x1408_S520x1408_d0) rotates_S520x1408_d0) slices_S520x1408_o8_0_S512x1408 (ix2 i j)
      = shifted n hn h p i j := by
  refine Eq.trans (?_ : _ = concatenate S520x1408 0 [⟨S8x1408, h⟩, ⟨S512x1408, p⟩] concatenates_S8x1408_S512x1408_S520x1408_d0 (ix2 (⟨i.val + 8 - n, by omega⟩ : Fin 520) j)) ?_
  · generalize concatenate S520x1408 0 [⟨S8x1408, h⟩, ⟨S512x1408, p⟩] concatenates_S8x1408_S512x1408_S520x1408_d0 = y
    unfold extractStridedSlice dynamicRotate
    refine congrArg y (funext fun b => ?_)
    change Fin 2 at b
    match b with
    | 0 =>
      refine Fin.ext ?_
      show (8 + i.val + 520 - (s.toNat + 0) % 520) % 520 = i.val + 8 - n
      omega
    | 1 =>
      refine Fin.ext ?_
      show 0 + j.val = j.val
      omega
  · unfold shifted
    rw [concatenate_pair_apply]
    by_cases hi : i.val < n
    · rw [dif_pos hi]
      refine Eq.trans (dif_pos (show i.val + 8 - n < 8 by omega)) ?_
      refine congrArg h (funext fun b => Fin.ext ?_)
      change Fin 2 at b
      match b with
      | 0 => rfl
      | 1 => rfl
    · rw [dif_neg hi]
      refine Eq.trans (dif_neg (show ¬i.val + 8 - n < 8 by omega)) ?_
      refine congrArg p (funext fun b => Fin.ext ?_)
      change Fin 2 at b
      match b with
      | 0 => show i.val + 8 - n - 8 = i.val - n; omega
      | 1 => rfl

variable (m : (ℓ : Loc nD τ sig) → Buf (Elt Ideal) ℓ) (c : Dev nD)

/-- The arguments. -/
abbrev input : FVec Ideal S4096x2048 .f32 := m ((c.tc : Thread nD τ).loc main_arg0)
abbrev weight : FVec Ideal S2048x11264 .f32 := m ((c.tc : Thread nD τ).loc main_arg1)
abbrev taps : FVec Ideal S3x11264 .f32 := m ((c.tc : Thread nD τ).loc main_arg2)
abbrev bias : FVec Ideal S1x11264 .f32 := m ((c.tc : Thread nD τ).loc main_arg3)

/-! ## The values -/

/-- The product's entries, a column of it after the convolution and its bias, and the result. -/
def up (x : FVec Ideal S4096x2048 .f32) (w : FVec Ideal S2048x11264 .f32) (i : Fin 4096) (j : Fin 11264) : EReal := ∑ k : Fin 2048, x (ix2 i k) * w (ix2 k j)
def conv (w0 w1 w2 b : EReal) (x2 x1 x0 : EReal) : EReal := w0 * x2 + w1 * x1 + w2 * x0 + b
def act (x : FVec Ideal S4096x2048 .f32) (w : FVec Ideal S2048x11264 .f32) (v : FVec Ideal S3x11264 .f32) (b : FVec Ideal S1x11264 .f32) (i : Fin 4096) (j : Fin 11264) : EReal :=
  conv (v (ix2 0 j)) (v (ix2 1 j)) (v (ix2 2 j)) (b (ix2 0 j)) (before 2 (fun i => up x w i j) i) (before 1 (fun i => up x w i j) i) (up x w i j)
def gated (a b : EReal) : EReal := a * Ideal.logistic a * b
/-- The column of the gates and the column of the values that belong together. -/
def left (j : Fin 5632) : Fin 11264 := ⟨j.val, by omega⟩
def right (j : Fin 5632) : Fin 11264 := ⟨5632 + j.val, by omega⟩
def out (x : FVec Ideal S4096x2048 .f32) (w : FVec Ideal S2048x11264 .f32) (v : FVec Ideal S3x11264 .f32) (b : FVec Ideal S1x11264 .f32) (i : Fin 4096) (j : Fin 5632) : EReal :=
  gated (act x w v b i (left j)) (act x w v b i (right j))

theorem product_gate_at (x : FVec Ideal S512x2048 .bf16) (w : FVec Ideal S1x2048x1408 .bf16) (i : Fin 512) (j : Fin 1408) :
    k0_pay5 (F := Ideal) x w (ix2 i j) = ∑ k : Fin 2048, x (ix2 i k) * w (ix3 0 k j) := by
  pointwise [k0_pay5, k0_pay4]
theorem product_value_at (x : FVec Ideal S512x2048 .bf16) (w : FVec Ideal S1x2048x1408 .bf16) (i : Fin 512) (j : Fin 1408) :
    k0_pay6 (F := Ideal) x w (ix2 i j) = ∑ k : Fin 2048, x (ix2 i k) * w (ix3 0 k j) := by
  pointwise [k0_pay6, k0_pay4]
theorem kept_gate_at (p : FVec Ideal S512x1408 .f32) (r : Fin 8) (j : Fin 1408) :
    k0_pay9 (F := Ideal) p (ix2 r j) = p (ix2 (⟨504 + r.val, by omega⟩ : Fin 512) j) := by
  pointwise [k0_pay9]
theorem kept_value_at (p : FVec Ideal S512x1408 .f32) (r : Fin 8) (j : Fin 1408) :
    k0_pay1 (F := Ideal) p (ix2 r j) = p (ix2 (⟨504 + r.val, by omega⟩ : Fin 512) j) := by
  pointwise [k0_pay1]
theorem none_gate_at (r : Fin 8) (j : Fin 1408) : k0_pay2 (F := Ideal) (ix2 r j) = 0 := by
  pointwise [k0_pay2]
theorem none_value_at (r : Fin 8) (j : Fin 1408) : k0_pay3 (F := Ideal) (ix2 r j) = 0 := by
  pointwise [k0_pay3]

theorem before_at (x : FVec Ideal S512x2048 .bf16) (w : FVec Ideal S1x2048x1408 .bf16) (h : FVec Ideal S8x1408 .f32) (w0 w1 : FVec Ideal S1x1408 .f32) (i : Fin 512) (j : Fin 1408) :
    k0_pay7 (F := Ideal) x w h w0 w1 (ix2 i j)
      = w0 (ix2 0 j) * shifted 2 (by omega) h (k0_pay5 (F := Ideal) x w) i j + w1 (ix2 0 j) * shifted 1 (by omega) h (k0_pay5 (F := Ideal) x w) i j := by
  rw [← rolled_at 2#32 2 rfl, ← rolled_at 1#32 1 rfl]
  unfold k0_pay7
  dsimp only
  generalize extractStridedSlice (s := S520x1408) S512x1408 ![8, 0] _ _ = a
  generalize extractStridedSlice (s := S520x1408) S512x1408 ![8, 0] _ _ = b
  pointwise []

theorem out_at (p q b : FVec Ideal S512x1408 .f32) (w2 bg : FVec Ideal S1x1408 .f32) (h : FVec Ideal S8x1408 .f32) (v0 v1 v2 bu : FVec Ideal S1x1408 .f32)
    (i : Fin 512) (j : Fin 1408) : k0_pay8 (F := Ideal) p q b w2 bg h v0 v1 v2 bu (ix2 i j)
      = gated (b (ix2 i j) + w2 (ix2 0 j) * p (ix2 i j) + bg (ix2 0 j))
        (conv (v0 (ix2 0 j)) (v1 (ix2 0 j)) (v2 (ix2 0 j)) (bu (ix2 0 j)) (shifted 2 (by omega) h q i j) (shifted 1 (by omega) h q i j) (q (ix2 i j))) := by
  unfold gated conv
  rw [← rolled_at 2#32 2 rfl, ← rolled_at 1#32 1 rfl]
  unfold k0_pay8
  dsimp only
  generalize extractStridedSlice (s := S520x1408) S512x1408 ![8, 0] _ _ = a
  generalize extractStridedSlice (s := S520x1408) S512x1408 ![8, 0] _ _ = b
  pointwise []

/-! ## The blocks of a visit -/

theorem V_weight : V m c main_v2 = transpose S8x2048x1408 [1, 0, 2]
    (shapeCast S2048x8x1408 (truncf .bf16 (weight m c) bitsLt_bf16_f32 : FVec Ideal S2048x11264 .bf16) shapeCasts_S2048x11264_S2048x8x1408) transposes_S2048x8x1408_S8x2048x1408_1_0_2 := by
  unfold V
  after_reads_simp
  rfl
theorem V_input : V m c main_v3 = (truncf .bf16 (input m c) bitsLt_bf16_f32 : FVec Ideal S4096x2048 .bf16) := by
  unfold V
  after_reads_simp
theorem V_taps (r : Fin 3) (j : Fin 11264) : V m c main_v4 (ix2 (⟨r.val, by omega⟩ : Fin 8) j) = taps m c (ix2 r j) := by
  unfold V
  after_reads_simp
  refine pad_apply_of_inside (s := S3x11264) (t := S8x11264) ![0, 0] ![5, 0] ![0, 0] (taps m c) _ pads_S3x11264_S8x11264_050_000 h_S_ _ (ix2 r j) fun a => ?_
  change Fin 2 at a
  match a with
  | 0 => show r.val = 0 + r.val * (0 + 1); omega
  | 1 => show j.val = 0 + j.val * (0 + 1); omega

theorem tile_input : ∀ t : Fin grid0.N, win0_0.index t = ![t.val % 8, 0] := by decide +kernel
theorem tile_weight_gate : ∀ t : Fin grid0.N, win0_1.index t = ![t.val / 8, 0, 0] := by decide +kernel
theorem tile_weight_value : ∀ t : Fin grid0.N, win0_2.index t = ![4 + t.val / 8, 0, 0] := by decide +kernel
theorem tile_taps_gate : ∀ t : Fin grid0.N, win0_3.index t = ![0, t.val / 8] := by decide +kernel
theorem tile_taps_value : ∀ t : Fin grid0.N, win0_4.index t = ![0, 4 + t.val / 8] := by decide +kernel
theorem tile_bias_gate : ∀ t : Fin grid0.N, win0_5.index t = ![0, t.val / 8] := by decide +kernel
theorem tile_bias_value : ∀ t : Fin grid0.N, win0_6.index t = ![0, 4 + t.val / 8] := by decide +kernel
theorem tile_gate : ∀ t : Fin grid0.N, win0_7.index t = ![t.val % 8, t.val / 8] := by decide +kernel
theorem tile_value : ∀ t : Fin grid0.N, win0_8.index t = ![t.val % 8, t.val / 8] := by decide +kernel
theorem tile_out : ∀ t : Fin grid0.N, win0_9.index t = ![t.val % 8, t.val / 8] := by decide +kernel

theorem N_lt (t : Fin grid0.N) : t.val < 32 := t.isLt

/-- Rows and columns of a visit's tile. -/
def row (t : Fin grid0.N) (i : Fin 512) : Fin 4096 := ⟨t.val % 8 * 512 + i.val, by omega⟩
def col (t : Fin grid0.N) (j : Fin 1408) : Fin 5632 := ⟨t.val / 8 * 1408 + j.val, by have := N_lt t; omega⟩
def band (t : Fin grid0.N) : Fin 8 := ⟨t.val / 8, by have := N_lt t; omega⟩
def bandV (t : Fin grid0.N) : Fin 8 := ⟨4 + t.val / 8, by have := N_lt t; omega⟩

theorem left_col' (t : Fin grid0.N) (j : Fin 1408) : (⟨t.val / 8 * 1408 + j.val, by have := N_lt t; omega⟩ : Fin 11264) = left (col t j) := rfl
theorem right_col' (t : Fin grid0.N) (j : Fin 1408) : (⟨(4 + t.val / 8) * 1408 + j.val, by have := N_lt t; omega⟩ : Fin 11264) = right (col t j) :=
  Fin.ext (by show (4 + t.val / 8) * 1408 + j.val = 5632 + (t.val / 8 * 1408 + j.val); omega)

theorem block_input (t : Fin grid0.N) (i : Fin 512) (k : Fin 2048) : iblk m c 0 t (ix2 i k) = input m c (ix2 (row t i) k) := by
  refine Eq.trans (?_ : _ = V m c main_v3 (ix2 (row t i) k)) ?_
  · show V m c main_v3 (((cfg0.win 0).blk t).view.emb (ix2 i k)) = _
    refine congrArg (V m c main_v3) (funext fun a => Fin.ext ?_)
    have e := tile_input t
    blk_simp
    rw [e]
    change Fin 2 at a
    match a with
    | 0 => rfl
    | 1 => show 0 * 2048 + k.val = k.val; omega
  · rw [V_input]
    pointwise []

theorem block_weight_gate (t : Fin grid0.N) (k : Fin 2048) (j : Fin 1408) : iblk m c 1 t (ix3 0 k j) = weight m c (ix2 k (left (col t j))) := by
  refine Eq.trans (?_ : _ = V m c main_v2 (ix3 (band t) k j)) ?_
  · show V m c main_v2 (((cfg0.win 1).blk t).view.emb (ix3 0 k j)) = _
    refine congrArg (V m c main_v2) (funext fun a => Fin.ext ?_)
    have e := tile_weight_gate t
    blk_simp
    rw [e]
    change Fin 3 at a
    match a with
    | 0 => show (t.val / 8) * 1 + 0 = t.val / 8; omega
    | 1 => show 0 * 2048 + k.val = k.val; omega
    | 2 => show 0 * 1408 + j.val = j.val; omega
  · rw [V_weight, ← left_col' t j]
    unfold band
    pointwise []

theorem block_weight_value (t : Fin grid0.N) (k : Fin 2048) (j : Fin 1408) : iblk m c 2 t (ix3 0 k j) = weight m c (ix2 k (right (col t j))) := by
  refine Eq.trans (?_ : _ = V m c main_v2 (ix3 (bandV t) k j)) ?_
  · show V m c main_v2 (((cfg0.win 2).blk t).view.emb (ix3 0 k j)) = _
    refine congrArg (V m c main_v2) (funext fun a => Fin.ext ?_)
    have e := tile_weight_value t
    blk_simp
    rw [e]
    change Fin 3 at a
    match a with
    | 0 => show (4 + t.val / 8) * 1 + 0 = 4 + t.val / 8; omega
    | 1 => show 0 * 2048 + k.val = k.val; omega
    | 2 => show 0 * 1408 + j.val = j.val; omega
  · rw [V_weight, ← right_col' t j]
    unfold bandV
    pointwise []

theorem block_taps_gate (t : Fin grid0.N) (r : Fin 3) (j : Fin 1408) : iblk m c 3 t (ix2 (⟨r.val, by omega⟩ : Fin 8) j) = taps m c (ix2 r (left (col t j))) := by
  refine Eq.trans (?_ : _ = V m c main_v4 (ix2 (⟨r.val, by omega⟩ : Fin 8) (left (col t j)))) ?_
  · show V m c main_v4 (((cfg0.win 3).blk t).view.emb (ix2 (⟨r.val, by omega⟩ : Fin 8) j)) = _
    refine congrArg (V m c main_v4) (funext fun a => Fin.ext ?_)
    have e := tile_taps_gate t
    blk_simp
    rw [e]
    change Fin 2 at a
    match a with
    | 0 => show 0 * 8 + r.val = r.val; omega
    | 1 => exact congrArg Fin.val (left_col' t j)
  · exact V_taps m c r (left (col t j))

theorem block_taps_value (t : Fin grid0.N) (r : Fin 3) (j : Fin 1408) : iblk m c 4 t (ix2 (⟨r.val, by omega⟩ : Fin 8) j) = taps m c (ix2 r (right (col t j))) := by
  refine Eq.trans (?_ : _ = V m c main_v4 (ix2 (⟨r.val, by omega⟩ : Fin 8) (right (col t j)))) ?_
  · show V m c main_v4 (((cfg0.win 4).blk t).view.emb (ix2 (⟨r.val, by omega⟩ : Fin 8) j)) = _
    refine congrArg (V m c main_v4) (funext fun a => Fin.ext ?_)
    have e := tile_taps_value t
    blk_simp
    rw [e]
    change Fin 2 at a
    match a with
    | 0 => show 0 * 8 + r.val = r.val; omega
    | 1 => exact congrArg Fin.val (right_col' t j)
  · exact V_taps m c r (right (col t j))

theorem block_bias_gate (t : Fin grid0.N) (j : Fin 1408) : iblk m c 5 t (ix2 0 j) = bias m c (ix2 0 (left (col t j))) := by
  refine Eq.trans (?_ : _ = V m c main_arg3 (ix2 0 (left (col t j)))) ?_
  · show V m c main_arg3 (((cfg0.win 5).blk t).view.emb (ix2 0 j)) = _
    refine congrArg (V m c main_arg3) (funext fun a => Fin.ext ?_)
    have e := tile_bias_gate t
    blk_simp
    rw [e]
    change Fin 2 at a
    match a with
    | 0 => rfl
    | 1 => exact congrArg Fin.val (left_col' t j)
  · rw [V_main_arg3]

theorem block_bias_value (t : Fin grid0.N) (j : Fin 1408) : iblk m c 6 t (ix2 0 j) = bias m c (ix2 0 (right (col t j))) := by
  refine Eq.trans (?_ : _ = V m c main_arg3 (ix2 0 (right (col t j)))) ?_
  · show V m c main_arg3 (((cfg0.win 6).blk t).view.emb (ix2 0 j)) = _
    refine congrArg (V m c main_arg3) (funext fun a => Fin.ext ?_)
    have e := tile_bias_value t
    blk_simp
    rw [e]
    change Fin 2 at a
    match a with
    | 0 => rfl
    | 1 => exact congrArg Fin.val (right_col' t j)
  · rw [V_main_arg3]

/-! ## The products, and what is kept of them -/

theorem product_gate (t : Fin grid0.N) (i : Fin 512) (j : Fin 1408) :
    k0_pay5 (F := Ideal) (iblk m c 0 t) (iblk m c 1 t) (ix2 i j) = up (input m c) (weight m c) (row t i) (left (col t j)) :=
  (product_gate_at _ _ i j).trans (Finset.sum_congr rfl fun k _ => congrArg₂ (fun a b : EReal => a * b) (block_input m c t i k) (block_weight_gate m c t k j))

/-- What is kept after a visit, and what a visit finds. -/
theorem kept_gate (t : Fin cfg0.N) : (outsAt0 m c t.val t.isLt).2.2.2.1 = k0_pay9 (F := Ideal) (k0_pay5 (F := Ideal) (iblk m c 0 t) (iblk m c 1 t)) := by
  by_cases h : t.val % 8 = 0
  · rw [outsAt0_A m c t h]
    frame_out
  · rw [outsAt0_B m c t h]
    frame_out
theorem shifted_gate (n : ℕ) (hn : n ≤ 8) (t : Fin cfg0.N) (h : ¬t.val % 8 = 0) (i : Fin 512) (j : Fin 1408) :
    shifted n hn (outsAt0 m c (t.val - 1) (Nat.lt_of_le_of_lt (Nat.sub_le _ _) t.isLt)).2.2.2.1 (k0_pay5 (F := Ideal) (iblk m c 0 t) (iblk m c 1 t)) i j
      = before n (fun i => up (input m c) (weight m c) i (left (col t j))) (row t i) := by
  unfold shifted before
  have hr : (row t i).val = t.val % 8 * 512 + i.val := rfl
  rw [if_neg (by omega)]
  by_cases hi : i.val < n
  · rw [dif_pos hi, kept_gate m c ⟨t.val - 1, Nat.lt_of_le_of_lt (Nat.sub_le _ _) t.isLt⟩]
    refine (kept_gate_at _ _ j).trans ((product_gate m c _ _ j).trans (congrArg₂ (up (input m c) (weight m c)) (Fin.ext ?_) (congrArg left (Fin.ext ?_))))
    · show (t.val - 1) % 8 * 512 + (504 + (i.val + 8 - n)) = t.val % 8 * 512 + i.val - n
      omega
    · show (t.val - 1) / 8 * 1408 + j.val = t.val / 8 * 1408 + j.val
      have : (t.val - 1) / 8 = t.val / 8 := by omega
      rw [this]
  · rw [dif_neg hi]
    refine (product_gate m c t _ j).trans (congrArg (up (input m c) (weight m c) · _) (Fin.ext ?_))
    show t.val % 8 * 512 + (i.val - n) = t.val % 8 * 512 + i.val - n
    omega
theorem shifted_gate_first (n : ℕ) (hn : n ≤ 8) (t : Fin cfg0.N) (h : t.val % 8 = 0) (z : FVec Ideal S8x1408 .f32) (hz : ∀ r j, z (ix2 r j) = 0) (i : Fin 512) (j : Fin 1408) :
    shifted n hn z (k0_pay5 (F := Ideal) (iblk m c 0 t) (iblk m c 1 t)) i j
      = before n (fun i => up (input m c) (weight m c) i (left (col t j))) (row t i) := by
  unfold shifted before
  have hr : (row t i).val = t.val % 8 * 512 + i.val := rfl
  by_cases hi : i.val < n
  · rw [dif_pos hi, if_pos (by omega), hz]
  · rw [dif_neg hi, if_neg (by omega)]
    refine (product_gate m c t _ j).trans (congrArg (up (input m c) (weight m c) · _) (Fin.ext ?_))
    show t.val % 8 * 512 + (i.val - n) = t.val % 8 * 512 + i.val - n
    omega

theorem product_value (t : Fin grid0.N) (i : Fin 512) (j : Fin 1408) :
    k0_pay6 (F := Ideal) (iblk m c 0 t) (iblk m c 2 t) (ix2 i j) = up (input m c) (weight m c) (row t i) (right (col t j)) :=
  (product_value_at _ _ i j).trans (Finset.sum_congr rfl fun k _ => congrArg₂ (fun a b : EReal => a * b) (block_input m c t i k) (block_weight_value m c t k j))

/-- What is kept after a visit, and what a visit finds. -/
theorem kept_value (t : Fin cfg0.N) : (outsAt0 m c t.val t.isLt).2.2.2.2 = k0_pay1 (F := Ideal) (k0_pay6 (F := Ideal) (iblk m c 0 t) (iblk m c 2 t)) := by
  by_cases h : t.val % 8 = 0
  · rw [outsAt0_A m c t h]
    frame_out
  · rw [outsAt0_B m c t h]
    frame_out
theorem shifted_value (n : ℕ) (hn : n ≤ 8) (t : Fin cfg0.N) (h : ¬t.val % 8 = 0) (i : Fin 512) (j : Fin 1408) :
    shifted n hn (outsAt0 m c (t.val - 1) (Nat.lt_of_le_of_lt (Nat.sub_le _ _) t.isLt)).2.2.2.2 (k0_pay6 (F := Ideal) (iblk m c 0 t) (iblk m c 2 t)) i j
      = before n (fun i => up (input m c) (weight m c) i (right (col t j))) (row t i) := by
  unfold shifted before
  have hr : (row t i).val = t.val % 8 * 512 + i.val := rfl
  rw [if_neg (by omega)]
  by_cases hi : i.val < n
  · rw [dif_pos hi, kept_value m c ⟨t.val - 1, Nat.lt_of_le_of_lt (Nat.sub_le _ _) t.isLt⟩]
    refine (kept_value_at _ _ j).trans ((product_value m c _ _ j).trans (congrArg₂ (up (input m c) (weight m c)) (Fin.ext ?_) (congrArg right (Fin.ext ?_))))
    · show (t.val - 1) % 8 * 512 + (504 + (i.val + 8 - n)) = t.val % 8 * 512 + i.val - n
      omega
    · show (t.val - 1) / 8 * 1408 + j.val = t.val / 8 * 1408 + j.val
      have : (t.val - 1) / 8 = t.val / 8 := by omega
      rw [this]
  · rw [dif_neg hi]
    refine (product_value m c t _ j).trans (congrArg (up (input m c) (weight m c) · _) (Fin.ext ?_))
    show t.val % 8 * 512 + (i.val - n) = t.val % 8 * 512 + i.val - n
    omega
theorem shifted_value_first (n : ℕ) (hn : n ≤ 8) (t : Fin cfg0.N) (h : t.val % 8 = 0) (z : FVec Ideal S8x1408 .f32) (hz : ∀ r j, z (ix2 r j) = 0) (i : Fin 512) (j : Fin 1408) :
    shifted n hn z (k0_pay6 (F := Ideal) (iblk m c 0 t) (iblk m c 2 t)) i j
      = before n (fun i => up (input m c) (weight m c) i (right (col t j))) (row t i) := by
  unfold shifted before
  have hr : (row t i).val = t.val % 8 * 512 + i.val := rfl
  by_cases hi : i.val < n
  · rw [dif_pos hi, if_pos (by omega), hz]
  · rw [dif_neg hi, if_neg (by omega)]
    refine (product_value m c t _ j).trans (congrArg (up (input m c) (weight m c) · _) (Fin.ext ?_))
    show t.val % 8 * 512 + (i.val - n) = t.val % 8 * 512 + i.val - n
    omega

theorem written_gate (t : Fin cfg0.N) (i : Fin 512) (j : Fin 1408) : (outsAt0 m c t.val t.isLt).1 (ix2 i j) = up (input m c) (weight m c) (row t i) (left (col t j)) := by
  by_cases h : t.val % 8 = 0
  · rw [outsAt0_A m c t h]
    frame_out
    exact product_gate m c t i j
  · rw [outsAt0_B m c t h]
    frame_out
    exact product_gate m c t i j
theorem written_value (t : Fin cfg0.N) (i : Fin 512) (j : Fin 1408) : (outsAt0 m c t.val t.isLt).2.1 (ix2 i j) = up (input m c) (weight m c) (row t i) (right (col t j)) := by
  by_cases h : t.val % 8 = 0
  · rw [outsAt0_A m c t h]
    frame_out
    exact product_value m c t i j
  · rw [outsAt0_B m c t h]
    frame_out
    exact product_value m c t i j
/-- A row of the taps' block. -/
theorem load_row (x : FVec Ideal S8x1408 .f32) (n : ℕ) (hn : n < 8) (h : ∀ a : Fin S8x1408.rank, (![n, 0] : Fin 2 → ℕ) a + (![1, 1408] : Fin 2 → ℕ) a ≤ S8x1408.size a) (j : Fin 1408) :
    (View.ld (Val := Elt Ideal) (e' := .f32) x (Rect.unit (s := S8x1408) ![n, 0] ![1, 1408] h) : FVec Ideal S1x1408 .f32) (ix2 0 j) = x (ix2 ⟨n, hn⟩ j) := by
  refine View.ld_unit_apply_of _ _ _ _ _ _ fun a => ?_
  change Fin 2 at a
  match a with
  | 0 => rfl
  | 1 => show j.val = 0 + j.val; omega

/-- A column after the convolution, from what a visit reads for it. -/
theorem act_of (t : Fin grid0.N) (i : Fin 512) (q : Fin 11264) (a0 a1 a2 b x2 x1 x0 : EReal)
    (h0 : a0 = taps m c (ix2 0 q)) (h1 : a1 = taps m c (ix2 1 q)) (h2 : a2 = taps m c (ix2 2 q)) (hb : b = bias m c (ix2 0 q))
    (e2 : x2 = before 2 (fun i => up (input m c) (weight m c) i q) (row t i)) (e1 : x1 = before 1 (fun i => up (input m c) (weight m c) i q) (row t i))
    (e0 : x0 = up (input m c) (weight m c) (row t i) q) :
    conv a0 a1 a2 b x2 x1 x0 = act (input m c) (weight m c) (taps m c) (bias m c) (row t i) q := by
  subst h0 h1 h2 hb e2 e1 e0
  rfl

theorem written_out (t : Fin cfg0.N) (i : Fin 512) (j : Fin 1408) :
    (outsAt0 m c t.val t.isLt).2.2.1 (ix2 i j) = out (input m c) (weight m c) (taps m c) (bias m c) (row t i) (col t j) := by
  by_cases h : t.val % 8 = 0
  · rw [outsAt0_A m c t h]
    frame_out
    refine (out_at _ _ _ _ _ _ _ _ _ _ i j).trans ?_
    rw [before_at]
    exact congrArg₂ gated
      (act_of m c t i (left (col t j)) _ _ _ _ _ _ _ ((load_row _ 0 (by omega) _ j).trans (block_taps_gate m c t 0 j)) ((load_row _ 1 (by omega) _ j).trans (block_taps_gate m c t 1 j)) ((load_row _ 2 (by omega) _ j).trans (block_taps_gate m c t 2 j)) (block_bias_gate m c t j)
        (shifted_gate_first m c 2 (by omega) t h _ none_gate_at i j) (shifted_gate_first m c 1 (by omega) t h _ none_gate_at i j) (product_gate m c t i j))
      (act_of m c t i (right (col t j)) _ _ _ _ _ _ _ ((load_row _ 0 (by omega) _ j).trans (block_taps_value m c t 0 j)) ((load_row _ 1 (by omega) _ j).trans (block_taps_value m c t 1 j)) ((load_row _ 2 (by omega) _ j).trans (block_taps_value m c t 2 j)) (block_bias_value m c t j)
        (shifted_value_first m c 2 (by omega) t h _ none_value_at i j) (shifted_value_first m c 1 (by omega) t h _ none_value_at i j) (product_value m c t i j))
  · rw [outsAt0_B m c t h]
    frame_out
    refine (out_at _ _ _ _ _ _ _ _ _ _ i j).trans ?_
    rw [before_at]
    simp only [read_unread_whole]
    exact congrArg₂ gated
      (act_of m c t i (left (col t j)) _ _ _ _ _ _ _ ((load_row _ 0 (by omega) _ j).trans (block_taps_gate m c t 0 j)) ((load_row _ 1 (by omega) _ j).trans (block_taps_gate m c t 1 j)) ((load_row _ 2 (by omega) _ j).trans (block_taps_gate m c t 2 j)) (block_bias_gate m c t j)
        (shifted_gate m c 2 (by omega) t h i j) (shifted_gate m c 1 (by omega) t h i j) (product_gate m c t i j))
      (act_of m c t i (right (col t j)) _ _ _ _ _ _ _ ((load_row _ 0 (by omega) _ j).trans (block_taps_value m c t 0 j)) ((load_row _ 1 (by omega) _ j).trans (block_taps_value m c t 1 j)) ((load_row _ 2 (by omega) _ j).trans (block_taps_value m c t 2 j)) (block_bias_value m c t j)
        (shifted_value m c 2 (by omega) t h i j) (shifted_value m c 1 (by omega) t h i j) (product_value m c t i j))

theorem array_gate : (dats m 0 c).arrAt 7 cfg0.N = (fun y : S4096x5632.Idx => up (input m c) (weight m c) (y 0) (left (y 1)) : S4096x5632.Idx → EReal) := by
  refine (dats m 0 c).arrAt_eq_of_covers 7 _ (by decide +kernel) fun t hf y => ?_
  blk_simp
  rw [after0_7]
  obtain ⟨i, j, rfl⟩ : ∃ (i : Fin 512) (j : Fin 1408), y = ix2 i j := ⟨y 0, y 1, (ix2_eta y).symm⟩
  have hy : ((cfg0.win 7).blk t).view.emb (ix2 i j) = ix2 (row t i) (col t j) := by
    refine funext fun a => Fin.ext ?_
    have e := tile_gate t
    blk_simp
    rw [e]
    change Fin 2 at a
    match a with
    | 0 => rfl
    | 1 => rfl
  rw [hy]
  exact written_gate m c t i j

theorem array_value : (dats m 0 c).arrAt 8 cfg0.N = (fun y : S4096x5632.Idx => up (input m c) (weight m c) (y 0) (right (y 1)) : S4096x5632.Idx → EReal) := by
  refine (dats m 0 c).arrAt_eq_of_covers 8 _ (by decide +kernel) fun t hf y => ?_
  blk_simp
  rw [after0_8]
  obtain ⟨i, j, rfl⟩ : ∃ (i : Fin 512) (j : Fin 1408), y = ix2 i j := ⟨y 0, y 1, (ix2_eta y).symm⟩
  have hy : ((cfg0.win 8).blk t).view.emb (ix2 i j) = ix2 (row t i) (col t j) := by
    refine funext fun a => Fin.ext ?_
    have e := tile_value t
    blk_simp
    rw [e]
    change Fin 2 at a
    match a with
    | 0 => rfl
    | 1 => rfl
  rw [hy]
  exact written_value m c t i j

theorem array_out : (dats m 0 c).arrAt 9 cfg0.N = (fun y : S4096x5632.Idx => out (input m c) (weight m c) (taps m c) (bias m c) (y 0) (y 1) : S4096x5632.Idx → EReal) := by
  refine (dats m 0 c).arrAt_eq_of_covers 9 _ (by decide +kernel) fun t hf y => ?_
  blk_simp
  rw [after0_9]
  obtain ⟨i, j, rfl⟩ : ∃ (i : Fin 512) (j : Fin 1408), y = ix2 i j := ⟨y 0, y 1, (ix2_eta y).symm⟩
  have hy : ((cfg0.win 9).blk t).view.emb (ix2 i j) = ix2 (row t i) (col t j) := by
    refine funext fun a => Fin.ext ?_
    have e := tile_out t
    blk_simp
    rw [e]
    change Fin 2 at a
    match a with
    | 0 => rfl
    | 1 => rfl
  rw [hy]
  exact written_out m c t i j

/-! ## The reference -/

section Reference

open Cert.Reference16Ideal

/-- The reference's stages. -/
def refUp (x : FVec Ideal S4096x2048 .f32) (w : FVec Ideal S2048x11264 .f32) : FVec Ideal S4096x11264 .f32 :=
  Host.dotGeneral (F := Ideal) dot_S4096x2048_S2048x11264_S4096x11264_1_0_0_1_n_n none x w
def refUnder (p : FVec Ideal S4096x11264 .f32) : FVec Ideal S4098x11264 .f32 :=
  concatenate S4098x11264 0 [⟨S2x11264, broadcastInDim S2x11264 ![] Facts₀.bcast_S_S2x11264 (constant (F := Ideal) S_ .f32 0x00000000#32)⟩, ⟨S4096x11264, p⟩]
    Facts₀.concatenates_S2x11264_S4096x11264_S4098x11264_d0
def refRow (v : FVec Ideal S1x11264 .f32) : FVec Ideal S4096x11264 .f32 :=
  broadcastInDim S4096x11264 ![0, 1] Facts₀.bcast_S1x11264_S4096x11264_0_1 v
def refTap (v : FVec Ideal S1x11264 .f32) : FVec Ideal S4096x11264 .f32 :=
  refRow (broadcastInDim S1x11264 ![1] Facts₀.bcast_S11264_S1x11264_1 (fun y => shapeCast S11264 v Facts₀.shapeCasts_S1x11264_S11264 y))
def refAct (p : FVec Ideal S4096x11264 .f32) (v : FVec Ideal S3x11264 .f32) (b : FVec Ideal S1x11264 .f32) : FVec Ideal S4096x11264 .f32 :=
  addf (addf (addf
      (mulf (refTap (extractStridedSlice S1x11264 ![0, 0] v Facts₀.slices_S3x11264_S1x11264_0_0)) (extractStridedSlice S4096x11264 ![0, 0] (refUnder p) Facts₀.slices_S4098x11264_S4096x11264_0_0))
      (mulf (refTap (extractStridedSlice S1x11264 ![1, 0] v Facts₀.slices_S3x11264_S1x11264_1_0)) (extractStridedSlice S4096x11264 ![1, 0] (refUnder p) Facts₀.slices_S4098x11264_S4096x11264_1_0)))
      (mulf (refTap (extractStridedSlice S1x11264 ![2, 0] v Facts₀.slices_S3x11264_S1x11264_2_0)) (extractStridedSlice S4096x11264 ![2, 0] (refUnder p) Facts₀.slices_S4098x11264_S4096x11264_2_0)))
    (refRow b)
def refLeft (p : FVec Ideal S4096x11264 .f32) : FVec Ideal S4096x5632 .f32 := extractStridedSlice S4096x5632 ![0, 0] p Facts₀.slices_S4096x11264_S4096x5632_0_0
def refRight (p : FVec Ideal S4096x11264 .f32) : FVec Ideal S4096x5632 .f32 := extractStridedSlice S4096x5632 ![0, 5632] p Facts₀.slices_S4096x11264_S4096x5632_0_5632
def refOne : FVec Ideal S4096x5632 .f32 := broadcastInDim S4096x5632 ![] Facts₀.bcast_S_S4096x5632 (constant (F := Ideal) S_ .f32 0x3F800000#32)
def refGated (a b : FVec Ideal S4096x5632 .f32) : FVec Ideal S4096x5632 .f32 := mulf (mulf a (Host.divf refOne (addf refOne (Host.exp (Host.negf a))))) b

theorem refUp_at (x : FVec Ideal S4096x2048 .f32) (w : FVec Ideal S2048x11264 .f32) (i : Fin 4096) (j : Fin 11264) : refUp x w (ix2 i j) = up x w i j := by
  unfold up
  pointwise [refUp]
theorem refUnder_at (p : FVec Ideal S4096x11264 .f32) (r : Fin 4098) (j : Fin 11264) :
    refUnder p (ix2 r j) = if h : r.val < 2 then 0 else p (ix2 (⟨r.val - 2, by omega⟩ : Fin 4096) j) := by
  unfold refUnder
  rw [concatenate_pair_apply]
  by_cases h : r.val < 2
  · rw [dif_pos h]
    refine Eq.trans (dif_pos (show r.val < 2 from h)) ?_
    pointwise []
  · rw [dif_neg h]
    refine Eq.trans (dif_neg (show ¬r.val < 2 from h)) ?_
    refine congrArg p (funext fun b => Fin.ext ?_)
    change Fin 2 at b
    match b with
    | 0 => rfl
    | 1 => rfl
theorem refTap_at (v : FVec Ideal S1x11264 .f32) (i : Fin 4096) (j : Fin 11264) : refTap v (ix2 i j) = v (ix2 0 j) := by
  pointwise [refTap, refRow]
theorem tap0_at (v : FVec Ideal S3x11264 .f32) (i : Fin 4096) (j : Fin 11264) :
    refTap (extractStridedSlice S1x11264 ![0, 0] v Facts₀.slices_S3x11264_S1x11264_0_0) (ix2 i j) = v (ix2 0 j) := by
  rw [refTap_at]
  pointwise []
theorem tap1_at (v : FVec Ideal S3x11264 .f32) (i : Fin 4096) (j : Fin 11264) :
    refTap (extractStridedSlice S1x11264 ![1, 0] v Facts₀.slices_S3x11264_S1x11264_1_0) (ix2 i j) = v (ix2 1 j) := by
  rw [refTap_at]
  pointwise []
theorem tap2_at (v : FVec Ideal S3x11264 .f32) (i : Fin 4096) (j : Fin 11264) :
    refTap (extractStridedSlice S1x11264 ![2, 0] v Facts₀.slices_S3x11264_S1x11264_2_0) (ix2 i j) = v (ix2 2 j) := by
  rw [refTap_at]
  pointwise []
theorem refRow_at (v : FVec Ideal S1x11264 .f32) (i : Fin 4096) (j : Fin 11264) : refRow v (ix2 i j) = v (ix2 0 j) := by
  pointwise [refRow]
theorem refLag_at (p : FVec Ideal S4096x11264 .f32) (i : Fin 4096) (j : Fin 11264) (n k : ℕ) (h : n + k = 2) (r : Fin 4098) (hr : r.val = n + i.val) :
    refUnder p (ix2 r j) = before k (fun i => p (ix2 i j)) i := by
  rw [refUnder_at]
  unfold before
  by_cases hi : i.val < k
  · rw [if_pos hi, dif_pos (by omega)]
  · rw [if_neg hi, dif_neg (by omega)]
    exact congrArg (fun a => p (ix2 a j)) (Fin.ext (by show r.val - 2 = i.val - k; omega))
theorem refAct_at (x : FVec Ideal S4096x2048 .f32) (w : FVec Ideal S2048x11264 .f32) (v : FVec Ideal S3x11264 .f32) (b : FVec Ideal S1x11264 .f32) (i : Fin 4096) (j : Fin 11264) :
    refAct (refUp x w) v b (ix2 i j) = act x w v b i j := by
  unfold act conv
  have e : ∀ i : Fin 4096, up x w i j = refUp x w (ix2 i j) := fun i => (refUp_at x w i j).symm
  have e0 : refUp x w (ix2 i j) = before 0 (fun i => refUp x w (ix2 i j)) i := by
    unfold before
    rw [if_neg (by omega)]
    rfl
  simp only [e]
  rw [e0]
  rw [← refLag_at (refUp x w) i j 0 2 rfl ⟨0 + i.val, by omega⟩ rfl, ← refLag_at (refUp x w) i j 1 1 rfl ⟨1 + i.val, by omega⟩ rfl,
    ← refLag_at (refUp x w) i j 2 0 rfl ⟨2 + i.val, by omega⟩ rfl]
  rw [← tap0_at v i j,
    ← tap1_at v i j,
    ← tap2_at v i j, ← refRow_at b i j]
  pointwise [refAct]
theorem one_eq : (FloatOps.ofBits (F := Ideal) .f32 0x3F800000#32 : EReal) = 1 := by
  simp [Ideal.ofBits, Ideal.ieee]
  rw [← EReal.coe_mul]
  norm_num
theorem refOne_at (i : Fin 4096) (j : Fin 5632) : refOne (ix2 i j) = 1 := by
  rw [← one_eq]
  pointwise [refOne]
theorem refGated_at (a b : FVec Ideal S4096x5632 .f32) (i : Fin 4096) (j : Fin 5632) : refGated a b (ix2 i j) = gated (a (ix2 i j)) (b (ix2 i j)) := by
  unfold refGated gated
  show a (ix2 i j) * Ideal.div (refOne (ix2 i j)) (refOne (ix2 i j) + Ideal.exp (-(a (ix2 i j)))) * b (ix2 i j) = _
  rw [refOne_at]
  rfl
theorem refLeft_at (p : FVec Ideal S4096x11264 .f32) (i : Fin 4096) (j : Fin 5632) : refLeft p (ix2 i j) = p (ix2 i (left j)) := by
  unfold left
  pointwise [refLeft]
theorem refRight_at (p : FVec Ideal S4096x11264 .f32) (i : Fin 4096) (j : Fin 5632) : refRight p (ix2 i j) = p (ix2 i (right j)) := by
  unfold right
  pointwise [refRight]

end Reference

theorem gate_same : (fun y : S4096x5632.Idx => up (input m c) (weight m c) (y 0) (left (y 1)) : S4096x5632.Idx → EReal) = refLeft (refUp (input m c) (weight m c)) := by
  funext y
  obtain ⟨i, j, rfl⟩ : ∃ (i : Fin 4096) (j : Fin 5632), y = ix2 i j := ⟨y 0, y 1, (ix2_eta y).symm⟩
  exact ((refLeft_at _ i j).trans (refUp_at _ _ i _)).symm
theorem value_same : (fun y : S4096x5632.Idx => up (input m c) (weight m c) (y 0) (right (y 1)) : S4096x5632.Idx → EReal) = refRight (refUp (input m c) (weight m c)) := by
  funext y
  obtain ⟨i, j, rfl⟩ : ∃ (i : Fin 4096) (j : Fin 5632), y = ix2 i j := ⟨y 0, y 1, (ix2_eta y).symm⟩
  exact ((refRight_at _ i j).trans (refUp_at _ _ i _)).symm
theorem out_same : (fun y : S4096x5632.Idx => out (input m c) (weight m c) (taps m c) (bias m c) (y 0) (y 1) : S4096x5632.Idx → EReal)
    = (truncf .bf16 (refGated (refLeft (refAct (refUp (input m c) (weight m c)) (taps m c) (bias m c))) (refRight (refAct (refUp (input m c) (weight m c)) (taps m c) (bias m c)))) bitsLt_bf16_f32 : FVec Ideal S4096x5632 .bf16) := by
  funext y
  obtain ⟨i, j, rfl⟩ : ∃ (i : Fin 4096) (j : Fin 5632), y = ix2 i j := ⟨y 0, y 1, (ix2_eta y).symm⟩
  refine Eq.symm ((refGated_at _ _ i j).trans ?_)
  rw [refLeft_at, refRight_at, refAct_at, refAct_at]
  rfl

end Cert.Kernel16Ideal.Value

namespace Cert.Proof

open Idealize.ShloMosaic Idealize.ShloMosaic.TcCoe Idealize.SL.Sem
open Cert.Kernel16Ideal Cert.Kernel16Ideal.Gen Cert.Kernel16Ideal.Value

theorem frame_up_rows : Cert.quiescent_Kernel16 := fun m ρ _ => Cert.Kernel16.Gen.frame m ρ
theorem frame_up_rows_ideal : Cert.quiescent_Kernel16Ideal := fun m ρ _ => Cert.Kernel16Ideal.Gen.frame m ρ
theorem frame_up_rows_reference : Cert.quiescent_Reference16Ideal := fun m ρ _ =>
  (θ_run Cert.Reference16Ideal.defs _ _).mono
    (fun r h => ⟨fun c => (h c).2.2.2, Idealize.ShloMosaic.sem_eq_zero_of_no_sems (by decide) r.2⟩)
    (Cert.Reference16Ideal.Value.run (F := Ideal) m ρ)

theorem same_up_rows : @Cert.algebraic_Kernel16Ideal_Reference16Ideal Cert.Kernel16Ideal.Gen.facts Cert.Reference16Ideal.Gen.facts := by
  intro m g m' g' hpre hargs
  refine ⟨_, _, _, ?_, Cert.Reference16Ideal.Value.run m' g'⟩
  refine (θ_run Cert.Kernel16Ideal.defs _ _).mono (fun r h c => ?_) (run_main m g)
  obtain ⟨e0, e1, e2, e3⟩ := hargs c
  refine ⟨((h c).1 7).trans ((array_gate m c).trans ((gate_same m c).trans ?_)),
    ((h c).1 8).trans ((array_value m c).trans ((value_same m c).trans ?_)),
    ((h c).1 9).trans ((array_out m c).trans ((out_same m c).trans ?_)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c)))⟩
  · rw [e0, e1]
    rfl
  · rw [e0, e1]
    rfl
  · unfold Cert.Reference16Ideal.Value.res_main_v31
    rw [e0, e1, e2, e3]
    rfl

end Cert.Proof

end
-- ==== Proof.LatentRows.lean ====
/-
  The columns of the first product that make the convolution and the latents. The kernel multiplies by the transposed weight
  laid out over 4608 rows; each tile of the result is one product, and the host reads the columns back from their places.
-/
module

public import proofs.«01_k».proof.Proof.Layout
public import proofs.«01_k».proof.Defs
public import proofs.«01_k».proof.Proof.Gen.Kernel17.Frame
public import proofs.«01_k».proof.Proof.Gen.Kernel17Ideal.Frame
public import proofs.«01_k».proof.Proof.Gen.Reference17Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel17Ideal.Value

open Idealize.ShloMosaic Idealize.ShloMosaic.TcCoe Idealize.SL.Sem
open Cert.Kernel17Ideal.Gen

variable (m : (ℓ : Loc nD τ sig) → Buf (Elt Ideal) ℓ) (c : Dev nD)

/-- The arguments. -/
abbrev input : FVec Ideal S4096x2048 .f32 := m ((c.tc : Thread nD τ).loc main_arg0)
abbrev weight : FVec Ideal S2048x4416 .f32 := m ((c.tc : Thread nD τ).loc main_arg1)

/-- The product of a visit's blocks. -/
def part (x : FVec Ideal S1024x2048 .bf16) (w : FVec Ideal S1x1536x2048 .bf16) (i : Fin 1024) (j : Fin 1536) : EReal :=
  ∑ d : Fin 2048, x (ix2 i d) * w (ix3 0 j d)

theorem part_at (x : FVec Ideal S1024x2048 .bf16) (w : FVec Ideal S1x1536x2048 .bf16) (i : Fin 1024) (j : Fin 1536) :
    k0_pay1 (F := Ideal) x w (ix2 i j) = part x w i j := by
  unfold part
  pointwise [k0_pay1]

theorem V_input : V m c main_v12 = truncf .bf16 (input m c) bitsLt_bf16_f32 := by
  unfold V
  after_reads_simp

theorem V_weight (k : Fin 4608) (d : Fin 2048) : V m c main_v11 (ix3 0 k d) = Layout.laid (fun k => weight m c (ix2 d k)) k := by
  unfold V
  after_reads_simp
  pointwise []
  after_reads_simp
  pointwise []
  after_reads_simp
  pointwise []
  rfl

theorem tile_input : ∀ t : Fin grid0.N, win0_0.index t = ![t.val / 3, 0] := by decide +kernel
theorem tile_weight : ∀ t : Fin grid0.N, win0_1.index t = ![0, t.val % 3, 0] := by decide +kernel
theorem tile_out : ∀ t : Fin grid0.N, win0_2.index t = ![t.val / 3, t.val % 3] := by decide +kernel

theorem N_lt (t : Fin grid0.N) : t.val < 12 := t.isLt

/-- Rows and columns of a visit's tile. -/
def row (t : Fin grid0.N) (i : Fin 1024) : Fin 4096 := ⟨t.val / 3 * 1024 + i.val, by have := N_lt t; omega⟩
def col (t : Fin grid0.N) (j : Fin 1536) : Fin 4608 := ⟨t.val % 3 * 1536 + j.val, by omega⟩

theorem block_input (t : Fin grid0.N) (i : Fin 1024) (d : Fin 2048) : iblk m c 0 t (ix2 i d) = input m c (ix2 (row t i) d) := by
  refine Eq.trans (?_ : _ = V m c main_v12 (ix2 (row t i) d)) ?_
  · show V m c main_v12 (((cfg0.win 0).blk t).view.emb (ix2 i d)) = _
    refine congrArg (V m c main_v12) (funext fun a => Fin.ext ?_)
    have e := tile_input t
    blk_simp
    rw [e]
    change Fin 2 at a
    match a with
    | 0 => rfl
    | 1 => show 0 * 2048 + d.val = d.val; omega
  · rw [V_input]
    pointwise []

theorem block_weight (t : Fin grid0.N) (j : Fin 1536) (d : Fin 2048) :
    iblk m c 1 t (ix3 0 j d) = Layout.laid (fun k => weight m c (ix2 d k)) (col t j) := by
  refine Eq.trans (?_ : _ = V m c main_v11 (ix3 0 (col t j) d)) (V_weight m c _ _)
  show V m c main_v11 (((cfg0.win 1).blk t).view.emb (ix3 0 j d)) = _
  refine congrArg (V m c main_v11) (funext fun a => Fin.ext ?_)
  have e := tile_weight t
  blk_simp
  rw [e]
  change Fin 3 at a
  match a with
  | 0 => rfl
  | 1 => rfl
  | 2 => show 0 * 2048 + d.val = d.val; omega

/-- What the kernel makes of a laid out column. -/
def entry (i : Fin 4096) (k : Fin 4608) : EReal := ∑ d, input m c (ix2 i d) * Layout.laid (fun k => weight m c (ix2 d k)) k

theorem entry_place (i : Fin 4096) (q : Fin 4416) (k : Fin 4608) (h : Layout.place q = k) :
    entry m c i k = ∑ d, input m c (ix2 i d) * weight m c (ix2 d q) := by
  unfold entry
  refine Finset.sum_congr rfl fun d _ => congrArg (_ * ·) ?_
  rw [← h, Layout.laid_place]

theorem array : (dats m 0 c).arrAt 2 cfg0.N = (fun y : S4096x4608.Idx => entry m c (y 0) (y 1) : FVec Ideal S4096x4608 .f32) := by
  refine (dats m 0 c).arrAt_eq_of_covers 2 _ (by decide +kernel) fun t hf y => ?_
  blk_simp
  rw [after0_2]
  obtain ⟨i, j, rfl⟩ : ∃ (i : Fin 1024) (j : Fin 1536), y = ix2 i j := ⟨y 0, y 1, (ix2_eta y).symm⟩
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy]
  frame_out
  refine (part_at _ _ i j).trans ?_
  show part _ _ i j = entry m c (row t i) (col t j)
  unfold part entry
  exact Finset.sum_congr rfl fun d _ => congrArg₂ (· * ·) (block_input m c t i d) (block_weight m c t j d)

/-- The reference's product. -/
abbrev product (x : FVec Ideal S4096x2048 .f32) (w : FVec Ideal S2048x4416 .f32) : FVec Ideal Cert.Reference17Ideal.S4096x4416 .f32 :=
  Host.dotGeneral (F := Ideal) Cert.Reference17Ideal.dot_S4096x2048_S2048x4416_S4096x4416_1_0_0_1_n_n none x w

theorem rows_mixer : Pipeline.afterTail₀ cfgs (dats m) 0 (V0 m) [hostOps1] c main_v14
    = extractStridedSlice Cert.Reference17Ideal.S4096x3840 ![0, 0] (product (input m c) (weight m c)) Cert.Reference17Ideal.Facts₀.slices_S4096x4416_S4096x3840_0_0 := by
  unfold Pipeline.afterTail₀
  after_reads_simp
  rw [show Pipeline.withArrays spec0 c (V0 m c) (fun w => (dats m 0 c).arrAt w cfg0.N) (Proc.devRef .tc main_v13) = _ from
    Pipeline.withArrays_arr spec0 (by decide) c (V0 m c) _ 2]
  rw [array]
  funext y
  obtain ⟨i, j, rfl⟩ : ∃ (i : Fin 4096) (j : Fin 3840), y = ix2 i j := ⟨y 0, y 1, (ix2_eta y).symm⟩
  pointwise []
  refine (entry_place m c i ⟨j.val, by have := j.isLt; omega⟩ _ (Fin.ext ?_)).trans ?_
  · have := j.isLt
    show Layout.spot j.val = j.val
    unfold Layout.spot; split_ifs <;> omega
  · rfl

theorem rows_latent : Pipeline.afterTail₀ cfgs (dats m) 0 (V0 m) [hostOps1] c main_v15
    = extractStridedSlice Cert.Reference17Ideal.S4096x512 ![0, 3840] (product (input m c) (weight m c)) Cert.Reference17Ideal.Facts₀.slices_S4096x4416_S4096x512_0_3840 := by
  unfold Pipeline.afterTail₀
  after_reads_simp
  rw [show Pipeline.withArrays spec0 c (V0 m c) (fun w => (dats m 0 c).arrAt w cfg0.N) (Proc.devRef .tc main_v13) = _ from
    Pipeline.withArrays_arr spec0 (by decide) c (V0 m c) _ 2]
  rw [array]
  funext y
  obtain ⟨i, j, rfl⟩ : ∃ (i : Fin 4096) (j : Fin 512), y = ix2 i j := ⟨y 0, y 1, (ix2_eta y).symm⟩
  pointwise []
  refine (entry_place m c i ⟨3840 + j.val, by have := j.isLt; omega⟩ _ (Fin.ext ?_)).trans ?_
  · have := j.isLt
    show Layout.spot (3840 + j.val) = 4096 + j.val
    unfold Layout.spot; split_ifs <;> omega
  · rfl

theorem rows_key_low : Pipeline.afterTail₀ cfgs (dats m) 0 (V0 m) [hostOps1] c main_v16
    = extractStridedSlice Cert.Reference17Ideal.S4096x32 ![0, 4352] (product (input m c) (weight m c)) Cert.Reference17Ideal.Facts₀.slices_S4096x4416_S4096x32_0_4352 := by
  unfold Pipeline.afterTail₀
  after_reads_simp
  rw [show Pipeline.withArrays spec0 c (V0 m c) (fun w => (dats m 0 c).arrAt w cfg0.N) (Proc.devRef .tc main_v13) = _ from
    Pipeline.withArrays_arr spec0 (by decide) c (V0 m c) _ 2]
  rw [array]
  funext y
  obtain ⟨i, j, rfl⟩ : ∃ (i : Fin 4096) (j : Fin 32), y = ix2 i j := ⟨y 0, y 1, (ix2_eta y).symm⟩
  pointwise []
  refine (entry_place m c i ⟨4352 + j.val, by have := j.isLt; omega⟩ _ (Fin.ext ?_)).trans ?_
  · have := j.isLt
    show Layout.spot (4352 + j.val) = 3840 + j.val
    unfold Layout.spot; split_ifs <;> omega
  · rfl

theorem rows_key_high : Pipeline.afterTail₀ cfgs (dats m) 0 (V0 m) [hostOps1] c main_v17
    = extractStridedSlice Cert.Reference17Ideal.S4096x32 ![0, 4384] (product (input m c) (weight m c)) Cert.Reference17Ideal.Facts₀.slices_S4096x4416_S4096x32_0_4384 := by
  unfold Pipeline.afterTail₀
  after_reads_simp
  rw [show Pipeline.withArrays spec0 c (V0 m c) (fun w => (dats m 0 c).arrAt w cfg0.N) (Proc.devRef .tc main_v13) = _ from
    Pipeline.withArrays_arr spec0 (by decide) c (V0 m c) _ 2]
  rw [array]
  funext y
  obtain ⟨i, j, rfl⟩ : ∃ (i : Fin 4096) (j : Fin 32), y = ix2 i j := ⟨y 0, y 1, (ix2_eta y).symm⟩
  pointwise []
  refine (entry_place m c i ⟨4384 + j.val, by have := j.isLt; omega⟩ _ (Fin.ext ?_)).trans ?_
  · have := j.isLt
    show Layout.spot (4384 + j.val) = 3904 + j.val
    unfold Layout.spot; split_ifs <;> omega
  · rfl

end Cert.Kernel17Ideal.Value

namespace Cert.Proof

open Idealize.ShloMosaic Idealize.ShloMosaic.TcCoe Idealize.SL.Sem
open Cert.Kernel17Ideal Cert.Kernel17Ideal.Gen Cert.Kernel17Ideal.Value

theorem frame_latent_rows : Cert.quiescent_Kernel17 := fun m ρ _ => Cert.Kernel17.Gen.frame m ρ
theorem frame_latent_rows_ideal : Cert.quiescent_Kernel17Ideal := fun m ρ _ => Cert.Kernel17Ideal.Gen.frame m ρ
theorem frame_latent_rows_reference : Cert.quiescent_Reference17Ideal := fun m ρ _ =>
  (θ_run Cert.Reference17Ideal.defs _ _).mono
    (fun r h => ⟨fun c => (h c).2.2.2.2, Idealize.ShloMosaic.sem_eq_zero_of_no_sems (by decide) r.2⟩)
    (Cert.Reference17Ideal.Value.run (F := Ideal) m ρ)

theorem same_latent_rows : @Cert.algebraic_Kernel17Ideal_Reference17Ideal Cert.Kernel17Ideal.Gen.facts Cert.Reference17Ideal.Gen.facts := by
  intro m g m' g' hpre hargs
  refine ⟨_, _, _, _, ?_, Cert.Reference17Ideal.Value.run m' g'⟩
  refine (θ_run Cert.Kernel17Ideal.defs _ _).mono (fun r h c => ?_) (run_main m g)
  obtain ⟨e0, e1⟩ := hargs c
  refine ⟨((h c).2 main_v14 (Pipeline.mem_restRefs_of main_v14 (by decide) (by decide))).trans ((rows_mixer m c).trans ?_),
    ((h c).2 main_v15 (Pipeline.mem_restRefs_of main_v15 (by decide) (by decide))).trans ((rows_latent m c).trans ?_),
    ((h c).2 main_v16 (Pipeline.mem_restRefs_of main_v16 (by decide) (by decide))).trans ((rows_key_low m c).trans ?_),
    ((h c).2 main_v17 (Pipeline.mem_restRefs_of main_v17 (by decide) (by decide))).trans ((rows_key_high m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  all_goals rw [e0, e1]

end Cert.Proof

end
-- ==== Proof.GateRows.lean ====
/-
  The gates' rows: the product of the normed input with the gates' columns of the first weight, which the kernel reads
  transposed. Each tile of the result is one product.
-/
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel18Ideal.Value

open Idealize.ShloMosaic Idealize.ShloMosaic.TcCoe Idealize.SL.Sem
open Cert.Kernel18Ideal.Gen

variable (m : (ℓ : Loc nD τ sig) → Buf (Elt Ideal) ℓ) (c : Dev nD)

/-- The arguments. -/
abbrev input : FVec Ideal S4096x2048 .f32 := m ((c.tc : Thread nD τ).loc main_arg0)
abbrev weight : FVec Ideal S2048x4096 .f32 := m ((c.tc : Thread nD τ).loc main_arg1)

/-- The product of a point's blocks. -/
theorem part_at (x : FVec Ideal S1024x2048 .bf16) (w : FVec Ideal S1x1024x2048 .bf16) (i : Fin 1024) (j : Fin 1024) :
    k0_pay1 (F := Ideal) x w (ix2 i j) = ∑ d, x (ix2 i d) * w (ix3 0 j d) := by
  pointwise [k0_pay1]

theorem V_input : V m c main_v0 = truncf .bf16 (input m c) bitsLt_bf16_f32 := by
  unfold V
  after_reads_simp
theorem V_weight : V m c main_v3 = broadcastInDim S1x4096x2048 ![1, 2] bcast_S4096x2048_S1x4096x2048_1_2
    (transpose S4096x2048 [1, 0] (truncf .bf16 (weight m c) bitsLt_bf16_f32 : FVec Ideal S2048x4096 .bf16) transposes_S2048x4096_S4096x2048_1_0) := by
  unfold V
  after_reads_simp

theorem tile_input : ∀ t : Fin grid0.N, win0_0.index t = ![t.val / 4, 0] := by decide +kernel
theorem tile_weight : ∀ t : Fin grid0.N, win0_1.index t = ![0, t.val % 4, 0] := by decide +kernel
theorem tile_out : ∀ t : Fin grid0.N, win0_2.index t = ![t.val / 4, t.val % 4] := by decide +kernel

theorem N_lt (t : Fin grid0.N) : t.val < 16 := t.isLt

/-- Rows of a point's tile of the gradient; columns of its tile of the result. -/
def row (t : Fin grid0.N) (i : Fin 1024) : Fin 4096 := ⟨t.val / 4 * 1024 + i.val, by have := N_lt t; omega⟩
def col (t : Fin grid0.N) (j : Fin 1024) : Fin 4096 := ⟨t.val % 4 * 1024 + j.val, by omega⟩

theorem block_input (t : Fin grid0.N) (i : Fin 1024) (d : Fin 2048) : iblk m c 0 t (ix2 i d) = input m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_input t
    blk_simp
    rw [e]
    change Fin 2 at a
    match a with
    | 0 => rfl
    | 1 => show 0 * 2048 + d.val = d.val; omega
  · rw [V_input]
    pointwise []

theorem block_weight (t : Fin grid0.N) (j : Fin 1024) (d : Fin 2048) : iblk m c 1 t (ix3 0 j d) = weight m c (ix2 d (col t j)) := by
  refine Eq.trans (?_ : _ = V m c main_v3 (ix3 0 (col t j) d)) ?_
  · show V m c main_v3 (((cfg0.win 1).blk t).view.emb (ix3 0 j d)) = _
    refine congrArg (V m c main_v3) (funext fun a => Fin.ext ?_)
    have e := tile_weight t
    blk_simp
    rw [e]
    change Fin 3 at a
    match a with
    | 0 => rfl
    | 1 => rfl
    | 2 => show 0 * 2048 + d.val = d.val; omega
  · rw [V_weight]
    pointwise []

/-- The result of the reference. -/
theorem reference_at (x : FVec Ideal S4096x2048 .f32) (w : FVec Ideal S2048x4096 .f32) (i : Fin 4096) (j : Fin 4096) :
    (truncf .bf16 (Host.dotGeneral Cert.Reference18Ideal.dot_S4096x2048_S2048x4096_S4096x4096_1_0_0_1_n_n none x w : FVec Ideal S4096x4096 .f32) bitsLt_bf16_f32 : FVec Ideal S4096x4096 .bf16) (ix2 i j)
      = ∑ d, x (ix2 i d) * w (ix2 d j) := by
  pointwise []

theorem result : (dats m 0 c).arrAt 2 cfg0.N
    = (truncf .bf16 (Host.dotGeneral Cert.Reference18Ideal.dot_S4096x2048_S2048x4096_S4096x4096_1_0_0_1_n_n none (input m c) (weight m c) : FVec Ideal S4096x4096 .f32) bitsLt_bf16_f32 : FVec Ideal S4096x4096 .bf16) := by
  refine (dats m 0 c).arrAt_eq_of_covers 2 _ (by decide +kernel) fun t hf y => ?_
  blk_simp
  rw [after0_2]
  frame_out
  obtain ⟨i, j, rfl⟩ : ∃ (i : Fin 1024) (j : Fin 1024), y = ix2 i j := ⟨y 0, y 1, (ix2_eta y).symm⟩
  refine (part_at _ _ i j).trans ?_
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact Finset.sum_congr rfl fun d _ => congrArg₂ (· * ·) (block_input m c t i d) (block_weight m c t j d)

end Cert.Kernel18Ideal.Value

namespace Cert.Proof

open Idealize.ShloMosaic Idealize.ShloMosaic.TcCoe Idealize.SL.Sem
open Cert.Kernel18Ideal Cert.Kernel18Ideal.Gen Cert.Kernel18Ideal.Value

theorem frame_gate_rows : Cert.quiescent_Kernel18 := fun m ρ _ => Cert.Kernel18.Gen.frame m ρ
theorem frame_gate_rows_ideal : Cert.quiescent_Kernel18Ideal := fun m ρ _ => Cert.Kernel18Ideal.Gen.frame m ρ
theorem frame_gate_rows_reference : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

theorem same_gate_rows : @Cert.algebraic_Kernel18Ideal_Reference18Ideal Cert.Kernel18Ideal.Gen.facts Cert.Reference18Ideal.Gen.facts := by
  intro m g m' g' hpre hargs
  refine ⟨_, ?_, Cert.Reference18Ideal.Value.run m' g'⟩
  refine (θ_run Cert.Kernel18Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.DownLoss.lean ====
/-
  The feed-forward layer's output product with the loss. A tile's product is added up over four visits; the last one adds the
  residual, takes the target away, writes the gradient of the loss and a bf16 copy of it, and adds the tile's part of the
  loss to one block that every visit carries on.
-/
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel19Ideal.Value

open Idealize.ShloMosaic Idealize.ShloMosaic.TcCoe Idealize.SL.Sem
open Cert.Kernel19Ideal.Gen

variable (m : (ℓ : Loc nD τ sig) → Buf (Elt Ideal) ℓ) (c : Dev nD)

/-- The arguments. -/
abbrev hidden : FVec Ideal S4096x5632 .f32 := m ((c.tc : Thread nD τ).loc main_arg0)
abbrev weight : FVec Ideal S5632x2048 .f32 := m ((c.tc : Thread nD τ).loc main_arg1)
abbrev residual : FVec Ideal S4096x2048 .f32 := m ((c.tc : Thread nD τ).loc main_arg2)
abbrev target : FVec Ideal S4096x2048 .f32 := m ((c.tc : Thread nD τ).loc main_arg3)

/-- The error of the layer's result, and the two float words: the number of features and one half. -/
def err (f : FVec Ideal S4096x5632 .f32) (w : FVec Ideal S5632x2048 .f32) (h y : FVec Ideal S4096x2048 .f32) (i : Fin 4096) (j : Fin 2048) : EReal :=
  (∑ k, f (ix2 i k) * w (ix2 k j)) + h (ix2 i j) - y (ix2 i j)
def features : EReal := FloatOps.ofBits (F := Ideal) .f32 0x45000000#32
def half : EReal := FloatOps.ofBits (F := Ideal) .f32 0x3F000000#32

/-! ## Numbers -/

theorem features_eq : features = ((2048 : ℝ) : EReal) := by
  unfold features
  simp [Ideal.ofBits, Ideal.ieee]
  rw [← EReal.coe_mul]
  norm_num
theorem half_eq : half = ((1 / 2 : ℝ) : EReal) := by
  unfold half
  simp [Ideal.ofBits, Ideal.ieee]
  rw [← EReal.coe_mul]
  norm_num
theorem one_eq : (FloatOps.ofBits (F := Ideal) .f32 0x3F800000#32 : EReal) = ((1 : ℝ) : EReal) := by
  simp [Ideal.ofBits, Ideal.ieee]
  rw [← EReal.coe_mul]
  norm_num
theorem div_features (x : EReal) : Ideal.div x features = x * ((1 / 2048 : ℝ) : EReal) := by
  rw [features_eq, Ideal.div_coe (by norm_num)]

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor goes into a sum of entries that are not negative. -/
theorem mul_sum {ι : Type} [Fintype ι] (a : EReal) (x : ι → EReal) (h : ∀ i, 0 ≤ x i) : a * ∑ i, x i = ∑ i, a * x i := by
  classical
  refine Finset.induction_on (motive := fun s : Finset ι => a * ∑ i ∈ s, x i = ∑ i ∈ s, a * x i) Finset.univ ?_ ?_
  · rw [Finset.sum_empty, Finset.sum_empty, mul_zero]
  · intro i s hi ih
    rw [Finset.sum_insert hi, Finset.sum_insert hi, EReal.left_distrib_of_nonneg (h i) (Finset.sum_nonneg fun j _ => h j), ih]

/-- One half of the share of a feature, added to itself, is the share. -/
theorem twice (x : EReal) : x * (Ideal.div (half * FloatOps.ofBits (F := Ideal) .f32 0x3F800000#32) features)
    + (Ideal.div (half * FloatOps.ofBits (F := Ideal) .f32 0x3F800000#32) features) * x = Ideal.div x features := by
  rw [div_features, div_features, half_eq, one_eq, ← EReal.coe_mul, ← EReal.coe_mul, mul_comm (((1 / 2 * 1 * (1 / 2048) : ℝ)) : EReal) x,
    ← EReal.left_distrib_of_nonneg (EReal.coe_nonneg.mpr (by norm_num)) (EReal.coe_nonneg.mpr (by norm_num)), ← EReal.coe_add]
  norm_num

/-! ## The values a visit computes -/

/-- The product of a visit's blocks. -/
def part (x : FVec Ideal S1024x1408 .bf16) (w : FVec Ideal S1x1408x1024 .bf16) (i : Fin 1024) (j : Fin 1024) : EReal :=
  ∑ d : Fin 1408, x (ix2 i d) * w (ix3 0 d j)

theorem first_at (x : FVec Ideal S1024x1408 .bf16) (w : FVec Ideal S1x1408x1024 .bf16) (i : Fin 1024) (j : Fin 1024) :
    k0_pay2 (F := Ideal) x w (ix2 i j) = part x w i j := by
  unfold part
  pointwise [k0_pay2]
theorem next_at (a : FVec Ideal S1024x1024 .f32) (x : FVec Ideal S1024x1408 .bf16) (w : FVec Ideal S1x1408x1024 .bf16) (i : Fin 1024) (j : Fin 1024) :
    k0_pay3 (F := Ideal) a x w (ix2 i j) = a (ix2 i j) + part x w i j := by
  unfold part
  pointwise [k0_pay3]
theorem last_at (a : FVec Ideal S1024x1024 .f32) (x : FVec Ideal S1024x1408 .bf16) (w : FVec Ideal S1x1408x1024 .bf16) (h y : FVec Ideal S1024x1024 .f32) (i : Fin 1024) (j : Fin 1024) :
    k0_pay4 (F := Ideal) a x w h y (ix2 i j) = a (ix2 i j) + part x w i j + h (ix2 i j) - y (ix2 i j) := by
  unfold part
  pointwise [k0_pay4]
theorem slope_at (a : FVec Ideal S1024x1024 .f32) (x : FVec Ideal S1024x1408 .bf16) (w : FVec Ideal S1x1408x1024 .bf16) (h y : FVec Ideal S1024x1024 .f32) (i : Fin 1024) (j : Fin 1024) :
    k0_pay5 (F := Ideal) a x w h y (ix2 i j) = Ideal.div (k0_pay4 (F := Ideal) a x w h y (ix2 i j)) features := by
  unfold features
  pointwise [k0_pay5]
theorem slope_copy_at (a : FVec Ideal S1024x1024 .f32) (x : FVec Ideal S1024x1408 .bf16) (w : FVec Ideal S1x1408x1024 .bf16) (h y : FVec Ideal S1024x1024 .f32) (i : Fin 1024) (j : Fin 1024) :
    k0_pay6 (F := Ideal) a x w h y (ix2 i j) = Ideal.div (k0_pay4 (F := Ideal) a x w h y (ix2 i j)) features := by
  unfold features
  pointwise [k0_pay6]
/-- A tile's part of the loss, from the errors. -/
def tileLoss (e : Fin 1024 → Fin 1024 → EReal) : EReal := Ideal.div (half * ∑ i, ∑ j, e i j * e i j) features
theorem loss_at (a : FVec Ideal S1024x1024 .f32) (x : FVec Ideal S1024x1408 .bf16) (w : FVec Ideal S1x1408x1024 .bf16) (h y : FVec Ideal S1024x1024 .f32)
    (l : FVec Ideal S8x128 .f32) (r : Fin 8) (s : Fin 128) :
    k0_pay7 (F := Ideal) a x w h y l (ix2 r s) = l (ix2 r s) + tileLoss fun i j => k0_pay4 (F := Ideal) a x w h y (ix2 i j) := by
  unfold tileLoss half features
  pointwise [k0_pay7]
theorem none_at (r : Fin 8) (s : Fin 128) : k0_pay1 (F := Ideal) (ix2 r s) = 0 := by
  pointwise [k0_pay1]

/-! ## The blocks of a visit -/

theorem V_hidden : V m c main_v0 = truncf .bf16 (hidden m c) bitsLt_bf16_f32 := by
  unfold V
  after_reads_simp
theorem V_weight : V m c main_v2 = broadcastInDim S1x5632x2048 ![1, 2] bcast_S5632x2048_S1x5632x2048_1_2 (truncf .bf16 (weight m c) bitsLt_bf16_f32 : FVec Ideal S5632x2048 .bf16) := by
  unfold V
  after_reads_simp

theorem tile_hidden : ∀ t : Fin grid0.N, win0_0.index t = ![t.val / 8, t.val % 4] := by decide +kernel
theorem tile_weight : ∀ t : Fin grid0.N, win0_1.index t = ![0, t.val % 4, t.val / 4 % 2] := by decide +kernel
theorem tile_residual : ∀ t : Fin grid0.N, win0_2.index t = ![t.val / 8, t.val / 4 % 2] := by decide +kernel
theorem tile_target : ∀ t : Fin grid0.N, win0_3.index t = ![t.val / 8, t.val / 4 % 2] := by decide +kernel
theorem tile_slope : ∀ t : Fin grid0.N, win0_4.index t = ![t.val / 8, t.val / 4 % 2] := by decide +kernel
theorem tile_copy : ∀ t : Fin grid0.N, win0_5.index t = ![t.val / 8, t.val / 4 % 2] := by decide +kernel
theorem tile_loss : ∀ t : Fin grid0.N, win0_6.index t = ![0, 0] := by decide +kernel

theorem N_lt (t : Fin grid0.N) : t.val < 32 := t.isLt

/-- Rows and columns of a visit's tile; the hidden features a visit adds over. -/
def row (t : Fin grid0.N) (i : Fin 1024) : Fin 4096 := ⟨t.val / 8 * 1024 + i.val, by have := N_lt t; omega⟩
def col (t : Fin grid0.N) (j : Fin 1024) : Fin 2048 := ⟨t.val / 4 % 2 * 1024 + j.val, by omega⟩
def turn (t : Fin grid0.N) : Fin 4 := ⟨t.val % 4, by omega⟩
def over (s : Fin 4) (d : Fin 1408) : Fin 5632 := ⟨s.val * 1408 + d.val, by omega⟩

theorem block_hidden (t : Fin grid0.N) (i : Fin 1024) (d : Fin 1408) : iblk m c 0 t (ix2 i d) = hidden m c (ix2 (row t i) (over (turn t) d)) := by
  refine Eq.trans (?_ : _ = V m c main_v0 (ix2 (row t i) (over (turn t) d))) ?_
  · show V m c main_v0 (((cfg0.win 0).blk t).view.emb (ix2 i d)) = _
    refine congrArg (V m c main_v0) (funext fun a => Fin.ext ?_)
    have e := tile_hidden t
    blk_simp
    rw [e]
    change Fin 2 at a
    match a with
    | 0 => rfl
    | 1 => rfl
  · rw [V_hidden]
    pointwise []

theorem block_weight (t : Fin grid0.N) (d : Fin 1408) (j : Fin 1024) : iblk m c 1 t (ix3 0 d j) = weight m c (ix2 (over (turn t) d) (col t j)) := by
  refine Eq.trans (?_ : _ = V m c main_v2 (ix3 0 (over (turn t) d) (col t j))) ?_
  · show V m c main_v2 (((cfg0.win 1).blk t).view.emb (ix3 0 d j)) = _
    refine congrArg (V m c main_v2) (funext fun a => Fin.ext ?_)
    have e := tile_weight t
    blk_simp
    rw [e]
    change Fin 3 at a
    match a with
    | 0 => rfl
    | 1 => rfl
    | 2 => rfl
  · rw [V_weight]
    pointwise []

theorem block_residual (t : Fin grid0.N) (i : Fin 1024) (j : Fin 1024) : iblk m c 2 t (ix2 i j) = residual m c (ix2 (row t i) (col t j)) := by
  refine Eq.trans (?_ : _ = V m c main_arg2 (ix2 (row t i) (col t j))) ?_
  · show V m c main_arg2 (((cfg0.win 2).blk t).view.emb (ix2 i j)) = _
    refine congrArg (V m c main_arg2) (funext fun a => Fin.ext ?_)
    have e := tile_residual t
    blk_simp
    rw [e]
    change Fin 2 at a
    match a with
    | 0 => rfl
    | 1 => rfl
  · rw [V_main_arg2]

theorem block_target (t : Fin grid0.N) (i : Fin 1024) (j : Fin 1024) : iblk m c 3 t (ix2 i j) = target m c (ix2 (row t i) (col t j)) := by
  refine Eq.trans (?_ : _ = V m c main_arg3 (ix2 (row t i) (col t j))) ?_
  · show V m c main_arg3 (((cfg0.win 3).blk t).view.emb (ix2 i j)) = _
    refine congrArg (V m c main_arg3) (funext fun a => Fin.ext ?_)
    have e := tile_target t
    blk_simp
    rw [e]
    change Fin 2 at a
    match a with
    | 0 => rfl
    | 1 => rfl
  · rw [V_main_arg3]

/-! ## The product of a tile -/

/-- A visit's share of an entry. -/
def term (t : Fin grid0.N) (i : Fin 1024) (j : Fin 1024) : EReal := part (iblk m c 0 t) (iblk m c 1 t) i j
def share (r : Fin 4096) (q : Fin 2048) (k : Fin 5632) : EReal := hidden m c (ix2 r k) * weight m c (ix2 k q)

theorem term_eq (t : Fin grid0.N) (i : Fin 1024) (j : Fin 1024) : term m c t i j = ∑ d, share m c (row t i) (col t j) (over (turn t) d) := by
  unfold term part share
  exact Finset.sum_congr rfl fun d _ => congrArg₂ (fun a b : EReal => a * b) (block_hidden m c t i d) (block_weight m c t d j)

/-- The scratch before a visit's product is added; after the last visit of a tile nothing reads it. -/
abbrev scratch (n : ℕ) (h : n < cfg0.N) : FVec Ideal S1024x1024 .f32 := (outsAt0 m c n h).2.2.2

/-- What stands for a tile's product after a visit. -/
def held (n : ℕ) (h : n < cfg0.N) (y : S1024x1024.Idx) : EReal :=
  if n % 4 = 3 then scratch m c (n - 1) (Nat.lt_of_le_of_lt (Nat.sub_le _ _) h) y + term m c ⟨n, h⟩ (y 0) (y 1) else scratch m c n h y

theorem scratch_first (t : Fin cfg0.N) (h : t.val % 4 = 0) (i j : Fin 1024) : scratch m c t.val t.isLt (ix2 i j) = term m c t i j := by
  unfold scratch
  by_cases h0 : t.val % 32 = 0
  · rw [outsAt0_A m c t h0 h (by omega) (by omega)]
    frame_out
    exact first_at _ _ _ _
  · rw [outsAt0_D m c t h0 h (by omega) (by omega)]
    frame_out
    exact first_at _ _ _ _

theorem held_first (t : Fin cfg0.N) (h : t.val % 4 = 0) (y : S1024x1024.Idx) : held m c t.val t.isLt y = 0 + term m c t (y 0) (y 1) := by
  obtain ⟨i, j, rfl⟩ : ∃ (i : Fin 1024) (j : Fin 1024), y = ix2 i j := ⟨y 0, y 1, (ix2_eta y).symm⟩
  unfold held
  rw [if_neg (by omega), zero_add]
  exact scratch_first m c t h i j

theorem held_next (t : Fin cfg0.N) (h : ¬t.val % 4 = 0) (y : S1024x1024.Idx) :
    held m c t.val t.isLt y = held m c (t.val - 1) (Nat.lt_of_le_of_lt (Nat.sub_le _ _) t.isLt) y + term m c t (y 0) (y 1) := by
  obtain ⟨i, j, rfl⟩ : ∃ (i : Fin 1024) (j : Fin 1024), y = ix2 i j := ⟨y 0, y 1, (ix2_eta y).symm⟩
  unfold held
  rw [if_neg (by omega : ¬(t.val - 1) % 4 = 3)]
  by_cases h2 : t.val % 4 = 3
  · rw [if_pos h2]
  · rw [if_neg h2]
    unfold scratch
    rw [outsAt0_B m c t (by omega) h (by omega) h2]
    frame_out
    simp only [read_unread_whole]
    exact next_at _ _ _ _ _

theorem product (t : Fin cfg0.N) (h : t.val % 4 = 3) (i j : Fin 1024) :
    scratch m c (t.val - 1) (Nat.lt_of_le_of_lt (Nat.sub_le _ _) t.isLt) (ix2 i j) + term m c t i j = ∑ k, share m c (row t i) (col t j) k := by
  have e := Pipeline.eq_sum_fin_of_reset_step_apply_of_flush (held m c) 4 (fun _ => (0 : EReal)) (fun t y => term m c t (y 0) (y 1))
    (held_first m c) (held_next m c) t h (ix2 i j)
  refine Eq.trans (?_ : _ = held m c t.val t.isLt (ix2 i j)) (e.trans ?_)
  · unfold held
    rw [if_pos h]
    rfl
  rw [zero_add]
  refine Eq.trans ?_ (Fin.sum_mul_add_fin 4 1408 (share m c (row t i) (col t j)))
  refine Finset.sum_congr rfl fun s _ => ?_
  refine (term_eq m c _ i j).trans ?_
  have hs : turn ⟨4 * (t.val / 4) + s.val, Pipeline.run_point_lt_of_flush t h s⟩ = s := Fin.ext (by show (4 * (t.val / 4) + s.val) % 4 = s.val; omega)
  have hr : row ⟨4 * (t.val / 4) + s.val, Pipeline.run_point_lt_of_flush t h s⟩ i = row t i :=
    Fin.ext (by show (4 * (t.val / 4) + s.val) / 8 * 1024 + i.val = t.val / 8 * 1024 + i.val; omega)
  have hc : col ⟨4 * (t.val / 4) + s.val, Pipeline.run_point_lt_of_flush t h s⟩ j = col t j :=
    Fin.ext (by show (4 * (t.val / 4) + s.val) / 4 % 2 * 1024 + j.val = t.val / 4 % 2 * 1024 + j.val; omega)
  rw [hs, hr, hc]
  rfl

/-- The errors the last visit of a tile computes. -/
theorem err_eq (t : Fin cfg0.N) (h : t.val % 4 = 3) (i j : Fin 1024) :
    k0_pay4 (F := Ideal) (scratch m c (t.val - 1) (Nat.lt_of_le_of_lt (Nat.sub_le _ _) t.isLt)) (iblk m c 0 t) (iblk m c 1 t) (iblk m c 2 t) (iblk m c 3 t) (ix2 i j)
      = err (hidden m c) (weight m c) (residual m c) (target m c) (row t i) (col t j) :=
  (last_at _ _ _ _ _ i j).trans (congrArg₂ (fun a b : EReal => a - b)
    (congrArg₂ (fun a b : EReal => a + b) (product m c t h i j) (block_residual m c t i j)) (block_target m c t i j))

/-! ## The gradient's two copies -/

theorem written_slope (t : Fin cfg0.N) (h : t.val % 4 = 3) (i j : Fin 1024) :
    (outsAt0 m c t.val t.isLt).1 (ix2 i j) = Ideal.div (err (hidden m c) (weight m c) (residual m c) (target m c) (row t i) (col t j)) features := by
  rw [outsAt0_C m c t (by omega) (by omega) (by omega) h]
  frame_out
  simp only [read_unread_whole]
  exact (slope_at _ _ _ _ _ i j).trans (congrArg (Ideal.div · features) (err_eq m c t h i j))

theorem array_slope : (dats m 0 c).arrAt 4 cfg0.N = (fun y : S4096x2048.Idx => Ideal.div (err (hidden m c) (weight m c) (residual m c) (target m c) (y 0) (y 1)) features : S4096x2048.Idx → EReal) := by
  refine (dats m 0 c).arrAt_eq_of_covers 4 _ (by decide +kernel) fun t hf y => ?_
  blk_simp
  rw [after0_4]
  have h := (flush0_4 t).mp hf
  obtain ⟨i, j, rfl⟩ : ∃ (i : Fin 1024) (j : Fin 1024), y = ix2 i j := ⟨y 0, y 1, (ix2_eta y).symm⟩
  have hy : ((cfg0.win 4).blk t).view.emb (ix2 i j) = ix2 (row t i) (col t j) := by
    refine funext fun a => Fin.ext ?_
    have e := tile_slope t
    blk_simp
    rw [e]
    change Fin 2 at a
    match a with
    | 0 => rfl
    | 1 => rfl
  rw [hy]
  exact written_slope m c t h i j

theorem written_copy (t : Fin cfg0.N) (h : t.val % 4 = 3) (i j : Fin 1024) :
    (outsAt0 m c t.val t.isLt).2.1 (ix2 i j) = Ideal.div (err (hidden m c) (weight m c) (residual m c) (target m c) (row t i) (col t j)) features := by
  rw [outsAt0_C m c t (by omega) (by omega) (by omega) h]
  frame_out
  simp only [read_unread_whole]
  exact (slope_copy_at _ _ _ _ _ i j).trans (congrArg (Ideal.div · features) (err_eq m c t h i j))

theorem array_copy : (dats m 0 c).arrAt 5 cfg0.N = (fun y : S4096x2048.Idx => Ideal.div (err (hidden m c) (weight m c) (residual m c) (target m c) (y 0) (y 1)) features : S4096x2048.Idx → EReal) := by
  refine (dats m 0 c).arrAt_eq_of_covers 5 _ (by decide +kernel) fun t hf y => ?_
  blk_simp
  rw [after0_5]
  have h := (flush0_5 t).mp hf
  obtain ⟨i, j, rfl⟩ : ∃ (i : Fin 1024) (j : Fin 1024), y = ix2 i j := ⟨y 0, y 1, (ix2_eta y).symm⟩
  have hy : ((cfg0.win 5).blk t).view.emb (ix2 i j) = ix2 (row t i) (col t j) := by
    refine funext fun a => Fin.ext ?_
    have e := tile_copy t
    blk_simp
    rw [e]
    change Fin 2 at a
    match a with
    | 0 => rfl
    | 1 => rfl
  rw [hy]
  exact written_copy m c t h i j

/-! ## The loss -/

abbrev losses (n : ℕ) (h : n < cfg0.N) : FVec Ideal S8x128 .f32 := (outsAt0 m c n h).2.2.1

/-- A visit's part of the loss: that of its tile at the tile's last visit. -/
def lossTerm (t : Fin grid0.N) : EReal :=
  if t.val % 4 = 3 then tileLoss fun i j => err (hidden m c) (weight m c) (residual m c) (target m c) (row t i) (col t j) else 0

theorem losses_first (t : Fin cfg0.N) (h : t.val % 32 = 0) (y : S8x128.Idx) : losses m c t.val t.isLt y = 0 + lossTerm m c t := by
  obtain ⟨r, s, rfl⟩ : ∃ (r : Fin 8) (s : Fin 128), y = ix2 r s := ⟨y 0, y 1, (ix2_eta y).symm⟩
  unfold losses lossTerm
  rw [if_neg (by omega), add_zero, outsAt0_A m c t h (by omega) (by omega) (by omega)]
  frame_out
  exact none_at r s

theorem losses_next (t : Fin cfg0.N) (h : ¬t.val % 32 = 0) (y : S8x128.Idx) :
    losses m c t.val t.isLt y = losses m c (t.val - 1) (Nat.lt_of_le_of_lt (Nat.sub_le _ _) t.isLt) y + lossTerm m c t := by
  obtain ⟨r, s, rfl⟩ : ∃ (r : Fin 8) (s : Fin 128), y = ix2 r s := ⟨y 0, y 1, (ix2_eta y).symm⟩
  unfold losses lossTerm
  by_cases h3 : t.val % 4 = 3
  · rw [if_pos h3, outsAt0_C m c t h (by omega) (by omega) h3]
    frame_out
    simp only [read_unread_whole]
    refine (loss_at _ _ _ _ _ _ r s).trans (congrArg (_ + tileLoss ·) (funext fun i => funext fun j => err_eq m c t h3 i j))
  · rw [if_neg h3, add_zero]
    by_cases h0 : t.val % 4 = 0
    · rw [outsAt0_D m c t h h0 (by omega) h3]
      frame_out
      simp only [out0_D_6, read_unread_whole]
    · rw [outsAt0_B m c t h h0 (by omega) h3]
      frame_out
      simp only [out0_B_6, read_unread_whole]

/-- The whole loss. -/
def total (e : Fin 4096 → Fin 2048 → EReal) : EReal := half * ∑ i, Ideal.div (∑ j, e i j * e i j) features

/-- The tiles' parts add up to the loss. -/
theorem sum_tiles (e : Fin 4096 → Fin 2048 → EReal) :
    ∑ a : Fin 4, ∑ b : Fin 2, tileLoss (fun i j => e ⟨a.val * 1024 + i.val, by omega⟩ ⟨b.val * 1024 + j.val, by omega⟩) = total e := by
  unfold tileLoss total
  have hq : ∀ i j, 0 ≤ e i j * e i j := fun i j => square_nonneg _
  have h1 : ∀ i : Fin 4096, Ideal.div (∑ j, e i j * e i j) features = ((1 / 2048 : ℝ) : EReal) * ∑ j, e i j * e i j := fun i => by
    rw [div_features, mul_comm]
  rw [Finset.sum_congr rfl fun i _ => h1 i, ← mul_sum _ _ fun i => Finset.sum_nonneg fun j _ => hq i j, ← mul_assoc]
  have h2 : ∀ (a : Fin 4) (b : Fin 2), Ideal.div (half * ∑ i : Fin 1024, ∑ j : Fin 1024,
      e ⟨a.val * 1024 + i.val, by omega⟩ ⟨b.val * 1024 + j.val, by omega⟩ * e ⟨a.val * 1024 + i.val, by omega⟩ ⟨b.val * 1024 + j.val, by omega⟩) features
      = half * ((1 / 2048 : ℝ) : EReal) * ∑ i : Fin 1024, ∑ j : Fin 1024,
      e ⟨a.val * 1024 + i.val, by omega⟩ ⟨b.val * 1024 + j.val, by omega⟩ * e ⟨a.val * 1024 + i.val, by omega⟩ ⟨b.val * 1024 + j.val, by omega⟩ := fun a b => by
    rw [div_features, mul_right_comm]
  rw [Finset.sum_congr rfl fun a _ => Finset.sum_congr rfl fun b _ => h2 a b]
  have hn : ∀ (a : Fin 4) (b : Fin 2), 0 ≤ ∑ i : Fin 1024, ∑ j : Fin 1024,
      e ⟨a.val * 1024 + i.val, by omega⟩ ⟨b.val * 1024 + j.val, by omega⟩ * e ⟨a.val * 1024 + i.val, by omega⟩ ⟨b.val * 1024 + j.val, by omega⟩ :=
    fun a b => Finset.sum_nonneg fun i _ => Finset.sum_nonneg fun j _ => hq _ _
  rw [Finset.sum_congr rfl fun a _ => (mul_sum _ _ fun b => hn a b).symm, ← mul_sum _ _ fun a => Finset.sum_nonneg fun b _ => hn a b]
  refine congrArg (fun z : EReal => half * ((1 / 2048 : ℝ) : EReal) * z) ?_
  refine Eq.trans (Finset.sum_congr rfl fun a _ => ?_) (Fin.sum_mul_add_fin 4 1024 fun i : Fin 4096 => ∑ j, e i j * e i j)
  rw [Finset.sum_comm]
  refine Finset.sum_congr rfl fun i _ => ?_
  exact Fin.sum_mul_add_fin 2 1024 fun j : Fin 2048 => e ⟨a.val * 1024 + i.val, by omega⟩ j * e ⟨a.val * 1024 + i.val, by omega⟩ j

theorem losses_last (t : Fin cfg0.N) (h : t.val % 32 = 31) (y : S8x128.Idx) :
    losses m c t.val t.isLt y = total (err (hidden m c) (weight m c) (residual m c) (target m c)) := by
  have e := Pipeline.eq_sum_fin_of_reset_step_apply_of_flush (losses m c) 32 (fun _ => (0 : EReal)) (fun t _ => lossTerm m c t)
    (losses_first m c) (losses_next m c) t h y
  refine e.trans ?_
  rw [zero_add, ← sum_tiles]
  have hv : ∀ s : Fin 32, lossTerm m c ⟨32 * (t.val / 32) + s.val, Pipeline.run_point_lt_of_flush t h s⟩ = lossTerm m c ⟨s.val, s.isLt⟩ := fun s => by
    have := N_lt t
    exact congrArg (lossTerm m c) (Fin.ext (by show 32 * (t.val / 32) + s.val = s.val; omega))
  rw [Finset.sum_congr rfl fun s _ => hv s]
  refine (Fin.sum_mul_add_fin 8 4 fun s : Fin 32 => lossTerm m c ⟨s.val, s.isLt⟩).symm.trans ?_
  refine (Finset.sum_congr rfl fun q _ => ?_ : _ = ∑ q : Fin 8, lossTerm m c ⟨q.val * 4 + 3, by show _ < 32; omega⟩).trans ?_
  · rw [Fin.sum_univ_four]
    have hz : ∀ r : Fin 4, r.val ≠ 3 → lossTerm m c ⟨q.val * 4 + r.val, by show _ < 32; omega⟩ = 0 := fun r hr => by
      unfold lossTerm
      rw [if_neg (by show ¬(q.val * 4 + r.val) % 4 = 3; omega)]
    refine (congrArg₂ (· + ·) (congrArg₂ (· + ·) (congrArg₂ (· + ·) (hz 0 (by decide)) (hz 1 (by decide))) (hz 2 (by decide))) rfl).trans ?_
    rw [add_zero, add_zero, zero_add]
    rfl
  refine (Fin.sum_mul_add_fin 4 2 fun q : Fin 8 => lossTerm m c ⟨q.val * 4 + 3, by show _ < 32; omega⟩).symm.trans ?_
  refine Finset.sum_congr rfl fun a _ => Finset.sum_congr rfl fun b _ => ?_
  unfold lossTerm
  rw [if_pos (by show ((a.val * 2 + b.val) * 4 + 3) % 4 = 3; omega)]
  refine congrArg tileLoss (funext fun i => funext fun j => congrArg₂ (err _ _ _ _) (Fin.ext ?_) (Fin.ext ?_))
  · show ((a.val * 2 + b.val) * 4 + 3) / 8 * 1024 + i.val = a.val * 1024 + i.val; omega
  · show ((a.val * 2 + b.val) * 4 + 3) / 4 % 2 * 1024 + j.val = b.val * 1024 + j.val; omega

theorem array_loss : (dats m 0 c).arrAt 6 cfg0.N = (fun _ : S8x128.Idx => total (err (hidden m c) (weight m c) (residual m c) (target m c)) : S8x128.Idx → EReal) := by
  refine (dats m 0 c).arrAt_eq_of_covers 6 _ (by decide +kernel) fun t hf y => ?_
  blk_simp
  rw [after0_6]
  exact losses_last m c t ((flush0_6 t).mp hf) y

theorem result_loss : Pipeline.afterTail₀ cfgs (dats m) 0 (V0 m) [hostOps1] c main_v4
    = (fun _ : S1x1.Idx => total (err (hidden m c) (weight m c) (residual m c) (target m c)) : S1x1.Idx → EReal) := by
  unfold Pipeline.afterTail₀
  after_reads_simp
  rw [show Pipeline.withArrays spec0 c (V0 m c) (fun w => (dats m 0 c).arrAt w cfg0.N) (Proc.devRef .tc main_v3_2) = _ from
    Pipeline.withArrays_arr spec0 (by decide) c (V0 m c) _ 6]
  rw [array_loss]
  rfl

/-! ## The reference -/

section Reference

open Cert.Reference19Ideal

/-- The reference's stages. -/
def refErr (f : FVec Ideal S4096x5632 .f32) (w : FVec Ideal S5632x2048 .f32) (h y : FVec Ideal S4096x2048 .f32) : FVec Ideal S4096x2048 .f32 :=
  subf (addf h (Host.dotGeneral (F := Ideal) dot_S4096x5632_S5632x2048_S4096x2048_1_0_0_1_n_n none f w)) y
def refShare : FVec Ideal S4096x2048 .f32 :=
  broadcastInDim S4096x2048 ![0] Facts₀.bcast_S4096_S4096x2048_0
    (Host.divf (broadcastInDim S4096 ![] Facts₀.bcast_S_S4096 (mulf (constant (F := Ideal) S_ .f32 0x3F000000#32) (constant (F := Ideal) S_ .f32 0x3F800000#32)))
      (broadcastInDim S4096 ![] Facts₀.bcast_S_S4096 (constant (F := Ideal) S_ .f32 0x45000000#32)) : FVec Ideal S4096 .f32)
def refSlope (e : FVec Ideal S4096x2048 .f32) : FVec Ideal S4096x2048 .f32 := addf (mulf e refShare) (mulf refShare e)
def refLoss (e : FVec Ideal S4096x2048 .f32) : FVec Ideal S_ .f32 :=
  mulf (constant (F := Ideal) S_ .f32 0x3F000000#32)
    (Host.reduceAdd (Host.divf (Host.reduceAdd (mulf e e) (constant (F := Ideal) S_ .f32 0x00000000#32) Facts₀.reducesTo_S4096x2048_S4096_d1 Facts₀.h_S_)
      (broadcastInDim S4096 ![] Facts₀.bcast_S_S4096 (constant (F := Ideal) S_ .f32 0x45000000#32)) : FVec Ideal S4096 .f32)
      (constant (F := Ideal) S_ .f32 0x00000000#32) Facts₀.reducesTo_S4096_S_d0 Facts₀.h_S_)

theorem refErr_at (f : FVec Ideal S4096x5632 .f32) (w : FVec Ideal S5632x2048 .f32) (h y : FVec Ideal S4096x2048 .f32) (i : Fin 4096) (j : Fin 2048) :
    refErr f w h y (ix2 i j) = err f w h y i j := by
  unfold err
  rw [add_comm]
  pointwise [refErr]
theorem refSlope_at (e : FVec Ideal S4096x2048 .f32) (i : Fin 4096) (j : Fin 2048) : refSlope e (ix2 i j) = Ideal.div (e (ix2 i j)) features := by
  rw [← twice]
  unfold half features
  pointwise [refSlope, refShare]
theorem refLoss_at (e : FVec Ideal S4096x2048 .f32) (y : S_.Idx) : refLoss e y = total fun i j => e (ix2 i j) := by
  unfold total half features
  pointwise [refLoss]

end Reference

theorem slope_same : (fun y : S4096x2048.Idx => Ideal.div (err (hidden m c) (weight m c) (residual m c) (target m c) (y 0) (y 1)) features : S4096x2048.Idx → EReal)
    = refSlope (refErr (hidden m c) (weight m c) (residual m c) (target m c)) := by
  funext y
  obtain ⟨i, j, rfl⟩ : ∃ (i : Fin 4096) (j : Fin 2048), y = ix2 i j := ⟨y 0, y 1, (ix2_eta y).symm⟩
  rw [refSlope_at, refErr_at]
  rfl
theorem copy_same : (fun y : S4096x2048.Idx => Ideal.div (err (hidden m c) (weight m c) (residual m c) (target m c) (y 0) (y 1)) features : S4096x2048.Idx → EReal)
    = (truncf .bf16 (refSlope (refErr (hidden m c) (weight m c) (residual m c) (target m c))) bitsLt_bf16_f32 : FVec Ideal S4096x2048 .bf16) :=
  slope_same m c
theorem loss_same : (fun _ : S1x1.Idx => total (err (hidden m c) (weight m c) (residual m c) (target m c)) : S1x1.Idx → EReal)
    = fun y => shapeCast S1x1 (refLoss (refErr (hidden m c) (weight m c) (residual m c) (target m c))) Cert.Reference19Ideal.Facts₀.shapeCasts_S_S1x1 y := by
  funext y
  refine Eq.trans ?_ (refLoss_at (refErr (hidden m c) (weight m c) (residual m c) (target m c)) _).symm
  exact congrArg total (funext fun i => funext fun j => (refErr_at (hidden m c) (weight m c) (residual m c) (target m c) i j).symm)

end Cert.Kernel19Ideal.Value

namespace Cert.Proof

open Idealize.ShloMosaic Idealize.ShloMosaic.TcCoe Idealize.SL.Sem
open Cert.Kernel19Ideal Cert.Kernel19Ideal.Gen Cert.Kernel19Ideal.Value

theorem frame_down_loss : Cert.quiescent_Kernel19 := fun m ρ _ => Cert.Kernel19.Gen.frame m ρ
theorem frame_down_loss_ideal : Cert.quiescent_Kernel19Ideal := fun m ρ _ => Cert.Kernel19Ideal.Gen.frame m ρ
theorem frame_down_loss_reference : Cert.quiescent_Reference19Ideal := fun m ρ _ =>
  (θ_run Cert.Reference19Ideal.defs _ _).mono
    (fun r h => ⟨fun c => (h c).2.2.2, Idealize.ShloMosaic.sem_eq_zero_of_no_sems (by decide) r.2⟩)
    (Cert.Reference19Ideal.Value.run (F := Ideal) m ρ)

theorem same_down_loss : @Cert.algebraic_Kernel19Ideal_Reference19Ideal Cert.Kernel19Ideal.Gen.facts Cert.Reference19Ideal.Gen.facts := by
  intro m g m' g' hpre hargs
  refine ⟨_, _, _, ?_, Cert.Reference19Ideal.Value.run m' g'⟩
  refine (θ_run Cert.Kernel19Ideal.defs _ _).mono (fun r h c => ?_) (run_main m g)
  obtain ⟨e0, e1, e2, e3⟩ := hargs c
  refine ⟨((h c).1 4).trans ((array_slope m c).trans ((slope_same m c).trans ?_)),
    ((h c).1 5).trans ((array_copy m c).trans ((copy_same m c).trans ?_)),
    ((h c).2 main_v4 (Pipeline.mem_restRefs_of main_v4 (by decide) (by decide))).trans ((result_loss m c).trans ((loss_same m c).trans ?_)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩
  · rw [e0, e1, e2, e3]
    rfl
  · rw [e0, e1, e2, e3]
    rfl
  · rw [e0, e1, e2, e3]
    rfl

end Cert.Proof

end
-- ==== Proof.Mixers.lean ====
/-
  The mixers' results under their gates: the attention's output projection, and the sum of the convolution's result and the
  attention's, each times its gate. Each tile of the two results is made in one visit; the two gates are columns of one array.
-/
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel20Ideal.Value

open Idealize.ShloMosaic Idealize.ShloMosaic.TcCoe Idealize.SL.Sem
open Cert.Kernel20Ideal.Gen

variable (m : (ℓ : Loc nD τ sig) → Buf (Elt Ideal) ℓ) (c : Dev nD)

/-- The arguments. -/
abbrev heads : FVec Ideal S4096x2048 .f32 := m ((c.tc : Thread nD τ).loc main_arg0)
abbrev weight : FVec Ideal S2048x2048 .f32 := m ((c.tc : Thread nD τ).loc main_arg1)
abbrev rows : FVec Ideal S4096x4096 .f32 := m ((c.tc : Thread nD τ).loc main_arg2)
abbrev bias : FVec Ideal S1x4096 .f32 := m ((c.tc : Thread nD τ).loc main_arg3)
abbrev conv : FVec Ideal S4096x2048 .f32 := m ((c.tc : Thread nD τ).loc main_arg4)

/-- The attention's result, a gate, and the sum of the two mixers under their gates. -/
def attn (x : FVec Ideal S4096x2048 .f32) (w : FVec Ideal S2048x2048 .f32) (i : Fin 4096) (j : Fin 2048) : EReal := ∑ k, x (ix2 i k) * w (ix2 k j)
def gate (z : FVec Ideal S4096x4096 .f32) (b : FVec Ideal S1x4096 .f32) (i : Fin 4096) (j : Fin 4096) : EReal := Ideal.logistic (z (ix2 i j) + b (ix2 0 j))
def left (j : Fin 2048) : Fin 4096 := ⟨j.val, by omega⟩
def right (j : Fin 2048) : Fin 4096 := ⟨2048 + j.val, by omega⟩
def mixed (x : FVec Ideal S4096x2048 .f32) (w : FVec Ideal S2048x2048 .f32) (z : FVec Ideal S4096x4096 .f32) (b : FVec Ideal S1x4096 .f32)
    (y : FVec Ideal S4096x2048 .f32) (i : Fin 4096) (j : Fin 2048) : EReal :=
  gate z b i (left j) * y (ix2 i j) + gate z b i (right j) * attn x w i j

theorem prod_at (x : FVec Ideal S1024x2048 .bf16) (w : FVec Ideal S1x2048x1024 .bf16) (i : Fin 1024) (j : Fin 1024) :
    k0_pay2 (F := Ideal) x w (ix2 i j) = ∑ k, x (ix2 i k) * w (ix3 0 k j) := by
  pointwise [k0_pay2, k0_pay1]
theorem mixed_at (x : FVec Ideal S1024x2048 .bf16) (w : FVec Ideal S1x2048x1024 .bf16) (z : FVec Ideal S1024x1024 .bf16) (b : FVec Ideal S1x1024 .f32)
    (z' : FVec Ideal S1024x1024 .bf16) (b' : FVec Ideal S1x1024 .f32) (y : FVec Ideal S1024x1024 .bf16) (i : Fin 1024) (j : Fin 1024) :
    k0_pay3 (F := Ideal) x w z b z' b' y (ix2 i j)
      = Ideal.logistic (z (ix2 i j) + b (ix2 0 j)) * y (ix2 i j) + Ideal.logistic (z' (ix2 i j) + b' (ix2 0 j)) * ∑ k, x (ix2 i k) * w (ix3 0 k j) := by
  pointwise [k0_pay3, k0_pay1]

theorem V_heads : V m c main_v0 = truncf .bf16 (heads m c) bitsLt_bf16_f32 := by
  unfold V
  after_reads_simp
theorem V_weight : V m c main_v2 = broadcastInDim S1x2048x2048 ![1, 2] bcast_S2048x2048_S1x2048x2048_1_2 (truncf .bf16 (weight m c) bitsLt_bf16_f32 : FVec Ideal S2048x2048 .bf16) := by
  unfold V
  after_reads_simp
theorem V_rows : V m c main_v3 = truncf .bf16 (rows m c) bitsLt_bf16_f32 := by
  unfold V
  after_reads_simp
theorem V_conv : V m c main_v4 = truncf .bf16 (conv m c) bitsLt_bf16_f32 := by
  unfold V
  after_reads_simp

theorem tile_heads : ∀ t : Fin grid0.N, win0_0.index t = ![t.val / 2, 0] := by decide +kernel
theorem tile_weight : ∀ t : Fin grid0.N, win0_1.index t = ![0, 0, t.val % 2] := by decide +kernel
theorem tile_row_a : ∀ t : Fin grid0.N, win0_2.index t = ![t.val / 2, t.val % 2] := by decide +kernel
theorem tile_row_b : ∀ t : Fin grid0.N, win0_3.index t = ![t.val / 2, 2 + t.val % 2] := by decide +kernel
theorem tile_bias_a : ∀ t : Fin grid0.N, win0_4.index t = ![0, t.val % 2] := by decide +kernel
theorem tile_bias_b : ∀ t : Fin grid0.N, win0_5.index t = ![0, 2 + t.val % 2] := by decide +kernel
theorem tile_conv : ∀ t : Fin grid0.N, win0_6.index t = ![t.val / 2, t.val % 2] := by decide +kernel
theorem tile_attn : ∀ t : Fin grid0.N, win0_7.index t = ![t.val / 2, t.val % 2] := by decide +kernel
theorem tile_mixed : ∀ t : Fin grid0.N, win0_8.index t = ![t.val / 2, t.val % 2] := by decide +kernel

theorem N_lt (t : Fin grid0.N) : t.val < 8 := t.isLt

/-- Rows and columns of a visit's tile. -/
def row (t : Fin grid0.N) (i : Fin 1024) : Fin 4096 := ⟨t.val / 2 * 1024 + i.val, by have := N_lt t; omega⟩
def col (t : Fin grid0.N) (j : Fin 1024) : Fin 2048 := ⟨t.val % 2 * 1024 + j.val, by omega⟩

theorem block_heads (t : Fin grid0.N) (i : Fin 1024) (k : Fin 2048) : iblk m c 0 t (ix2 i k) = heads m c (ix2 (row t i) k) := by
  refine Eq.trans (?_ : _ = V m c main_v0 (ix2 (row t i) k)) ?_
  · show V m c main_v0 (((cfg0.win 0).blk t).view.emb (ix2 i k)) = _
    refine congrArg (V m c main_v0) (funext fun a => Fin.ext ?_)
    have e := tile_heads t
    blk_simp
    rw [e]
    change Fin 2 at a
    match a with
    | 0 => rfl
    | 1 => show 0 * 2048 + k.val = k.val; omega
  · rw [V_heads]
    pointwise []

theorem block_weight (t : Fin grid0.N) (k : Fin 2048) (j : Fin 1024) : iblk m c 1 t (ix3 0 k j) = weight m c (ix2 k (col t j)) := by
  refine Eq.trans (?_ : _ = V m c main_v2 (ix3 0 k (col t j))) ?_
  · show V m c main_v2 (((cfg0.win 1).blk t).view.emb (ix3 0 k j)) = _
    refine congrArg (V m c main_v2) (funext fun a => Fin.ext ?_)
    have e := tile_weight t
    blk_simp
    rw [e]
    change Fin 3 at a
    match a with
    | 0 => rfl
    | 1 => show 0 * 2048 + k.val = k.val; omega
    | 2 => rfl
  · rw [V_weight]
    pointwise []

theorem block_row_a (t : Fin grid0.N) (i : Fin 1024) (j : Fin 1024) : iblk m c 2 t (ix2 i j) = rows m c (ix2 (row t i) (left (col t j))) := by
  refine Eq.trans (?_ : _ = V m c main_v3 (ix2 (row t i) (left (col t j)))) ?_
  · show V m c main_v3 (((cfg0.win 2).blk t).view.emb (ix2 i j)) = _
    refine congrArg (V m c main_v3) (funext fun a => Fin.ext ?_)
    have e := tile_row_a t
    blk_simp
    rw [e]
    change Fin 2 at a
    match a with
    | 0 => rfl
    | 1 => rfl
  · rw [V_rows]
    pointwise []

theorem block_row_b (t : Fin grid0.N) (i : Fin 1024) (j : Fin 1024) : iblk m c 3 t (ix2 i j) = rows m c (ix2 (row t i) (right (col t j))) := by
  refine Eq.trans (?_ : _ = V m c main_v3 (ix2 (row t i) (right (col t j)))) ?_
  · show V m c main_v3 (((cfg0.win 3).blk t).view.emb (ix2 i j)) = _
    refine congrArg (V m c main_v3) (funext fun a => Fin.ext ?_)
    have e := tile_row_b t
    blk_simp
    rw [e]
    change Fin 2 at a
    match a with
    | 0 => rfl
    | 1 => show (2 + t.val % 2) * 1024 + j.val = 2048 + (t.val % 2 * 1024 + j.val); omega
  · rw [V_rows]
    pointwise []

theorem block_bias_a (t : Fin grid0.N) (j : Fin 1024) : iblk m c 4 t (ix2 0 j) = bias m c (ix2 0 (left (col t j))) := by
  refine Eq.trans (?_ : _ = V m c main_arg3 (ix2 0 (left (col t j)))) ?_
  · show V m c main_arg3 (((cfg0.win 4).blk t).view.emb (ix2 0 j)) = _
    refine congrArg (V m c main_arg3) (funext fun a => Fin.ext ?_)
    have e := tile_bias_a t
    blk_simp
    rw [e]
    change Fin 2 at a
    match a with
    | 0 => rfl
    | 1 => rfl
  · rw [V_main_arg3]

theorem block_bias_b (t : Fin grid0.N) (j : Fin 1024) : iblk m c 5 t (ix2 0 j) = bias m c (ix2 0 (right (col t j))) := by
  refine Eq.trans (?_ : _ = V m c main_arg3 (ix2 0 (right (col t j)))) ?_
  · show V m c main_arg3 (((cfg0.win 5).blk t).view.emb (ix2 0 j)) = _
    refine congrArg (V m c main_arg3) (funext fun a => Fin.ext ?_)
    have e := tile_bias_b t
    blk_simp
    rw [e]
    change Fin 2 at a
    match a with
    | 0 => rfl
    | 1 => show (2 + t.val % 2) * 1024 + j.val = 2048 + (t.val % 2 * 1024 + j.val); omega
  · rw [V_main_arg3]

theorem block_conv (t : Fin grid0.N) (i : Fin 1024) (j : Fin 1024) : iblk m c 6 t (ix2 i j) = conv m c (ix2 (row t i) (col t j)) := by
  refine Eq.trans (?_ : _ = V m c main_v4 (ix2 (row t i) (col t j))) ?_
  · show V m c main_v4 (((cfg0.win 6).blk t).view.emb (ix2 i j)) = _
    refine congrArg (V m c main_v4) (funext fun a => Fin.ext ?_)
    have e := tile_conv t
    blk_simp
    rw [e]
    change Fin 2 at a
    match a with
    | 0 => rfl
    | 1 => rfl
  · rw [V_conv]
    pointwise []

theorem mixed_of (x : FVec Ideal S1024x2048 .bf16) (w : FVec Ideal S1x2048x1024 .bf16) (z : FVec Ideal S1024x1024 .bf16) (b : FVec Ideal S1x1024 .f32)
    (z' : FVec Ideal S1024x1024 .bf16) (b' : FVec Ideal S1x1024 .f32) (y : FVec Ideal S1024x1024 .bf16) (i : Fin 1024) (j : Fin 1024)
    (za ba zb bb yc p : EReal) (h1 : z (ix2 i j) = za) (h2 : b (ix2 0 j) = ba) (h3 : z' (ix2 i j) = zb) (h4 : b' (ix2 0 j) = bb)
    (h5 : y (ix2 i j) = yc) (h6 : k0_pay2 (F := Ideal) x w (ix2 i j) = p) :
    k0_pay3 (F := Ideal) x w z b z' b' y (ix2 i j) = Ideal.logistic (za + ba) * yc + Ideal.logistic (zb + bb) * p := by
  rw [mixed_at, ← prod_at, h1, h2, h3, h4, h5, h6]

/-- What a visit stores in its tiles of the two results. -/
theorem attn_eq (t : Fin grid0.N) (i : Fin 1024) (j : Fin 1024) :
    k0_pay2 (F := Ideal) (iblk m c 0 t) (iblk m c 1 t) (ix2 i j) = attn (heads m c) (weight m c) (row t i) (col t j) :=
  (prod_at _ _ i j).trans (Finset.sum_congr rfl fun k _ => congrArg₂ (fun a b : EReal => a * b) (block_heads m c t i k) (block_weight m c t k j))
theorem mixed_eq (t : Fin grid0.N) (i : Fin 1024) (j : Fin 1024) :
    k0_pay3 (F := Ideal) (iblk m c 0 t) (iblk m c 1 t) (iblk m c 2 t) (iblk m c 4 t) (iblk m c 3 t) (iblk m c 5 t) (iblk m c 6 t) (ix2 i j)
      = mixed (heads m c) (weight m c) (rows m c) (bias m c) (conv m c) (row t i) (col t j) :=
  mixed_of _ _ _ _ _ _ _ i j _ _ _ _ _ _ (block_row_a m c t i j) (block_bias_a m c t j) (block_row_b m c t i j) (block_bias_b m c t j)
    (block_conv m c t i j) (attn_eq m c t i j)

theorem array_attn : (dats m 0 c).arrAt 7 cfg0.N = (fun y : S4096x2048.Idx => attn (heads m c) (weight m c) (y 0) (y 1) : S4096x2048.Idx → EReal) := by
  refine (dats m 0 c).arrAt_eq_of_covers 7 _ (by decide +kernel) fun t hf y => ?_
  blk_simp
  rw [after0_7]
  obtain ⟨i, j, rfl⟩ : ∃ (i : Fin 1024) (j : Fin 1024), y = ix2 i j := ⟨y 0, y 1, (ix2_eta y).symm⟩
  have hy : ((cfg0.win 7).blk t).view.emb (ix2 i j) = ix2 (row t i) (col t j) := by
    refine funext fun a => Fin.ext ?_
    have e := tile_attn t
    blk_simp
    rw [e]
    change Fin 2 at a
    match a with
    | 0 => rfl
    | 1 => rfl
  rw [hy]
  frame_out
  exact attn_eq m c t i j

theorem array_mixed : (dats m 0 c).arrAt 8 cfg0.N = (fun y : S4096x2048.Idx => mixed (heads m c) (weight m c) (rows m c) (bias m c) (conv m c) (y 0) (y 1) : S4096x2048.Idx → EReal) := by
  refine (dats m 0 c).arrAt_eq_of_covers 8 _ (by decide +kernel) fun t hf y => ?_
  blk_simp
  rw [after0_8]
  obtain ⟨i, j, rfl⟩ : ∃ (i : Fin 1024) (j : Fin 1024), y = ix2 i j := ⟨y 0, y 1, (ix2_eta y).symm⟩
  have hy : ((cfg0.win 8).blk t).view.emb (ix2 i j) = ix2 (row t i) (col t j) := by
    refine funext fun a => Fin.ext ?_
    have e := tile_mixed t
    blk_simp
    rw [e]
    change Fin 2 at a
    match a with
    | 0 => rfl
    | 1 => rfl
  rw [hy]
  frame_out
  exact mixed_eq m c t i j

/-- One, as its float word reads. -/
theorem one_eq : (FloatOps.ofBits (F := Ideal) .f32 0x3F800000#32 : EReal) = 1 := by
  simp [Ideal.ofBits, Ideal.ieee]
  rw [← EReal.coe_mul]
  norm_num

section Reference

open Cert.Reference20Ideal

/-- The reference's stages. -/
def refAttn (x : FVec Ideal S4096x2048 .f32) (w : FVec Ideal S2048x2048 .f32) : FVec Ideal S4096x2048 .f32 :=
  Host.dotGeneral (F := Ideal) dot_S4096x2048_S2048x2048_S4096x2048_1_0_0_1_n_n none x w
def refOne : FVec Ideal S4096x4096 .f32 := broadcastInDim S4096x4096 ![] Facts₀.bcast_S_S4096x4096 (constant (F := Ideal) S_ .f32 0x3F800000#32)
def refGate (z : FVec Ideal S4096x4096 .f32) (b : FVec Ideal S1x4096 .f32) : FVec Ideal S4096x4096 .f32 :=
  Host.divf refOne (addf refOne (Host.exp (Host.negf (addf z (broadcastInDim S4096x4096 ![0, 1] Facts₀.bcast_S1x4096_S4096x4096_0_1 b)))))
def refMix (g : FVec Ideal S4096x4096 .f32) (y p : FVec Ideal S4096x2048 .f32) : FVec Ideal S4096x2048 .f32 :=
  addf (mulf (extractStridedSlice S4096x2048 ![0, 0] g Facts₀.slices_S4096x4096_S4096x2048_0_0) y)
    (mulf (extractStridedSlice S4096x2048 ![0, 2048] g Facts₀.slices_S4096x4096_S4096x2048_0_2048) p)

theorem refAttn_at (x : FVec Ideal S4096x2048 .f32) (w : FVec Ideal S2048x2048 .f32) (i : Fin 4096) (j : Fin 2048) :
    refAttn x w (ix2 i j) = attn x w i j := by
  unfold attn
  pointwise [refAttn]
theorem refOne_at (i j : Fin 4096) : refOne (ix2 i j) = 1 := by
  rw [← one_eq]
  pointwise [refOne]
theorem refGate_at (z : FVec Ideal S4096x4096 .f32) (b : FVec Ideal S1x4096 .f32) (i j : Fin 4096) : refGate z b (ix2 i j) = gate z b i j := by
  unfold refGate gate
  show Ideal.div (refOne (ix2 i j)) (refOne (ix2 i j) + Ideal.exp (-(z (ix2 i j) + _))) = _
  rw [refOne_at]
  pointwise []
  rfl
theorem refMix_at (g : FVec Ideal S4096x4096 .f32) (y p : FVec Ideal S4096x2048 .f32) (i : Fin 4096) (j : Fin 2048) :
    refMix g y p (ix2 i j) = g (ix2 i (left j)) * y (ix2 i j) + g (ix2 i (right j)) * p (ix2 i j) := by
  unfold left right
  pointwise [refMix]

end Reference

theorem attn_same : (fun y : S4096x2048.Idx => attn (heads m c) (weight m c) (y 0) (y 1) : S4096x2048.Idx → EReal)
    = (truncf .bf16 (refAttn (heads m c) (weight m c)) bitsLt_bf16_f32 : FVec Ideal S4096x2048 .bf16) := by
  funext y
  obtain ⟨i, j, rfl⟩ : ∃ (i : Fin 4096) (j : Fin 2048), y = ix2 i j := ⟨y 0, y 1, (ix2_eta y).symm⟩
  exact (refAttn_at (heads m c) (weight m c) i j).symm
theorem refMixed_at (x : FVec Ideal S4096x2048 .f32) (w : FVec Ideal S2048x2048 .f32) (z : FVec Ideal S4096x4096 .f32) (b : FVec Ideal S1x4096 .f32)
    (y : FVec Ideal S4096x2048 .f32) (i : Fin 4096) (j : Fin 2048) : refMix (refGate z b) y (refAttn x w) (ix2 i j) = mixed x w z b y i j := by
  rw [refMix_at, refGate_at, refGate_at, refAttn_at]
  rfl
theorem mixed_same : (fun y : S4096x2048.Idx => mixed (heads m c) (weight m c) (rows m c) (bias m c) (conv m c) (y 0) (y 1) : S4096x2048.Idx → EReal)
    = (truncf .bf16 (refMix (refGate (rows m c) (bias m c)) (conv m c) (refAttn (heads m c) (weight m c))) bitsLt_bf16_f32 : FVec Ideal S4096x2048 .bf16) := by
  funext y
  obtain ⟨i, j, rfl⟩ : ∃ (i : Fin 4096) (j : Fin 2048), y = ix2 i j := ⟨y 0, y 1, (ix2_eta y).symm⟩
  exact (refMixed_at (heads m c) (weight m c) (rows m c) (bias m c) (conv m c) i j).symm

end Cert.Kernel20Ideal.Value

namespace Cert.Proof

open Idealize.ShloMosaic Idealize.ShloMosaic.TcCoe Idealize.SL.Sem
open Cert.Kernel20Ideal Cert.Kernel20Ideal.Gen Cert.Kernel20Ideal.Value

theorem frame_mixers : Cert.quiescent_Kernel20 := fun m ρ _ => Cert.Kernel20.Gen.frame m ρ
theorem frame_mixers_ideal : Cert.quiescent_Kernel20Ideal := fun m ρ _ => Cert.Kernel20Ideal.Gen.frame m ρ
theorem frame_mixers_reference : Cert.quiescent_Reference20Ideal := fun m ρ _ =>
  (θ_run Cert.Reference20Ideal.defs _ _).mono
    (fun r h => ⟨fun c => (h c).2.2, Idealize.ShloMosaic.sem_eq_zero_of_no_sems (by decide) r.2⟩)
    (Cert.Reference20Ideal.Value.run (F := Ideal) m ρ)

theorem same_mixers : @Cert.algebraic_Kernel20Ideal_Reference20Ideal Cert.Kernel20Ideal.Gen.facts Cert.Reference20Ideal.Gen.facts := by
  intro m g m' g' hpre hargs
  refine ⟨_, _, ?_, Cert.Reference20Ideal.Value.run m' g'⟩
  refine (θ_run Cert.Kernel20Ideal.defs _ _).mono (fun r h c => ?_) (run_main m g)
  obtain ⟨e0, e1, e2, e3, e4⟩ := hargs c
  refine ⟨((h c).1 7).trans ((array_attn m c).trans ((attn_same m c).trans ?_)), ((h c).1 8).trans ((array_mixed m c).trans ((mixed_same m c).trans ?_)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c))),
    ((h c).2 main_arg4 (Pipeline.mem_restRefs_of main_arg4 (by decide) (by decide))).trans (V_main_arg4 m c)⟩
  · rw [e0, e1]
    rfl
  · rw [e0, e1, e2, e3, e4]
    rfl

end Cert.Proof

end
-- ==== Proof.ConvInput.lean ====
/-
  The gradient of the convolution's result: the gradient of what its output projection makes, times that projection
  transposed. Each tile of the result is one product.
-/
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel21Ideal.Value

open Idealize.ShloMosaic Idealize.ShloMosaic.TcCoe Idealize.SL.Sem
open Cert.Kernel21Ideal.Gen

variable (m : (ℓ : Loc nD τ sig) → Buf (Elt Ideal) ℓ) (c : Dev nD)

/-- The arguments. -/
abbrev grad : FVec Ideal S4096x2048 .f32 := m ((c.tc : Thread nD τ).loc main_arg0)
abbrev weight : FVec Ideal S1024x2048 .f32 := m ((c.tc : Thread nD τ).loc main_arg1)

/-- The product of a point's blocks. -/
theorem part_at (x : FVec Ideal S2048x2048 .bf16) (w : FVec Ideal S1x1024x2048 .bf16) (i : Fin 2048) (j : Fin 1024) :
    k0_pay1 (F := Ideal) x w (ix2 i j) = ∑ d, x (ix2 i d) * w (ix3 0 j d) := by
  pointwise [k0_pay1]

theorem V_grad : V m c main_v0 = truncf .bf16 (grad m c) bitsLt_bf16_f32 := by
  unfold V
  after_reads_simp
theorem V_weight : V m c main_v2 = broadcastInDim S1x1024x2048 ![1, 2] bcast_S1024x2048_S1x1024x2048_1_2 (truncf .bf16 (weight m c) bitsLt_bf16_f32) := by
  unfold V
  after_reads_simp

theorem tile_grad : ∀ t : Fin grid0.N, win0_0.index t = ![t.val, 0] := by decide +kernel
theorem tile_weight : ∀ t : Fin grid0.N, win0_1.index t = ![0, 0, 0] := by decide +kernel
theorem tile_out : ∀ t : Fin grid0.N, win0_2.index t = ![t.val, 0] := by decide +kernel

theorem N_lt (t : Fin grid0.N) : t.val < 2 := t.isLt

/-- Rows of a point's tile of the gradient. -/
def row (t : Fin grid0.N) (i : Fin 2048) : Fin 4096 := ⟨t.val * 2048 + i.val, by have := N_lt t; omega⟩

theorem block_grad (t : Fin grid0.N) (i : Fin 2048) (d : Fin 2048) : iblk m c 0 t (ix2 i d) = grad m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_grad t
    blk_simp
    rw [e]
    change Fin 2 at a
    match a with
    | 0 => rfl
    | 1 => show 0 * 2048 + d.val = d.val; omega
  · rw [V_grad]
    pointwise []

theorem block_weight (t : Fin grid0.N) (j : Fin 1024) (d : Fin 2048) : iblk m c 1 t (ix3 0 j d) = weight m c (ix2 j d) := by
  refine Eq.trans (?_ : _ = V m c main_v2 (ix3 0 j d)) ?_
  · show V m c main_v2 (((cfg0.win 1).blk t).view.emb (ix3 0 j d)) = _
    refine congrArg (V m c main_v2) (funext fun a => Fin.ext ?_)
    have e := tile_weight t
    blk_simp
    rw [e]
    change Fin 3 at a
    match a with
    | 0 => rfl
    | 1 => show 0 * 1024 + j.val = j.val; omega
    | 2 => show 0 * 2048 + d.val = d.val; omega
  · rw [V_weight]
    pointwise []

/-- The result of the reference. -/
theorem reference_at (x : FVec Ideal S4096x2048 .f32) (w : FVec Ideal S1024x2048 .f32) (i : Fin 4096) (j : Fin 1024) :
    (Host.dotGeneral Cert.Reference21Ideal.dot_S4096x2048_S1024x2048_S4096x1024_1_1_0_0_n_n none x w : FVec Ideal S4096x1024 .f32) (ix2 i j)
      = ∑ d, x (ix2 i d) * w (ix2 j d) := by
  pointwise []

theorem result : (dats m 0 c).arrAt 2 cfg0.N
    = (Host.dotGeneral Cert.Reference21Ideal.dot_S4096x2048_S1024x2048_S4096x1024_1_1_0_0_n_n none (grad m c) (weight m c) : FVec Ideal S4096x1024 .f32) := by
  refine (dats m 0 c).arrAt_eq_of_covers 2 _ (by decide +kernel) fun t hf y => ?_
  blk_simp
  rw [after0_2]
  frame_out
  obtain ⟨i, j, rfl⟩ : ∃ (i : Fin 2048) (j : Fin 1024), y = ix2 i j := ⟨y 0, y 1, (ix2_eta y).symm⟩
  refine (part_at _ _ i j).trans ?_
  have hy : ((cfg0.win 2).blk t).view.emb (ix2 i j) = ix2 (row t i) j := by
    refine funext fun a => Fin.ext ?_
    have e := tile_out t
    blk_simp
    rw [e]
    change Fin 2 at a
    match a with
    | 0 => rfl
    | 1 => show 0 * 1024 + j.val = j.val; omega
  rw [hy, reference_at]
  exact Finset.sum_congr rfl fun d _ => congrArg₂ (· * ·) (block_grad m c t i d) (block_weight m c t j d)

end Cert.Kernel21Ideal.Value

namespace Cert.Proof

open Idealize.ShloMosaic Idealize.ShloMosaic.TcCoe Idealize.SL.Sem
open Cert.Kernel21Ideal Cert.Kernel21Ideal.Gen Cert.Kernel21Ideal.Value

theorem frame_conv_input : Cert.quiescent_Kernel21 := fun m ρ _ => Cert.Kernel21.Gen.frame m ρ
theorem frame_conv_input_ideal : Cert.quiescent_Kernel21Ideal := fun m ρ _ => Cert.Kernel21Ideal.Gen.frame m ρ
theorem frame_conv_input_reference : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

theorem same_conv_input : @Cert.algebraic_Kernel21Ideal_Reference21Ideal Cert.Kernel21Ideal.Gen.facts Cert.Reference21Ideal.Gen.facts := by
  intro m g m' g' hpre hargs
  refine ⟨_, ?_, Cert.Reference21Ideal.Value.run m' g'⟩
  refine (θ_run Cert.Kernel21Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.ConvWeight.lean ====
/-
  The gradient of the convolution's output projection: the convolution's result transposed times the gradient. Each tile of the
  result is visited twice, once for each half of the tokens: the first visit leaves its product in the scratch, the second
  adds its own and writes the tile.
-/
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel22Ideal.Value

open Idealize.ShloMosaic Idealize.ShloMosaic.TcCoe Idealize.SL.Sem
open Cert.Kernel22Ideal.Gen

variable (m : (ℓ : Loc nD τ sig) → Buf (Elt Ideal) ℓ) (c : Dev nD)

/-- The arguments. -/
abbrev mix : FVec Ideal S4096x1024 .f32 := m ((c.tc : Thread nD τ).loc main_arg0)
abbrev grad : FVec Ideal S4096x2048 .f32 := m ((c.tc : Thread nD τ).loc main_arg1)

/-- The product of a point's blocks, over its tokens. -/
def part (x : FVec Ideal S2048x1024 .bf16) (g : FVec Ideal S2048x1024 .bf16) (i : Fin 1024) (j : Fin 1024) : EReal :=
  ∑ s : Fin 2048, x (ix2 s i) * g (ix2 s j)

theorem first_at (x : FVec Ideal S2048x1024 .bf16) (g : FVec Ideal S2048x1024 .bf16) (i : Fin 1024) (j : Fin 1024) :
    k0_pay1 (F := Ideal) x g (ix2 i j) = part x g i j := by
  unfold part
  pointwise [k0_pay1]

theorem last_at (a : FVec Ideal S1024x1024 .f32) (x : FVec Ideal S2048x1024 .bf16) (g : FVec Ideal S2048x1024 .bf16) (i : Fin 1024) (j : Fin 1024) :
    k0_pay3 (F := Ideal) a x g (ix3 0 i j) = a (ix2 i j) + part x g i j := by
  unfold part
  pointwise [k0_pay3]

theorem V_mix : V m c main_v0 = truncf .bf16 (mix m c) bitsLt_bf16_f32 := by
  unfold V
  after_reads_simp
theorem V_grad : V m c main_v1 = truncf .bf16 (grad m c) bitsLt_bf16_f32 := by
  unfold V
  after_reads_simp

theorem tile_mix : ∀ t : Fin grid0.N, win0_0.index t = ![t.val % 2, t.val / 4] := by decide +kernel
theorem tile_grad : ∀ t : Fin grid0.N, win0_1.index t = ![t.val % 2, t.val / 2 % 2] := by decide +kernel
theorem tile_out : ∀ t : Fin grid0.N, win0_2.index t = ![0, t.val / 4, t.val / 2 % 2] := by decide +kernel

theorem N_lt (t : Fin grid0.N) : t.val < 4 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 1024) : Fin 1024 := ⟨t.val / 4 * 1024 + i.val, by have := N_lt t; omega⟩
def col (t : Fin grid0.N) (j : Fin 1024) : Fin 2048 := ⟨t.val / 2 % 2 * 1024 + j.val, by omega⟩

theorem block_mix (t : Fin grid0.N) (s : Fin 2048) (i : Fin 1024) : iblk m c 0 t (ix2 s i) = mix m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_mix t
    blk_simp
    rw [e]
    change Fin 2 at a
    match a with
    | 0 => rfl
    | 1 => rfl
  · rw [V_mix]
    pointwise []

theorem block_grad (t : Fin grid0.N) (s : Fin 2048) (j : Fin 1024) : iblk m c 1 t (ix2 s j) = grad m c (ix2 (token (half t) s) (col t j)) := by
  refine Eq.trans (?_ : _ = V m c main_v1 (ix2 (token (half t) s) (col t j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => rfl
  · rw [V_grad]
    pointwise []

/-- A point's share of the result. -/
theorem part_eq (t : Fin grid0.N) (i : Fin 1024) (j : Fin 1024) : part (iblk m c 0 t) (iblk m c 1 t) i j
    = ∑ s, mix m c (ix2 (token (half t) s) (row t i)) * grad m c (ix2 (token (half t) s) (col t j)) := by
  unfold part
  exact Finset.sum_congr rfl fun s _ => congrArg₂ (· * ·) (block_mix m c t s i) (block_grad m c t s j)

theorem after_first (t : Fin cfg0.N) (h : t.val % 2 = 0) (i : Fin 1024) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 1024) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 1024) (j : Fin 1024) :
    (outsAt0 m c t.val t.isLt).1 (ix3 0 i j) = ∑ s, mix m c (ix2 s (row t i)) * grad m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 4 * 1024 + i.val = t.val / 4 * 1024 + i.val; omega)
  have hc : col ⟨t.val - 1, hlt⟩ j = col t j := Fin.ext (by show (t.val - 1) / 2 % 2 * 1024 + j.val = t.val / 2 % 2 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => mix m c (ix2 s (row t i)) * grad m c (ix2 s (col t j))), Fin.sum_univ_two]
  rfl

/-- The kernel's result under its leading axis, and the reference's. -/
theorem reference_at (x : FVec Ideal S4096x1024 .f32) (g : FVec Ideal S4096x2048 .f32) (i : Fin 1024) (j : Fin 2048) :
    (truncf .bf16 (transpose S1024x2048 [1, 0]
      (Host.dotGeneral Cert.Reference22Ideal.dot_S4096x2048_S4096x1024_S2048x1024_0_0_1_1_n_n none g x : FVec Ideal Cert.Reference22Ideal.S2048x1024 .f32)
      Cert.Reference22Ideal.Facts₀.transposes_S2048x1024_S1024x2048_1_0 : FVec Ideal S1024x2048 .f32) bitsLt_bf16_f32 : FVec Ideal S1024x2048 .bf16) (ix2 i j)
      = ∑ s, x (ix2 s i) * g (ix2 s j) := by
  pointwise []
  exact Finset.sum_congr rfl fun d _ => mul_comm _ _

theorem array : (dats m 0 c).arrAt 2 cfg0.N = (fun y : S1x1024x2048.Idx => ∑ s, mix m c (ix2 s (y 1)) * grad m c (ix2 s (y 2)) : S1x1024x2048.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 1024) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result : Pipeline.afterTail₀ cfgs (dats m) 0 (V0 m) [hostOps1] c main_v3
    = (fun y : S1024x2048.Idx => ∑ s, mix m c (ix2 s (y 0)) * grad m c (ix2 s (y 1)) : S1024x2048.Idx → EReal) := by
  unfold Pipeline.afterTail₀
  after_reads_simp
  rw [show Pipeline.withArrays spec0 c (V0 m c) (fun w => (dats m 0 c).arrAt w cfg0.N) (Proc.devRef .tc main_v2) = _ from
    Pipeline.withArrays_arr spec0 (by decide) c (V0 m c) _ 2]
  rw [array]
  funext y
  rw [← ix2_eta y]
  pointwise []

end Cert.Kernel22Ideal.Value

namespace Cert.Proof

open Idealize.ShloMosaic Idealize.ShloMosaic.TcCoe Idealize.SL.Sem
open Cert.Kernel22Ideal Cert.Kernel22Ideal.Gen Cert.Kernel22Ideal.Value

theorem frame_conv_weight : Cert.quiescent_Kernel22 := fun m ρ _ => Cert.Kernel22.Gen.frame m ρ
theorem frame_conv_weight_ideal : Cert.quiescent_Kernel22Ideal := fun m ρ _ => Cert.Kernel22Ideal.Gen.frame m ρ
theorem frame_conv_weight_reference : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

theorem same_conv_weight : @Cert.algebraic_Kernel22Ideal_Reference22Ideal Cert.Kernel22Ideal.Gen.facts Cert.Reference22Ideal.Gen.facts := by
  intro m g m' g' hpre hargs
  refine ⟨_, ?_, Cert.Reference22Ideal.Value.run m' g'⟩
  refine (θ_run Cert.Kernel22Ideal.defs _ _).mono (fun r h c => ?_) (run_main m g)
  refine ⟨((h c).2 main_v3 (Pipeline.mem_restRefs_of main_v3 (by decide) (by decide))).trans ((result m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S1024x2048.Idx) => ?_
  rw [← ix2_eta y]
  exact (reference_at (mix m c) (grad m c) (y 0) (y 1)).symm

end Cert.Proof

end
-- ==== Proof.KeyValueWeight.lean ====
/-
  The gradient of the keys' and values' projection: the normed latent transposed times the gradient. Each tile of the
  result is visited twice, once for each half of the tokens: the first visit leaves its product in the scratch, the second
  adds its own and writes the tile.
-/
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel23Ideal.Value

open Idealize.ShloMosaic Idealize.ShloMosaic.TcCoe Idealize.SL.Sem
open Cert.Kernel23Ideal.Gen

variable (m : (ℓ : Loc nD τ sig) → Buf (Elt Ideal) ℓ) (c : Dev nD)

/-- The arguments. -/
abbrev mix : FVec Ideal S4096x512 .f32 := m ((c.tc : Thread nD τ).loc main_arg0)
abbrev grad : FVec Ideal S4096x4096 .f32 := m ((c.tc : Thread nD τ).loc main_arg1)

/-- The product of a point's blocks, over its tokens. -/
def part (x : FVec Ideal S2048x512 .bf16) (g : FVec Ideal S2048x1024 .bf16) (i : Fin 512) (j : Fin 1024) : EReal :=
  ∑ s : Fin 2048, x (ix2 s i) * g (ix2 s j)

theorem first_at (x : FVec Ideal S2048x512 .bf16) (g : FVec Ideal S2048x1024 .bf16) (i : Fin 512) (j : Fin 1024) :
    k0_pay1 (F := Ideal) x g (ix2 i j) = part x g i j := by
  unfold part
  pointwise [k0_pay1]

theorem last_at (a : FVec Ideal S512x1024 .f32) (x : FVec Ideal S2048x512 .bf16) (g : FVec Ideal S2048x1024 .bf16) (i : Fin 512) (j : Fin 1024) :
    k0_pay3 (F := Ideal) a x g (ix3 0 i j) = a (ix2 i j) + part x g i j := by
  unfold part
  pointwise [k0_pay3]

theorem V_mix : V m c main_v0 = truncf .bf16 (mix m c) bitsLt_bf16_f32 := by
  unfold V
  after_reads_simp
theorem V_grad : V m c main_v1 = truncf .bf16 (grad m c) bitsLt_bf16_f32 := by
  unfold V
  after_reads_simp

theorem tile_mix : ∀ t : Fin grid0.N, win0_0.index t = ![t.val % 2, t.val / 8] := by decide +kernel
theorem tile_grad : ∀ t : Fin grid0.N, win0_1.index t = ![t.val % 2, t.val / 2 % 4] := by decide +kernel
theorem tile_out : ∀ t : Fin grid0.N, win0_2.index t = ![0, t.val / 8, t.val / 2 % 4] := by decide +kernel

theorem N_lt (t : Fin grid0.N) : t.val < 8 := t.isLt

/-- Tokens of a point's blocks; rows and columns of its tile of the result. -/
def token (h : Fin 2) (s : Fin 2048) : Fin 4096 := ⟨h.val * 2048 + s.val, by omega⟩
def half (t : Fin grid0.N) : Fin 2 := ⟨t.val % 2, by omega⟩
def row (t : Fin grid0.N) (i : Fin 512) : Fin 512 := ⟨t.val / 8 * 512 + i.val, by have := N_lt t; omega⟩
def col (t : Fin grid0.N) (j : Fin 1024) : Fin 4096 := ⟨t.val / 2 % 4 * 1024 + j.val, by omega⟩

theorem block_mix (t : Fin grid0.N) (s : Fin 2048) (i : Fin 512) : iblk m c 0 t (ix2 s i) = mix m c (ix2 (token (half t) s) (row t i)) := by
  refine Eq.trans (?_ : _ = V m c main_v0 (ix2 (token (half t) s) (row t i))) ?_
  · show V m c main_v0 (((cfg0.win 0).blk t).view.emb (ix2 s i)) = _
    refine congrArg (V m c main_v0) (funext fun a => Fin.ext ?_)
    have e := tile_mix t
    blk_simp
    rw [e]
    change Fin 2 at a
    match a with
    | 0 => rfl
    | 1 => rfl
  · rw [V_mix]
    pointwise []

theorem block_grad (t : Fin grid0.N) (s : Fin 2048) (j : Fin 1024) : iblk m c 1 t (ix2 s j) = grad m c (ix2 (token (half t) s) (col t j)) := by
  refine Eq.trans (?_ : _ = V m c main_v1 (ix2 (token (half t) s) (col t j))) ?_
  · show V m c main_v1 (((cfg0.win 1).blk t).view.emb (ix2 s j)) = _
    refine congrArg (V m c main_v1) (funext fun a => Fin.ext ?_)
    have e := tile_grad t
    blk_simp
    rw [e]
    change Fin 2 at a
    match a with
    | 0 => rfl
    | 1 => rfl
  · rw [V_grad]
    pointwise []

/-- A point's share of the result. -/
theorem part_eq (t : Fin grid0.N) (i : Fin 512) (j : Fin 1024) : part (iblk m c 0 t) (iblk m c 1 t) i j
    = ∑ s, mix m c (ix2 (token (half t) s) (row t i)) * grad m c (ix2 (token (half t) s) (col t j)) := by
  unfold part
  exact Finset.sum_congr rfl fun s _ => congrArg₂ (· * ·) (block_mix m c t s i) (block_grad m c t s j)

theorem after_first (t : Fin cfg0.N) (h : t.val % 2 = 0) (i : Fin 512) (j : Fin 1024) :
    (outsAt0 m c t.val t.isLt).2 (ix2 i j) = part (iblk m c 0 t) (iblk m c 1 t) i j := by
  rw [outsAt0_A m c t h (by omega)]
  frame_out
  exact first_at _ _ i j

theorem after_last (t : Fin cfg0.N) (h : t.val % 2 = 1) (i : Fin 512) (j : Fin 1024) :
    (outsAt0 m c t.val t.isLt).1 (ix3 0 i j)
      = (outsAt0 m c (t.val - 1) (Nat.lt_of_le_of_lt (Nat.sub_le _ _) t.isLt)).2 (ix2 i j) + part (iblk m c 0 t) (iblk m c 1 t) i j := by
  rw [outsAt0_B m c t (by omega) h]
  frame_out
  simp only [read_unread_whole]
  exact last_at _ _ _ i j

theorem written (t : Fin cfg0.N) (h : t.val % 2 = 1) (i : Fin 512) (j : Fin 1024) :
    (outsAt0 m c t.val t.isLt).1 (ix3 0 i j) = ∑ s, mix m c (ix2 s (row t i)) * grad m c (ix2 s (col t j)) := by
  have hlt : t.val - 1 < cfg0.N := Nat.lt_of_le_of_lt (Nat.sub_le _ _) t.isLt
  have e := after_first m c ⟨t.val - 1, hlt⟩ (by show (t.val - 1) % 2 = 0; omega) i j
  rw [after_last m c t h i j, e, part_eq, part_eq]
  have hr : row ⟨t.val - 1, hlt⟩ i = row t i := Fin.ext (by show (t.val - 1) / 8 * 512 + i.val = t.val / 8 * 512 + i.val; omega)
  have hc : col ⟨t.val - 1, hlt⟩ j = col t j := Fin.ext (by show (t.val - 1) / 2 % 4 * 1024 + j.val = t.val / 2 % 4 * 1024 + j.val; omega)
  have h0 : half ⟨t.val - 1, hlt⟩ = 0 := Fin.ext (by show (t.val - 1) % 2 = 0; omega)
  have h1 : half t = 1 := Fin.ext h
  rw [hr, hc, h0, h1, ← Fin.sum_mul_add_fin 2 2048 (fun s : Fin 4096 => mix m c (ix2 s (row t i)) * grad m c (ix2 s (col t j))), Fin.sum_univ_two]
  rfl

/-- The kernel's result under its leading axis, and the reference's. -/
theorem reference_at (x : FVec Ideal S4096x512 .f32) (g : FVec Ideal S4096x4096 .f32) (i : Fin 512) (j : Fin 4096) :
    (truncf .bf16 (transpose S512x4096 [1, 0]
      (Host.dotGeneral Cert.Reference23Ideal.dot_S4096x4096_S4096x512_S4096x512_0_0_1_1_n_n none g x : FVec Ideal Cert.Reference23Ideal.S4096x512 .f32)
      Cert.Reference23Ideal.Facts₀.transposes_S4096x512_S512x4096_1_0 : FVec Ideal S512x4096 .f32) bitsLt_bf16_f32 : FVec Ideal S512x4096 .bf16) (ix2 i j)
      = ∑ s, x (ix2 s i) * g (ix2 s j) := by
  pointwise []
  exact Finset.sum_congr rfl fun d _ => mul_comm _ _

theorem array : (dats m 0 c).arrAt 2 cfg0.N = (fun y : S1x512x4096.Idx => ∑ s, mix m c (ix2 s (y 1)) * grad m c (ix2 s (y 2)) : S1x512x4096.Idx → EReal) := by
  refine (dats m 0 c).arrAt_eq_of_covers 2 _ (by decide +kernel) fun t hf y => ?_
  blk_simp
  rw [after0_2]
  have h := (flush0_2 t).mp hf
  obtain ⟨i, j, rfl⟩ : ∃ (i : Fin 512) (j : Fin 1024), y = ix3 0 i j :=
    ⟨y 1, y 2, funext fun a => match a with | 0 => Fin.ext (by have := (y 0).isLt; show (y 0).val = 0; change (y 0).val < 1 at this; omega) | 1 => rfl | 2 => rfl⟩
  have hy : ((cfg0.win 2).blk t).view.emb (ix3 0 i j) = ix3 0 (row t i) (col t j) := by
    refine funext fun a => Fin.ext ?_
    have e := tile_out t
    blk_simp
    rw [e]
    change Fin 3 at a
    match a with
    | 0 => rfl
    | 1 => rfl
    | 2 => rfl
  rw [hy]
  exact written m c t h i j

theorem result : Pipeline.afterTail₀ cfgs (dats m) 0 (V0 m) [hostOps1] c main_v3
    = (fun y : S512x4096.Idx => ∑ s, mix m c (ix2 s (y 0)) * grad m c (ix2 s (y 1)) : S512x4096.Idx → EReal) := by
  unfold Pipeline.afterTail₀
  after_reads_simp
  rw [show Pipeline.withArrays spec0 c (V0 m c) (fun w => (dats m 0 c).arrAt w cfg0.N) (Proc.devRef .tc main_v2) = _ from
    Pipeline.withArrays_arr spec0 (by decide) c (V0 m c) _ 2]
  rw [array]
  funext y
  rw [← ix2_eta y]
  pointwise []

end Cert.Kernel23Ideal.Value

namespace Cert.Proof

open Idealize.ShloMosaic Idealize.ShloMosaic.TcCoe Idealize.SL.Sem
open Cert.Kernel23Ideal Cert.Kernel23Ideal.Gen Cert.Kernel23Ideal.Value

theorem frame_key_value_weight : Cert.quiescent_Kernel23 := fun m ρ _ => Cert.Kernel23.Gen.frame m ρ
theorem frame_key_value_weight_ideal : Cert.quiescent_Kernel23Ideal := fun m ρ _ => Cert.Kernel23Ideal.Gen.frame m ρ
theorem frame_key_value_weight_reference : Cert.quiescent_Reference23Ideal := fun m ρ _ =>
  (θ_run Cert.Reference23Ideal.defs _ _).mono
    (fun r h => ⟨fun c => (h c).2, Idealize.ShloMosaic.sem_eq_zero_of_no_sems (by decide) r.2⟩)
    (Cert.Reference23Ideal.Value.run (F := Ideal) m ρ)

theorem same_key_value_weight : @Cert.algebraic_Kernel23Ideal_Reference23Ideal Cert.Kernel23Ideal.Gen.facts Cert.Reference23Ideal.Gen.facts := by
  intro m g m' g' hpre hargs
  refine ⟨_, ?_, Cert.Reference23Ideal.Value.run m' g'⟩
  refine (θ_run Cert.Kernel23Ideal.defs _ _).mono (fun r h c => ?_) (run_main m g)
  refine ⟨((h c).2 main_v3 (Pipeline.mem_restRefs_of main_v3 (by decide) (by decide))).trans ((result m c).trans ?_),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  obtain ⟨ex, ew⟩ := hargs c
  rw [ex, ew]
  refine funext fun (y : S512x4096.Idx) => ?_
  rw [← ix2_eta y]
  exact (reference_at (mix m c) (grad m c) (y 0) (y 1)).symm

end Cert.Proof

end
-- ==== Proof.ConvOutput.lean ====
/-
  The convolution's result times its output projection. Each tile of the result is one product.
-/
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel24Ideal.Value

open Idealize.ShloMosaic Idealize.ShloMosaic.TcCoe Idealize.SL.Sem
open Cert.Kernel24Ideal.Gen

variable (m : (ℓ : Loc nD τ sig) → Buf (Elt Ideal) ℓ) (c : Dev nD)

/-- The arguments. -/
abbrev input : FVec Ideal S4096x1024 .f32 := m ((c.tc : Thread nD τ).loc main_arg0)
abbrev weight : FVec Ideal S1024x2048 .f32 := m ((c.tc : Thread nD τ).loc main_arg1)

/-- The product of a point's blocks. -/
theorem part_at (x : FVec Ideal S2048x1024 .bf16) (w : FVec Ideal S1x1024x1024 .bf16) (i : Fin 2048) (j : Fin 1024) :
    k0_pay1 (F := Ideal) x w (ix2 i j) = ∑ d, x (ix2 i d) * w (ix3 0 d j) := by
  pointwise [k0_pay1]

theorem V_input : V m c main_v0 = truncf .bf16 (input m c) bitsLt_bf16_f32 := by
  unfold V
  after_reads_simp
theorem V_weight : V m c main_v2 = broadcastInDim S1x1024x2048 ![1, 2] bcast_S1024x2048_S1x1024x2048_1_2 (truncf .bf16 (weight m c) bitsLt_bf16_f32) := by
  unfold V
  after_reads_simp

theorem tile_input : ∀ t : Fin grid0.N, win0_0.index t = ![t.val / 2, 0] := by decide +kernel
theorem tile_weight : ∀ t : Fin grid0.N, win0_1.index t = ![0, 0, t.val % 2] := by decide +kernel
theorem tile_out : ∀ t : Fin grid0.N, win0_2.index t = ![t.val / 2, t.val % 2] := by decide +kernel

theorem N_lt (t : Fin grid0.N) : t.val < 4 := t.isLt

/-- Rows of a point's tile of the gradient; columns of its tile of the result. -/
def row (t : Fin grid0.N) (i : Fin 2048) : Fin 4096 := ⟨t.val / 2 * 2048 + i.val, by have := N_lt t; omega⟩
def col (t : Fin grid0.N) (j : Fin 1024) : Fin 2048 := ⟨t.val % 2 * 1024 + j.val, by omega⟩

theorem block_input (t : Fin grid0.N) (i : Fin 2048) (d : Fin 1024) : iblk m c 0 t (ix2 i d) = input m c (ix2 (row t i) d) := by
  refine Eq.trans (?_ : _ = V m c main_v0 (ix2 (row t i) d)) ?_
  · show V m c main_v0 (((cfg0.win 0).blk t).view.emb (ix2 i d)) = _
    refine congrArg (V m c main_v0) (funext fun a => Fin.ext ?_)
    have e := tile_input t
    blk_simp
    rw [e]
    change Fin 2 at a
    match a with
    | 0 => rfl
    | 1 => show 0 * 1024 + d.val = d.val; omega
  · rw [V_input]
    pointwise []

theorem block_weight (t : Fin grid0.N) (d : Fin 1024) (j : Fin 1024) : iblk m c 1 t (ix3 0 d j) = weight m c (ix2 d (col t j)) := by
  refine Eq.trans (?_ : _ = V m c main_v2 (ix3 0 d (col t j))) ?_
  · show V m c main_v2 (((cfg0.win 1).blk t).view.emb (ix3 0 d j)) = _
    refine congrArg (V m c main_v2) (funext fun a => Fin.ext ?_)
    have e := tile_weight t
    blk_simp
    rw [e]
    change Fin 3 at a
    match a with
    | 0 => rfl
    | 1 => show 0 * 1024 + d.val = d.val; omega
    | 2 => rfl
  · rw [V_weight]
    pointwise []

/-- The result of the reference. -/
theorem reference_at (x : FVec Ideal S4096x1024 .f32) (w : FVec Ideal S1024x2048 .f32) (i : Fin 4096) (j : Fin 2048) :
    (truncf .bf16 (Host.dotGeneral Cert.Reference24Ideal.dot_S4096x1024_S1024x2048_S4096x2048_1_0_0_1_n_n none x w : FVec Ideal S4096x2048 .f32) bitsLt_bf16_f32 : FVec Ideal S4096x2048 .bf16) (ix2 i j)
      = ∑ d, x (ix2 i d) * w (ix2 d j) := by
  pointwise []

theorem result : (dats m 0 c).arrAt 2 cfg0.N
    = (truncf .bf16 (Host.dotGeneral Cert.Reference24Ideal.dot_S4096x1024_S1024x2048_S4096x2048_1_0_0_1_n_n none (input m c) (weight m c) : FVec Ideal S4096x2048 .f32) bitsLt_bf16_f32 : FVec Ideal S4096x2048 .bf16) := by
  refine (dats m 0 c).arrAt_eq_of_covers 2 _ (by decide +kernel) fun t hf y => ?_
  blk_simp
  rw [after0_2]
  frame_out
  obtain ⟨i, j, rfl⟩ : ∃ (i : Fin 2048) (j : Fin 1024), y = ix2 i j := ⟨y 0, y 1, (ix2_eta y).symm⟩
  refine (part_at _ _ i j).trans ?_
  have hy : ((cfg0.win 2).blk t).view.emb (ix2 i j) = ix2 (row t i) (col t j) := by
    refine funext fun a => Fin.ext ?_
    have e := tile_out t
    blk_simp
    rw [e]
    change Fin 2 at a
    match a with
    | 0 => rfl
    | 1 => rfl
  rw [hy, reference_at]
  exact Finset.sum_congr rfl fun d _ => congrArg₂ (· * ·) (block_input m c t i d) (block_weight m c t d j)

end Cert.Kernel24Ideal.Value

namespace Cert.Proof

open Idealize.ShloMosaic Idealize.ShloMosaic.TcCoe Idealize.SL.Sem
open Cert.Kernel24Ideal Cert.Kernel24Ideal.Gen Cert.Kernel24Ideal.Value

theorem frame_conv_output : Cert.quiescent_Kernel24 := fun m ρ _ => Cert.Kernel24.Gen.frame m ρ
theorem frame_conv_output_ideal : Cert.quiescent_Kernel24Ideal := fun m ρ _ => Cert.Kernel24Ideal.Gen.frame m ρ
theorem frame_conv_output_reference : Cert.quiescent_Reference24Ideal := fun m ρ _ =>
  (θ_run Cert.Reference24Ideal.defs _ _).mono
    (fun r h => ⟨fun c => (h c).2, Idealize.ShloMosaic.sem_eq_zero_of_no_sems (by decide) r.2⟩)
    (Cert.Reference24Ideal.Value.run (F := Ideal) m ρ)

theorem same_conv_output : @Cert.algebraic_Kernel24Ideal_Reference24Ideal Cert.Kernel24Ideal.Gen.facts Cert.Reference24Ideal.Gen.facts := by
  intro m g m' g' hpre hargs
  refine ⟨_, ?_, Cert.Reference24Ideal.Value.run m' g'⟩
  refine (θ_run Cert.Kernel24Ideal.defs _ _).mono (fun r h c => ?_) (run_main m g)
  refine ⟨((h c).1 2).trans ((result m c).trans ?_),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩
  obtain ⟨ex, ew⟩ := hargs c
  rw [ex, ew]

end Cert.Proof

end
-- ==== Proof.RowNorm.lean ====
/-
  The gradient of a root-mean-square norm along a row, in two forms: the one written with the normalised row, and the one the
  derivative of the norm's formula gives. They agree for all extended reals, since the only factor put into a sum is the
  row's scale, which is a number that is not negative.
-/
module

public import Idealize.ShloMosaic.Lib.Pointwise

@[expose] public section

noncomputable section

namespace Cert.RowNorm

open Idealize.ShloMosaic

variable {ι : Type} [Fintype ι]

/-- A factor that is a number not below zero goes into a sum. -/
theorem sum_mul (a : ℝ) (ha : 0 ≤ a) (x : ι → EReal) : ∑ i, x i * (a : EReal) = (∑ i, x i) * (a : EReal) := by
  classical
  refine Finset.induction_on (motive := fun s : Finset ι => ∑ i ∈ s, x i * (a : EReal) = (∑ i ∈ s, x i) * (a : EReal)) Finset.univ ?_ ?_
  · rw [Finset.sum_empty, Finset.sum_empty, zero_mul]
  · intro i s hi ih
    rw [Finset.sum_insert hi, Finset.sum_insert hi, ih, mul_comm (x i), mul_comm (∑ i ∈ s, x i), mul_comm (x i + _),
      EReal.left_distrib_of_nonneg_of_ne_top (EReal.coe_nonneg.mpr ha) (EReal.coe_ne_top a)]

/-- Half of a multiple, twice. -/
theorem halves (x : EReal) (a : ℝ) : x * ((-(1 / 2) * a : ℝ) : EReal) + x * ((-(1 / 2) * a : ℝ) : EReal) = -(x * (a : EReal)) := by
  have h : (-(x * (a : EReal))) = (-(x * (a : EReal))) * ((1 / 2 : ℝ) : EReal) + (-(x * (a : EReal))) * ((1 / 2 : ℝ) : EReal) := by
    rw [← EReal.left_distrib_of_nonneg (EReal.coe_nonneg.mpr (by norm_num)) (EReal.coe_nonneg.mpr (by norm_num)), ← EReal.coe_add]
    norm_num
  have e : x * ((-(1 / 2) * a : ℝ) : EReal) = (-(x * (a : EReal))) * ((1 / 2 : ℝ) : EReal) := by
    rw [← mul_neg, ← EReal.coe_neg, mul_assoc, ← EReal.coe_mul]
    congr 2
    ring
  rw [h, e]

/-- The two forms, for a scale `a` and the reciprocal `b` of the row's length. -/
theorem forms (a b : ℝ) (ha : 0 ≤ a) (x t : ι → EReal) (j : ι) :
    (a : EReal) * (t j - x j * (a : EReal) * ((∑ k, t k * (x k * (a : EReal))) * (b : EReal)))
      = t j * (a : EReal) + ((∑ k, t k * x k) * ((-(1 / 2) * (a * a * a) : ℝ) : EReal) * (b : EReal) * x j
        + x j * ((∑ k, t k * x k) * ((-(1 / 2) * (a * a * a) : ℝ) : EReal) * (b : EReal))) := by
  have hs : ∑ k, t k * (x k * (a : EReal)) = (∑ k, t k * x k) * (a : EReal) := by
    rw [← sum_mul a ha]
    exact Finset.sum_congr rfl fun k _ => (mul_assoc _ _ _).symm
  rw [hs]
  generalize (∑ k, t k * x k) = s
  rw [sub_eq_add_neg, EReal.left_distrib_of_nonneg_of_ne_top (EReal.coe_nonneg.mpr ha) (EReal.coe_ne_top a), mul_comm (a : EReal) (t j)]
  refine congrArg (t j * (a : EReal) + ·) ?_
  have e1 : s * ((-(1 / 2) * (a * a * a) : ℝ) : EReal) * (b : EReal) * x j = s * x j * ((-(1 / 2) * (a * a * a * b) : ℝ) : EReal) := by
    rw [mul_right_comm _ _ (x j), mul_right_comm _ _ (x j), mul_assoc (s * x j), ← EReal.coe_mul]
    congr 2
    ring
  rw [mul_comm (x j) (s * _ * _), e1, halves, mul_neg]
  congr 1
  rw [EReal.coe_mul (a * a * a), EReal.coe_mul (a * a), EReal.coe_mul a a]
  ac_rfl

/-- The reciprocal root of a number above zero, or of infinity, is a number not below zero; divided by its argument it is its
    cube. -/
theorem scale (v : EReal) (h : 0 < v) : ∃ a : ℝ, 0 ≤ a ∧ Ideal.rsqrt v = (a : EReal) ∧ Ideal.div (Ideal.rsqrt v) v = ((a * a * a : ℝ) : EReal) := by
  induction v with
  | bot => exact absurd h (by simp)
  | top => exact ⟨0, le_refl 0, rfl, by simp [Ideal.div]⟩
  | coe r =>
    have hr : 0 < r := by exact_mod_cast h
    refine ⟨(Real.sqrt r)⁻¹, inv_nonneg.mpr (Real.sqrt_nonneg r), ?_, ?_⟩
    · rw [Ideal.rsqrt_coe, if_neg (not_lt.mpr hr.le), if_neg hr.ne']
    · rw [Ideal.rsqrt_coe, if_neg (not_lt.mpr hr.le), if_neg hr.ne', Ideal.div_coe hr.ne', ← EReal.coe_mul]
      have hq : r = Real.sqrt r * Real.sqrt r := (Real.mul_self_sqrt hr.le).symm
      have hs : Real.sqrt r ≠ 0 := (Real.sqrt_pos.mpr hr).ne'
      congr 1
      rw [mul_assoc, ← mul_inv, ← hq, one_div]

end Cert.RowNorm

end
-- ==== Proof.RowSlope.lean ====
/-
  A row's gradient through a root-mean-square norm, at any length of the row: as the kernels write it and as the derivative of
  the norm's formula does, and that the two are the same. And values put in the first of eight rows, with their sums.
-/
module

public import proofs.«01_k».proof.Proof.RowNorm

@[expose] public section

noncomputable section

namespace Cert.RowSlope

open Idealize.ShloMosaic

variable {n : ℕ}

/-- The float words: the small number under the root, and minus one half. -/
def tiny : EReal := FloatOps.ofBits (F := Ideal) .f32 0x358637BD#32
def lessHalf : EReal := FloatOps.ofBits (F := Ideal) .f32 0xBF000000#32

/-- What stands under a row's root, for the row's length `q`, and the row's scale. -/
def level (q : EReal) (x : Fin n → EReal) : EReal := Ideal.div (∑ k, x k * x k) q + tiny
def scale (q : EReal) (x : Fin n → EReal) : EReal := Ideal.rsqrt (level q x)

/-- A row's gradient as the kernels write it, from the row and the gradient times the gain. -/
def slope (q : EReal) (x t : Fin n → EReal) (j : Fin n) : EReal :=
  scale q x * (t j - x j * scale q x * Ideal.div (∑ k, t k * (x k * scale q x)) q)
/-- The factor the derivative of the root gives. -/
def back (q : EReal) (x t : Fin n → EReal) : EReal := Ideal.div ((∑ k, x k * t k) * (lessHalf * Ideal.div (scale q x) (level q x))) q

theorem lessHalf_eq : lessHalf = ((-(1 / 2) : ℝ) : EReal) := by
  unfold lessHalf
  simp [Ideal.ofBits, Ideal.ieee]
  rw [← EReal.coe_mul]
  norm_num
theorem tiny_pos : 0 < tiny := by
  unfold tiny
  simp [Ideal.ofBits, Ideal.ieee]
  rw [← EReal.coe_mul]
  exact EReal.coe_pos.mpr (by norm_num)

theorem square_nonneg (x : EReal) : 0 ≤ x * x := by
  rcases le_total 0 x with h | h
  · exact mul_nonneg h h
  · rw [← neg_mul_neg]
    exact mul_nonneg (EReal.neg_nonneg.mpr h) (EReal.neg_nonneg.mpr h)

section

variable {q : EReal} (a : ℝ) (ha : 0 < a) (hq : q = (a : EReal))
include ha hq

theorem div_length (x : EReal) : Ideal.div x q = x * ((1 / a : ℝ) : EReal) := by
  rw [hq, Ideal.div_coe ha.ne']

theorem level_pos (x : Fin n → EReal) : 0 < level q x := by
  unfold level
  rw [div_length a ha hq]
  exact lt_of_lt_of_le tiny_pos (le_add_of_nonneg_left
    (mul_nonneg (Finset.sum_nonneg fun k _ => square_nonneg (x k)) (EReal.coe_nonneg.mpr (one_div_nonneg.mpr ha.le))))

/-- The two gradients of a row are the same. -/
theorem slope_eq (x t : Fin n → EReal) (j : Fin n) : slope q x t j = t j * scale q x + x j * back q x t + back q x t * x j := by
  obtain ⟨r, hr, e1, e2⟩ := RowNorm.scale (level q x) (level_pos a ha hq x)
  have hb : back q x t = (∑ k, t k * x k) * ((-(1 / 2) * (r * r * r) : ℝ) : EReal) * ((1 / a : ℝ) : EReal) := by
    unfold back scale
    rw [e2, div_length a ha hq, lessHalf_eq, ← EReal.coe_mul]
    exact congrArg (· * _ * _) (Finset.sum_congr rfl fun k _ => mul_comm _ _)
  have hs : scale q x = (r : EReal) := e1
  unfold slope
  rw [hb, hs, div_length a ha hq, RowNorm.forms r (1 / a) hr x t j, add_assoc, add_comm (_ * x j)]

end

/-! ## The first of eight rows -/

/-- A value in the first of eight rows, zero in the others. -/
def onFirst (x : EReal) (r : Fin 8) : EReal := if r = 0 then x else 0

theorem sum_onFirst {ι : Type} [Fintype ι] (x : ι → EReal) (r : Fin 8) : ∑ s, onFirst (x s) r = onFirst (∑ s, x s) r := by
  unfold onFirst
  by_cases h : r = 0
  · simp only [if_pos h]
  · simp only [if_neg h, Finset.sum_const_zero]
theorem onFirst_zero (r : Fin 8) : onFirst 0 r = 0 := ite_self 0

theorem is_first : ∀ r : Fin 8, IntOp.cmpi .eq (BitVec.ofNat 32 r.val) 0#32 = if r = 0 then 1#1 else 0#1 := by decide
theorem select_first (r : Fin 8) (x : EReal) : Scalar.select (IntOp.cmpi .eq (BitVec.ofNat 32 r.val) 0#32) x 0 = onFirst x r := by
  unfold onFirst
  rw [is_first]
  by_cases h : r = 0
  · simp [h, Scalar.select]
  · simp [h, Scalar.select]

end Cert.RowSlope

end
-- ==== Proof.InputGradient.lean ====
/-
  The gradient of the step's input: the first root-mean-square norm taken back, with the residual's gradient added, and the
  gradient of the norm's gain, added up over the visits in the first row of one block.
-/
module

public import proofs.«01_k».proof.Proof.RowSlope
public import proofs.«01_k».proof.Defs
public import proofs.«01_k».proof.Proof.Gen.Kernel25.Frame
public import proofs.«01_k».proof.Proof.Gen.Kernel25Ideal.Frame
public import proofs.«01_k».proof.Proof.Gen.Reference25Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel25Ideal.Value

open Idealize.ShloMosaic Idealize.ShloMosaic.TcCoe Idealize.SL.Sem
open Cert.Kernel25Ideal.Gen

variable (m : (ℓ : Loc nD τ sig) → Buf (Elt Ideal) ℓ) (c : Dev nD)

/-- The arguments. -/
abbrev input : FVec Ideal S4096x2048 .f32 := m ((c.tc : Thread nD τ).loc main_arg0)
abbrev grad : FVec Ideal S4096x2048 .f32 := m ((c.tc : Thread nD τ).loc main_arg1)
abbrev gain : FVec Ideal S1x2048 .f32 := m ((c.tc : Thread nD τ).loc main_arg2)
abbrev residual : FVec Ideal S4096x2048 .f32 := m ((c.tc : Thread nD τ).loc main_arg3)

/-! ## A row -/

/-- The float word for the number of features. -/
def features : EReal := FloatOps.ofBits (F := Ideal) .f32 0x45000000#32
theorem features_eq : features = ((2048 : ℝ) : EReal) := by
  unfold features
  simp [Ideal.ofBits, Ideal.ieee]
  rw [← EReal.coe_mul]
  norm_num

/-! ## The values a visit computes -/

theorem scale_at (x : FVec Ideal S256x2048 .f32) (i : Fin 256) : k0_pay2 (F := Ideal) x (ix2 i 0) = RowSlope.scale features fun k => x (ix2 i k) := by
  unfold RowSlope.scale RowSlope.level features RowSlope.tiny
  pointwise [k0_pay2]
theorem normal_at (x : FVec Ideal S256x2048 .f32) (i : Fin 256) (j : Fin 2048) :
    k0_pay3 (F := Ideal) x (ix2 i j) = x (ix2 i j) * RowSlope.scale features fun k => x (ix2 i k) := by
  rw [← scale_at]
  pointwise [k0_pay3]
theorem slope_at (x d : FVec Ideal S256x2048 .f32) (g : FVec Ideal S1x2048 .f32) (r : FVec Ideal S256x2048 .f32) (i : Fin 256) (j : Fin 2048) :
    k0_pay4 (F := Ideal) x d g r (ix2 i j) = RowSlope.slope features (fun k => x (ix2 i k)) (fun k => d (ix2 i k) * g (ix2 0 k)) j + r (ix2 i j) := by
  refine Eq.trans (?_ : _ = k0_pay2 (F := Ideal) x (ix2 i 0) * (d (ix2 i j) * g (ix2 0 j)
    - k0_pay3 (F := Ideal) x (ix2 i j) * Ideal.div (∑ k, d (ix2 i k) * g (ix2 0 k) * k0_pay3 (F := Ideal) x (ix2 i k)) features) + r (ix2 i j)) ?_
  · unfold features
    pointwise [k0_pay4]
  · simp only [normal_at, scale_at]
    rfl

theorem part_at (x d : FVec Ideal S256x2048 .f32) (j : Fin 2048) :
    k0_pay7 (F := Ideal) x d (ix2 0 j) = ∑ i, d (ix2 i j) * k0_pay3 (F := Ideal) x (ix2 i j) := by
  pointwise [k0_pay7]
theorem none_at (r : Fin 8) (j : Fin 2048) : k0_pay5 (F := Ideal) (ix2 r j) = 0 := by
  pointwise [k0_pay5]
theorem sum_at (a : FVec Ideal S8x2048 .f32) (p : FVec Ideal S1x2048 .f32) (v : IVec S8x2048 32) (r : Fin 8) (j : Fin 2048)
    (hv : v (ix2 r j) = BitVec.ofNat 32 r.val) :
    k0_pay1 (F := Ideal) (k0_pay6 a) p v (ix2 r j) = a (ix2 r j) + RowSlope.onFirst (p (ix2 0 j)) r := by
  rw [← RowSlope.select_first, ← hv]
  pointwise [k0_pay1, k0_pay6]

/-! ## The blocks of a visit -/

theorem tile_input : ∀ t : Fin grid0.N, win0_0.index t = ![t.val, 0] := by decide +kernel
theorem tile_grad : ∀ t : Fin grid0.N, win0_1.index t = ![t.val, 0] := by decide +kernel
theorem tile_gain : ∀ t : Fin grid0.N, win0_2.index t = ![0, 0] := by decide +kernel
theorem tile_residual : ∀ t : Fin grid0.N, win0_3.index t = ![t.val, 0] := by decide +kernel
theorem tile_slope : ∀ t : Fin grid0.N, win0_4.index t = ![t.val, 0] := by decide +kernel
theorem tile_sum : ∀ t : Fin grid0.N, win0_5.index t = ![0, 0] := by decide +kernel

theorem N_lt (t : Fin grid0.N) : t.val < 16 := t.isLt

/-- Rows of a visit's tile. -/
def row (t : Fin grid0.N) (i : Fin 256) : Fin 4096 := ⟨t.val * 256 + i.val, by have := N_lt t; omega⟩

theorem block_input (t : Fin grid0.N) (i : Fin 256) (j : Fin 2048) : iblk m c 0 t (ix2 i j) = input m c (ix2 (row t i) j) := by
  refine Eq.trans (?_ : _ = V m c main_arg0 (ix2 (row t i) j)) ?_
  · show V m c main_arg0 (((cfg0.win 0).blk t).view.emb (ix2 i j)) = _
    refine congrArg (V m c main_arg0) (funext fun a => Fin.ext ?_)
    have e := tile_input t
    blk_simp
    rw [e]
    change Fin 2 at a
    match a with
    | 0 => rfl
    | 1 => show 0 * 2048 + j.val = j.val; omega
  · rw [V_main_arg0]

theorem block_grad (t : Fin grid0.N) (i : Fin 256) (j : Fin 2048) : iblk m c 1 t (ix2 i j) = grad m c (ix2 (row t i) j) := by
  refine Eq.trans (?_ : _ = V m c main_arg1 (ix2 (row t i) j)) ?_
  · show V m c main_arg1 (((cfg0.win 1).blk t).view.emb (ix2 i j)) = _
    refine congrArg (V m c main_arg1) (funext fun a => Fin.ext ?_)
    have e := tile_grad t
    blk_simp
    rw [e]
    change Fin 2 at a
    match a with
    | 0 => rfl
    | 1 => show 0 * 2048 + j.val = j.val; omega
  · rw [V_main_arg1]

theorem block_residual (t : Fin grid0.N) (i : Fin 256) (j : Fin 2048) : iblk m c 3 t (ix2 i j) = residual m c (ix2 (row t i) j) := by
  refine Eq.trans (?_ : _ = V m c main_arg3 (ix2 (row t i) j)) ?_
  · show V m c main_arg3 (((cfg0.win 3).blk t).view.emb (ix2 i j)) = _
    refine congrArg (V m c main_arg3) (funext fun a => Fin.ext ?_)
    have e := tile_residual t
    blk_simp
    rw [e]
    change Fin 2 at a
    match a with
    | 0 => rfl
    | 1 => show 0 * 2048 + j.val = j.val; omega
  · rw [V_main_arg3]

theorem block_gain (t : Fin grid0.N) (j : Fin 2048) : iblk m c 2 t (ix2 0 j) = gain m c (ix2 0 j) := by
  refine Eq.trans (?_ : _ = V m c main_arg2 (ix2 0 j)) ?_
  · show V m c main_arg2 (((cfg0.win 2).blk t).view.emb (ix2 0 j)) = _
    refine congrArg (V m c main_arg2) (funext fun a => Fin.ext ?_)
    have e := tile_gain t
    blk_simp
    rw [e]
    change Fin 2 at a
    match a with
    | 0 => rfl
    | 1 => show 0 * 2048 + j.val = j.val; omega
  · rw [V_main_arg2]

/-- The rows of the arguments. -/
abbrev inputRow (i : Fin 4096) : Fin 2048 → EReal := fun k => input m c (ix2 i k)
abbrev gradRow (i : Fin 4096) : Fin 2048 → EReal := fun k => grad m c (ix2 i k) * gain m c (ix2 0 k)

theorem input_row (t : Fin grid0.N) (i : Fin 256) : (fun k => iblk m c 0 t (ix2 i k) : Fin 2048 → EReal) = inputRow m c (row t i) :=
  funext fun k => block_input m c t i k
theorem grad_row (t : Fin grid0.N) (i : Fin 256) : ((fun k => HMul.hMul (α := EReal) (β := EReal) (iblk m c 1 t (ix2 i k)) (iblk m c 2 t (ix2 0 k))) : Fin 2048 → EReal) = gradRow m c (row t i) :=
  funext fun k => congrArg₂ (fun a b : EReal => a * b) (block_grad m c t i k) (block_gain m c t k)

theorem slope_block (t : Fin grid0.N) (i : Fin 256) (j : Fin 2048) :
    k0_pay4 (F := Ideal) (iblk m c 0 t) (iblk m c 1 t) (iblk m c 2 t) (iblk m c 3 t) (ix2 i j)
      = RowSlope.slope features (inputRow m c (row t i)) (gradRow m c (row t i)) j + residual m c (ix2 (row t i) j) :=
  (slope_at _ _ _ _ i j).trans (congrArg₂ (fun a b : EReal => a + b)
    (congrArg₂ (fun x t => RowSlope.slope features x t j) (input_row m c t i) (grad_row m c t i)) (block_residual m c t i j))

/-! ## The gradient of the input -/

theorem written (t : Fin cfg0.N) (i : Fin 256) (j : Fin 2048) : (outsAt0 m c t.val t.isLt).1 (ix2 i j)
    = RowSlope.slope features (inputRow m c (row t i)) (gradRow m c (row t i)) j + residual m c (ix2 (row t i) j) := by
  by_cases h : t.val % 16 = 0
  · rw [outsAt0_A m c t h]
    frame_out
    exact slope_block m c t i j
  · rw [outsAt0_B m c t h]
    frame_out
    exact slope_block m c t i j

theorem array_slope : (dats m 0 c).arrAt 4 cfg0.N
    = (fun y : S4096x2048.Idx => RowSlope.slope features (inputRow m c (y 0)) (gradRow m c (y 0)) (y 1) + residual m c y : S4096x2048.Idx → EReal) := by
  refine (dats m 0 c).arrAt_eq_of_covers 4 _ (by decide +kernel) fun t hf y => ?_
  blk_simp
  rw [after0_4]
  obtain ⟨i, j, rfl⟩ : ∃ (i : Fin 256) (j : Fin 2048), y = ix2 i j := ⟨y 0, y 1, (ix2_eta y).symm⟩
  have hy : ((cfg0.win 4).blk t).view.emb (ix2 i j) = ix2 (row t i) j := by
    refine funext fun a => Fin.ext ?_
    have e := tile_slope t
    blk_simp
    rw [e]
    change Fin 2 at a
    match a with
    | 0 => rfl
    | 1 => show 0 * 2048 + j.val = j.val; omega
  rw [hy]
  exact written m c t i j

/-! ## The gradient of the gain -/

/-- A row's part, and a visit's. -/
def rowPart (i : Fin 4096) (j : Fin 2048) : EReal := grad m c (ix2 i j) * (inputRow m c i j * RowSlope.scale features (inputRow m c i))
def part (t : Fin grid0.N) (j : Fin 2048) : EReal := ∑ i, rowPart m c (row t i) j

theorem part_block (t : Fin grid0.N) (j : Fin 2048) : k0_pay7 (F := Ideal) (iblk m c 0 t) (iblk m c 1 t) (ix2 0 j) = part m c t j := by
  refine (part_at _ _ j).trans (Finset.sum_congr rfl fun i _ => ?_)
  exact congrArg₂ (fun a b : EReal => a * b) (block_grad m c t i j) ((normal_at _ i j).trans
    (congrArg₂ (fun a b : EReal => a * b) (block_input m c t i j) (congrArg (RowSlope.scale features) (input_row m c t i))))

abbrev sums (n : ℕ) (h : n < cfg0.N) : FVec Ideal S8x2048 .f32 := (outsAt0 m c n h).2

theorem sums_first (t : Fin cfg0.N) (h : t.val % 16 = 0) (y : S8x2048.Idx) : sums m c t.val t.isLt y = 0 + RowSlope.onFirst (part m c t (y 1)) (y 0) := by
  obtain ⟨r, j, rfl⟩ : ∃ (r : Fin 8) (j : Fin 2048), y = ix2 r j := ⟨y 0, y 1, (ix2_eta y).symm⟩
  unfold sums
  rw [outsAt0_A m c t h]
  frame_out
  exact (sum_at _ _ _ r j (by pointwise [])).trans (congrArg₂ (fun a b : EReal => a + b) (none_at r j) (congrArg (RowSlope.onFirst · r) (part_block m c t j)))
theorem sums_next (t : Fin cfg0.N) (h : ¬t.val % 16 = 0) (y : S8x2048.Idx) :
    sums m c t.val t.isLt y = sums m c (t.val - 1) (Nat.lt_of_le_of_lt (Nat.sub_le _ _) t.isLt) y + RowSlope.onFirst (part m c t (y 1)) (y 0) := by
  obtain ⟨r, j, rfl⟩ : ∃ (r : Fin 8) (j : Fin 2048), y = ix2 r j := ⟨y 0, y 1, (ix2_eta y).symm⟩
  unfold sums
  rw [outsAt0_B m c t h]
  frame_out
  exact (sum_at _ _ _ r j (by pointwise [])).trans (congrArg (_ + RowSlope.onFirst · r) (part_block m c t j))

theorem sums_last (t : Fin cfg0.N) (h : t.val % 16 = 15) (r : Fin 8) (j : Fin 2048) :
    sums m c t.val t.isLt (ix2 r j) = RowSlope.onFirst (∑ i, rowPart m c i j) r := by
  refine (Pipeline.eq_sum_fin_of_reset_step_apply_of_flush (sums m c) 16 (fun _ => (0 : EReal)) (fun t y => RowSlope.onFirst (part m c t (y 1)) (y 0))
    (sums_first m c) (sums_next m c) t h (ix2 r j)).trans ?_
  rw [zero_add]
  have hs := RowSlope.sum_onFirst (fun s : Fin 16 => part m c ⟨16 * (t.val / 16) + s.val, Pipeline.run_point_lt_of_flush t h s⟩ j) r
  refine Eq.trans (Finset.sum_congr rfl fun s _ => ?_) (hs.trans (congrArg (RowSlope.onFirst · r) ?_))
  · rfl
  refine Eq.trans ?_ (Fin.sum_mul_add_fin 16 256 fun i : Fin 4096 => rowPart m c i j)
  refine Finset.sum_congr rfl fun s _ => Finset.sum_congr rfl fun i _ => congrArg (rowPart m c · j) (Fin.ext ?_)
  have := N_lt t
  show (16 * (t.val / 16) + s.val) * 256 + i.val = s.val * 256 + i.val
  omega

theorem array_sum : (dats m 0 c).arrAt 5 cfg0.N = (fun y : S8x2048.Idx => RowSlope.onFirst (∑ i, rowPart m c i (y 1)) (y 0) : S8x2048.Idx → EReal) := by
  refine (dats m 0 c).arrAt_eq_of_covers 5 _ (by decide +kernel) fun t hf y => ?_
  blk_simp
  rw [after0_5]
  obtain ⟨r, j, rfl⟩ : ∃ (r : Fin 8) (j : Fin 2048), y = ix2 r j := ⟨y 0, y 1, (ix2_eta y).symm⟩
  have hy : ((cfg0.win 5).blk t).view.emb (ix2 r j) = ix2 r j := by
    refine funext fun a => Fin.ext ?_
    have e := tile_sum t
    blk_simp
    rw [e]
    change Fin 2 at a
    match a with
    | 0 => show 0 * 8 + r.val = r.val; omega
    | 1 => show 0 * 2048 + j.val = j.val; omega
  rw [hy]
  exact sums_last m c t ((flush0_5 t).mp hf) r j

theorem result_gain : Pipeline.afterTail₀ cfgs (dats m) 0 (V0 m) [hostOps1] c main_v1
    = (fun y : S1x2048.Idx => ∑ i, rowPart m c i (y 1) : S1x2048.Idx → EReal) := by
  unfold Pipeline.afterTail₀
  after_reads_simp
  rw [show Pipeline.withArrays spec0 c (V0 m c) (fun w => (dats m 0 c).arrAt w cfg0.N) (Proc.devRef .tc main_v0_1) = _ from
    Pipeline.withArrays_arr spec0 (by decide) c (V0 m c) _ 5]
  rw [array_sum]
  funext y
  obtain ⟨z, j, rfl⟩ : ∃ (z : Fin 1) (j : Fin 2048), y = ix2 z j := ⟨y 0, y 1, (ix2_eta y).symm⟩
  obtain rfl : z = 0 := Subsingleton.elim _ _
  pointwise []
  rfl

/-! ## The reference -/

section Reference

open Cert.Reference25Ideal

/-- The reference's stages. -/
def refLevel (x : FVec Ideal S4096x2048 .f32) : FVec Ideal S4096x1 .f32 :=
  addf (Host.divf (broadcastInDim S4096x1 ![0] Facts₀.bcast_S4096_S4096x1_0
      (Host.reduceAdd (mulf x x) (constant (F := Ideal) S_ .f32 0x00000000#32) Facts₀.reducesTo_S4096x2048_S4096_d1 Facts₀.h_S_))
    (broadcastInDim S4096x1 ![] Facts₀.bcast_S_S4096x1 (constant (F := Ideal) S_ .f32 0x45000000#32)))
    (broadcastInDim S4096x1 ![] Facts₀.bcast_S_S4096x1 (constant (F := Ideal) S_ .f32 0x358637BD#32))
def refScale (x : FVec Ideal S4096x2048 .f32) : FVec Ideal S4096x1 .f32 := Host.rsqrt (refLevel x)
def refNormal (x : FVec Ideal S4096x2048 .f32) : FVec Ideal S4096x2048 .f32 :=
  mulf x (broadcastInDim S4096x2048 ![0, 1] Facts₀.bcast_S4096x1_S4096x2048_0_1 (refScale x))
def refGain (x d : FVec Ideal S4096x2048 .f32) : FVec Ideal S1x2048 .f32 :=
  fun y => shapeCast S1x2048 (Host.reduceAdd (mulf (refNormal x) d) (constant (F := Ideal) S_ .f32 0x00000000#32) Facts₀.reducesTo_S4096x2048_S2048_d0 Facts₀.h_S_)
    Facts₀.shapeCasts_S2048_S1x2048 y
def refGrad (d : FVec Ideal S4096x2048 .f32) (g : FVec Ideal S1x2048 .f32) : FVec Ideal S4096x2048 .f32 :=
  mulf d (broadcastInDim S4096x2048 ![0, 1] Facts₀.bcast_S1x2048_S4096x2048_0_1 g)
def refDot (x t : FVec Ideal S4096x2048 .f32) : FVec Ideal S4096x1 .f32 :=
  fun y => shapeCast S4096x1 (Host.reduceAdd (mulf x t) (constant (F := Ideal) S_ .f32 0x00000000#32) Facts₀.reducesTo_S4096x2048_S4096_d1 Facts₀.h_S_)
    Facts₀.shapeCasts_S4096_S4096x1 y
def refFactor (x : FVec Ideal S4096x2048 .f32) : FVec Ideal S4096x1 .f32 :=
  mulf (broadcastInDim S4096x1 ![] Facts₀.bcast_S_S4096x1 (constant (F := Ideal) S_ .f32 0xBF000000#32)) (Host.divf (refScale x) (refLevel x))
def refBack (x t : FVec Ideal S4096x2048 .f32) : FVec Ideal S4096x2048 .f32 :=
  broadcastInDim S4096x2048 ![0] Facts₀.bcast_S4096_S4096x2048_0
    (Host.reduceAdd (Host.divf (mulf (refDot x t) (refFactor x)) (broadcastInDim S4096x1 ![] Facts₀.bcast_S_S4096x1 (constant (F := Ideal) S_ .f32 0x45000000#32)) : FVec Ideal S4096x1 .f32)
      (constant (F := Ideal) S_ .f32 0x00000000#32) Facts₀.reducesTo_S4096x1_S4096_d1 Facts₀.h_S_)
def refSlope (x t r : FVec Ideal S4096x2048 .f32) : FVec Ideal S4096x2048 .f32 :=
  addf r (addf (addf (mulf t (broadcastInDim S4096x2048 ![0, 1] Facts₀.bcast_S4096x1_S4096x2048_0_1 (refScale x))) (mulf x (refBack x t))) (mulf (refBack x t) x))

theorem refLevel_at (x : FVec Ideal S4096x2048 .f32) (i : Fin 4096) : refLevel x (ix2 i 0) = RowSlope.level features fun k => x (ix2 i k) := by
  unfold RowSlope.level features RowSlope.tiny
  pointwise [refLevel]
theorem refScale_at (x : FVec Ideal S4096x2048 .f32) (i : Fin 4096) : refScale x (ix2 i 0) = RowSlope.scale features fun k => x (ix2 i k) := by
  unfold RowSlope.scale
  rw [← refLevel_at]
  pointwise [refScale]
theorem refNormal_at (x : FVec Ideal S4096x2048 .f32) (i : Fin 4096) (j : Fin 2048) : refNormal x (ix2 i j) = x (ix2 i j) * RowSlope.scale features fun k => x (ix2 i k) := by
  rw [← refScale_at]
  pointwise [refNormal]
theorem refGain_at (x d : FVec Ideal S4096x2048 .f32) (j : Fin 2048) : refGain x d (ix2 0 j) = ∑ i, refNormal x (ix2 i j) * d (ix2 i j) := by
  pointwise [refGain]
theorem refGrad_at (d : FVec Ideal S4096x2048 .f32) (g : FVec Ideal S1x2048 .f32) (i : Fin 4096) (j : Fin 2048) :
    refGrad d g (ix2 i j) = d (ix2 i j) * g (ix2 0 j) := by
  pointwise [refGrad]
theorem refDot_at (x t : FVec Ideal S4096x2048 .f32) (i : Fin 4096) : refDot x t (ix2 i 0) = ∑ k, x (ix2 i k) * t (ix2 i k) := by
  pointwise [refDot]
theorem refFactor_at (x : FVec Ideal S4096x2048 .f32) (i : Fin 4096) :
    refFactor x (ix2 i 0) = RowSlope.lessHalf * Ideal.div (RowSlope.scale features fun k => x (ix2 i k)) (RowSlope.level features fun k => x (ix2 i k)) := by
  rw [← refScale_at, ← refLevel_at]
  unfold RowSlope.lessHalf
  pointwise [refFactor]
theorem refBack_at (x t : FVec Ideal S4096x2048 .f32) (i : Fin 4096) (j : Fin 2048) :
    refBack x t (ix2 i j) = RowSlope.back features (fun k => x (ix2 i k)) (fun k => t (ix2 i k)) := by
  unfold RowSlope.back
  rw [← refDot_at, ← refFactor_at]
  unfold features
  pointwise [refBack]
  exact Fin.sum_univ_one _
theorem refSlope_at (x t r : FVec Ideal S4096x2048 .f32) (i : Fin 4096) (j : Fin 2048) :
    refSlope x t r (ix2 i j) = RowSlope.slope features (fun k => x (ix2 i k)) (fun k => t (ix2 i k)) j + r (ix2 i j) := by
  rw [RowSlope.slope_eq 2048 (by norm_num) features_eq, ← refBack_at x t i j, ← refScale_at, add_comm]
  pointwise [refSlope]

end Reference

theorem slope_same : (fun y : S4096x2048.Idx => RowSlope.slope features (inputRow m c (y 0)) (gradRow m c (y 0)) (y 1) + residual m c y : S4096x2048.Idx → EReal)
    = refSlope (input m c) (refGrad (grad m c) (gain m c)) (residual m c) := by
  funext y
  obtain ⟨i, j, rfl⟩ : ∃ (i : Fin 4096) (j : Fin 2048), y = ix2 i j := ⟨y 0, y 1, (ix2_eta y).symm⟩
  refine Eq.trans ?_ (refSlope_at (input m c) (refGrad (grad m c) (gain m c)) (residual m c) i j).symm
  exact congrArg (fun t => RowSlope.slope features (inputRow m c i) t j + residual m c (ix2 i j)) (funext fun k => (refGrad_at (grad m c) (gain m c) i k).symm)
theorem gain_same : (fun y : S1x2048.Idx => ∑ i, rowPart m c i (y 1) : S1x2048.Idx → EReal) = refGain (input m c) (grad m c) := by
  funext y
  obtain ⟨z, j, rfl⟩ : ∃ (z : Fin 1) (j : Fin 2048), y = ix2 z j := ⟨y 0, y 1, (ix2_eta y).symm⟩
  obtain rfl : z = 0 := Subsingleton.elim _ _
  refine Eq.trans ?_ (refGain_at (input m c) (grad m c) j).symm
  refine Finset.sum_congr rfl fun i _ => ?_
  rw [refNormal_at, mul_comm]
  rfl

end Cert.Kernel25Ideal.Value

namespace Cert.Proof

open Idealize.ShloMosaic Idealize.ShloMosaic.TcCoe Idealize.SL.Sem
open Cert.Kernel25Ideal Cert.Kernel25Ideal.Gen Cert.Kernel25Ideal.Value

theorem frame_input_gradient : Cert.quiescent_Kernel25 := fun m ρ _ => Cert.Kernel25.Gen.frame m ρ
theorem frame_input_gradient_ideal : Cert.quiescent_Kernel25Ideal := fun m ρ _ => Cert.Kernel25Ideal.Gen.frame m ρ
theorem frame_input_gradient_reference : Cert.quiescent_Reference25Ideal := fun m ρ _ =>
  (θ_run Cert.Reference25Ideal.defs _ _).mono
    (fun r h => ⟨fun c => (h c).2.2, Idealize.ShloMosaic.sem_eq_zero_of_no_sems (by decide) r.2⟩)
    (Cert.Reference25Ideal.Value.run (F := Ideal) m ρ)

theorem same_input_gradient : @Cert.algebraic_Kernel25Ideal_Reference25Ideal Cert.Kernel25Ideal.Gen.facts Cert.Reference25Ideal.Gen.facts := by
  intro m g m' g' hpre hargs
  refine ⟨_, _, ?_, Cert.Reference25Ideal.Value.run m' g'⟩
  refine (θ_run Cert.Kernel25Ideal.defs _ _).mono (fun r h c => ?_) (run_main m g)
  obtain ⟨e0, e1, e2, e3⟩ := hargs c
  refine ⟨((h c).1 4).trans ((array_slope m c).trans ((slope_same m c).trans ?_)),
    ((h c).2 main_v1 (Pipeline.mem_restRefs_of main_v1 (by decide) (by decide))).trans ((result_gain m c).trans ((gain_same m c).trans ?_)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩
  · rw [e0, e1, e2, e3]
    rfl
  · rw [e0, e1]
    rfl

end Cert.Proof

end
-- ==== Proof.ResidualNorm.lean ====
/-
  The residual after the mixers and its norm. A tile of rows holds whole rows: one visit adds the product with w_o to the
  residual, writes it, and writes the rows' root-mean-square norm times the gain.
-/
module

public import proofs.«01_k».proof.Defs
public import proofs.«01_k».proof.Proof.Gen.Kernel26.Frame
public import proofs.«01_k».proof.Proof.Gen.Kernel26Ideal.Frame
public import proofs.«01_k».proof.Proof.Gen.Reference26Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel26Ideal.Value

open Idealize.ShloMosaic Idealize.ShloMosaic.TcCoe Idealize.SL.Sem
open Cert.Kernel26Ideal.Gen

variable (m : (ℓ : Loc nD τ sig) → Buf (Elt Ideal) ℓ) (c : Dev nD)

/-- The arguments. -/
abbrev mixed : FVec Ideal S4096x2048 .f32 := m ((c.tc : Thread nD τ).loc main_arg0)
abbrev weight : FVec Ideal S2048x2048 .f32 := m ((c.tc : Thread nD τ).loc main_arg1)
abbrev input : FVec Ideal S4096x2048 .f32 := m ((c.tc : Thread nD τ).loc main_arg2)
abbrev gain : FVec Ideal S1x2048 .f32 := m ((c.tc : Thread nD τ).loc main_arg3)

/-- An entry of the residual, and a row's scale for the norm. -/
def resid (a : FVec Ideal S4096x2048 .f32) (w : FVec Ideal S2048x2048 .f32) (x : FVec Ideal S4096x2048 .f32) (i : Fin 4096) (j : Fin 2048) : EReal :=
  (∑ k, a (ix2 i k) * w (ix2 k j)) + x (ix2 i j)
def scale (x : Fin 2048 → EReal) : EReal :=
  Ideal.rsqrt (Ideal.div (∑ k, x k * x k) (FloatOps.ofBits (F := Ideal) .f32 0x45000000#32) + FloatOps.ofBits (F := Ideal) .f32 0x358637BD#32)
/-- An entry of the normed residual. -/
def normed (a : FVec Ideal S4096x2048 .f32) (w : FVec Ideal S2048x2048 .f32) (x : FVec Ideal S4096x2048 .f32) (g : FVec Ideal S1x2048 .f32)
    (i : Fin 4096) (j : Fin 2048) : EReal := resid a w x i j * scale (resid a w x i) * g (ix2 0 j)

/-! ## The values a visit computes -/

theorem resid_at (a : FVec Ideal S512x2048 .bf16) (w : FVec Ideal S1x2048x2048 .bf16) (x : FVec Ideal S512x2048 .f32) (i : Fin 512) (j : Fin 2048) :
    k0_pay1 (F := Ideal) a w x (ix2 i j) = (∑ k : Fin 2048, a (ix2 i k) * w (ix3 0 k j)) + x (ix2 i j) := by
  pointwise [k0_pay1]
theorem normed_at (a : FVec Ideal S512x2048 .bf16) (w : FVec Ideal S1x2048x2048 .bf16) (x : FVec Ideal S512x2048 .f32) (g : FVec Ideal S1x2048 .f32) (i : Fin 512) (j : Fin 2048) :
    k0_pay2 (F := Ideal) a w x g (ix2 i j)
      = k0_pay1 (F := Ideal) a w x (ix2 i j) * scale (fun k => k0_pay1 (F := Ideal) a w x (ix2 i k)) * g (ix2 0 j) := by
  unfold scale
  pointwise [k0_pay2]

/-! ## The blocks of a visit -/

theorem V_mixed : V m c main_v0 = truncf .bf16 (mixed m c) bitsLt_bf16_f32 := by
  unfold V
  after_reads_simp
theorem V_weight : V m c main_v2 = broadcastInDim S1x2048x2048 ![1, 2] bcast_S2048x2048_S1x2048x2048_1_2 (truncf .bf16 (weight m c) bitsLt_bf16_f32 : FVec Ideal S2048x2048 .bf16) := by
  unfold V
  after_reads_simp

theorem tile_mixed : ∀ t : Fin grid0.N, win0_0.index t = ![t.val, 0] := by decide +kernel
theorem tile_weight : ∀ t : Fin grid0.N, win0_1.index t = ![0, 0, 0] := by decide +kernel
theorem tile_input : ∀ t : Fin grid0.N, win0_2.index t = ![t.val, 0] := by decide +kernel
theorem tile_gain : ∀ t : Fin grid0.N, win0_3.index t = ![0, 0] := by decide +kernel
theorem tile_resid : ∀ t : Fin grid0.N, win0_4.index t = ![t.val, 0] := by decide +kernel
theorem tile_normed : ∀ t : Fin grid0.N, win0_5.index t = ![t.val, 0] := by decide +kernel

theorem N_lt (t : Fin grid0.N) : t.val < 8 := t.isLt

/-- Rows of a visit's tile. -/
def row (t : Fin grid0.N) (i : Fin 512) : Fin 4096 := ⟨t.val * 512 + i.val, by have := N_lt t; omega⟩

theorem block_mixed (t : Fin grid0.N) (i : Fin 512) (k : Fin 2048) : iblk m c 0 t (ix2 i k) = mixed m c (ix2 (row t i) k) := by
  refine Eq.trans (?_ : _ = V m c main_v0 (ix2 (row t i) k)) ?_
  · show V m c main_v0 (((cfg0.win 0).blk t).view.emb (ix2 i k)) = _
    refine congrArg (V m c main_v0) (funext fun a => Fin.ext ?_)
    have e := tile_mixed t
    blk_simp
    rw [e]
    change Fin 2 at a
    match a with
    | 0 => rfl
    | 1 => show 0 * 2048 + k.val = k.val; omega
  · rw [V_mixed]
    pointwise []

theorem block_weight (t : Fin grid0.N) (k j : Fin 2048) : iblk m c 1 t (ix3 0 k j) = weight m c (ix2 k j) := by
  refine Eq.trans (?_ : _ = V m c main_v2 (ix3 0 k j)) ?_
  · show V m c main_v2 (((cfg0.win 1).blk t).view.emb (ix3 0 k j)) = _
    refine congrArg (V m c main_v2) (funext fun a => Fin.ext ?_)
    have e := tile_weight t
    blk_simp
    rw [e]
    change Fin 3 at a
    match a with
    | 0 => rfl
    | 1 => show 0 * 2048 + k.val = k.val; omega
    | 2 => show 0 * 2048 + j.val = j.val; omega
  · rw [V_weight]
    pointwise []

theorem block_input (t : Fin grid0.N) (i : Fin 512) (k : Fin 2048) : iblk m c 2 t (ix2 i k) = input m c (ix2 (row t i) k) := by
  refine Eq.trans (?_ : _ = V m c main_arg2 (ix2 (row t i) k)) ?_
  · show V m c main_arg2 (((cfg0.win 2).blk t).view.emb (ix2 i k)) = _
    refine congrArg (V m c main_arg2) (funext fun a => Fin.ext ?_)
    have e := tile_input t
    blk_simp
    rw [e]
    change Fin 2 at a
    match a with
    | 0 => rfl
    | 1 => show 0 * 2048 + k.val = k.val; omega
  · rw [V_main_arg2]

theorem block_gain (t : Fin grid0.N) (k : Fin 2048) : iblk m c 3 t (ix2 0 k) = gain m c (ix2 0 k) := by
  refine Eq.trans (?_ : _ = V m c main_arg3 (ix2 0 k)) ?_
  · show V m c main_arg3 (((cfg0.win 3).blk t).view.emb (ix2 0 k)) = _
    refine congrArg (V m c main_arg3) (funext fun a => Fin.ext ?_)
    have e := tile_gain t
    blk_simp
    rw [e]
    change Fin 2 at a
    match a with
    | 0 => rfl
    | 1 => show 0 * 2048 + k.val = k.val; omega
  · rw [V_main_arg3]

theorem resid_block (t : Fin grid0.N) (i : Fin 512) (j : Fin 2048) :
    k0_pay1 (F := Ideal) (iblk m c 0 t) (iblk m c 1 t) (iblk m c 2 t) (ix2 i j) = resid (mixed m c) (weight m c) (input m c) (row t i) j :=
  (resid_at _ _ _ i j).trans (congrArg₂ (fun a b : EReal => a + b)
    (Finset.sum_congr rfl fun k _ => congrArg₂ (fun a b : EReal => a * b) (block_mixed m c t i k) (block_weight m c t k j)) (block_input m c t i j))
theorem normed_block (t : Fin grid0.N) (i : Fin 512) (j : Fin 2048) :
    k0_pay2 (F := Ideal) (iblk m c 0 t) (iblk m c 1 t) (iblk m c 2 t) (iblk m c 3 t) (ix2 i j)
      = normed (mixed m c) (weight m c) (input m c) (gain m c) (row t i) j :=
  (normed_at _ _ _ _ i j).trans (congrArg₂ (fun a b : EReal => a * b)
    (congrArg₂ (fun a b : EReal => a * b) (resid_block m c t i j) (congrArg scale (funext fun k => resid_block m c t i k))) (block_gain m c t j))

/-! ## The arrays -/

theorem array_resid : (dats m 0 c).arrAt 4 cfg0.N = (fun y : S4096x2048.Idx => resid (mixed m c) (weight m c) (input m c) (y 0) (y 1) : S4096x2048.Idx → EReal) := by
  refine (dats m 0 c).arrAt_eq_of_covers 4 _ (by decide +kernel) fun t hf y => ?_
  blk_simp
  rw [after0_4]
  obtain ⟨i, j, rfl⟩ : ∃ (i : Fin 512) (j : Fin 2048), y = ix2 i j := ⟨y 0, y 1, (ix2_eta y).symm⟩
  have hy : ((cfg0.win 4).blk t).view.emb (ix2 i j) = ix2 (row t i) j := by
    refine funext fun a => Fin.ext ?_
    have e := tile_resid t
    blk_simp
    rw [e]
    change Fin 2 at a
    match a with
    | 0 => rfl
    | 1 => show 0 * 2048 + j.val = j.val; omega
  rw [hy]
  frame_out
  exact resid_block m c t i j

theorem array_normed : (dats m 0 c).arrAt 5 cfg0.N = (fun y : S4096x2048.Idx => normed (mixed m c) (weight m c) (input m c) (gain m c) (y 0) (y 1) : S4096x2048.Idx → EReal) := by
  refine (dats m 0 c).arrAt_eq_of_covers 5 _ (by decide +kernel) fun t hf y => ?_
  blk_simp
  rw [after0_5]
  obtain ⟨i, j, rfl⟩ : ∃ (i : Fin 512) (j : Fin 2048), y = ix2 i j := ⟨y 0, y 1, (ix2_eta y).symm⟩
  have hy : ((cfg0.win 5).blk t).view.emb (ix2 i j) = ix2 (row t i) j := by
    refine funext fun a => Fin.ext ?_
    have e := tile_normed t
    blk_simp
    rw [e]
    change Fin 2 at a
    match a with
    | 0 => rfl
    | 1 => show 0 * 2048 + j.val = j.val; omega
  rw [hy]
  frame_out
  exact normed_block m c t i j

/-! ## The reference -/

section Reference

open Cert.Reference26Ideal

/-- The reference's stages. -/
def refResid (a : FVec Ideal S4096x2048 .f32) (w : FVec Ideal S2048x2048 .f32) (x : FVec Ideal S4096x2048 .f32) : FVec Ideal S4096x2048 .f32 :=
  addf x (Host.dotGeneral (F := Ideal) dot_S4096x2048_S2048x2048_S4096x2048_1_0_0_1_n_n none a w)
def refScale (h : FVec Ideal S4096x2048 .f32) : FVec Ideal S4096x1 .f32 :=
  Host.rsqrt (addf (Host.divf (broadcastInDim S4096x1 ![0] Facts₀.bcast_S4096_S4096x1_0
      (Host.reduceAdd (mulf h h) (constant (F := Ideal) S_ .f32 0x00000000#32) Facts₀.reducesTo_S4096x2048_S4096_d1 Facts₀.h_S_ : FVec Ideal S4096 .f32))
      (broadcastInDim S4096x1 ![] Facts₀.bcast_S_S4096x1 (constant (F := Ideal) S_ .f32 0x45000000#32)))
    (broadcastInDim S4096x1 ![] Facts₀.bcast_S_S4096x1 (constant (F := Ideal) S_ .f32 0x358637BD#32)))
def refNormed (h : FVec Ideal S4096x2048 .f32) (g : FVec Ideal S1x2048 .f32) : FVec Ideal S4096x2048 .f32 :=
  mulf (mulf h (broadcastInDim S4096x2048 ![0, 1] Facts₀.bcast_S4096x1_S4096x2048_0_1 (refScale h)))
    (broadcastInDim S4096x2048 ![0, 1] Facts₀.bcast_S1x2048_S4096x2048_0_1 g)
theorem refResid_at (a : FVec Ideal S4096x2048 .f32) (w : FVec Ideal S2048x2048 .f32) (x : FVec Ideal S4096x2048 .f32) (i : Fin 4096) (j : Fin 2048) :
    refResid a w x (ix2 i j) = resid a w x i j := by
  unfold resid
  rw [add_comm]
  pointwise [refResid]
theorem refScale_at (h : FVec Ideal S4096x2048 .f32) (i : Fin 4096) : refScale h (ix2 i 0) = scale fun k => h (ix2 i k) := by
  unfold scale
  pointwise [refScale]
theorem refNormed_at (h : FVec Ideal S4096x2048 .f32) (g : FVec Ideal S1x2048 .f32) (i : Fin 4096) (j : Fin 2048) :
    refNormed h g (ix2 i j) = h (ix2 i j) * scale (fun k => h (ix2 i k)) * g (ix2 0 j) := by
  rw [← refScale_at]
  pointwise [refNormed]

end Reference

theorem resid_same : (fun y : S4096x2048.Idx => resid (mixed m c) (weight m c) (input m c) (y 0) (y 1) : S4096x2048.Idx → EReal)
    = refResid (mixed m c) (weight m c) (input m c) := by
  funext y
  obtain ⟨i, j, rfl⟩ : ∃ (i : Fin 4096) (j : Fin 2048), y = ix2 i j := ⟨y 0, y 1, (ix2_eta y).symm⟩
  exact (refResid_at _ _ _ i j).symm
theorem normed_same : (fun y : S4096x2048.Idx => normed (mixed m c) (weight m c) (input m c) (gain m c) (y 0) (y 1) : S4096x2048.Idx → EReal)
    = (truncf .bf16 (refNormed (refResid (mixed m c) (weight m c) (input m c)) (gain m c)) bitsLt_bf16_f32 : FVec Ideal S4096x2048 .bf16) := by
  funext y
  obtain ⟨i, j, rfl⟩ : ∃ (i : Fin 4096) (j : Fin 2048), y = ix2 i j := ⟨y 0, y 1, (ix2_eta y).symm⟩
  refine Eq.trans (?_ : _ = refNormed (refResid (mixed m c) (weight m c) (input m c)) (gain m c) (ix2 i j)) rfl
  rw [refNormed_at]
  simp only [refResid_at]
  rfl

end Cert.Kernel26Ideal.Value

namespace Cert.Proof

open Idealize.ShloMosaic Idealize.ShloMosaic.TcCoe Idealize.SL.Sem
open Cert.Kernel26Ideal Cert.Kernel26Ideal.Gen Cert.Kernel26Ideal.Value

theorem frame_residual_norm : Cert.quiescent_Kernel26 := fun m ρ _ => Cert.Kernel26.Gen.frame m ρ
theorem frame_residual_norm_ideal : Cert.quiescent_Kernel26Ideal := fun m ρ _ => Cert.Kernel26Ideal.Gen.frame m ρ
theorem frame_residual_norm_reference : Cert.quiescent_Reference26Ideal := fun m ρ _ =>
  (θ_run Cert.Reference26Ideal.defs _ _).mono
    (fun r h => ⟨fun c => (h c).2.2, Idealize.ShloMosaic.sem_eq_zero_of_no_sems (by decide) r.2⟩)
    (Cert.Reference26Ideal.Value.run (F := Ideal) m ρ)

theorem same_residual_norm : @Cert.algebraic_Kernel26Ideal_Reference26Ideal Cert.Kernel26Ideal.Gen.facts Cert.Reference26Ideal.Gen.facts := by
  intro m g m' g' hpre hargs
  refine ⟨_, _, ?_, Cert.Reference26Ideal.Value.run m' g'⟩
  refine (θ_run Cert.Kernel26Ideal.defs _ _).mono (fun r h c => ?_) (run_main m g)
  obtain ⟨e0, e1, e2, e3⟩ := hargs c
  refine ⟨((h c).1 4).trans ((array_resid m c).trans ((resid_same m c).trans ?_)),
    ((h c).1 5).trans ((array_normed m c).trans ((normed_same m c).trans ?_)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩
  · rw [e0, e1, e2]
    rfl
  · rw [e0, e1, e2, e3]
    rfl

end Cert.Proof

end
-- ==== Proof.KeyValueInput.lean ====
/-
  The gradient of the keys' and values' latent. A tile's product with the weight is added up over two visits; the second one
  takes it back through the root-mean-square norm and adds the tile's part of the gain's gradient to the first row of one
  block that every visit carries on.
-/
module

public import proofs.«01_k».proof.Proof.RowSlope
public import proofs.«01_k».proof.Defs
public import proofs.«01_k».proof.Proof.Gen.Kernel28.Frame
public import proofs.«01_k».proof.Proof.Gen.Kernel28Ideal.Frame
public import proofs.«01_k».proof.Proof.Gen.Reference28Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel28Ideal.Value

open Idealize.ShloMosaic Idealize.ShloMosaic.TcCoe Idealize.SL.Sem
open Cert.Kernel28Ideal.Gen

variable (m : (ℓ : Loc nD τ sig) → Buf (Elt Ideal) ℓ) (c : Dev nD)

/-- The arguments. -/
abbrev grad : FVec Ideal S4096x4096 .f32 := m ((c.tc : Thread nD τ).loc main_arg0)
abbrev weight : FVec Ideal S512x4096 .f32 := m ((c.tc : Thread nD τ).loc main_arg1)
abbrev latent : FVec Ideal S4096x512 .f32 := m ((c.tc : Thread nD τ).loc main_arg2)
abbrev gain : FVec Ideal S1x512 .f32 := m ((c.tc : Thread nD τ).loc main_arg3)

/-- The float word for the latent's length. -/
def features : EReal := FloatOps.ofBits (F := Ideal) .f32 0x44000000#32
theorem features_eq : features = ((512 : ℝ) : EReal) := by
  unfold features
  simp [Ideal.ofBits, Ideal.ieee]
  rw [← EReal.coe_mul]
  norm_num

/-- The rows of the arguments: the gradient of the normed latent, the latent, and the gradient times the gain. -/
def share (i : Fin 4096) (k : Fin 512) (n : Fin 4096) : EReal := grad m c (ix2 i n) * weight m c (ix2 k n)
def inner (i : Fin 4096) (k : Fin 512) : EReal := ∑ n, share m c i k n
abbrev latentRow (i : Fin 4096) : Fin 512 → EReal := fun k => latent m c (ix2 i k)
abbrev innerRow (i : Fin 4096) : Fin 512 → EReal := fun k => inner m c i k * gain m c (ix2 0 k)

/-! ## The values a visit computes -/

/-- The product of a visit's blocks. -/
def part (a : FVec Ideal S1024x2048 .bf16) (w : FVec Ideal S1x512x2048 .bf16) (i : Fin 1024) (k : Fin 512) : EReal :=
  ∑ d : Fin 2048, a (ix2 i d) * w (ix3 0 k d)

theorem first_at (a : FVec Ideal S1024x2048 .bf16) (w : FVec Ideal S1x512x2048 .bf16) (i : Fin 1024) (k : Fin 512) :
    k0_pay2 (F := Ideal) a w (ix2 i k) = part a w i k := by
  unfold part
  pointwise [k0_pay2]
theorem last_at (s : FVec Ideal S1024x512 .f32) (a : FVec Ideal S1024x2048 .bf16) (w : FVec Ideal S1x512x2048 .bf16) (i : Fin 1024) (k : Fin 512) :
    k0_pay5 (F := Ideal) s a w (ix2 i k) = s (ix2 i k) + part a w i k := by
  unfold part
  pointwise [k0_pay5]
theorem scale_at (x : FVec Ideal S1024x512 .f32) (i : Fin 1024) : k0_pay7 (F := Ideal) x (ix2 i 0) = RowSlope.scale features fun k => x (ix2 i k) := by
  unfold RowSlope.scale RowSlope.level features RowSlope.tiny
  pointwise [k0_pay7, k0_pay6]
theorem normal_at (x : FVec Ideal S1024x512 .f32) (i : Fin 1024) (j : Fin 512) :
    k0_pay8 (F := Ideal) x (ix2 i j) = x (ix2 i j) * RowSlope.scale features fun k => x (ix2 i k) := by
  rw [← scale_at]
  pointwise [k0_pay8, k0_pay6]
theorem slope_at (s : FVec Ideal S1024x512 .f32) (a : FVec Ideal S1024x2048 .bf16) (w : FVec Ideal S1x512x2048 .bf16) (x : FVec Ideal S1024x512 .f32)
    (g : FVec Ideal S1x512 .f32) (i : Fin 1024) (j : Fin 512) :
    k0_pay9 (F := Ideal) s a w x g (ix2 i j)
      = RowSlope.slope features (fun k => x (ix2 i k)) (fun k => k0_pay5 (F := Ideal) s a w (ix2 i k) * g (ix2 0 k)) j := by
  refine Eq.trans (?_ : _ = k0_pay7 (F := Ideal) x (ix2 i 0) * (k0_pay5 (F := Ideal) s a w (ix2 i j) * g (ix2 0 j)
    - k0_pay8 (F := Ideal) x (ix2 i j) * Ideal.div (∑ k, k0_pay5 (F := Ideal) s a w (ix2 i k) * g (ix2 0 k) * k0_pay8 (F := Ideal) x (ix2 i k)) features)) ?_
  · unfold features
    pointwise [k0_pay9]
  · simp only [normal_at, scale_at]
    rfl
theorem none_at (r : Fin 8) (j : Fin 512) : k0_pay1 (F := Ideal) (ix2 r j) = 0 := by
  pointwise [k0_pay1]
theorem sum_at (b : FVec Ideal S8x512 .f32) (s : FVec Ideal S1024x512 .f32) (a : FVec Ideal S1024x2048 .bf16) (w : FVec Ideal S1x512x2048 .bf16)
    (x : FVec Ideal S1024x512 .f32) (r : Fin 8) (j : Fin 512) :
    k0_pay4 (F := Ideal) (k0_pay10 b) (k0_pay11 s a w x) (ix2 r j)
      = b (ix2 r j) + RowSlope.onFirst (∑ i, k0_pay5 (F := Ideal) s a w (ix2 i j) * k0_pay8 (F := Ideal) x (ix2 i j)) r := by
  rw [← RowSlope.select_first]
  pointwise [k0_pay4, k0_pay10, k0_pay11]

/-! ## The blocks of a visit -/

theorem V_grad : V m c main_v2 = truncf .bf16 (grad m c) bitsLt_bf16_f32 := by
  unfold V
  after_reads_simp
theorem V_weight : V m c main_v4 = broadcastInDim S1x512x4096 ![1, 2] bcast_S512x4096_S1x512x4096_1_2 (truncf .bf16 (weight m c) bitsLt_bf16_f32 : FVec Ideal S512x4096 .bf16) := by
  unfold V
  after_reads_simp
/-- The rows the norm reads lie behind the other parts of the projection. -/
theorem V_latent : V m c main_v1 = concatenate S4096x4608 1 [⟨S4096x4096, (broadcastInDim S4096x4096 ![] bcast_S_S4096x4096 (constant (F := Ideal) S_ .f32 0x00000000#32) : FVec Ideal S4096x4096 .f32)⟩,
    ⟨S4096x512, latent m c⟩] concatenates_S4096x4096_S4096x512_S4096x4608_d1 := by
  unfold V
  after_reads_simp
  rfl

theorem tile_grad : ∀ t : Fin grid0.N, win0_0.index t = ![t.val / 2, t.val % 2] := by decide +kernel
theorem tile_weight : ∀ t : Fin grid0.N, win0_1.index t = ![0, 0, t.val % 2] := by decide +kernel
theorem tile_latent : ∀ t : Fin grid0.N, win0_2.index t = ![t.val / 2, 8] := by decide +kernel
theorem tile_gain : ∀ t : Fin grid0.N, win0_3.index t = ![0, 0] := by decide +kernel
theorem tile_slope : ∀ t : Fin grid0.N, win0_4.index t = ![t.val / 2, 0] := by decide +kernel
theorem tile_sum : ∀ t : Fin grid0.N, win0_5.index t = ![0, 0] := by decide +kernel

theorem N_lt (t : Fin grid0.N) : t.val < 8 := t.isLt

/-- Rows of a visit's tile, the columns of the product a visit adds over, and the latent's columns. -/
def row (t : Fin grid0.N) (i : Fin 1024) : Fin 4096 := ⟨t.val / 2 * 1024 + i.val, by have := N_lt t; omega⟩
def turn (t : Fin grid0.N) : Fin 2 := ⟨t.val % 2, by omega⟩
def over (s : Fin 2) (d : Fin 2048) : Fin 4096 := ⟨s.val * 2048 + d.val, by omega⟩
def place (k : Fin 512) : Fin 4608 := ⟨4096 + k.val, by omega⟩

theorem block_grad (t : Fin grid0.N) (i : Fin 1024) (d : Fin 2048) : iblk m c 0 t (ix2 i d) = grad m c (ix2 (row t i) (over (turn t) d)) := by
  refine Eq.trans (?_ : _ = V m c main_v2 (ix2 (row t i) (over (turn t) d))) ?_
  · show V m c main_v2 (((cfg0.win 0).blk t).view.emb (ix2 i d)) = _
    refine congrArg (V m c main_v2) (funext fun a => Fin.ext ?_)
    have e := tile_grad t
    blk_simp
    rw [e]
    change Fin 2 at a
    match a with
    | 0 => rfl
    | 1 => rfl
  · rw [V_grad]
    pointwise []

theorem block_weight (t : Fin grid0.N) (k : Fin 512) (d : Fin 2048) : iblk m c 1 t (ix3 0 k d) = weight m c (ix2 k (over (turn t) d)) := by
  refine Eq.trans (?_ : _ = V m c main_v4 (ix3 0 k (over (turn t) d))) ?_
  · show V m c main_v4 (((cfg0.win 1).blk t).view.emb (ix3 0 k d)) = _
    refine congrArg (V m c main_v4) (funext fun a => Fin.ext ?_)
    have e := tile_weight t
    blk_simp
    rw [e]
    change Fin 3 at a
    match a with
    | 0 => rfl
    | 1 => show 0 * 512 + k.val = k.val; omega
    | 2 => rfl
  · rw [V_weight]
    pointwise []

theorem block_latent (t : Fin grid0.N) (i : Fin 1024) (k : Fin 512) : iblk m c 2 t (ix2 i k) = latent m c (ix2 (row t i) k) := by
  refine Eq.trans (?_ : _ = V m c main_v1 (ix2 (row t i) (place k))) ?_
  · show V m c main_v1 (((cfg0.win 2).blk t).view.emb (ix2 i k)) = _
    refine congrArg (V m c main_v1) (funext fun a => Fin.ext ?_)
    have e := tile_latent t
    blk_simp
    rw [e]
    change Fin 2 at a
    match a with
    | 0 => rfl
    | 1 => show 8 * 512 + k.val = 4096 + k.val; omega
  · rw [V_latent]
    pointwise []
    unfold place
    simp

theorem block_gain (t : Fin grid0.N) (k : Fin 512) : iblk m c 3 t (ix2 0 k) = gain m c (ix2 0 k) := by
  refine Eq.trans (?_ : _ = V m c main_arg3 (ix2 0 k)) ?_
  · show V m c main_arg3 (((cfg0.win 3).blk t).view.emb (ix2 0 k)) = _
    refine congrArg (V m c main_arg3) (funext fun a => Fin.ext ?_)
    have e := tile_gain t
    blk_simp
    rw [e]
    change Fin 2 at a
    match a with
    | 0 => rfl
    | 1 => show 0 * 512 + k.val = k.val; omega
  · rw [V_main_arg3]

/-! ## The product of a tile -/

theorem part_eq (t : Fin grid0.N) (i : Fin 1024) (k : Fin 512) :
    part (iblk m c 0 t) (iblk m c 1 t) i k = ∑ d, share m c (row t i) k (over (turn t) d) := by
  unfold part share
  exact Finset.sum_congr rfl fun d _ => congrArg₂ (fun a b : EReal => a * b) (block_grad m c t i d) (block_weight m c t k d)

/-- The scratch, and the visit before. -/
abbrev scratch (n : ℕ) (h : n < cfg0.N) : FVec Ideal S1024x512 .f32 := (outsAt0 m c n h).2.2
def prev (t : Fin cfg0.N) : Fin cfg0.N := ⟨t.val - 1, Nat.lt_of_le_of_lt (Nat.sub_le _ _) t.isLt⟩

theorem scratch_first (t : Fin cfg0.N) (h : t.val % 2 = 0) (i : Fin 1024) (k : Fin 512) :
    scratch m c t.val t.isLt (ix2 i k) = part (iblk m c 0 t) (iblk m c 1 t) i k := by
  unfold scratch
  by_cases h0 : t.val % 8 = 0
  · rw [outsAt0_A m c t h0 h (by omega)]
    frame_out
    exact first_at _ _ _ _
  · rw [outsAt0_C m c t h0 h (by omega)]
    frame_out
    exact first_at _ _ _ _

theorem product (t : Fin cfg0.N) (h : t.val % 2 = 1) (i : Fin 1024) (k : Fin 512) :
    k0_pay5 (F := Ideal) (scratch m c (t.val - 1) (Nat.lt_of_le_of_lt (Nat.sub_le _ _) t.isLt)) (iblk m c 0 t) (iblk m c 1 t) (ix2 i k)
      = inner m c (row t i) k := by
  refine (last_at _ _ _ i k).trans ?_
  refine (congrArg₂ (fun a b : EReal => a + b) ((scratch_first m c (prev t) (by show (t.val - 1) % 2 = 0; omega) i k).trans (part_eq m c (prev t) i k))
    (part_eq m c t i k)).trans ?_
  have hr : row (prev t) i = row t i := Fin.ext (by show (t.val - 1) / 2 * 1024 + i.val = t.val / 2 * 1024 + i.val; omega)
  have h0 : turn (prev t) = 0 := Fin.ext (by show (t.val - 1) % 2 = 0; omega)
  have h1 : turn t = 1 := Fin.ext h
  rw [hr, h0, h1]
  refine Eq.trans ?_ (Fin.sum_mul_add_fin 2 2048 (share m c (row t i) k))
  rw [Fin.sum_univ_two]
  rfl

theorem latent_row (t : Fin grid0.N) (i : Fin 1024) : (fun k => iblk m c 2 t (ix2 i k) : Fin 512 → EReal) = latentRow m c (row t i) :=
  funext fun k => block_latent m c t i k

/-! ## The gradient of the latent -/

theorem written (t : Fin cfg0.N) (h : t.val % 2 = 1) (i : Fin 1024) (j : Fin 512) : (outsAt0 m c t.val t.isLt).1 (ix2 i j)
    = RowSlope.slope features (latentRow m c (row t i)) (innerRow m c (row t i)) j := by
  rw [outsAt0_B m c t (by omega) (by omega) h]
  frame_out
  simp only [read_unread_whole]
  exact (slope_at _ _ _ _ _ i j).trans (congrArg₂ (fun x t => RowSlope.slope features x t j) (latent_row m c t i)
    (funext fun k => congrArg₂ (fun a b : EReal => a * b) (product m c t h i k) (block_gain m c t k)))

theorem array_slope : (dats m 0 c).arrAt 4 cfg0.N
    = (fun y : S4096x512.Idx => RowSlope.slope features (latentRow m c (y 0)) (innerRow m c (y 0)) (y 1) : S4096x512.Idx → EReal) := by
  refine (dats m 0 c).arrAt_eq_of_covers 4 _ (by decide +kernel) fun t hf y => ?_
  blk_simp
  rw [after0_4]
  have h := (flush0_4 t).mp hf
  obtain ⟨i, j, rfl⟩ : ∃ (i : Fin 1024) (j : Fin 512), y = ix2 i j := ⟨y 0, y 1, (ix2_eta y).symm⟩
  have hy : ((cfg0.win 4).blk t).view.emb (ix2 i j) = ix2 (row t i) j := by
    refine funext fun a => Fin.ext ?_
    have e := tile_slope t
    blk_simp
    rw [e]
    change Fin 2 at a
    match a with
    | 0 => rfl
    | 1 => show 0 * 512 + j.val = j.val; omega
  rw [hy]
  exact written m c t h i j

/-! ## The gradient of the gain -/

abbrev sums (n : ℕ) (h : n < cfg0.N) : FVec Ideal S8x512 .f32 := (outsAt0 m c n h).2.1

/-- A row's part, a tile's, and a visit's: that of its tile at the tile's last visit. -/
def rowPart (i : Fin 4096) (j : Fin 512) : EReal := inner m c i j * (latentRow m c i j * RowSlope.scale features (latentRow m c i))
def tilePart (t : Fin grid0.N) (j : Fin 512) : EReal := ∑ i, rowPart m c (row t i) j
def gainTerm (t : Fin grid0.N) (y : S8x512.Idx) : EReal := if t.val % 2 = 1 then RowSlope.onFirst (tilePart m c t (y 1)) (y 0) else 0

theorem tile_part (t : Fin cfg0.N) (h : t.val % 2 = 1) (j : Fin 512) :
    (∑ i, k0_pay5 (F := Ideal) (scratch m c (t.val - 1) (Nat.lt_of_le_of_lt (Nat.sub_le _ _) t.isLt)) (iblk m c 0 t) (iblk m c 1 t) (ix2 i j)
      * k0_pay8 (F := Ideal) (iblk m c 2 t) (ix2 i j) : EReal) = tilePart m c t j :=
  Finset.sum_congr rfl fun i _ => congrArg₂ (fun a b : EReal => a * b) (product m c t h i j) ((normal_at _ i j).trans
    (congrArg₂ (fun a b : EReal => a * b) (block_latent m c t i j) (congrArg (RowSlope.scale features) (latent_row m c t i))))

theorem sums_first (t : Fin cfg0.N) (h : t.val % 8 = 0) (y : S8x512.Idx) : sums m c t.val t.isLt y = 0 + gainTerm m c t y := by
  obtain ⟨r, j, rfl⟩ : ∃ (r : Fin 8) (j : Fin 512), y = ix2 r j := ⟨y 0, y 1, (ix2_eta y).symm⟩
  unfold sums gainTerm
  rw [if_neg (by omega), add_zero, outsAt0_A m c t h (by omega) (by omega)]
  frame_out
  exact none_at r j

theorem sums_next (t : Fin cfg0.N) (h : ¬t.val % 8 = 0) (y : S8x512.Idx) :
    sums m c t.val t.isLt y = sums m c (t.val - 1) (Nat.lt_of_le_of_lt (Nat.sub_le _ _) t.isLt) y + gainTerm m c t y := by
  obtain ⟨r, j, rfl⟩ : ∃ (r : Fin 8) (j : Fin 512), y = ix2 r j := ⟨y 0, y 1, (ix2_eta y).symm⟩
  unfold sums gainTerm
  by_cases h1 : t.val % 2 = 1
  · rw [if_pos h1, outsAt0_B m c t h (by omega) h1]
    frame_out
    simp only [read_unread_whole]
    exact (sum_at _ _ _ _ _ r j).trans (congrArg (_ + RowSlope.onFirst · r) (tile_part m c t h1 j))
  · rw [if_neg h1, add_zero, outsAt0_C m c t h (by omega) h1]
    frame_out
    simp only [out0_C_5, read_unread_whole]

theorem sums_last (t : Fin cfg0.N) (h : t.val % 8 = 7) (r : Fin 8) (j : Fin 512) :
    sums m c t.val t.isLt (ix2 r j) = RowSlope.onFirst (∑ i, rowPart m c i j) r := by
  have e := Pipeline.eq_sum_fin_of_reset_step_apply_of_flush (sums m c) 8 (fun _ => (0 : EReal)) (gainTerm m c)
    (sums_first m c) (sums_next m c) t h (ix2 r j)
  refine e.trans ?_
  rw [zero_add]
  have hv : ∀ s : Fin 8, gainTerm m c ⟨8 * (t.val / 8) + s.val, Pipeline.run_point_lt_of_flush t h s⟩ (ix2 r j) = gainTerm m c ⟨s.val, s.isLt⟩ (ix2 r j) := fun s => by
    have := N_lt t
    exact congrArg (gainTerm m c · (ix2 r j)) (Fin.ext (by show 8 * (t.val / 8) + s.val = s.val; omega))
  rw [Finset.sum_congr rfl fun s _ => hv s]
  refine (Fin.sum_mul_add_fin 4 2 fun s : Fin 8 => gainTerm m c ⟨s.val, s.isLt⟩ (ix2 r j)).symm.trans ?_
  refine (Finset.sum_congr rfl fun q _ => ?_ : _ = ∑ q : Fin 4, RowSlope.onFirst (tilePart m c ⟨q.val * 2 + 1, by show _ < 8; omega⟩ j) r).trans ?_
  · rw [Fin.sum_univ_two]
    unfold gainTerm
    rw [if_neg (by show ¬(q.val * 2 + 0) % 2 = 1; omega), if_pos (by show (q.val * 2 + 1) % 2 = 1; omega), zero_add]
    rfl
  refine (RowSlope.sum_onFirst (fun q : Fin 4 => tilePart m c ⟨q.val * 2 + 1, by show _ < 8; omega⟩ j) r).trans (congrArg (RowSlope.onFirst · r) ?_)
  refine Eq.trans (Finset.sum_congr rfl fun q _ => Finset.sum_congr rfl fun i _ => congrArg (rowPart m c · j) (Fin.ext ?_))
    (Fin.sum_mul_add_fin 4 1024 fun i : Fin 4096 => rowPart m c i j)
  show (q.val * 2 + 1) / 2 * 1024 + i.val = q.val * 1024 + i.val
  omega

theorem array_sum : (dats m 0 c).arrAt 5 cfg0.N = (fun y : S8x512.Idx => RowSlope.onFirst (∑ i, rowPart m c i (y 1)) (y 0) : S8x512.Idx → EReal) := by
  refine (dats m 0 c).arrAt_eq_of_covers 5 _ (by decide +kernel) fun t hf y => ?_
  blk_simp
  rw [after0_5]
  obtain ⟨r, j, rfl⟩ : ∃ (r : Fin 8) (j : Fin 512), y = ix2 r j := ⟨y 0, y 1, (ix2_eta y).symm⟩
  have hy : ((cfg0.win 5).blk t).view.emb (ix2 r j) = ix2 r j := by
    refine funext fun a => Fin.ext ?_
    have e := tile_sum t
    blk_simp
    rw [e]
    change Fin 2 at a
    match a with
    | 0 => show 0 * 8 + r.val = r.val; omega
    | 1 => show 0 * 512 + j.val = j.val; omega
  rw [hy]
  exact sums_last m c t ((flush0_5 t).mp hf) r j

theorem result_gain : Pipeline.afterTail₀ cfgs (dats m) 0 (V0 m) [hostOps1] c main_v6
    = (fun y : S1x512.Idx => ∑ i, rowPart m c i (y 1) : S1x512.Idx → EReal) := by
  unfold Pipeline.afterTail₀
  after_reads_simp
  rw [show Pipeline.withArrays spec0 c (V0 m c) (fun w => (dats m 0 c).arrAt w cfg0.N) (Proc.devRef .tc main_v5_1) = _ from
    Pipeline.withArrays_arr spec0 (by decide) c (V0 m c) _ 5]
  rw [array_sum]
  funext y
  obtain ⟨z, j, rfl⟩ : ∃ (z : Fin 1) (j : Fin 512), y = ix2 z j := ⟨y 0, y 1, (ix2_eta y).symm⟩
  obtain rfl : z = 0 := Subsingleton.elim _ _
  pointwise []
  rfl

/-! ## The reference -/

section Reference

open Cert.Reference28Ideal

/-- The reference's stages. -/
def refLevel (x : FVec Ideal S4096x512 .f32) : FVec Ideal S4096x1 .f32 :=
  addf (Host.divf (broadcastInDim S4096x1 ![0] Facts₀.bcast_S4096_S4096x1_0
      (Host.reduceAdd (mulf x x) (constant (F := Ideal) S_ .f32 0x00000000#32) Facts₀.reducesTo_S4096x512_S4096_d1 Facts₀.h_S_))
    (broadcastInDim S4096x1 ![] Facts₀.bcast_S_S4096x1 (constant (F := Ideal) S_ .f32 0x44000000#32)))
    (broadcastInDim S4096x1 ![] Facts₀.bcast_S_S4096x1 (constant (F := Ideal) S_ .f32 0x358637BD#32))
def refScale (x : FVec Ideal S4096x512 .f32) : FVec Ideal S4096x1 .f32 := Host.rsqrt (refLevel x)
def refNormal (x : FVec Ideal S4096x512 .f32) : FVec Ideal S4096x512 .f32 :=
  mulf x (broadcastInDim S4096x512 ![0, 1] Facts₀.bcast_S4096x1_S4096x512_0_1 (refScale x))
def refGain (x d : FVec Ideal S4096x512 .f32) : FVec Ideal S1x512 .f32 :=
  fun y => shapeCast S1x512 (Host.reduceAdd (mulf (refNormal x) d) (constant (F := Ideal) S_ .f32 0x00000000#32) Facts₀.reducesTo_S4096x512_S512_d0 Facts₀.h_S_)
    Facts₀.shapeCasts_S512_S1x512 y
def refGrad (d : FVec Ideal S4096x512 .f32) (g : FVec Ideal S1x512 .f32) : FVec Ideal S4096x512 .f32 :=
  mulf d (broadcastInDim S4096x512 ![0, 1] Facts₀.bcast_S1x512_S4096x512_0_1 g)
def refDot (x t : FVec Ideal S4096x512 .f32) : FVec Ideal S4096x1 .f32 :=
  fun y => shapeCast S4096x1 (Host.reduceAdd (mulf x t) (constant (F := Ideal) S_ .f32 0x00000000#32) Facts₀.reducesTo_S4096x512_S4096_d1 Facts₀.h_S_)
    Facts₀.shapeCasts_S4096_S4096x1 y
def refFactor (x : FVec Ideal S4096x512 .f32) : FVec Ideal S4096x1 .f32 :=
  mulf (broadcastInDim S4096x1 ![] Facts₀.bcast_S_S4096x1 (constant (F := Ideal) S_ .f32 0xBF000000#32)) (Host.divf (refScale x) (refLevel x))
def refBack (x t : FVec Ideal S4096x512 .f32) : FVec Ideal S4096x512 .f32 :=
  broadcastInDim S4096x512 ![0] Facts₀.bcast_S4096_S4096x512_0
    (Host.reduceAdd (Host.divf (mulf (refDot x t) (refFactor x)) (broadcastInDim S4096x1 ![] Facts₀.bcast_S_S4096x1 (constant (F := Ideal) S_ .f32 0x44000000#32)) : FVec Ideal S4096x1 .f32)
      (constant (F := Ideal) S_ .f32 0x00000000#32) Facts₀.reducesTo_S4096x1_S4096_d1 Facts₀.h_S_)
def refProduct (d : FVec Ideal S4096x4096 .f32) (w : FVec Ideal S512x4096 .f32) : FVec Ideal S4096x512 .f32 :=
  Host.dotGeneral (F := Ideal) dot_S4096x4096_S512x4096_S4096x512_1_1_0_0_n_n none d w
def refSlope (x t : FVec Ideal S4096x512 .f32) : FVec Ideal S4096x512 .f32 :=
  (addf (addf (mulf t (broadcastInDim S4096x512 ![0, 1] Facts₀.bcast_S4096x1_S4096x512_0_1 (refScale x))) (mulf x (refBack x t))) (mulf (refBack x t) x))

theorem refLevel_at (x : FVec Ideal S4096x512 .f32) (i : Fin 4096) : refLevel x (ix2 i 0) = RowSlope.level features fun k => x (ix2 i k) := by
  unfold RowSlope.level features RowSlope.tiny
  pointwise [refLevel]
theorem refScale_at (x : FVec Ideal S4096x512 .f32) (i : Fin 4096) : refScale x (ix2 i 0) = RowSlope.scale features fun k => x (ix2 i k) := by
  unfold RowSlope.scale
  rw [← refLevel_at]
  pointwise [refScale]
theorem refNormal_at (x : FVec Ideal S4096x512 .f32) (i : Fin 4096) (j : Fin 512) : refNormal x (ix2 i j) = x (ix2 i j) * RowSlope.scale features fun k => x (ix2 i k) := by
  rw [← refScale_at]
  pointwise [refNormal]
theorem refGain_at (x d : FVec Ideal S4096x512 .f32) (j : Fin 512) : refGain x d (ix2 0 j) = ∑ i, refNormal x (ix2 i j) * d (ix2 i j) := by
  pointwise [refGain]
theorem refGrad_at (d : FVec Ideal S4096x512 .f32) (g : FVec Ideal S1x512 .f32) (i : Fin 4096) (j : Fin 512) :
    refGrad d g (ix2 i j) = d (ix2 i j) * g (ix2 0 j) := by
  pointwise [refGrad]
theorem refDot_at (x t : FVec Ideal S4096x512 .f32) (i : Fin 4096) : refDot x t (ix2 i 0) = ∑ k, x (ix2 i k) * t (ix2 i k) := by
  pointwise [refDot]
theorem refFactor_at (x : FVec Ideal S4096x512 .f32) (i : Fin 4096) :
    refFactor x (ix2 i 0) = RowSlope.lessHalf * Ideal.div (RowSlope.scale features fun k => x (ix2 i k)) (RowSlope.level features fun k => x (ix2 i k)) := by
  rw [← refScale_at, ← refLevel_at]
  unfold RowSlope.lessHalf
  pointwise [refFactor]
theorem refBack_at (x t : FVec Ideal S4096x512 .f32) (i : Fin 4096) (j : Fin 512) :
    refBack x t (ix2 i j) = RowSlope.back features (fun k => x (ix2 i k)) (fun k => t (ix2 i k)) := by
  unfold RowSlope.back
  rw [← refDot_at, ← refFactor_at]
  unfold features
  pointwise [refBack]
  exact Fin.sum_univ_one _
theorem refSlope_at (x t : FVec Ideal S4096x512 .f32) (i : Fin 4096) (j : Fin 512) :
    refSlope x t (ix2 i j) = RowSlope.slope features (fun k => x (ix2 i k)) (fun k => t (ix2 i k)) j := by
  rw [RowSlope.slope_eq 512 (by norm_num) features_eq, ← refBack_at x t i j, ← refScale_at]
  pointwise [refSlope]

theorem refProduct_at (d : FVec Ideal S4096x4096 .f32) (w : FVec Ideal S512x4096 .f32) (i : Fin 4096) (k : Fin 512) :
    refProduct d w (ix2 i k) = ∑ n, d (ix2 i n) * w (ix2 k n) := by
  pointwise [refProduct]

end Reference

theorem inner_same (i : Fin 4096) (k : Fin 512) : inner m c i k = refProduct (grad m c) (weight m c) (ix2 i k) :=
  (refProduct_at (grad m c) (weight m c) i k).symm

theorem slope_same : (fun y : S4096x512.Idx => RowSlope.slope features (latentRow m c (y 0)) (innerRow m c (y 0)) (y 1) : S4096x512.Idx → EReal)
    = (truncf .bf16 (refSlope (latent m c) (refGrad (refProduct (grad m c) (weight m c)) (gain m c))) bitsLt_bf16_f32 : FVec Ideal S4096x512 .bf16) := by
  funext y
  obtain ⟨i, j, rfl⟩ : ∃ (i : Fin 4096) (j : Fin 512), y = ix2 i j := ⟨y 0, y 1, (ix2_eta y).symm⟩
  refine Eq.trans ?_ (refSlope_at (latent m c) (refGrad (refProduct (grad m c) (weight m c)) (gain m c)) i j).symm
  refine congrArg (fun t => RowSlope.slope features (latentRow m c i) t j) (funext fun k => ?_)
  rw [refGrad_at, ← inner_same]
  rfl
theorem gain_same : (fun y : S1x512.Idx => ∑ i, rowPart m c i (y 1) : S1x512.Idx → EReal) = refGain (latent m c) (refProduct (grad m c) (weight m c)) := by
  funext y
  obtain ⟨z, j, rfl⟩ : ∃ (z : Fin 1) (j : Fin 512), y = ix2 z j := ⟨y 0, y 1, (ix2_eta y).symm⟩
  obtain rfl : z = 0 := Subsingleton.elim _ _
  refine Eq.trans ?_ (refGain_at (latent m c) (refProduct (grad m c) (weight m c)) j).symm
  refine Finset.sum_congr rfl fun i _ => ?_
  rw [refNormal_at, mul_comm, ← inner_same]
  rfl

end Cert.Kernel28Ideal.Value

namespace Cert.Proof

open Idealize.ShloMosaic Idealize.ShloMosaic.TcCoe Idealize.SL.Sem
open Cert.Kernel28Ideal Cert.Kernel28Ideal.Gen Cert.Kernel28Ideal.Value

theorem frame_key_value_input : Cert.quiescent_Kernel28 := fun m ρ _ => Cert.Kernel28.Gen.frame m ρ
theorem frame_key_value_input_ideal : Cert.quiescent_Kernel28Ideal := fun m ρ _ => Cert.Kernel28Ideal.Gen.frame m ρ
theorem frame_key_value_input_reference : Cert.quiescent_Reference28Ideal := fun m ρ _ =>
  (θ_run Cert.Reference28Ideal.defs _ _).mono
    (fun r h => ⟨fun c => (h c).2.2, Idealize.ShloMosaic.sem_eq_zero_of_no_sems (by decide) r.2⟩)
    (Cert.Reference28Ideal.Value.run (F := Ideal) m ρ)

theorem same_key_value_input : @Cert.algebraic_Kernel28Ideal_Reference28Ideal Cert.Kernel28Ideal.Gen.facts Cert.Reference28Ideal.Gen.facts := by
  intro m g m' g' hpre hargs
  refine ⟨_, _, ?_, Cert.Reference28Ideal.Value.run m' g'⟩
  refine (θ_run Cert.Kernel28Ideal.defs _ _).mono (fun r h c => ?_) (run_main m g)
  obtain ⟨e0, e1, e2, e3⟩ := hargs c
  refine ⟨((h c).1 4).trans ((array_slope m c).trans ((slope_same m c).trans ?_)),
    ((h c).2 main_v6 (Pipeline.mem_restRefs_of main_v6 (by decide) (by decide))).trans ((result_gain m c).trans ((gain_same m c).trans ?_)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c)))⟩
  · unfold Cert.Reference28Ideal.Value.res_main_v36
    rw [e0, e1, e2, e3]
    rfl
  · rw [e0, e1, e2]
    rfl

end Cert.Proof

end
-- ==== Proof.lean ====
/-
  The claims of the certificate, joined.
-/
module

public import proofs.«01_k».proof.Defs
public import proofs.«01_k».proof.Proof.Frames
public import proofs.«01_k».proof.Proof.Value
public import proofs.«01_k».proof.Proof.Gates
public import proofs.«01_k».proof.Proof.UpInput
public import proofs.«01_k».proof.Proof.DownInput
public import proofs.«01_k».proof.Proof.DownWeight
public import proofs.«01_k».proof.Proof.UpGate
public import proofs.«01_k».proof.Proof.UpValue
public import proofs.«01_k».proof.Proof.OutWeight
public import proofs.«01_k».proof.Proof.GateWeight
public import proofs.«01_k».proof.Proof.GateInput
public import proofs.«01_k».proof.Proof.LatentWeight
public import proofs.«01_k».proof.Proof.LatentInput
public import proofs.«01_k».proof.Proof.AttentionOutput
public import proofs.«01_k».proof.Proof.UpRows
public import proofs.«01_k».proof.Proof.LatentRows
public import proofs.«01_k».proof.Proof.GateRows
public import proofs.«01_k».proof.Proof.DownLoss
public import proofs.«01_k».proof.Proof.Mixers
public import proofs.«01_k».proof.Proof.ConvInput
public import proofs.«01_k».proof.Proof.ConvWeight
public import proofs.«01_k».proof.Proof.KeyValueWeight
public import proofs.«01_k».proof.Proof.ConvOutput
public import proofs.«01_k».proof.Proof.InputGradient
public import proofs.«01_k».proof.Proof.ResidualNorm
public import proofs.«01_k».proof.Proof.KeyValueInput
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel28.Gen.facts, Cert.Kernel28Ideal.Gen.facts, Cert.Reference28Ideal.Gen.facts, Cert.Pre_finite.Gen.facts,
  frame_kernel, frame_ideal, fun m ρ _ => frame_ideal m ρ trivial, frame_reference, fun m ρ _ => frame_reference m ρ trivial,
  frame_gates, frame_gates_ideal, frame_gates_reference,
  frame_up_input, frame_up_input_ideal, frame_up_input_reference,
  frame_down_input, frame_down_input_ideal, frame_down_input_reference,
  frame_down_weight, frame_down_weight_ideal, frame_down_weight_reference,
  frame_up_gate, frame_up_gate_ideal, frame_up_gate_reference,
  frame_up_value, frame_up_value_ideal, frame_up_value_reference,
  frame_out_weight, frame_out_weight_ideal, frame_out_weight_reference,
  frame_gate_weight, frame_gate_weight_ideal, frame_gate_weight_reference,
  frame_gate_input, frame_gate_input_ideal, frame_gate_input_reference,
  frame_latent_weight, frame_latent_weight_ideal, frame_latent_weight_reference,
  frame_latent_input, frame_latent_input_ideal, frame_latent_input_reference,
  frame_attention_output, frame_attention_output_ideal, frame_attention_output_reference,
  frame_up_rows, frame_up_rows_ideal, frame_up_rows_reference,
  frame_latent_rows, frame_latent_rows_ideal, frame_latent_rows_reference,
  frame_gate_rows, frame_gate_rows_ideal, frame_gate_rows_reference,
  frame_down_loss, frame_down_loss_ideal, frame_down_loss_reference,
  frame_mixers, frame_mixers_ideal, frame_mixers_reference,
  frame_conv_input, frame_conv_input_ideal, frame_conv_input_reference,
  frame_conv_weight, frame_conv_weight_ideal, frame_conv_weight_reference,
  frame_key_value_weight, frame_key_value_weight_ideal, frame_key_value_weight_reference,
  frame_conv_output, frame_conv_output_ideal, frame_conv_output_reference,
  frame_input_gradient, frame_input_gradient_ideal, frame_input_gradient_reference,
  frame_residual_norm, frame_residual_norm_ideal, frame_residual_norm_reference,
  frame_key_value_input, frame_key_value_input_ideal, frame_key_value_input_reference,
  named_constants, same_gradients,
  trivial, same_gates,
  trivial, same_up_input,
  trivial, same_down_input,
  trivial, same_down_weight,
  trivial, same_up_gate,
  trivial, same_up_value,
  trivial, same_out_weight,
  trivial, same_gate_weight,
  trivial, same_gate_input,
  trivial, same_latent_weight,
  trivial, same_latent_input,
  trivial, same_attention_output,
  trivial, same_up_rows,
  trivial, same_latent_rows,
  trivial, same_gate_rows,
  trivial, same_down_loss,
  trivial, same_mixers,
  trivial, same_conv_input,
  trivial, same_conv_weight,
  trivial, same_key_value_weight,
  trivial, same_conv_output,
  trivial, same_input_gradient,
  trivial, same_residual_norm,
  trivial, same_key_value_input⟩

end Cert.Proof

end
